-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x4096 : Shape := ⟨3, ![192, 1, 4096]⟩
abbrev S4096x14336 : Shape := ⟨2, ![4096, 14336]⟩
abbrev S32x28672 : Shape := ⟨2, ![32, 28672]⟩
abbrev S16x28672 : Shape := ⟨2, ![16, 28672]⟩
abbrev S4096 : Shape := ⟨1, ![4096]⟩
abbrev S192x4096 : Shape := ⟨2, ![192, 4096]⟩
abbrev S1024x4x14336 : Shape := ⟨3, ![1024, 4, 14336]⟩
abbrev S1024x14336x4 : Shape := ⟨3, ![1024, 14336, 4]⟩
abbrev S1024x14336 : Shape := ⟨2, ![1024, 14336]⟩
abbrev S192x28672 : Shape := ⟨2, ![192, 28672]⟩
abbrev S32x2048 : Shape := ⟨2, ![32, 2048]⟩
abbrev S16x2048 : Shape := ⟨2, ![16, 2048]⟩
abbrev S192x2048 : Shape := ⟨2, ![192, 2048]⟩
abbrev S2x1024x8x128 : Shape := ⟨4, ![2, 1024, 8, 128]⟩
abbrev S8200x128 : Shape := ⟨2, ![8200, 128]⟩
abbrev S4096x128 : Shape := ⟨2, ![4096, 128]⟩
abbrev S128x128 : Shape := ⟨2, ![128, 128]⟩
abbrev S2 : Shape := ⟨1, ![2]⟩
abbrev S1 : Shape := ⟨1, ![1]⟩
abbrev S_ : Shape := ⟨0, ![]⟩
abbrev S1x1024x1x128 : Shape := ⟨4, ![1, 1024, 1, 128]⟩
abbrev S1024x128 : Shape := ⟨2, ![1024, 128]⟩
abbrev S192x128 : Shape := ⟨2, ![192, 128]⟩
abbrev S96x128 : Shape := ⟨2, ![96, 128]⟩
abbrev S128x96 : Shape := ⟨2, ![128, 96]⟩
abbrev S1x128 : Shape := ⟨2, ![1, 128]⟩
abbrev S1x1x8x128 : Shape := ⟨4, ![1, 1, 8, 128]⟩
abbrev S8x128 : Shape := ⟨2, ![8, 128]⟩
abbrev S32x256 : Shape := ⟨2, ![32, 256]⟩
abbrev S16x256 : Shape := ⟨2, ![16, 256]⟩
abbrev S4x256 : Shape := ⟨2, ![4, 256]⟩
abbrev S16x128 : Shape := ⟨2, ![16, 128]⟩
abbrev S16x128x1 : Shape := ⟨3, ![16, 128, 1]⟩
abbrev S8x256 : Shape := ⟨2, ![8, 256]⟩
abbrev S8x128x1 : Shape := ⟨3, ![8, 128, 1]⟩
abbrev S4x128 : Shape := ⟨2, ![4, 128]⟩
abbrev S192x256 : Shape := ⟨2, ![192, 256]⟩
abbrev S64x128 : Shape := ⟨2, ![64, 128]⟩
abbrev S256x128 : Shape := ⟨2, ![256, 128]⟩
abbrev S256x256 : Shape := ⟨2, ![256, 256]⟩
abbrev S192x128x1 : Shape := ⟨3, ![192, 128, 1]⟩

abbrev nBuf : Space → Nat
  | .hbm => 12
  | .vmem => 13
  | .smem => 1
  | _ => 0

abbrev bufTy : (tb : Table) → Fin (tcTables nBuf tb) → BufTy
  | .hbm, ⟨0, _⟩ => ⟨S192x1x4096, .i16⟩
  | .hbm, ⟨1, _⟩ => ⟨S4096x14336, .i8⟩
  | .hbm, ⟨2, _⟩ => ⟨S32x28672, .i16⟩
  | .hbm, ⟨3, _⟩ => ⟨S16x28672, .i8⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S192x4096, .i16⟩
  | .hbm, ⟨8, _⟩ => ⟨S1024x4x14336, .i8⟩
  | .hbm, ⟨9, _⟩ => ⟨S1024x14336x4, .i8⟩
  | .hbm, ⟨10, _⟩ => ⟨S1024x14336, .i32⟩
  | .hbm, ⟨11, _⟩ => ⟨S192x28672, .bf16⟩
  | .local _ .vmem, ⟨0, _⟩ => ⟨S192x4096, .i16⟩
  | .local _ .vmem, ⟨1, _⟩ => ⟨S32x2048, .i16⟩
  | .local _ .vmem, ⟨2, _⟩ => ⟨S32x2048, .i16⟩
  | .local _ .vmem, ⟨3, _⟩ => ⟨S16x2048, .i8⟩
  | .local _ .vmem, ⟨4, _⟩ => ⟨S16x2048, .i8⟩
  | .local _ .vmem, ⟨5, _⟩ => ⟨S192x2048, .bf16⟩
  | .local _ .vmem, ⟨6, _⟩ => ⟨S192x2048, .bf16⟩
  | .local _ .vmem, ⟨7, _⟩ => ⟨S2x1024x8x128, .i32⟩
  | .local _ .vmem, ⟨8, _⟩ => ⟨S8200x128, .i32⟩
  | .local _ .vmem, ⟨9, _⟩ => ⟨S4096x128, .i32⟩
  | .local _ .vmem, ⟨10, _⟩ => ⟨S4096x128, .i32⟩
  | .local _ .vmem, ⟨11, _⟩ => ⟨S192x4096, .bf16⟩
  | .local _ .vmem, ⟨12, _⟩ => ⟨S128x128, .i32⟩
  | .local _ .smem, ⟨0, _⟩ => ⟨S4096, .i32⟩
  | _, _ => ⟨S192x1x4096, .i16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![14], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 : BitVec 32 :=
  let c0_i32_44 : BitVec 32 := 0#32
  c0_i32_44
def k0_mult2 : BitVec 32 :=
  let c128_i32_45 : BitVec 32 := 128#32
  c128_i32_45
def k0_mult3 : BitVec 32 :=
  let c256_i32_46 : BitVec 32 := 256#32
  c256_i32_46
def k0_mult4 : BitVec 32 :=
  let c384_i32_47 : BitVec 32 := 384#32
  c384_i32_47
def k0_mult5 : BitVec 32 :=
  let c512_i32_48 : BitVec 32 := 512#32
  c512_i32_48
def k0_mult6 : BitVec 32 :=
  let c640_i32_49 : BitVec 32 := 640#32
  c640_i32_49
def k0_mult7 : BitVec 32 :=
  let c768_i32_50 : BitVec 32 := 768#32
  c768_i32_50
def k0_mult8 : BitVec 32 :=
  let c896_i32_51 : BitVec 32 := 896#32
  c896_i32_51
@[reducible] def k0_t1_loop : Scf.Loop 32 :=
  let c0_i32_100 : BitVec 32 := 0#32
  let c32_i32 : BitVec 32 := 32#32
  let v122 : BitVec 32 := Scalar.addi c0_i32_100 c32_i32
  let c1_i32_101 : BitVec 32 := 1#32
  ⟨c0_i32_100, v122, c1_i32_101⟩
def k0_mult9 (k0_t1 : Fin k0_t1_loop.trips) : BitVec 32 :=
  let c0_i32_100 : BitVec 32 := 0#32
  let c1_i32_101 : BitVec 32 := 1#32
  let arg14 : BitVec 32 := Scf.iv c0_i32_100 c1_i32_101 k0_t1
  let c128_i32_110 : BitVec 32 := 128#32
  let v125 : BitVec 32 := Scalar.muli arg14 c128_i32_110
  v125
def k0_off1 (k0_t1 : Fin k0_t1_loop.trips) : Fin 2 → Nat :=
  let c0 : Index := 0#32
  let c0_i32_100 : BitVec 32 := 0#32
  let c1_i32_101 : BitVec 32 := 1#32
  let arg14 : BitVec 32 := Scf.iv c0_i32_100 c1_i32_101 k0_t1
  let c128_i32_110 : BitVec 32 := 128#32
  let v125 : BitVec 32 := Scalar.muli arg14 c128_i32_110
  let v126 : BitVec 32 := v125
  let v127 : Index := Scalar.indexCast v126
  ![0, v127.toNat]
def k0_off2 (k0_t1 : Fin k0_t1_loop.trips) : Fin 2 → Nat :=
  let c0_i32_100 : BitVec 32 := 0#32
  let c1_i32_101 : BitVec 32 := 1#32
  let arg14 : BitVec 32 := Scf.iv c0_i32_100 c1_i32_101 k0_t1
  let c128_i32_111 : BitVec 32 := 128#32
  let v132 : BitVec 32 := Scalar.muli arg14 c128_i32_111
  let v133 : Index := Scalar.indexCast v132
  let c0_112 : Index := 0#32
  ![v133.toNat, 0]
@[reducible] def k0_t2_loop : Scf.Loop 32 :=
  let c0_i32_103 : BitVec 32 := 0#32
  let c4096_i32 : BitVec 32 := 4096#32
  let v123 : BitVec 32 := Scalar.addi c0_i32_103 c4096_i32
  let c1_i32_104 : BitVec 32 := 1#32
  ⟨c0_i32_103, v123, c1_i32_104⟩
def k0_off3 (k0_t2 : Fin k0_t2_loop.trips) : Fin 1 → Nat :=
  let c0_i32_103 : BitVec 32 := 0#32
  let c1_i32_104 : BitVec 32 := 1#32
  let arg14 : BitVec 32 := Scf.iv c0_i32_103 c1_i32_104 k0_t2
  let v125 : Index := Scalar.indexCast arg14
  ![v125.toNat]
def k0_off4 (v126 : BitVec 32) : Fin 2 → Nat :=
  let v127 : Index := Scalar.indexCast v126
  let c0 : Index := 0#32
  ![v127.toNat, 0]

def k0_chk1 (i : grid0.Coords) (v126 : BitVec 32) : Prop :=
  (∀ (k0_h1 : k0_cond1 i = 1#1), ∀ a, (k0_off4 v126) a + S1x128.size a ≤ S4096x128.size a)
theorem k0_off4_inb : ∀ (i : grid0.Coords) (v126 : BitVec 32) (k0_hw1 : k0_chk1 i v126), ∀ (k0_h1 : k0_cond1 i = 1#1), ∀ a, (k0_off4 v126) a + S1x128.size a ≤ S4096x128.size a := fun i v126 k0_hw1 k0_h1 => k0_hw1 k0_h1

def k0_off5 (k0_t2 : Fin k0_t2_loop.trips) : Fin 2 → Nat :=
  let c0_i32_103 : BitVec 32 := 0#32
  let c1_i32_104 : BitVec 32 := 1#32
  let arg14 : BitVec 32 := Scf.iv c0_i32_103 c1_i32_104 k0_t2
  let v129 : Index := Scalar.indexCast arg14
  let c0_110 : Index := 0#32
  ![v129.toNat, 0]
@[reducible] def k0_t3_loop : Scf.Loop 32 :=
  let c0_i32_106 : BitVec 32 := 0#32
  let c32_i32_107 : BitVec 32 := 32#32
  let v124 : BitVec 32 := Scalar.addi c0_i32_106 c32_i32_107
  let c1_i32_108 : BitVec 32 := 1#32
  ⟨c0_i32_106, v124, c1_i32_108⟩
def k0_off6 (k0_t3 : Fin k0_t3_loop.trips) : Fin 2 → Nat :=
  let c0_i32_106 : BitVec 32 := 0#32
  let c1_i32_108 : BitVec 32 := 1#32
  let arg14 : BitVec 32 := Scf.iv c0_i32_106 c1_i32_108 k0_t3
  let c128_i32_110 : BitVec 32 := 128#32
  let v125 : BitVec 32 := Scalar.muli arg14 c128_i32_110
  let v126 : Index := Scalar.indexCast v125
  let c0 : Index := 0#32
  ![v126.toNat, 0]
def k0_mult10 (k0_t3 : Fin k0_t3_loop.trips) : BitVec 32 :=
  let c0_i32_106 : BitVec 32 := 0#32
  let c1_i32_108 : BitVec 32 := 1#32
  let arg14 : BitVec 32 := Scf.iv c0_i32_106 c1_i32_108 k0_t3
  let c128_i32_111 : BitVec 32 := 128#32
  let v130 : BitVec 32 := Scalar.muli arg14 c128_i32_111
  v130
def k0_off7 (k0_t3 : Fin k0_t3_loop.trips) : Fin 2 → Nat :=
  let c0_112 : Index := 0#32
  let c0_i32_106 : BitVec 32 := 0#32
  let c1_i32_108 : BitVec 32 := 1#32
  let arg14 : BitVec 32 := Scf.iv c0_i32_106 c1_i32_108 k0_t3
  let c128_i32_111 : BitVec 32 := 128#32
  let v130 : BitVec 32 := Scalar.muli arg14 c128_i32_111
  let v131 : BitVec 32 := v130
  let v132 : Index := Scalar.indexCast v131
  ![0, v132.toNat]
def k0_cond2 (i : grid0.Coords) : BitVec 1 :=
  let arg0 : BitVec 32 := BitVec.ofNat 32 (i 0).val
  let c1_i32 : BitVec 32 := 1#32
  let v4 : BitVec 32 := Scalar.addi arg0 c1_i32
  let c14_i32 : BitVec 32 := 14#32
  let v5 : BitVec 1 := Scalar.cmpi .slt v4 c14_i32
  let v6 : BitVec 32 := Scalar.extui v5
  let c0_i32_1 : BitVec 32 := 0#32
  let v7 : BitVec 1 := Scalar.cmpi .ne v6 c0_i32_1
  v7

def k0_mult11 (i : grid0.Coords) : BitVec 32 :=
  let arg0 : BitVec 32 := BitVec.ofNat 32 (i 0).val
  let c1_i32_44 : BitVec 32 := 1#32
  let v74 : BitVec 32 := Scalar.addi arg0 c1_i32_44
  let c1024_i32_46 : BitVec 32 := 1024#32
  let v76 : BitVec 32 := Scalar.muli v74 c1024_i32_46
  let c0_i32_47 : BitVec 32 := 0#32
  let v77 : BitVec 32 := Scalar.addi v76 c0_i32_47
  v77
def k0_mult12 (i : grid0.Coords) : BitVec 32 :=
  let arg0 : BitVec 32 := BitVec.ofNat 32 (i 0).val
  let c1_i32_44 : BitVec 32 := 1#32
  let v74 : BitVec 32 := Scalar.addi arg0 c1_i32_44
  let c1024_i32_48 : BitVec 32 := 1024#32
  let v79 : BitVec 32 := Scalar.muli v74 c1024_i32_48
  let c128_i32_49 : BitVec 32 := 128#32
  let v80 : BitVec 32 := Scalar.addi v79 c128_i32_49
  v80
def k0_mult13 (i : grid0.Coords) : BitVec 32 :=
  let arg0 : BitVec 32 := BitVec.ofNat 32 (i 0).val
  let c1_i32_44 : BitVec 32 := 1#32
  let v74 : BitVec 32 := Scalar.addi arg0 c1_i32_44
  let c1024_i32_50 : BitVec 32 := 1024#32
  let v82 : BitVec 32 := Scalar.muli v74 c1024_i32_50
  let c256_i32_51 : BitVec 32 := 256#32
  let v83 : BitVec 32 := Scalar.addi v82 c256_i32_51
  v83
def k0_mult14 (i : grid0.Coords) : BitVec 32 :=
  let arg0 : BitVec 32 := BitVec.ofNat 32 (i 0).val
  let c1_i32_44 : BitVec 32 := 1#32
  let v74 : BitVec 32 := Scalar.addi arg0 c1_i32_44
  let c1024_i32_52 : BitVec 32 := 1024#32
  let v85 : BitVec 32 := Scalar.muli v74 c1024_i32_52
  let c384_i32_53 : BitVec 32 := 384#32
  let v86 : BitVec 32 := Scalar.addi v85 c384_i32_53
  v86
def k0_mult15 (i : grid0.Coords) : BitVec 32 :=
  let arg0 : BitVec 32 := BitVec.ofNat 32 (i 0).val
  let c1_i32_44 : BitVec 32 := 1#32
  let v74 : BitVec 32 := Scalar.addi arg0 c1_i32_44
  let c1024_i32_54 : BitVec 32 := 1024#32
  let v88 : BitVec 32 := Scalar.muli v74 c1024_i32_54
  let c512_i32_55 : BitVec 32 := 512#32
  let v89 : BitVec 32 := Scalar.addi v88 c512_i32_55
  v89
def k0_mult16 (i : grid0.Coords) : BitVec 32 :=
  let arg0 : BitVec 32 := BitVec.ofNat 32 (i 0).val
  let c1_i32_44 : BitVec 32 := 1#32
  let v74 : BitVec 32 := Scalar.addi arg0 c1_i32_44
  let c1024_i32_56 : BitVec 32 := 1024#32
  let v91 : BitVec 32 := Scalar.muli v74 c1024_i32_56
  let c640_i32_57 : BitVec 32 := 640#32
  let v92 : BitVec 32 := Scalar.addi v91 c640_i32_57
  v92
def k0_mult17 (i : grid0.Coords) : BitVec 32 :=
  let arg0 : BitVec 32 := BitVec.ofNat 32 (i 0).val
  let c1_i32_44 : BitVec 32 := 1#32
  let v74 : BitVec 32 := Scalar.addi arg0 c1_i32_44
  let c1024_i32_58 : BitVec 32 := 1024#32
  let v94 : BitVec 32 := Scalar.muli v74 c1024_i32_58
  let c768_i32_59 : BitVec 32 := 768#32
  let v95 : BitVec 32 := Scalar.addi v94 c768_i32_59
  v95
def k0_mult18 (i : grid0.Coords) : BitVec 32 :=
  let arg0 : BitVec 32 := BitVec.ofNat 32 (i 0).val
  let c1_i32_44 : BitVec 32 := 1#32
  let v74 : BitVec 32 := Scalar.addi arg0 c1_i32_44
  let c1024_i32_60 : BitVec 32 := 1024#32
  let v97 : BitVec 32 := Scalar.muli v74 c1024_i32_60
  let c896_i32_61 : BitVec 32 := 896#32
  let v98 : BitVec 32 := Scalar.addi v97 c896_i32_61
  v98
def k0_off8 (i : grid0.Coords) : Fin 1 → Nat :=
  let c1_i32_45 : BitVec 32 := 1#32
  let arg0 : BitVec 32 := BitVec.ofNat 32 (i 0).val
  let c2_i32 : BitVec 32 := 2#32
  let v0 : BitVec 32 := Scalar.remsi arg0 c2_i32
  let v75 : BitVec 32 := Scalar.subi c1_i32_45 v0
  ![v75.toNat]
def k0_off9 (i : grid0.Coords) : Fin 4 → Nat :=
  let c1_i32_45 : BitVec 32 := 1#32
  let arg0 : BitVec 32 := BitVec.ofNat 32 (i 0).val
  let c2_i32 : BitVec 32 := 2#32
  let v0 : BitVec 32 := Scalar.remsi arg0 c2_i32
  let v75 : BitVec 32 := Scalar.subi c1_i32_45 v0
  let c0_i32_63 : BitVec 32 := 0#32
  let c0_i32_62 : BitVec 32 := 0#32
  let c0_i32_64 : BitVec 32 := 0#32
  ![v75.toNat, 0, 0, 0]
def k0_off10 (i : grid0.Coords) (c0_i32_47 : BitVec 32) : Fin 2 → Nat :=
  let c0_i32_65 : BitVec 32 := 0#32
  let arg0 : BitVec 32 := BitVec.ofNat 32 (i 0).val
  let c1_i32_44 : BitVec 32 := 1#32
  let v74 : BitVec 32 := Scalar.addi arg0 c1_i32_44
  let c1024_i32_46 : BitVec 32 := 1024#32
  let v76 : BitVec 32 := Scalar.muli v74 c1024_i32_46
  let v77 : BitVec 32 := Scalar.addi v76 c0_i32_47
  let v78 : BitVec 32 := v77
  ![0, v78.toNat]
def k0_off11 (i : grid0.Coords) : Fin 4 → Nat :=
  let c1_i32_45 : BitVec 32 := 1#32
  let arg0 : BitVec 32 := BitVec.ofNat 32 (i 0).val
  let c2_i32 : BitVec 32 := 2#32
  let v0 : BitVec 32 := Scalar.remsi arg0 c2_i32
  let v75 : BitVec 32 := Scalar.subi c1_i32_45 v0
  let c0_i32_67 : BitVec 32 := 0#32
  let c1_i32_66 : BitVec 32 := 1#32
  let c0_i32_68 : BitVec 32 := 0#32
  ![v75.toNat, 0, 1, 0]
def k0_off12 (i : grid0.Coords) : Fin 4 → Nat :=
  let c1_i32_45 : BitVec 32 := 1#32
  let arg0 : BitVec 32 := BitVec.ofNat 32 (i 0).val
  let c2_i32 : BitVec 32 := 2#32
  let v0 : BitVec 32 := Scalar.remsi arg0 c2_i32
  let v75 : BitVec 32 := Scalar.subi c1_i32_45 v0
  let c0_i32_71 : BitVec 32 := 0#32
  let c2_i32_70 : BitVec 32 := 2#32
  let c0_i32_72 : BitVec 32 := 0#32
  ![v75.toNat, 0, 2, 0]
def k0_off13 (i : grid0.Coords) : Fin 4 → Nat :=
  let c1_i32_45 : BitVec 32 := 1#32
  let arg0 : BitVec 32 := BitVec.ofNat 32 (i 0).val
  let c2_i32 : BitVec 32 := 2#32
  let v0 : BitVec 32 := Scalar.remsi arg0 c2_i32
  let v75 : BitVec 32 := Scalar.subi c1_i32_45 v0
  let c0_i32_75 : BitVec 32 := 0#32
  let c3_i32_74 : BitVec 32 := 3#32
  let c0_i32_76 : BitVec 32 := 0#32
  ![v75.toNat, 0, 3, 0]
def k0_off14 (i : grid0.Coords) : Fin 4 → Nat :=
  let c1_i32_45 : BitVec 32 := 1#32
  let arg0 : BitVec 32 := BitVec.ofNat 32 (i 0).val
  let c2_i32 : BitVec 32 := 2#32
  let v0 : BitVec 32 := Scalar.remsi arg0 c2_i32
  let v75 : BitVec 32 := Scalar.subi c1_i32_45 v0
  let c0_i32_79 : BitVec 32 := 0#32
  let c4_i32_78 : BitVec 32 := 4#32
  let c0_i32_80 : BitVec 32 := 0#32
  ![v75.toNat, 0, 4, 0]
def k0_off15 (i : grid0.Coords) : Fin 4 → Nat :=
  let c1_i32_45 : BitVec 32 := 1#32
  let arg0 : BitVec 32 := BitVec.ofNat 32 (i 0).val
  let c2_i32 : BitVec 32 := 2#32
  let v0 : BitVec 32 := Scalar.remsi arg0 c2_i32
  let v75 : BitVec 32 := Scalar.subi c1_i32_45 v0
  let c0_i32_83 : BitVec 32 := 0#32
  let c5_i32_82 : BitVec 32 := 5#32
  let c0_i32_84 : BitVec 32 := 0#32
  ![v75.toNat, 0, 5, 0]
def k0_off16 (i : grid0.Coords) : Fin 4 → Nat :=
  let c1_i32_45 : BitVec 32 := 1#32
  let arg0 : BitVec 32 := BitVec.ofNat 32 (i 0).val
  let c2_i32 : BitVec 32 := 2#32
  let v0 : BitVec 32 := Scalar.remsi arg0 c2_i32
  let v75 : BitVec 32 := Scalar.subi c1_i32_45 v0
  let c0_i32_87 : BitVec 32 := 0#32
  let c6_i32_86 : BitVec 32 := 6#32
  let c0_i32_88 : BitVec 32 := 0#32
  ![v75.toNat, 0, 6, 0]
def k0_off17 (i : grid0.Coords) : Fin 4 → Nat :=
  let c1_i32_45 : BitVec 32 := 1#32
  let arg0 : BitVec 32 := BitVec.ofNat 32 (i 0).val
  let c2_i32 : BitVec 32 := 2#32
  let v0 : BitVec 32 := Scalar.remsi arg0 c2_i32
  let v75 : BitVec 32 := Scalar.subi c1_i32_45 v0
  let c0_i32_91 : BitVec 32 := 0#32
  let c7_i32_90 : BitVec 32 := 7#32
  let c0_i32_92 : BitVec 32 := 0#32
  ![v75.toNat, 0, 7, 0]
def k0_mult19 (i : grid0.Coords) : BitVec 32 :=
  let arg0 : BitVec 32 := BitVec.ofNat 32 (i 0).val
  let c1024_i32 : BitVec 32 := 1024#32
  let v8 : BitVec 32 := Scalar.muli arg0 c1024_i32
  let c0_i32_2 : BitVec 32 := 0#32
  let v9 : BitVec 32 := Scalar.addi v8 c0_i32_2
  v9
def k0_mult20 (i : grid0.Coords) : BitVec 32 :=
  let arg0 : BitVec 32 := BitVec.ofNat 32 (i 0).val
  let c1024_i32_3 : BitVec 32 := 1024#32
  let v11 : BitVec 32 := Scalar.muli arg0 c1024_i32_3
  let c128_i32 : BitVec 32 := 128#32
  let v12 : BitVec 32 := Scalar.addi v11 c128_i32
  v12
def k0_mult21 (i : grid0.Coords) : BitVec 32 :=
  let arg0 : BitVec 32 := BitVec.ofNat 32 (i 0).val
  let c1024_i32_4 : BitVec 32 := 1024#32
  let v14 : BitVec 32 := Scalar.muli arg0 c1024_i32_4
  let c256_i32 : BitVec 32 := 256#32
  let v15 : BitVec 32 := Scalar.addi v14 c256_i32
  v15
def k0_mult22 (i : grid0.Coords) : BitVec 32 :=
  let arg0 : BitVec 32 := BitVec.ofNat 32 (i 0).val
  let c1024_i32_5 : BitVec 32 := 1024#32
  let v17 : BitVec 32 := Scalar.muli arg0 c1024_i32_5
  let c384_i32 : BitVec 32 := 384#32
  let v18 : BitVec 32 := Scalar.addi v17 c384_i32
  v18
def k0_mult23 (i : grid0.Coords) : BitVec 32 :=
  let arg0 : BitVec 32 := BitVec.ofNat 32 (i 0).val
  let c1024_i32_6 : BitVec 32 := 1024#32
  let v20 : BitVec 32 := Scalar.muli arg0 c1024_i32_6
  let c512_i32 : BitVec 32 := 512#32
  let v21 : BitVec 32 := Scalar.addi v20 c512_i32
  v21
def k0_mult24 (i : grid0.Coords) : BitVec 32 :=
  let arg0 : BitVec 32 := BitVec.ofNat 32 (i 0).val
  let c1024_i32_7 : BitVec 32 := 1024#32
  let v23 : BitVec 32 := Scalar.muli arg0 c1024_i32_7
  let c640_i32 : BitVec 32 := 640#32
  let v24 : BitVec 32 := Scalar.addi v23 c640_i32
  v24
def k0_mult25 (i : grid0.Coords) : BitVec 32 :=
  let arg0 : BitVec 32 := BitVec.ofNat 32 (i 0).val
  let c1024_i32_8 : BitVec 32 := 1024#32
  let v26 : BitVec 32 := Scalar.muli arg0 c1024_i32_8
  let c768_i32 : BitVec 32 := 768#32
  let v27 : BitVec 32 := Scalar.addi v26 c768_i32
  v27
def k0_mult26 (i : grid0.Coords) : BitVec 32 :=
  let arg0 : BitVec 32 := BitVec.ofNat 32 (i 0).val
  let c1024_i32_9 : BitVec 32 := 1024#32
  let v29 : BitVec 32 := Scalar.muli arg0 c1024_i32_9
  let c896_i32 : BitVec 32 := 896#32
  let v30 : BitVec 32 := Scalar.addi v29 c896_i32
  v30
def k0_off18 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off19 (i : grid0.Coords) : Fin 4 → Nat :=
  let arg0 : BitVec 32 := BitVec.ofNat 32 (i 0).val
  let c2_i32 : BitVec 32 := 2#32
  let v0 : BitVec 32 := Scalar.remsi arg0 c2_i32
  let c0_i32_11 : BitVec 32 := 0#32
  let c0_i32_10 : BitVec 32 := 0#32
  let c0_i32_12 : BitVec 32 := 0#32
  ![v0.toNat, 0, 0, 0]
def k0_off20 (i : grid0.Coords) (c0_i32_2 : BitVec 32) : Fin 2 → Nat :=
  let c0_i32_13 : BitVec 32 := 0#32
  let arg0 : BitVec 32 := BitVec.ofNat 32 (i 0).val
  let c1024_i32 : BitVec 32 := 1024#32
  let v8 : BitVec 32 := Scalar.muli arg0 c1024_i32
  let v9 : BitVec 32 := Scalar.addi v8 c0_i32_2
  let v10 : BitVec 32 := v9
  ![0, v10.toNat]
def k0_off21 (i : grid0.Coords) : Fin 4 → Nat :=
  let arg0 : BitVec 32 := BitVec.ofNat 32 (i 0).val
  let c2_i32 : BitVec 32 := 2#32
  let v0 : BitVec 32 := Scalar.remsi arg0 c2_i32
  let c0_i32_15 : BitVec 32 := 0#32
  let c1_i32_14 : BitVec 32 := 1#32
  let c0_i32_16 : BitVec 32 := 0#32
  ![v0.toNat, 0, 1, 0]
def k0_off22 (i : grid0.Coords) : Fin 4 → Nat :=
  let arg0 : BitVec 32 := BitVec.ofNat 32 (i 0).val
  let c2_i32 : BitVec 32 := 2#32
  let v0 : BitVec 32 := Scalar.remsi arg0 c2_i32
  let c0_i32_19 : BitVec 32 := 0#32
  let c2_i32_18 : BitVec 32 := 2#32
  let c0_i32_20 : BitVec 32 := 0#32
  ![v0.toNat, 0, 2, 0]
def k0_off23 (i : grid0.Coords) : Fin 4 → Nat :=
  let arg0 : BitVec 32 := BitVec.ofNat 32 (i 0).val
  let c2_i32 : BitVec 32 := 2#32
  let v0 : BitVec 32 := Scalar.remsi arg0 c2_i32
  let c0_i32_22 : BitVec 32 := 0#32
  let c3_i32 : BitVec 32 := 3#32
  let c0_i32_23 : BitVec 32 := 0#32
  ![v0.toNat, 0, 3, 0]
def k0_off24 (i : grid0.Coords) : Fin 4 → Nat :=
  let arg0 : BitVec 32 := BitVec.ofNat 32 (i 0).val
  let c2_i32 : BitVec 32 := 2#32
  let v0 : BitVec 32 := Scalar.remsi arg0 c2_i32
  let c0_i32_25 : BitVec 32 := 0#32
  let c4_i32 : BitVec 32 := 4#32
  let c0_i32_26 : BitVec 32 := 0#32
  ![v0.toNat, 0, 4, 0]
def k0_off25 (i : grid0.Coords) : Fin 4 → Nat :=
  let arg0 : BitVec 32 := BitVec.ofNat 32 (i 0).val
  let c2_i32 : BitVec 32 := 2#32
  let v0 : BitVec 32 := Scalar.remsi arg0 c2_i32
  let c0_i32_28 : BitVec 32 := 0#32
  let c5_i32 : BitVec 32 := 5#32
  let c0_i32_29 : BitVec 32 := 0#32
  ![v0.toNat, 0, 5, 0]
def k0_off26 (i : grid0.Coords) : Fin 4 → Nat :=
  let arg0 : BitVec 32 := BitVec.ofNat 32 (i 0).val
  let c2_i32 : BitVec 32 := 2#32
  let v0 : BitVec 32 := Scalar.remsi arg0 c2_i32
  let c0_i32_31 : BitVec 32 := 0#32
  let c6_i32 : BitVec 32 := 6#32
  let c0_i32_32 : BitVec 32 := 0#32
  ![v0.toNat, 0, 6, 0]
def k0_off27 (i : grid0.Coords) : Fin 4 → Nat :=
  let arg0 : BitVec 32 := BitVec.ofNat 32 (i 0).val
  let c2_i32 : BitVec 32 := 2#32
  let v0 : BitVec 32 := Scalar.remsi arg0 c2_i32
  let c0_i32_34 : BitVec 32 := 0#32
  let c7_i32 : BitVec 32 := 7#32
  let c0_i32_35 : BitVec 32 := 0#32
  ![v0.toNat, 0, 7, 0]
@[reducible] def k0_t4_loop : Scf.Loop 32 :=
  let c0_i32_37 : BitVec 32 := 0#32
  let c1024_i32_38 : BitVec 32 := 1024#32
  let v72 : BitVec 32 := Scalar.addi c0_i32_37 c1024_i32_38
  let c1_i32_39 : BitVec 32 := 1#32
  ⟨c0_i32_37, v72, c1_i32_39⟩
def k0_off28 (k0_t4 : Fin k0_t4_loop.trips) : Fin 1 → Nat :=
  let c0_i32_37 : BitVec 32 := 0#32
  let c1_i32_39 : BitVec 32 := 1#32
  let arg14 : BitVec 32 := Scf.iv c0_i32_37 c1_i32_39 k0_t4
  let c4_i32_44 : BitVec 32 := 4#32
  let v74 : BitVec 32 := Scalar.muli arg14 c4_i32_44
  let c0_i32_45 : BitVec 32 := 0#32
  let v75 : BitVec 32 := Scalar.addi v74 c0_i32_45
  let v76 : Index := Scalar.indexCast v75
  ![v76.toNat]
def k0_off29 (i : grid0.Coords) (v77 : BitVec 32) : Fin 4 → Nat :=
  let arg0 : BitVec 32 := BitVec.ofNat 32 (i 0).val
  let c2_i32 : BitVec 32 := 2#32
  let v0 : BitVec 32 := Scalar.remsi arg0 c2_i32
  let v79 : Index := Scalar.indexCast v0
  let c2_i32_46 : BitVec 32 := 2#32
  let v78 : BitVec 32 := Scalar.shrui v77 c2_i32_46
  let v80 : Index := Scalar.indexCast v78
  let c0 : Index := 0#32
  let c0_47 : Index := 0#32
  ![v79.toNat, v80.toNat, 0, 0]

def k0_chk2 (i : grid0.Coords) (v77 : BitVec 32) : Prop :=
  (∀ a, (k0_off29 i v77) a + S1x1x8x128.size a ≤ S2x1024x8x128.size a)
theorem k0_off29_inb : ∀ (i : grid0.Coords) (v77 : BitVec 32) (k0_hw2 : k0_chk2 i v77), ∀ a, (k0_off29 i v77) a + S1x1x8x128.size a ≤ S2x1024x8x128.size a := fun i v77 k0_hw2 => k0_hw2

def k0_off30 (k0_t4 : Fin k0_t4_loop.trips) : Fin 1 → Nat :=
  let c0_i32_37 : BitVec 32 := 0#32
  let c1_i32_39 : BitVec 32 := 1#32
  let arg14 : BitVec 32 := Scf.iv c0_i32_37 c1_i32_39 k0_t4
  let c4_i32_50 : BitVec 32 := 4#32
  let v87 : BitVec 32 := Scalar.muli arg14 c4_i32_50
  let c1_i32_51 : BitVec 32 := 1#32
  let v88 : BitVec 32 := Scalar.addi v87 c1_i32_51
  let v89 : Index := Scalar.indexCast v88
  ![v89.toNat]
def k0_off31 (i : grid0.Coords) (v90 : BitVec 32) : Fin 4 → Nat :=
  let arg0 : BitVec 32 := BitVec.ofNat 32 (i 0).val
  let c2_i32 : BitVec 32 := 2#32
  let v0 : BitVec 32 := Scalar.remsi arg0 c2_i32
  let v92 : Index := Scalar.indexCast v0
  let c2_i32_52 : BitVec 32 := 2#32
  let v91 : BitVec 32 := Scalar.shrui v90 c2_i32_52
  let v93 : Index := Scalar.indexCast v91
  let c0_53 : Index := 0#32
  let c0_54 : Index := 0#32
  ![v92.toNat, v93.toNat, 0, 0]

def k0_chk3 (i : grid0.Coords) (v90 : BitVec 32) : Prop :=
  (∀ a, (k0_off31 i v90) a + S1x1x8x128.size a ≤ S2x1024x8x128.size a)
theorem k0_off31_inb : ∀ (i : grid0.Coords) (v90 : BitVec 32) (k0_hw3 : k0_chk3 i v90), ∀ a, (k0_off31 i v90) a + S1x1x8x128.size a ≤ S2x1024x8x128.size a := fun i v90 k0_hw3 => k0_hw3

def k0_off32 (k0_t4 : Fin k0_t4_loop.trips) : Fin 1 → Nat :=
  let c0_i32_37 : BitVec 32 := 0#32
  let c1_i32_39 : BitVec 32 := 1#32
  let arg14 : BitVec 32 := Scf.iv c0_i32_37 c1_i32_39 k0_t4
  let c4_i32_57 : BitVec 32 := 4#32
  let v100 : BitVec 32 := Scalar.muli arg14 c4_i32_57
  let c2_i32_58 : BitVec 32 := 2#32
  let v101 : BitVec 32 := Scalar.addi v100 c2_i32_58
  let v102 : Index := Scalar.indexCast v101
  ![v102.toNat]
def k0_off33 (i : grid0.Coords) (v103 : BitVec 32) : Fin 4 → Nat :=
  let arg0 : BitVec 32 := BitVec.ofNat 32 (i 0).val
  let c2_i32 : BitVec 32 := 2#32
  let v0 : BitVec 32 := Scalar.remsi arg0 c2_i32
  let v105 : Index := Scalar.indexCast v0
  let c2_i32_59 : BitVec 32 := 2#32
  let v104 : BitVec 32 := Scalar.shrui v103 c2_i32_59
  let v106 : Index := Scalar.indexCast v104
  let c0_60 : Index := 0#32
  let c0_61 : Index := 0#32
  ![v105.toNat, v106.toNat, 0, 0]

def k0_chk4 (i : grid0.Coords) (v103 : BitVec 32) : Prop :=
  (∀ a, (k0_off33 i v103) a + S1x1x8x128.size a ≤ S2x1024x8x128.size a)
theorem k0_off33_inb : ∀ (i : grid0.Coords) (v103 : BitVec 32) (k0_hw4 : k0_chk4 i v103), ∀ a, (k0_off33 i v103) a + S1x1x8x128.size a ≤ S2x1024x8x128.size a := fun i v103 k0_hw4 => k0_hw4

def k0_off34 (k0_t4 : Fin k0_t4_loop.trips) : Fin 1 → Nat :=
  let c0_i32_37 : BitVec 32 := 0#32
  let c1_i32_39 : BitVec 32 := 1#32
  let arg14 : BitVec 32 := Scf.iv c0_i32_37 c1_i32_39 k0_t4
  let c4_i32_64 : BitVec 32 := 4#32
  let v113 : BitVec 32 := Scalar.muli arg14 c4_i32_64
  let c3_i32_65 : BitVec 32 := 3#32
  let v114 : BitVec 32 := Scalar.addi v113 c3_i32_65
  let v115 : Index := Scalar.indexCast v114
  ![v115.toNat]
def k0_off35 (i : grid0.Coords) (v116 : BitVec 32) : Fin 4 → Nat :=
  let arg0 : BitVec 32 := BitVec.ofNat 32 (i 0).val
  let c2_i32 : BitVec 32 := 2#32
  let v0 : BitVec 32 := Scalar.remsi arg0 c2_i32
  let v118 : Index := Scalar.indexCast v0
  let c2_i32_66 : BitVec 32 := 2#32
  let v117 : BitVec 32 := Scalar.shrui v116 c2_i32_66
  let v119 : Index := Scalar.indexCast v117
  let c0_67 : Index := 0#32
  let c0_68 : Index := 0#32
  ![v118.toNat, v119.toNat, 0, 0]

def k0_chk5 (i : grid0.Coords) (v116 : BitVec 32) : Prop :=
  (∀ a, (k0_off35 i v116) a + S1x1x8x128.size a ≤ S2x1024x8x128.size a)
theorem k0_off35_inb : ∀ (i : grid0.Coords) (v116 : BitVec 32) (k0_hw5 : k0_chk5 i v116), ∀ a, (k0_off35 i v116) a + S1x1x8x128.size a ≤ S2x1024x8x128.size a := fun i v116 k0_hw5 => k0_hw5

def k0_off36 (k0_t4 : Fin k0_t4_loop.trips) : Fin 2 → Nat :=
  let c0_i32_37 : BitVec 32 := 0#32
  let c1_i32_39 : BitVec 32 := 1#32
  let arg14 : BitVec 32 := Scf.iv c0_i32_37 c1_i32_39 k0_t4
  let v127 : Index := Scalar.indexCast arg14
  let c0_71 : Index := 0#32
  ![v127.toNat, 0]
@[reducible] def k0_t5_loop : Scf.Loop 32 :=
  let c0_i32_41 : BitVec 32 := 0#32
  let c8_i32 : BitVec 32 := 8#32
  let v73 : BitVec 32 := Scalar.addi c0_i32_41 c8_i32
  let c1_i32_42 : BitVec 32 := 1#32
  ⟨c0_i32_41, v73, c1_i32_42⟩
def k0_mult27 (k0_t5 : Fin k0_t5_loop.trips) : BitVec 32 :=
  let c0_i32_41 : BitVec 32 := 0#32
  let c1_i32_42 : BitVec 32 := 1#32
  let arg14 : BitVec 32 := Scf.iv c0_i32_41 c1_i32_42 k0_t5
  let c256_i32_44 : BitVec 32 := 256#32
  let v74 : BitVec 32 := Scalar.muli arg14 c256_i32_44
  v74
def k0_off37 (k0_t5 : Fin k0_t5_loop.trips) : Fin 2 → Nat :=
  let c0 : Index := 0#32
  let c0_i32_41 : BitVec 32 := 0#32
  let c1_i32_42 : BitVec 32 := 1#32
  let arg14 : BitVec 32 := Scf.iv c0_i32_41 c1_i32_42 k0_t5
  let c256_i32_44 : BitVec 32 := 256#32
  let v74 : BitVec 32 := Scalar.muli arg14 c256_i32_44
  let v75 : BitVec 32 := v74
  let v76 : Index := Scalar.indexCast v75
  ![0, v76.toNat]
def k0_mult28 (k0_t5 : Fin k0_t5_loop.trips) : BitVec 32 :=
  let c0_i32_41 : BitVec 32 := 0#32
  let c1_i32_42 : BitVec 32 := 1#32
  let arg14 : BitVec 32 := Scf.iv c0_i32_41 c1_i32_42 k0_t5
  let c256_i32_45 : BitVec 32 := 256#32
  let v79 : BitVec 32 := Scalar.muli arg14 c256_i32_45
  v79
def k0_off38 (k0_t5 : Fin k0_t5_loop.trips) : Fin 2 → Nat :=
  let c0_46 : Index := 0#32
  let c0_i32_41 : BitVec 32 := 0#32
  let c1_i32_42 : BitVec 32 := 1#32
  let arg14 : BitVec 32 := Scf.iv c0_i32_41 c1_i32_42 k0_t5
  let c256_i32_45 : BitVec 32 := 256#32
  let v79 : BitVec 32 := Scalar.muli arg14 c256_i32_45
  let v80 : BitVec 32 := v79
  let v81 : Index := Scalar.indexCast v80
  ![0, v81.toNat]
@[reducible] def k0_t6_loop : Scf.Loop 32 :=
  let c0_i32_152 : BitVec 32 := 0#32
  let c16_i32_153 : BitVec 32 := 16#32
  let v408 : BitVec 32 := Scalar.addi c0_i32_152 c16_i32_153
  let c1_i32_154 : BitVec 32 := 1#32
  ⟨c0_i32_152, v408, c1_i32_154⟩
def k0_off39 (k0_t5 : Fin k0_t5_loop.trips) (k0_t6 : Fin k0_t6_loop.trips) : Fin 2 → Nat :=
  let c0_i32_41 : BitVec 32 := 0#32
  let c1_i32_42 : BitVec 32 := 1#32
  let arg14 : BitVec 32 := Scf.iv c0_i32_41 c1_i32_42 k0_t5
  let c1025_i32 : BitVec 32 := 1025#32
  let v473 : BitVec 32 := Scalar.muli arg14 c1025_i32
  let c0_i32_152 : BitVec 32 := 0#32
  let c1_i32_154 : BitVec 32 := 1#32
  let arg15 : BitVec 32 := Scf.iv c0_i32_152 c1_i32_154 k0_t6
  let c64_i32_176 : BitVec 32 := 64#32
  let v474 : BitVec 32 := Scalar.muli arg15 c64_i32_176
  let v475 : BitVec 32 := Scalar.addi v473 v474
  let v476 : Index := Scalar.indexCast v475
  let c0_177 : Index := 0#32
  ![v476.toNat, 0]
def k0_off40 (k0_t6 : Fin k0_t6_loop.trips) (c0_i32_194 : BitVec 32) (c0_i32_179 : BitVec 32) : Fin 2 → Nat :=
  let c0_i32_152 : BitVec 32 := 0#32
  let c1_i32_154 : BitVec 32 := 1#32
  let arg15 : BitVec 32 := Scf.iv c0_i32_152 c1_i32_154 k0_t6
  let c2_i32_178 : BitVec 32 := 2#32
  let v482 : BitVec 32 := Scalar.muli arg15 c2_i32_178
  let v483 : BitVec 32 := Scalar.addi v482 c0_i32_179
  let c2_i32_180 : BitVec 32 := 2#32
  let c0_i32_181 : BitVec 32 := 0#32
  let v484 : BitVec 1 := Scalar.cmpi .eq c2_i32_180 c0_i32_181
  let c1_i32_182 : BitVec 32 := 1#32
  let v485 : BitVec 32 := Scalar.select v484 c1_i32_182 c2_i32_180
  let v486 : BitVec 32 := Scalar.remsi v483 v485
  let c0_i32_184 : BitVec 32 := 0#32
  let v488 : BitVec 1 := Scalar.cmpi .slt v486 c0_i32_184
  let c0_i32_185 : BitVec 32 := 0#32
  let v489 : BitVec 1 := Scalar.cmpi .slt v485 c0_i32_185
  let v490 : BitVec 1 := Scalar.xori v488 v489
  let c0_i32_183 : BitVec 32 := 0#32
  let v487 : BitVec 1 := Scalar.cmpi .ne v486 c0_i32_183
  let v491 : BitVec 1 := Scalar.andi v490 v487
  let v492 : BitVec 32 := Scalar.addi v486 v485
  let v493 : BitVec 32 := Scalar.select v491 v492 v486
  let c16_i32_186 : BitVec 32 := 16#32
  let v494 : BitVec 32 := Scalar.muli v493 c16_i32_186
  let c0_i32_188 : BitVec 32 := 0#32
  let v496 : BitVec 1 := Scalar.cmpi .sgt v483 c0_i32_188
  let v497 : BitVec 32 := Scalar.extui v496
  let c0_i32_189 : BitVec 32 := 0#32
  let v498 : BitVec 1 := Scalar.cmpi .slt v483 c0_i32_189
  let v499 : BitVec 32 := Scalar.extui v498
  let v500 : BitVec 32 := Scalar.subi v497 v499
  let c2_i32_187 : BitVec 32 := 2#32
  let c0_i32_190 : BitVec 32 := 0#32
  let v501 : BitVec 1 := Scalar.cmpi .sgt c2_i32_187 c0_i32_190
  let v502 : BitVec 32 := Scalar.extui v501
  let c0_i32_191 : BitVec 32 := 0#32
  let v503 : BitVec 1 := Scalar.cmpi .slt c2_i32_187 c0_i32_191
  let v504 : BitVec 32 := Scalar.extui v503
  let v505 : BitVec 32 := Scalar.subi v502 v504
  let v506 : BitVec 1 := Scalar.cmpi .ne v500 v505
  let v507 : BitVec 32 := Scalar.remsi v483 c2_i32_187
  let c0_i32_192 : BitVec 32 := 0#32
  let v508 : BitVec 1 := Scalar.cmpi .ne v507 c0_i32_192
  let v509 : BitVec 1 := Scalar.andi v506 v508
  let v495 : BitVec 32 := Scalar.divsi v483 c2_i32_187
  let c1_i32_193 : BitVec 32 := 1#32
  let v510 : BitVec 32 := Scalar.subi v495 c1_i32_193
  let v511 : BitVec 32 := Scalar.select v509 v510 v495
  let v512 : BitVec 32 := Scalar.addi v494 v511
  let v513 : BitVec 32 := Scalar.addi c0_i32_194 v512
  let v514 : Index := Scalar.indexCast v513
  let c0_195 : Index := 0#32
  ![v514.toNat, 0]
def k0_off41 (k0_t6 : Fin k0_t6_loop.trips) (c32_i32 : BitVec 32) (c0_i32_179 : BitVec 32) : Fin 2 → Nat :=
  let c0_i32_152 : BitVec 32 := 0#32
  let c1_i32_154 : BitVec 32 := 1#32
  let arg15 : BitVec 32 := Scf.iv c0_i32_152 c1_i32_154 k0_t6
  let c2_i32_178 : BitVec 32 := 2#32
  let v482 : BitVec 32 := Scalar.muli arg15 c2_i32_178
  let v483 : BitVec 32 := Scalar.addi v482 c0_i32_179
  let v519 : BitVec 32 := Scalar.addi c32_i32 v483
  let v520 : Index := Scalar.indexCast v519
  let c0_196 : Index := 0#32
  ![v520.toNat, 0]
def k0_mult29 (k0_t6 : Fin k0_t6_loop.trips) : BitVec 32 :=
  let c0_i32_152 : BitVec 32 := 0#32
  let c1_i32_154 : BitVec 32 := 1#32
  let arg15 : BitVec 32 := Scf.iv c0_i32_152 c1_i32_154 k0_t6
  let c256_i32_262 : BitVec 32 := 256#32
  let v683 : BitVec 32 := Scalar.muli arg15 c256_i32_262
  v683
def k0_off42 (k0_t6 : Fin k0_t6_loop.trips) : Fin 2 → Nat :=
  let c0_263 : Index := 0#32
  let c0_i32_152 : BitVec 32 := 0#32
  let c1_i32_154 : BitVec 32 := 1#32
  let arg15 : BitVec 32 := Scf.iv c0_i32_152 c1_i32_154 k0_t6
  let c256_i32_262 : BitVec 32 := 256#32
  let v683 : BitVec 32 := Scalar.muli arg15 c256_i32_262
  let v684 : BitVec 32 := v683
  let v685 : Index := Scalar.indexCast v684
  ![0, v685.toNat]
def k0_mult30 (k0_t5 : Fin k0_t5_loop.trips) : BitVec 32 :=
  let c0_i32_41 : BitVec 32 := 0#32
  let c1_i32_42 : BitVec 32 := 1#32
  let arg14 : BitVec 32 := Scf.iv c0_i32_41 c1_i32_42 k0_t5
  let c256_i32_164 : BitVec 32 := 256#32
  let v439 : BitVec 32 := Scalar.muli arg14 c256_i32_164
  let c0_i32_165 : BitVec 32 := 0#32
  let v440 : BitVec 32 := Scalar.addi v439 c0_i32_165
  v440
def k0_off43 (k0_t5 : Fin k0_t5_loop.trips) (c0_i32_165 : BitVec 32) : Fin 2 → Nat :=
  let c0_166 : Index := 0#32
  let c0_i32_41 : BitVec 32 := 0#32
  let c1_i32_42 : BitVec 32 := 1#32
  let arg14 : BitVec 32 := Scf.iv c0_i32_41 c1_i32_42 k0_t5
  let c256_i32_164 : BitVec 32 := 256#32
  let v439 : BitVec 32 := Scalar.muli arg14 c256_i32_164
  let v440 : BitVec 32 := Scalar.addi v439 c0_i32_165
  let v441 : BitVec 32 := v440
  let v442 : Index := Scalar.indexCast v441
  ![0, v442.toNat]
def k0_mult31 (k0_t5 : Fin k0_t5_loop.trips) : BitVec 32 :=
  let c0_i32_41 : BitVec 32 := 0#32
  let c1_i32_42 : BitVec 32 := 1#32
  let arg14 : BitVec 32 := Scf.iv c0_i32_41 c1_i32_42 k0_t5
  let c256_i32_173 : BitVec 32 := 256#32
  let v468 : BitVec 32 := Scalar.muli arg14 c256_i32_173
  let c128_i32_174 : BitVec 32 := 128#32
  let v469 : BitVec 32 := Scalar.addi v468 c128_i32_174
  v469
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x4096 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x2048 .i16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S192x1x4096 : Shape := ⟨3, ![192, 1, 4096]⟩
abbrev S4096x14336 : Shape := ⟨2, ![4096, 14336]⟩
abbrev S32x28672 : Shape := ⟨2, ![32, 28672]⟩
abbrev S16x28672 : Shape := ⟨2, ![16, 28672]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S32x128x14336 : Shape := ⟨3, ![32, 128, 14336]⟩
abbrev S32x14336 : Shape := ⟨2, ![32, 14336]⟩
abbrev S32x1x14336 : Shape := ⟨3, ![32, 1, 14336]⟩
abbrev S192x1x14336 : Shape := ⟨3, ![192, 1, 14336]⟩
abbrev S192x1x14336x1 : Shape := ⟨4, ![192, 1, 14336, 1]⟩
abbrev S192x1x14336x2 : Shape := ⟨4, ![192, 1, 14336, 2]⟩
abbrev S192x28672 : Shape := ⟨2, ![192, 28672]⟩

abbrev nBuf : Space → Nat
  | .hbm => 100
  | .vmem => 0
  | .smem => 0
  | _ => 0

abbrev bufTy : (tb : Table) → Fin (tcTables nBuf tb) → BufTy
  | .hbm, ⟨0, _⟩ => ⟨S192x1x4096, .i16⟩
  | .hbm, ⟨1, _⟩ => ⟨S4096x14336, .i8⟩
  | .hbm, ⟨2, _⟩ => ⟨S32x28672, .i16⟩
  | .hbm, ⟨3, _⟩ => ⟨S16x28672, .i8⟩
  | .hbm, ⟨4, _⟩ => ⟨S4096, .i32⟩
  | .hbm, ⟨5, _⟩ => ⟨S192x1x4096, .bf16⟩
  | .hbm, ⟨6, _⟩ => ⟨S32x28672, .bf16⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S1, .i32⟩
  | .hbm, ⟨19, _⟩ => ⟨S_, .i32⟩
  | .hbm, ⟨20, _⟩ => ⟨S4096x1, .i32⟩
  | .hbm, ⟨21, _⟩ => ⟨S4096x1, .i1⟩
  | .hbm, ⟨22, _⟩ => ⟨S1x1, .i32⟩
  | .hbm, ⟨23, _⟩ => ⟨S4096x1, .i32⟩
  | .hbm, ⟨24, _⟩ => ⟨S4096x1, .i1⟩
  | .hbm, ⟨25, _⟩ => ⟨S4096x1, .i1⟩
  | .hbm, ⟨26, _⟩ => ⟨S_, .i1⟩
  | .hbm, ⟨27, _⟩ => ⟨S4096, .i1⟩
  | .hbm, ⟨28, _⟩ => ⟨S192x1x4096, .bf16⟩
  | .hbm, ⟨29, _⟩ => ⟨S192x1x4096, .i1⟩
  | .hbm, ⟨30, _⟩ => ⟨S_, .bf16⟩
  | .hbm, ⟨31, _⟩ => ⟨S192x1x4096, .bf16⟩
  | .hbm, ⟨32, _⟩ => ⟨S192x1x4096, .bf16⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S1, .i32⟩
  | .hbm, ⟨42, _⟩ => ⟨S_, .i32⟩
  | .hbm, ⟨43, _⟩ => ⟨S4096x1, .i32⟩
  | .hbm, ⟨44, _⟩ => ⟨S4096x1, .i1⟩
  | .hbm, ⟨45, _⟩ => ⟨S1x1, .i32⟩
  | .hbm, ⟨46, _⟩ => ⟨S4096x1, .i32⟩
  | .hbm, ⟨47, _⟩ => ⟨S4096x1, .i1⟩
  | .hbm, ⟨48, _⟩ => ⟨S4096x1, .i1⟩
  | .hbm, ⟨49, _⟩ => ⟨S_, .i1⟩
  | .hbm, ⟨50, _⟩ => ⟨S4096, .i1⟩
  | .hbm, ⟨51, _⟩ => ⟨S4096x14336, .i8⟩
  | .hbm, ⟨52, _⟩ => ⟨S4096x14336, .i1⟩
  | .hbm, ⟨53, _⟩ => ⟨S_, .i8⟩
  | .hbm, ⟨54, _⟩ => ⟨S4096x14336, .i8⟩
  | .hbm, ⟨55, _⟩ => ⟨S4096x14336, .i8⟩
  | .hbm, ⟨56, _⟩ => ⟨S32x128x14336, .i8⟩
  | .hbm, ⟨57, _⟩ => ⟨S32x128x14336, .i32⟩
  | .hbm, ⟨58, _⟩ => ⟨S16x28672, .i32⟩
  | .hbm, ⟨59, _⟩ => ⟨S_, .i32⟩
  | .hbm, ⟨60, _⟩ => ⟨S16x28672, .i32⟩
  | .hbm, ⟨61, _⟩ => ⟨S16x28672, .i32⟩
  | .hbm, ⟨62, _⟩ => ⟨S_, .i32⟩
  | .hbm, ⟨63, _⟩ => ⟨S16x28672, .i32⟩
  | .hbm, ⟨64, _⟩ => ⟨S16x28672, .i32⟩
  | .hbm, ⟨65, _⟩ => ⟨S32x28672, .i32⟩
  | .hbm, ⟨66, _⟩ => ⟨S32x28672, .bf16⟩
  | .hbm, ⟨67, _⟩ => ⟨S_, .i32⟩
  | .hbm, ⟨68, _⟩ => ⟨S32x128x14336, .i32⟩
  | .hbm, ⟨69, _⟩ => ⟨S32x128x14336, .i32⟩
  | .hbm, ⟨70, _⟩ => ⟨S32x14336, .bf16⟩
  | .hbm, ⟨71, _⟩ => ⟨S32x14336, .bf16⟩
  | .hbm, ⟨72, _⟩ => ⟨S32x128x14336, .bf16⟩
  | .hbm, ⟨73, _⟩ => ⟨S32x1x14336, .bf16⟩
  | .hbm, ⟨74, _⟩ => ⟨S32x128x14336, .bf16⟩
  | .hbm, ⟨75, _⟩ => ⟨S32x128x14336, .bf16⟩
  | .hbm, ⟨76, _⟩ => ⟨S32x1x14336, .bf16⟩
  | .hbm, ⟨77, _⟩ => ⟨S32x128x14336, .bf16⟩
  | .hbm, ⟨78, _⟩ => ⟨S32x128x14336, .bf16⟩
  | .hbm, ⟨79, _⟩ => ⟨S4096x14336, .bf16⟩
  | .hbm, ⟨80, _⟩ => ⟨S192x1x14336, .f32⟩
  | .hbm, ⟨81, _⟩ => ⟨S_, .i32⟩
  | .hbm, ⟨82, _⟩ => ⟨S32x128x14336, .i32⟩
  | .hbm, ⟨83, _⟩ => ⟨S32x128x14336, .i32⟩
  | .hbm, ⟨84, _⟩ => ⟨S32x14336, .bf16⟩
  | .hbm, ⟨85, _⟩ => ⟨S32x14336, .bf16⟩
  | .hbm, ⟨86, _⟩ => ⟨S32x128x14336, .bf16⟩
  | .hbm, ⟨87, _⟩ => ⟨S32x1x14336, .bf16⟩
  | .hbm, ⟨88, _⟩ => ⟨S32x128x14336, .bf16⟩
  | .hbm, ⟨89, _⟩ => ⟨S32x128x14336, .bf16⟩
  | .hbm, ⟨90, _⟩ => ⟨S32x1x14336, .bf16⟩
  | .hbm, ⟨91, _⟩ => ⟨S32x128x14336, .bf16⟩
  | .hbm, ⟨92, _⟩ => ⟨S32x128x14336, .bf16⟩
  | .hbm, ⟨93, _⟩ => ⟨S4096x14336, .bf16⟩
  | .hbm, ⟨94, _⟩ => ⟨S192x1x14336, .f32⟩
  | .hbm, ⟨95, _⟩ => ⟨S192x1x14336x1, .f32⟩
  | .hbm, ⟨96, _⟩ => ⟨S192x1x14336x1, .f32⟩
  | .hbm, ⟨97, _⟩ => ⟨S192x1x14336x2, .f32⟩
  | .hbm, ⟨98, _⟩ => ⟨S192x28672, .f32⟩
  | .hbm, ⟨99, _⟩ => ⟨S192x28672, .bf16⟩
  | _, _ => ⟨S192x1x4096, .i16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1_0 : Ref sig .tc := ⟨.hbm, 8, rfl⟩
abbrev main_v2 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_v14 : Ref sig .tc := ⟨.hbm, 29, rfl⟩
abbrev main_call1_cst : Ref sig .tc := ⟨.hbm, 30, rfl⟩
abbrev main_call1_v15 : Ref sig .tc := ⟨.hbm, 31, rfl⟩
abbrev main_v3 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_c_4 : Ref sig .tc := ⟨.hbm, 53, rfl⟩
abbrev main_call2_v15 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_c : Ref sig .tc := ⟨.hbm, 59, rfl⟩
abbrev main_v8 : Ref sig .tc := ⟨.hbm, 60, rfl⟩
abbrev main_v9 : Ref sig .tc := ⟨.hbm, 61, rfl⟩
abbrev main_c_0 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_c_1 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_c_2 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩

abbrev nD : Nat := 1
abbrev τ : Topo := Topo.v7x

variable {F : FTy → Type} [FloatOps F]
-- ==== Proof.Kern.Base.lean ====
/-
  What the kernel's loops share: a load at a unit-stride rectangle read element by element, and the pairing of
  two 16-bit rows into one row of 32-bit words.
-/
module

public import Idealize.ShloMosaic.Lib.WritesUnit
public import Idealize.ShloMosaic.Lib.BitcastPair
public import Idealize.ShloMosaic.Lib.BitcastFour
public import Idealize.ShloMosaic.Lib.ValueLayout

@[expose] public section

namespace Cert.Hand

open Idealize.ShloMosaic
open Idealize.ShloMosaic.ValueIdx

section
variable {sig : RefSig} {κ : Kind} {sp : Space} {s : Shape} {e : EltTy} {Val : EltTy → Type}

/-- An element of a load at a unit-stride rectangle is the element the view reads at the offsets plus the index. -/
theorem readAt_at (v : View sig κ sp s e) (f : v.ty.Contents Val) {off off' size : Fin s.rank → ℕ}
    (inb : ∀ a, off a + size a ≤ s.size a) (h : off = off') (x : (Rect.unit off size inb).shape.Idx) (y : s.Idx)
    (hy : ∀ a, (y a).val = off' a + (x a).val) :
    v.readAt Val (Rect.unit off size inb).toLoadRect f x = v.read Val f y := by
  subst h
  show v.read Val f _ = _
  refine congrArg _ (funext fun a => Fin.ext ?_)
  show off a + 1 * (x a).val = (y a).val
  rw [hy a]; omega
end

/-- Two 16-bit rows read as one row of words: the even row is the low half, the odd row the high half. -/
theorem bitcast_16_32_ix2 {R r n : Nat} (x : (⟨2, ![R, n]⟩ : Shape).Idx → BitVec 16)
    (h : (⟨2, ![R, n]⟩ : Shape).Bitcasts 16 ⟨2, ![r, n]⟩ 32) (a : Fin r) (l : Fin n) (p0 p1 : Fin R)
    (h0 : p0.val = 2 * a.val) (h1 : p1.val = 2 * a.val + 1) :
    bitcast ⟨2, ![r, n]⟩ 32 x h (ix2 a l) = x (ix2 p1 l) ++ x (ix2 p0 l) := by
  rw [bitcast_16_32]
  congr 2 <;> funext b <;> apply Fin.ext <;> match b with
    | ⟨0, _⟩ => first | exact h0.symm | exact h1.symm
    | ⟨1, _⟩ => rfl

/-- One row of words read as two 16-bit rows. -/
theorem bitcast_32_16_ix2 {R r n : Nat} (x : (⟨2, ![r, n]⟩ : Shape).Idx → BitVec 32)
    (h : (⟨2, ![r, n]⟩ : Shape).Bitcasts 32 ⟨2, ![R, n]⟩ 16) (a : Fin R) (l : Fin n) (p : Fin r)
    (hp : p.val = a.val / 2) :
    bitcast ⟨2, ![R, n]⟩ 16 x h (ix2 a l) = (x (ix2 p l)).extractLsb' (16 * (a.val % 2)) 16 := by
  rw [bitcast_32_16]
  show (x _).extractLsb' (16 * (a.val % 2)) 16 = _
  congr 2; funext b; apply Fin.ext; match b with
    | ⟨0, _⟩ => exact hp.symm
    | ⟨1, _⟩ => rfl

theorem extract_lo (h l : BitVec 16) : (h ++ l).extractLsb' 0 16 = l := by
  apply BitVec.eq_of_getLsbD_eq; intro i hi
  rw [BitVec.getLsbD_extractLsb', BitVec.getLsbD_append]
  simp [hi]

theorem extract_hi (h l : BitVec 16) : (h ++ l).extractLsb' 16 16 = h := by
  apply BitVec.eq_of_getLsbD_eq; intro i hi
  rw [BitVec.getLsbD_extractLsb', BitVec.getLsbD_append]
  simp [hi]

end Cert.Hand

end
-- ==== Proof.Kern.Gather.lean ====
/-
  The first grid point's three loops over the activations: fold two rows of `x` into words and transpose, gather
  the word rows by the permutation, transpose back and read the words as `bf16`. After them the scratch `xs` holds,
  at `(m, p)`, the value of `x (m, perm p)`.
-/
module

public import proofs.«01_k».proof.Proof.Gen.Kernel.Loops
public import proofs.«01_k».proof.Proof.Kern.Base
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

/-- A whole buffer, seen through a memref, held at contents `f`. -/
abbrev pts {sp : Space} {s : Shape} {e : EltTy} (c : Dev nD) (m : Memref sig .tc sp s e) (f : Buf (Elt F) (m.view.loc (c : Thread nD τ))) : sProp 𝕄 :=
  (m.view.loc (c : Thread nD τ)) ↦[m.view.set]{fullShare} f

/-- A table in scalar memory, the half of it a point's body may read. -/
abbrev ptsT {sp : Space} {s : Shape} {e : EltTy} (c : Dev nD) (m : Memref sig .tc sp s e) (f : Buf (Elt F) (m.view.loc (c : Thread nD τ))) : sProp 𝕄 :=
  (m.view.loc (c : Thread nD τ)) ↦[m.view.set]{fullShare.right} f

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)
  (k0_h1 : k0_cond1 i = 1#1)

/-- Rows below `n` of the folded words: word `(k, l)` is `x (2l+1, k)` on `x (2l, k)`. -/
def Folded (X : Vec F S192x4096 .i16) (n : ℕ) (W : Vec F S4096x128 .i32) : Prop :=
  ∀ (k : Fin 4096) (l : Fin 96), k.val < n →
    (W (ix2 k ⟨l.val, by omega⟩) : BitVec 32)
      = (X (ix2 ⟨2 * l.val + 1, by omega⟩ k) : BitVec 16) ++ (X (ix2 ⟨2 * l.val, by omega⟩ k) : BitVec 16)

/-- Rows below `n` of the sorted words: row `p` is row `P p` of the folded ones. -/
def Sorted (P : Fin 4096 → Fin 4096) (W : Vec F S4096x128 .i32) (n : ℕ) (W' : Vec F S4096x128 .i32) : Prop :=
  ∀ (p : Fin 4096) (l : Fin 128), p.val < n → W' (ix2 p l) = W (ix2 (P p) l)

/-- Columns below `n` of the sorted activations, as `bf16`. -/
def Unfolded (X : Vec F S192x4096 .i16) (P : Fin 4096 → Fin 4096) (n : ℕ) (Y : Vec F S192x4096 .bf16) : Prop :=
  ∀ (m : Fin 192) (p : Fin 4096), p.val < n → Y (ix2 m p) = FloatOps.ofBits .bf16 (X (ix2 m (P p)) : BitVec 16)

omit [FloatOps F] in
theorem fold_word (v : Vec F S192x128 .i16) (k : Fin 128) (l : Fin 96) :
    k0_pay3 v (ix2 k l) = (v (ix2 ⟨2 * l.val + 1, by omega⟩ k) : BitVec 16) ++ (v (ix2 ⟨2 * l.val, by omega⟩ k) : BitVec 16) := by
  unfold k0_pay3
  simp only [shapeCast_self]
  rw [transpose_ix2_apply]
  exact bitcast_16_32_ix2 v _ l k ⟨2 * l.val, by omega⟩ ⟨2 * l.val + 1, by omega⟩ rfl rfl

theorem unfold_val (v : Vec F S128x96 .i32) (m : Fin 192) (k : Fin 128) :
    k0_pay56 v (ix2 m k) = FloatOps.ofBits .bf16 ((v (ix2 k ⟨m.val / 2, by omega⟩) : BitVec 32).extractLsb' (16 * (m.val % 2)) 16) := by
  unfold k0_pay56
  simp only [shapeCast_self]
  refine congrArg (FloatOps.ofBits .bf16) ((bitcast_32_16_ix2 (R := 192) (r := 96) (n := 128) _ _ m k ⟨m.val / 2, by omega⟩ rfl).trans ?_)
  rw [transpose_ix2_apply]

theorem fold_step (f2 : Buf (Elt F) (arg2.view.loc (c : Thread nD τ))) (f9 : Buf (Elt F) (arg9.view.loc (c : Thread nD τ)))
    (k : Fin k0_t1_loop.trips) (h : Folded (arg2.view.read (Elt F) f2) (128 * k.val) (arg9.view.read (Elt F) f9)) :
   iprop(pts c arg2 f2 ∗
    pts c arg9 f9) ⊢
    wp frame (wpE (defs₀ (F := F)) 𝒱 (c : Thread nD τ) bd) Set.univ
      (k0_t1_body (F := F) i arg1 harg1 arg2 harg2 arg3 harg3 arg4 harg4 arg5 harg5 arg6 harg6 arg7 harg7 arg8 harg8 arg9 harg9 arg10 harg10 arg11 harg11 arg12 harg12 arg13 k0_h1 k ())
      (fun _ => iprop(pts c arg2 f2 ∗
        ∃ f9' : Buf (Elt F) (arg9.view.loc (c : Thread nD τ)), ⌜Folded (arg2.view.read (Elt F) f2) (128 * (k.val + 1)) (arg9.view.read (Elt F) f9')⌝ ∗
          pts c arg9 f9')) := by
  have hk : k.val < 32 := Nat.lt_of_lt_of_le k.isLt k0_t1_abs.2.1
  unfold k0_t1_body pts
  iintro ⟨H2, H9⟩
  sl_exec
  sl_step
  isplitl [H2]; · iexact H2
  iexists _; isplitr; swap; · iexact H9
  ipureintro
  intro r l hr
  by_cases hlt : r.val < 128 * k.val
  · refine (View.read_writes_cons_unit_of_not_mem arg9.view f9 _ _ _ _ (k0_off2_eq k) 0 (Or.inl hlt)).trans ?_
    exact h r l hlt
  · refine (View.read_writes_cons_unit_of_mem arg9.view f9 _ _ _ _ (ix2 (n0 := 128) (n1 := 96) ⟨r.val - 128 * k.val, by omega⟩ l)
      (k0_off2_eq k) (fun a => ?_)).trans ?_
    · match a with
      | ⟨0, _⟩ => show r.val = 128 * k.val + (r.val - 128 * k.val); omega
      | ⟨1, _⟩ => show l.val = 0 + l.val; omega
    refine (fold_word _ _ _).trans ?_
    congr 1
    all_goals
      refine readAt_at arg2.view f2 _ (k0_off1_eq k) _ _ fun a => ?_
      match a with
      | ⟨0, _⟩ => exact (Nat.zero_add _).symm
      | ⟨1, _⟩ => show r.val = 128 * k.val + (r.val - 128 * k.val); omega

theorem chk1_of (v : BitVec 32) (h : v.toNat < 4096) : k0_chk1 i v := by
  intro _ a
  match a with
  | ⟨0, _⟩ => show v.toNat + 1 ≤ 4096; omega
  | ⟨1, _⟩ => show 0 + 128 ≤ 128; omega

/-- The table of row numbers: word `p` is `P p`. -/
def Table (P : Fin 4096 → Fin 4096) (T : Vec F S4096 .i32) : Prop :=
  ∀ p : Fin 4096, (T (ix1 p) : BitVec 32) = BitVec.ofNat 32 (P p).val

omit [FloatOps F] in
theorem Table.toNat {P : Fin 4096 → Fin 4096} {T : Vec F S4096 .i32} (h : Table P T) (p : S4096.Idx) :
    (T p : BitVec 32).toNat = (P (p 0)).val := by
  have e : T p = BitVec.ofNat 32 (P (p 0)).val := (congrArg T (eq_ix1 p)).trans (h (p 0))
  refine (congrArg BitVec.toNat e).trans ?_
  rw [BitVec.toNat_ofNat]
  exact Nat.mod_eq_of_lt (Nat.lt_trans (P _).isLt (by decide))

theorem row_step (P : Fin 4096 → Fin 4096) (f1 : Buf (Elt F) (arg1.view.loc (c : Thread nD τ))) (f9 : Buf (Elt F) (arg9.view.loc (c : Thread nD τ))) (f10 : Buf (Elt F) (arg10.view.loc (c : Thread nD τ)))
    (k : Fin k0_t2_loop.trips) (hP : Table P (arg1.view.read (Elt F) f1)) (h : Sorted P (arg9.view.read (Elt F) f9) k.val (arg10.view.read (Elt F) f10)) :
   iprop(ptsT c arg1 f1 ∗ pts c arg9 f9 ∗ pts c arg10 f10) ⊢
    wp frame (wpE (defs₀ (F := F)) 𝒱 (c : Thread nD τ) bd) Set.univ
      (k0_t2_body (F := F) i arg1 harg1 arg2 harg2 arg3 harg3 arg4 harg4 arg5 harg5 arg6 harg6 arg7 harg7 arg8 harg8 arg9 harg9 arg10 harg10 arg11 harg11 arg12 harg12 arg13 k0_h1 k ())
      (fun _ => iprop(ptsT c arg1 f1 ∗ pts c arg9 f9 ∗
        ∃ f10' : Buf (Elt F) (arg10.view.loc (c : Thread nD τ)), ⌜Sorted P (arg9.view.read (Elt F) f9) (k.val + 1) (arg10.view.read (Elt F) f10')⌝ ∗ pts c arg10 f10')) := by
  have hk : k.val < 4096 := Nat.lt_of_lt_of_le k.isLt k0_t2_abs.2.1
  unfold k0_t2_body pts
  iintro ⟨H1, H9, H10⟩
  sl_exec (disch := exact chk1_of _ _ ((hP.toNat _).trans_lt (Fin.isLt _)))
  sl_step
  isplitl [H1]; · iexact H1
  isplitl [H9]; · iexact H9
  iexists _; isplitr; swap; · iexact H10
  ipureintro
  intro p l hp
  by_cases hlt : p.val < k.val
  · refine (View.read_writes_cons_unit_of_not_mem arg10.view f10 _ _ _ _ (k0_off5_eq k) 0 (Or.inl hlt)).trans ?_
    exact h p l hlt
  · have hpk : p = ⟨k.val, hk⟩ := Fin.ext (by show p.val = k.val; omega)
    subst hpk
    refine (View.read_writes_cons_unit_of_mem arg10.view f10 _ _ _ _ (ix2 (n0 := 1) (n1 := 128) 0 l)
      (k0_off5_eq k) (fun a => ?_)).trans ?_
    · match a with
      | ⟨0, _⟩ => rfl
      | ⟨1, _⟩ => exact (Nat.zero_add _).symm
    unfold k0_pay55
    rw [shapeCast_self]
    refine readAt_at arg9.view f9 _ rfl _ _ fun a => ?_
    match a with
    | ⟨0, _⟩ =>
      show (P _).val = (arg1.view.read (Elt F) f1 _ : BitVec 32).toNat + 0
      rw [hP.toNat, Nat.add_zero]
      refine congrArg (fun z => (P z).val) (Fin.ext ?_)
      show k.val = k0_off3 k 0 + 1 * 0
      rw [k0_off3_eq]; rfl
    | ⟨1, _⟩ => exact (Nat.zero_add _).symm

theorem unfold_step (P : Fin 4096 → Fin 4096) (X : Vec F S192x4096 .i16) (W : Vec F S4096x128 .i32)
    (f10 : Buf (Elt F) (arg10.view.loc (c : Thread nD τ))) (f11 : Buf (Elt F) (arg11.view.loc (c : Thread nD τ))) (k : Fin k0_t3_loop.trips)
    (hW : Folded X 4096 W) (hS : Sorted P W 4096 (arg10.view.read (Elt F) f10)) (h : Unfolded X P (128 * k.val) (arg11.view.read (Elt F) f11)) :
   iprop(pts c arg10 f10 ∗ pts c arg11 f11) ⊢
    wp frame (wpE (defs₀ (F := F)) 𝒱 (c : Thread nD τ) bd) Set.univ
      (k0_t3_body (F := F) i arg1 harg1 arg2 harg2 arg3 harg3 arg4 harg4 arg5 harg5 arg6 harg6 arg7 harg7 arg8 harg8 arg9 harg9 arg10 harg10 arg11 harg11 arg12 harg12 arg13 k0_h1 k ())
      (fun _ => iprop(pts c arg10 f10 ∗
        ∃ f11' : Buf (Elt F) (arg11.view.loc (c : Thread nD τ)), ⌜Unfolded X P (128 * (k.val + 1)) (arg11.view.read (Elt F) f11')⌝ ∗ pts c arg11 f11')) := by
  have hk : k.val < 32 := Nat.lt_of_lt_of_le k.isLt k0_t3_abs.2.1
  unfold k0_t3_body pts
  iintro ⟨H10, H11⟩
  sl_exec
  sl_step
  isplitl [H10]; · iexact H10
  iexists _; isplitr; swap; · iexact H11
  ipureintro
  intro m p hp
  by_cases hlt : p.val < 128 * k.val
  · refine (View.read_writes_cons_unit_of_not_mem arg11.view f11 _ _ _ _ (k0_off7_eq k) 1 (Or.inl hlt)).trans ?_
    exact h m p hlt
  · refine (View.read_writes_cons_unit_of_mem arg11.view f11 _ _ _ _ (ix2 (n0 := 192) (n1 := 128) m ⟨p.val - 128 * k.val, by omega⟩)
      (k0_off7_eq k) (fun a => ?_)).trans ?_
    · match a with
      | ⟨0, _⟩ => exact (Nat.zero_add _).symm
      | ⟨1, _⟩ => show p.val = 128 * k.val + (p.val - 128 * k.val); omega
    refine (unfold_val _ _ _).trans ?_
    refine congrArg (FloatOps.ofBits .bf16) ?_
    have e := readAt_at arg10.view f10 (size := S128x96.size) (k0_off6_inb i k k0_h1) (k0_off6_eq k)
      (ix2 (n0 := 128) (n1 := 96) ⟨p.val - 128 * k.val, by omega⟩ ⟨m.val / 2, by omega⟩)
      (ix2 (n0 := 4096) (n1 := 128) p ⟨m.val / 2, by omega⟩) (fun a => by
        match a with
        | ⟨0, _⟩ => show p.val = 128 * k.val + (p.val - 128 * k.val); omega
        | ⟨1, _⟩ => exact (Nat.zero_add _).symm)
    rw [e, hS p ⟨m.val / 2, by omega⟩ p.isLt]
    erw [hW (P p) ⟨m.val / 2, by omega⟩ (P p).isLt]
    rcases Nat.mod_two_eq_zero_or_one m.val with h2 | h2
    · rw [h2, extract_lo]
      exact congrArg (fun z => X (ix2 z (P p))) (Fin.ext (by show 2 * (m.val / 2) = m.val; omega))
    · rw [h2, extract_hi]
      exact congrArg (fun z => X (ix2 z (P p))) (Fin.ext (by show 2 * (m.val / 2) + 1 = m.val; omega))

theorem trips_t1 : k0_t1_loop.trips = 32 := by decide
theorem trips_t2 : k0_t2_loop.trips = 4096 := by decide
theorem trips_t3 : k0_t3_loop.trips = 32 := by decide

theorem fold_loop (f2 : Buf (Elt F) (arg2.view.loc (c : Thread nD τ))) (f9 : Buf (Elt F) (arg9.view.loc (c : Thread nD τ))) :
   iprop(pts c arg2 f2 ∗ pts c arg9 f9) ⊢
    wp frame (wpE (defs₀ (F := F)) 𝒱 (c : Thread nD τ) bd) Set.univ
      (Scf.Loop.for k0_t1_loop (k0_t1_ok i k0_h1) () (k0_t1_body (F := F) i arg1 harg1 arg2 harg2 arg3 harg3 arg4 harg4 arg5 harg5 arg6 harg6 arg7 harg7 arg8 harg8 arg9 harg9 arg10 harg10 arg11 harg11 arg12 harg12 arg13 k0_h1))
      (fun _ => iprop(pts c arg2 f2 ∗
        ∃ f9' : Buf (Elt F) (arg9.view.loc (c : Thread nD τ)), ⌜Folded (arg2.view.read (Elt F) f2) 4096 (arg9.view.read (Elt F) f9')⌝ ∗ pts c arg9 f9')) := by
  iintro ⟨H2, H9⟩
  iapply (Scf.wp_for frame (wpE (defs₀ (F := F)) 𝒱 (c : Thread nD τ) bd) Set.univ k0_t1_loop.lb k0_t1_loop.ub k0_t1_loop.st (k0_t1_ok i k0_h1) () _
    (fun k _ => iprop(pts c arg2 f2 ∗
        ∃ f9' : Buf (Elt F) (arg9.view.loc (c : Thread nD τ)), ⌜Folded (arg2.view.read (Elt F) f2) (128 * k) (arg9.view.read (Elt F) f9')⌝ ∗ pts c arg9 f9')) ?_)
  · intro k _
    iintro ⟨H2, %g, %hg, H9⟩
    iapply (fold_step 𝒱 c bd i arg1 harg1 arg2 harg2 arg3 harg3 arg4 harg4 arg5 harg5 arg6 harg6 arg7 harg7 arg8 harg8 arg9 harg9 arg10 harg10 arg11 harg11 arg12 harg12 arg13 k0_h1 f2 g k hg)
    isplitl [H2]; · iexact H2
    iexact H9
  isplitl [H2 H9]
  · isplitl [H2]; · iexact H2
    iexists f9; isplitr; swap; · iexact H9
    ipureintro; intro r l hr; exact absurd hr (Nat.not_lt_zero _)
  iintro %u H
  rw [show Scf.trips k0_t1_loop.lb k0_t1_loop.ub k0_t1_loop.st = 32 from trips_t1]
  iexact H

theorem row_loop (P : Fin 4096 → Fin 4096) (f1 : Buf (Elt F) (arg1.view.loc (c : Thread nD τ))) (f9 : Buf (Elt F) (arg9.view.loc (c : Thread nD τ))) (f10 : Buf (Elt F) (arg10.view.loc (c : Thread nD τ))) (hP : Table P (arg1.view.read (Elt F) f1)) :
   iprop(ptsT c arg1 f1 ∗ pts c arg9 f9 ∗ pts c arg10 f10) ⊢
    wp frame (wpE (defs₀ (F := F)) 𝒱 (c : Thread nD τ) bd) Set.univ
      (Scf.Loop.for k0_t2_loop (k0_t2_ok i k0_h1) () (k0_t2_body (F := F) i arg1 harg1 arg2 harg2 arg3 harg3 arg4 harg4 arg5 harg5 arg6 harg6 arg7 harg7 arg8 harg8 arg9 harg9 arg10 harg10 arg11 harg11 arg12 harg12 arg13 k0_h1))
      (fun _ => iprop(ptsT c arg1 f1 ∗ pts c arg9 f9 ∗
        ∃ f10' : Buf (Elt F) (arg10.view.loc (c : Thread nD τ)), ⌜Sorted P (arg9.view.read (Elt F) f9) 4096 (arg10.view.read (Elt F) f10')⌝ ∗ pts c arg10 f10')) := by
  iintro ⟨H1, H9, H10⟩
  iapply (Scf.wp_for frame (wpE (defs₀ (F := F)) 𝒱 (c : Thread nD τ) bd) Set.univ k0_t2_loop.lb k0_t2_loop.ub k0_t2_loop.st (k0_t2_ok i k0_h1) () _
    (fun k _ => iprop(ptsT c arg1 f1 ∗ pts c arg9 f9 ∗
        ∃ f10' : Buf (Elt F) (arg10.view.loc (c : Thread nD τ)), ⌜Sorted P (arg9.view.read (Elt F) f9) k (arg10.view.read (Elt F) f10')⌝ ∗ pts c arg10 f10')) ?_)
  · intro k _
    iintro ⟨H1, H9, %g, %hg, H10⟩
    iapply (row_step 𝒱 c bd i arg1 harg1 arg2 harg2 arg3 harg3 arg4 harg4 arg5 harg5 arg6 harg6 arg7 harg7 arg8 harg8 arg9 harg9 arg10 harg10 arg11 harg11 arg12 harg12 arg13 k0_h1 P f1 f9 g k hP hg)
    isplitl [H1]; · iexact H1
    isplitl [H9]; · iexact H9
    iexact H10
  isplitl [H1 H9 H10]
  · isplitl [H1]; · iexact H1
    isplitl [H9]; · iexact H9
    iexists f10; isplitr; swap; · iexact H10
    ipureintro; intro r l hr; exact absurd hr (Nat.not_lt_zero _)
  iintro %u H
  rw [show Scf.trips k0_t2_loop.lb k0_t2_loop.ub k0_t2_loop.st = 4096 from trips_t2]
  iexact H

theorem unfold_loop (P : Fin 4096 → Fin 4096) (X : Vec F S192x4096 .i16) (W : Vec F S4096x128 .i32)
    (f10 : Buf (Elt F) (arg10.view.loc (c : Thread nD τ))) (f11 : Buf (Elt F) (arg11.view.loc (c : Thread nD τ))) (hW : Folded X 4096 W) (hS : Sorted P W 4096 (arg10.view.read (Elt F) f10)) :
   iprop(pts c arg10 f10 ∗ pts c arg11 f11) ⊢
    wp frame (wpE (defs₀ (F := F)) 𝒱 (c : Thread nD τ) bd) Set.univ
      (Scf.Loop.for k0_t3_loop (k0_t3_ok i k0_h1) () (k0_t3_body (F := F) i arg1 harg1 arg2 harg2 arg3 harg3 arg4 harg4 arg5 harg5 arg6 harg6 arg7 harg7 arg8 harg8 arg9 harg9 arg10 harg10 arg11 harg11 arg12 harg12 arg13 k0_h1))
      (fun _ => iprop(pts c arg10 f10 ∗
        ∃ f11' : Buf (Elt F) (arg11.view.loc (c : Thread nD τ)), ⌜Unfolded X P 4096 (arg11.view.read (Elt F) f11')⌝ ∗ pts c arg11 f11')) := by
  iintro ⟨H10, H11⟩
  iapply (Scf.wp_for frame (wpE (defs₀ (F := F)) 𝒱 (c : Thread nD τ) bd) Set.univ k0_t3_loop.lb k0_t3_loop.ub k0_t3_loop.st (k0_t3_ok i k0_h1) () _
    (fun k _ => iprop(pts c arg10 f10 ∗
        ∃ f11' : Buf (Elt F) (arg11.view.loc (c : Thread nD τ)), ⌜Unfolded X P (128 * k) (arg11.view.read (Elt F) f11')⌝ ∗ pts c arg11 f11')) ?_)
  · intro k _
    iintro ⟨H10, %g, %hg, H11⟩
    iapply (unfold_step 𝒱 c bd i arg1 harg1 arg2 harg2 arg3 harg3 arg4 harg4 arg5 harg5 arg6 harg6 arg7 harg7 arg8 harg8 arg9 harg9 arg10 harg10 arg11 harg11 arg12 harg12 arg13 k0_h1 P X W f10 g k hW hS hg)
    isplitl [H10]; · iexact H10
    iexact H11
  isplitl [H10 H11]
  · isplitl [H10]; · iexact H10
    iexists f11; isplitr; swap; · iexact H11
    ipureintro; intro m p hp; exact absurd hp (Nat.not_lt_zero _)
  iintro %u H
  rw [show Scf.trips k0_t3_loop.lb k0_t3_loop.ub k0_t3_loop.st = 32 from trips_t3]
  iexact H

end

end Cert.Kernel.Hand

end
-- ==== Proof.Kern.Quad.lean ====
/-
  The kernel's row loop: for each output row of words, four rows of the slab named by the permutation, one byte of each
  word taken, the four bytes packed into one word and the 8 x 128 words stored one per chunk into the sorted scratch.
-/
module

public import proofs.«01_k».proof.Proof.Kern.Gather
public import Idealize.ShloMosaic.Lib.Pointwise.ElementwiseCore
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

/-- One slot of the slab scratch, as a rectangle of it. -/
abbrev slotRect (s : ℕ) (hs : s < 2) : Rect S2x1024x8x128 :=
  Rect.unit ![s, 0, 0, 0] ![1, 1024, 8, 128] (fun a => by
    match a with
    | ⟨0, _⟩ => show s + 1 ≤ 2; omega
    | ⟨1, _⟩ => exact Nat.le_refl _
    | ⟨2, _⟩ => exact Nat.le_refl _
    | ⟨3, _⟩ => exact Nat.le_refl _)

/-- One slot of the slab scratch held at contents `f`. -/
abbrev ptsS (c : Dev nD) (m : Memref sig .tc .vmem S2x1024x8x128 .i32) (s : ℕ) (hs : s < 2)
    (f : Buf (Elt F) (m.view.loc (c : Thread nD τ))) : sProp 𝕄 :=
  (m.view.loc (c : Thread nD τ)) ↦[m.view.setOn (slotRect s hs).set]{fullShare} f

theorem shr2_toNat (v : BitVec 32) : (Scalar.indexCast (Scalar.shrui v 2#32)).toNat = v.toNat / 4 := by
  show (IntOp.shrui .scalar v 2#32).toNat = _
  unfold IntOp.shrui
  rw [if_pos (by decide)]
  show (v >>> (2#32).toNat).toNat = _
  rw [BitVec.toNat_ushiftRight, Nat.shiftRight_eq_div_pow]; rfl

/-- The four loads of a trip read row `v / 4` of the slot, `v` the word the trip read off the table. -/
abbrev rowOff (v : BitVec 32) : Fin 4 → ℕ := ![(i 0).val % 2, v.toNat / 4, 0, 0]

theorem off29_eq (v : BitVec 32) : k0_off29 i v = rowOff i v := by
  have e : (Scalar.indexCast (Scalar.remsi (BitVec.ofNat 32 (i 0).val) 2#32)).toNat = (i 0).val % 2 := congrFun (k0_off18_eq i) 0
  unfold k0_off29
  show ![_, _, 0, 0] = _
  rw [e, shr2_toNat]

theorem off31_eq (v : BitVec 32) : k0_off31 i v = rowOff i v := by
  have e : (Scalar.indexCast (Scalar.remsi (BitVec.ofNat 32 (i 0).val) 2#32)).toNat = (i 0).val % 2 := congrFun (k0_off18_eq i) 0
  unfold k0_off31
  show ![_, _, 0, 0] = _
  rw [e, shr2_toNat]

theorem off33_eq (v : BitVec 32) : k0_off33 i v = rowOff i v := by
  have e : (Scalar.indexCast (Scalar.remsi (BitVec.ofNat 32 (i 0).val) 2#32)).toNat = (i 0).val % 2 := congrFun (k0_off18_eq i) 0
  unfold k0_off33
  show ![_, _, 0, 0] = _
  rw [e, shr2_toNat]

theorem off35_eq (v : BitVec 32) : k0_off35 i v = rowOff i v := by
  have e : (Scalar.indexCast (Scalar.remsi (BitVec.ofNat 32 (i 0).val) 2#32)).toNat = (i 0).val % 2 := congrFun (k0_off18_eq i) 0
  unfold k0_off35
  show ![_, _, 0, 0] = _
  rw [e, shr2_toNat]

theorem rowOff_inb (v : BitVec 32) (h : v.toNat < 4096) (a : Fin 4) : rowOff i v a + S1x1x8x128.size a ≤ S2x1024x8x128.size a := by
  match a with
  | ⟨0, _⟩ => show (i 0).val % 2 + 1 ≤ 2; omega
  | ⟨1, _⟩ => show v.toNat / 4 + 1 ≤ 1024; omega
  | ⟨2, _⟩ => exact Nat.le_refl _
  | ⟨3, _⟩ => exact Nat.le_refl _

theorem chk2_of (v : BitVec 32) (h : v.toNat < 4096) : k0_chk2 i v := by
  unfold k0_chk2; rw [off29_eq]; exact rowOff_inb i v h

theorem chk3_of (v : BitVec 32) (h : v.toNat < 4096) : k0_chk3 i v := by
  unfold k0_chk3; rw [off31_eq]; exact rowOff_inb i v h

theorem chk4_of (v : BitVec 32) (h : v.toNat < 4096) : k0_chk4 i v := by
  unfold k0_chk4; rw [off33_eq]; exact rowOff_inb i v h

theorem chk5_of (v : BitVec 32) (h : v.toNat < 4096) : k0_chk5 i v := by
  unfold k0_chk5; rw [off35_eq]; exact rowOff_inb i v h

theorem slot_sub {off : Fin 4 → ℕ} (v : BitVec 32) (inb) (h : off = rowOff i v) :
    arg7.view.setOn (Rect.unit (s := S2x1024x8x128) off S1x1x8x128.size inb).toLoadRect.set
     ⊆ arg7.view.setOn (slotRect ((i 0).val % 2) (Nat.mod_lt _ (by decide))).set := by
  subst h
  refine Finset.map_subset_map.mpr fun y hy => ?_
  have hy' := Rect.mem_set_unit.mp hy
  refine Rect.mem_set_unit.mpr fun a => ?_
  have h0 := hy' a
  have hlt := (y a).isLt
  match a with
  | ⟨0, _⟩ => exact h0
  | ⟨1, _⟩ => exact ⟨Nat.zero_le _, hlt.trans_eq (Nat.zero_add _).symm⟩
  | ⟨2, _⟩ => exact h0
  | ⟨3, _⟩ => exact h0

/-- The words of one slot of the slab scratch, by row, chunk and lane. -/
abbrev slabWord (T : Vec F S2x1024x8x128 .i32) (s : Fin 2) (r : Fin 1024) (c : Fin 8) (l : Fin 128) : BitVec 32 :=
  T (ix4 (n0 := 2) (n1 := 1024) (n2 := 8) (n3 := 128) s r c l)

/-- Word rows below `n` of every chunk of the sorted scratch: byte `j` of row `q` is the byte of the slab that
    the permutation names for row `4 q + j`. -/
def Srt (P : Fin 4096 → Fin 4096) (W : Fin 1024 → Fin 8 → Fin 128 → BitVec 32) (n : ℕ) (T : Vec F S8200x128 .i32) : Prop :=
  ∀ (q : Fin 1024) (c : Fin 8) (l : Fin 128), q.val < n → ∀ j : Fin 4,
    (T (ix2 (n0 := 8200) (n1 := 128) ⟨1025 * c.val + q.val, by omega⟩ l) : BitVec 32).extractLsb' (8 * j.val) 8 =
      (W ⟨(P ⟨4 * q.val + j.val, by omega⟩).val / 4, by omega⟩ c l).extractLsb'
        (8 * ((P ⟨4 * q.val + j.val, by omega⟩).val % 4)) 8

theorem shr_byte (x v : BitVec 32) :
    (IntOp.shrui .vector x (Scalar.muli (Scalar.andi v 3#32) 8#32)).setWidth 8 = x.extractLsb' (8 * (v.toNat % 4)) 8 := by
  have e : (Scalar.muli (Scalar.andi v 3#32) 8#32).toNat = 8 * (v.toNat % 4) := by
    show ((v &&& 3#32) * 8#32).toNat = _
    rw [BitVec.toNat_mul, BitVec.toNat_and]
    show (v.toNat &&& (2 ^ 2 - 1)) * 8 % 2 ^ 32 = _
    rw [Nat.and_two_pow_sub_one_eq_mod]
    omega
  unfold IntOp.shrui
  rw [if_pos (by rw [e]; omega)]
  show (x >>> (Scalar.muli (Scalar.andi v 3#32) 8#32).toNat).setWidth 8 = _
  rw [e]; rfl

theorem byte_of_append (a b c d : BitVec 8) (j : Fin 4) :
    (d ++ c ++ b ++ a : BitVec 32).extractLsb' (8 * j.val) 8 = ![a, b, c, d] j := by
  apply BitVec.eq_of_getLsbD_eq; intro i hi
  rw [BitVec.getLsbD_extractLsb', BitVec.getLsbD_append, BitVec.getLsbD_append, BitVec.getLsbD_append]
  have hi' : (i < 8) = True := eq_true hi
  match j with
  | ⟨0, _⟩ => simp [hi]
  | ⟨1, _⟩ =>
    simp only [hi', show ¬ (8 * 1 + i < 8) by omega, show 8 * 1 + i - 8 = i by omega, decide_true, decide_false, Bool.true_and, if_true, if_false, Bool.false_eq_true, cond_true, cond_false]; rfl
  | ⟨2, _⟩ =>
    simp only [hi', show ¬ (8 * 2 + i < 8) by omega, show ¬ (8 * 2 + i - 8 < 8) by omega, show 8 * 2 + i - 8 - 8 = i by omega, decide_true, decide_false, Bool.true_and, if_true, if_false, Bool.false_eq_true, cond_true, cond_false]; rfl
  | ⟨3, _⟩ =>
    simp only [hi', show ¬ (8 * 3 + i < 8) by omega, show ¬ (8 * 3 + i - 8 < 8) by omega, show ¬ (8 * 3 + i - 8 - 8 < 8) by omega, show 8 * 3 + i - 8 - 8 - 8 = i by omega, decide_true, decide_false, Bool.true_and, if_true, if_false, Bool.false_eq_true, cond_true, cond_false]; rfl

/-- The packed word of a trip, byte by byte. -/
theorem quad_word (a0 a1 a2 a3 : BitVec 32) (x0 x1 x2 x3 : Vec F S1x1x8x128 .i32) (c : Fin 8) (l : Fin 128) (j : Fin 4) :
    (k0_pay1 (k0_pay4 (F := F) a0 x0) (k0_pay5 a1 x1) (k0_pay6 x2) (Scalar.andi a2 3#32) a3 x3
      (ix2 (n0 := 8) (n1 := 128) c l) : BitVec 32).extractLsb' (8 * j.val) 8 =
    ((![x0, x1, x2, x3] j) (ix4 (n0 := 1) (n1 := 1) (n2 := 8) (n3 := 128) 0 0 c l) : BitVec 32).extractLsb'
      (8 * ((![a0, a1, a2, a3] j).toNat % 4)) 8 := by
  have hc : ∀ x : Vec F S1x1x8x128 .i32, shapeCast S8x128 x shapeCasts_S1x1x8x128_S8x128 (ix2 (n0 := 8) (n1 := 128) c l)
      = x (ix4 (n0 := 1) (n1 := 1) (n2 := 8) (n3 := 128) 0 0 c l) := fun x =>
    shapeCast_apply x _ _ _ (by
      rw [Shape.rowMajor_val_four, Shape.rowMajor_val_two]
      show ((0 * 1 + 0) * 8 + c.val) * 128 + l.val = c.val * 128 + l.val
      omega)
  unfold k0_pay1 k0_pay4 k0_pay5 k0_pay6
  rw [shapeCast_self]
  refine (congrArg (fun w : BitVec 32 => w.extractLsb' (8 * j.val) 8) (packElementwiseInt8_apply _ _ _ _ _ _)).trans ?_
  refine (byte_of_append _ _ _ _ j).trans ?_
  match j with
  | ⟨0, _⟩ => exact (shr_byte _ a0).trans (congrArg (fun w : BitVec 32 => w.extractLsb' (8 * (a0.toNat % 4)) 8) (hc x0))
  | ⟨1, _⟩ => exact (shr_byte _ a1).trans (congrArg (fun w : BitVec 32 => w.extractLsb' (8 * (a1.toNat % 4)) 8) (hc x1))
  | ⟨2, _⟩ => exact (shr_byte _ a2).trans (congrArg (fun w : BitVec 32 => w.extractLsb' (8 * (a2.toNat % 4)) 8) (hc x2))
  | ⟨3, _⟩ => exact (shr_byte _ a3).trans (congrArg (fun w : BitVec 32 => w.extractLsb' (8 * (a3.toNat % 4)) 8) (hc x3))

/-- A word off the table, read at one of a trip's four offsets. -/
theorem table_word (P : Fin 4096 → Fin 4096) (f1 : Buf (Elt F) (arg1.view.loc (c : Thread nD τ)))
    (hP : Table P (arg1.view.read (Elt F) f1)) {off : Fin 1 → ℕ} (inb) (o : Fin 4096) (ho : off = ![o.val]) (x) :
    (arg1.view.readAt (Elt F) (Rect.unit (s := S4096) off S1.size inb).toLoadRect f1 x : BitVec 32).toNat = (P o).val := by
  have e := readAt_at arg1.view f1 inb ho x (ix1 (n := 4096) o) (fun a => by
    match a with
    | ⟨0, _⟩ =>
      have := (x (0 : Fin 1)).isLt
      show o.val = o.val + (x (0 : Fin 1)).val
      have h1 : (x (0 : Fin 1)).val < 1 := this
      omega)
  refine (congrArg BitVec.toNat e).trans ?_
  exact hP.toNat (ix1 (n := 4096) o)

/-- A row of the slot, read at the offset a trip computes from a table word. -/
theorem slab_row (f7 : Buf (Elt F) (arg7.view.loc (c : Thread nD τ))) {off : Fin 4 → ℕ} (v : BitVec 32) (inb)
    (h : off = rowOff i v) (r : Fin 1024) (hr : v.toNat / 4 = r.val) (c' : Fin 8) (l : Fin 128) :
    arg7.view.readAt (Elt F) (Rect.unit (s := S2x1024x8x128) off S1x1x8x128.size inb).toLoadRect f7
      (ix4 (n0 := 1) (n1 := 1) (n2 := 8) (n3 := 128) 0 0 c' l) =
    slabWord (arg7.view.read (Elt F) f7) ⟨(i 0).val % 2, Nat.mod_lt _ (by decide)⟩ r c' l :=
  readAt_at arg7.view f7 inb h _ _ (fun a => by
    match a with
    | ⟨0, _⟩ => rfl
    | ⟨1, _⟩ => exact hr.symm
    | ⟨2, _⟩ => exact (Nat.zero_add _).symm
    | ⟨3, _⟩ => exact (Nat.zero_add _).symm)

theorem quad_step (P : Fin 4096 → Fin 4096) (v0 : BitVec 32) (f1 : Buf (Elt F) (arg1.view.loc (c : Thread nD τ))) (f7 : Buf (Elt F) (arg7.view.loc (c : Thread nD τ))) (f8 : Buf (Elt F) (arg8.view.loc (c : Thread nD τ)))
    (k : Fin k0_t4_loop.trips) (hP : Table P (arg1.view.read (Elt F) f1))
    (h8 : Srt P (slabWord (arg7.view.read (Elt F) f7) ⟨(i 0).val % 2, Nat.mod_lt _ (by decide)⟩) k.val (arg8.view.read (Elt F) f8)) :
   iprop(ptsT c arg1 f1 ∗ ptsS c arg7 ((i 0).val % 2) (Nat.mod_lt _ (by decide)) f7 ∗ pts c arg8 f8) ⊢
    wp frame (wpE (defs₀ (F := F)) 𝒱 (c : Thread nD τ) bd) Set.univ
      (k0_t4_body (F := F) i arg1 harg1 arg2 harg2 arg3 harg3 arg4 harg4 arg5 harg5 arg6 harg6 arg7 harg7 arg8 harg8 arg9 harg9 arg10 harg10 arg11 harg11 arg12 harg12 arg13 v0 k ())
      (fun _ => iprop(ptsT c arg1 f1 ∗ ptsS c arg7 ((i 0).val % 2) (Nat.mod_lt _ (by decide)) f7 ∗
        ∃ f8' : Buf (Elt F) (arg8.view.loc (c : Thread nD τ)), ⌜Srt P (slabWord (arg7.view.read (Elt F) f7) ⟨(i 0).val % 2, Nat.mod_lt _ (by decide)⟩) (k.val + 1) (arg8.view.read (Elt F) f8')⌝ ∗ pts c arg8 f8')) := by
  have hk : k.val < 1024 := Nat.lt_of_lt_of_le k.isLt k0_t4_abs.2.1
  have hv : ∀ p : S4096.Idx, (arg1.view.read (Elt F) f1 p : BitVec 32).toNat < 4096 :=
    fun p => (hP.toNat p).trans_lt (Fin.isLt _)
  unfold k0_t4_body pts ptsS
  iintro ⟨H1, H7, H8⟩
  sl_exec (disch := first | exact chk2_of _ _ (hv _) | exact chk3_of _ _ (hv _) | exact chk4_of _ _ (hv _) | exact chk5_of _ _ (hv _))
  iapply (wp_load 𝒱 (c : Thread nD τ) bd Set.univ (m := arg7) (slot_sub i arg7 _ _ (off29_eq i _))) $$ H7; iintro H7
  sl_exec (disch := first | exact chk2_of _ _ (hv _) | exact chk3_of _ _ (hv _) | exact chk4_of _ _ (hv _) | exact chk5_of _ _ (hv _))
  iapply (wp_load 𝒱 (c : Thread nD τ) bd Set.univ (m := arg7) (slot_sub i arg7 _ _ (off31_eq i _))) $$ H7; iintro H7
  sl_exec (disch := first | exact chk2_of _ _ (hv _) | exact chk3_of _ _ (hv _) | exact chk4_of _ _ (hv _) | exact chk5_of _ _ (hv _))
  iapply (wp_load 𝒱 (c : Thread nD τ) bd Set.univ (m := arg7) (slot_sub i arg7 _ _ (off33_eq i _))) $$ H7; iintro H7
  sl_exec (disch := first | exact chk2_of _ _ (hv _) | exact chk3_of _ _ (hv _) | exact chk4_of _ _ (hv _) | exact chk5_of _ _ (hv _))
  iapply (wp_load 𝒱 (c : Thread nD τ) bd Set.univ (m := arg7) (slot_sub i arg7 _ _ (off35_eq i _))) $$ H7; iintro H7
  sl_exec
  sl_step
  isplitl [H1]; · iexact H1
  isplitl [H7]; · iexact H7
  iexists _; isplitr; swap; · iexact H8
  ipureintro
  intro q c' l hq j
  by_cases hlt : q.val < k.val
  · refine (congrArg (fun w : BitVec 32 => w.extractLsb' (8 * j.val) 8) (View.read_writes_cons_miss arg8.view f8 _ [] _ ?_)).trans (h8 q c' l hlt j)
    intro hmem
    obtain ⟨x, hx, e⟩ := (LoadRect.mem_set _).mp hmem 0
    have e' : 1025 * c'.val + q.val = k0_off36 k 0 + 1025 * x := e
    have hx' : x < 8 := hx
    rw [k0_off36_eq] at e'
    have e'' : 1025 * c'.val + q.val = k.val + 1025 * x := e'
    omega
  · have hqk : q = ⟨k.val, hk⟩ := Fin.ext (by show q.val = k.val; omega)
    subst hqk
    refine (congrArg (fun w : BitVec 32 => w.extractLsb' (8 * j.val) 8)
      (View.read_writes_cons_hit_of_coords arg8.view f8 _ _ [] (ix2 (n0 := 8) (n1 := 128) c' l) _ (fun a => ?_))).trans ?_
    · match a with
      | ⟨0, _⟩ =>
        show 1025 * c'.val + k.val = k0_off36 k 0 + 1025 * c'.val
        rw [k0_off36_eq]; exact Nat.add_comm _ _
      | ⟨1, _⟩ =>
        show l.val = k0_off36 k 1 + 1 * l.val
        rw [k0_off36_eq]; show l.val = 0 + 1 * l.val; omega
    refine (quad_word _ _ _ _ _ _ _ _ c' l j).trans ?_
    have t0 := table_word c arg1 P f1 hP (k0_off28_inb k) ⟨4 * k.val + 0, by omega⟩ (k0_off28_eq k)
    have t1 := table_word c arg1 P f1 hP (k0_off30_inb k) ⟨4 * k.val + 1, by omega⟩ (k0_off30_eq k)
    have t2 := table_word c arg1 P f1 hP (k0_off32_inb k) ⟨4 * k.val + 2, by omega⟩ (k0_off32_eq k)
    have t3 := table_word c arg1 P f1 hP (k0_off34_inb k) ⟨4 * k.val + 3, by omega⟩ (k0_off34_eq k)
    match j with
    | ⟨0, _⟩ =>
      refine (congrArg (fun w : BitVec 32 => w.extractLsb' _ 8) (slab_row c i arg7 f7 _ _ (off29_eq i _) ⟨(P ⟨4 * k.val + 0, by omega⟩).val / 4, by omega⟩ (congrArg (fun n : ℕ => n / 4) (t0 _)) c' l)).trans ?_
      exact congrArg (fun n => BitVec.extractLsb' (8 * (n % 4)) 8 _) (t0 _)
    | ⟨1, _⟩ =>
      refine (congrArg (fun w : BitVec 32 => w.extractLsb' _ 8) (slab_row c i arg7 f7 _ _ (off31_eq i _) ⟨(P ⟨4 * k.val + 1, by omega⟩).val / 4, by omega⟩ (congrArg (fun n : ℕ => n / 4) (t1 _)) c' l)).trans ?_
      exact congrArg (fun n => BitVec.extractLsb' (8 * (n % 4)) 8 _) (t1 _)
    | ⟨2, _⟩ =>
      refine (congrArg (fun w : BitVec 32 => w.extractLsb' _ 8) (slab_row c i arg7 f7 _ _ (off33_eq i _) ⟨(P ⟨4 * k.val + 2, by omega⟩).val / 4, by omega⟩ (congrArg (fun n : ℕ => n / 4) (t2 _)) c' l)).trans ?_
      exact congrArg (fun n => BitVec.extractLsb' (8 * (n % 4)) 8 _) (t2 _)
    | ⟨3, _⟩ =>
      refine (congrArg (fun w : BitVec 32 => w.extractLsb' _ 8) (slab_row c i arg7 f7 _ _ (off35_eq i _) ⟨(P ⟨4 * k.val + 3, by omega⟩).val / 4, by omega⟩ (congrArg (fun n : ℕ => n / 4) (t3 _)) c' l)).trans ?_
      exact congrArg (fun n => BitVec.extractLsb' (8 * (n % 4)) 8 _) (t3 _)

theorem trips_t4 : k0_t4_loop.trips = 1024 := by decide

theorem quad_loop (P : Fin 4096 → Fin 4096) (v0 : BitVec 32) (f1 : Buf (Elt F) (arg1.view.loc (c : Thread nD τ))) (f7 : Buf (Elt F) (arg7.view.loc (c : Thread nD τ))) (f8 : Buf (Elt F) (arg8.view.loc (c : Thread nD τ)))
    (hP : Table P (arg1.view.read (Elt F) f1)) :
   iprop(ptsT c arg1 f1 ∗ ptsS c arg7 ((i 0).val % 2) (Nat.mod_lt _ (by decide)) f7 ∗ pts c arg8 f8) ⊢
    wp frame (wpE (defs₀ (F := F)) 𝒱 (c : Thread nD τ) bd) Set.univ
      (Scf.Loop.for k0_t4_loop k0_t4_ok () (k0_t4_body (F := F) i arg1 harg1 arg2 harg2 arg3 harg3 arg4 harg4 arg5 harg5 arg6 harg6 arg7 harg7 arg8 harg8 arg9 harg9 arg10 harg10 arg11 harg11 arg12 harg12 arg13 v0))
      (fun _ => iprop(ptsT c arg1 f1 ∗ ptsS c arg7 ((i 0).val % 2) (Nat.mod_lt _ (by decide)) f7 ∗
        ∃ f8' : Buf (Elt F) (arg8.view.loc (c : Thread nD τ)), ⌜Srt P (slabWord (arg7.view.read (Elt F) f7) ⟨(i 0).val % 2, Nat.mod_lt _ (by decide)⟩) 1024 (arg8.view.read (Elt F) f8')⌝ ∗ pts c arg8 f8')) := by
  iintro ⟨H1, H7, H8⟩
  iapply (Scf.wp_for frame (wpE (defs₀ (F := F)) 𝒱 (c : Thread nD τ) bd) Set.univ k0_t4_loop.lb k0_t4_loop.ub k0_t4_loop.st k0_t4_ok () _
    (fun k _ => iprop(ptsT c arg1 f1 ∗ ptsS c arg7 ((i 0).val % 2) (Nat.mod_lt _ (by decide)) f7 ∗
        ∃ f8' : Buf (Elt F) (arg8.view.loc (c : Thread nD τ)), ⌜Srt P (slabWord (arg7.view.read (Elt F) f7) ⟨(i 0).val % 2, Nat.mod_lt _ (by decide)⟩) k (arg8.view.read (Elt F) f8')⌝ ∗ pts c arg8 f8')) ?_)
  · intro k _
    iintro ⟨H1, H7, %g, %hg, H8⟩
    iapply (quad_step 𝒱 c bd i arg1 harg1 arg2 harg2 arg3 harg3 arg4 harg4 arg5 harg5 arg6 harg6 arg7 harg7 arg8 harg8 arg9 harg9 arg10 harg10 arg11 harg11 arg12 harg12 arg13 P v0 f1 f7 g k hP hg)
    isplitl [H1]; · iexact H1
    isplitl [H7]; · iexact H7
    iexact H8
  isplitl [H1 H7 H8]
  · isplitl [H1]; · iexact H1
    isplitl [H7]; · iexact H7
    iexists f8; isplitr; swap; · iexact H8
    ipureintro; intro q _ _ hq; exact absurd hq (Nat.not_lt_zero _)
  iintro %u H
  rw [show Scf.trips k0_t4_loop.lb k0_t4_loop.ub k0_t4_loop.st = 1024 from trips_t4]
  iexact H

end

end Cert.Kernel.Hand
-- ==== Proof.Kern.Words.lean ====
/-
  The bit patterns the kernel makes of its words, and the two ways it re-reads rows: a lane gather out of a
  256-lane row, four byte rows read as one word row and back.
-/
module

public import proofs.«01_k».proof.Proof.Kern.Base
public import Idealize.ShloMosaic.Lib.Pipeline.Value

@[expose] public section

namespace Cert.Hand

open Idealize.ShloMosaic
open Idealize.ShloMosaic.ValueIdx

/-- Four byte rows read as one word row: a field inside byte `b` of the word is that field of byte row `4 a + b`. -/
theorem bitcast_8_32_extract {R r n : Nat} (x : (⟨2, ![R, n]⟩ : Shape).Idx → BitVec 8)
    (h : (⟨2, ![R, n]⟩ : Shape).Bitcasts 8 ⟨2, ![r, n]⟩ 32) (a : Fin r) (l : Fin n) (b o w : ℕ) (hb : b < 4) (how : o + w ≤ 8)
    (p : Fin R) (hp : p.val = 4 * a.val + b) :
    (bitcast ⟨2, ![r, n]⟩ 32 x h (ix2 a l)).extractLsb' (8 * b + o) w = (x (ix2 p l)).extractLsb' o w := by
  apply BitVec.eq_of_getLsbD_eq; intro i hi
  rw [BitVec.getLsbD_extractLsb', BitVec.getLsbD_extractLsb',
    bitcast_8_32_getLsbD_ix2 x h a l (8 * b + o + i) (by omega) p (by omega)]
  rw [show (8 * b + o + i) % 8 = o + i by omega]

/-- One word row read as four byte rows. -/
theorem bitcast_32_8_ix2 {R r n : Nat} (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 x h (ix2 a l) = (x (ix2 p l)).extractLsb' (8 * (a.val % 4)) 8 := by
  apply BitVec.eq_of_getLsbD_eq; intro q hq
  rw [bitcast_getLsbD x h _ q hq (by decide), BitVec.getLsbD_extractLsb']
  have hrow : (⟨2, ![R, n]⟩ : Shape).row (ix2 a l) = a.val := rfl
  simp only [hq, decide_true, Bool.true_and]
  have e2 : (a.val * 8 + q) % 32 = 8 * (a.val % 4) + q := by omega
  rw [show ((⟨2, ![R, n]⟩ : Shape).row (ix2 a l) * 8 + q) % 32 = 8 * (a.val % 4) + q from e2]
  congr 2
  funext c
  match c with
  | ⟨0, _⟩ => exact Fin.ext ((h.srcIdx_row _ _ _ ⟨0, Nat.zero_lt_two⟩ rfl).trans (by rw [hp]; show (a.val * 8 + q) / 32 = _; omega))
  | ⟨1, _⟩ => exact Fin.ext (h.srcIdx_other _ _ _ ⟨1, Nat.one_lt_two⟩ (by show ¬ 1 + 2 = 2; omega))

/-- The two lane maps: a lane gather of a 128-lane slice at `o`, the lane index wrapped the way a negative one is. -/
theorem take_ix2 {R : ℕ} {α : Type} (x : (⟨2, ![R, 256]⟩ : Shape).Idx → α) (o : ℕ)
    (h : (⟨2, ![R, 256]⟩ : Shape).Slices ![0, o] ⟨2, ![R, 128]⟩) (idx : IVec ⟨2, ![R, 128]⟩ 32)
    (h1 : (⟨2, ![R, 128]⟩ : Shape).ShapeCasts ⟨3, ![R, 128, 1]⟩) (h2 : (⟨3, ![R, 128, 1]⟩ : Shape).ShapeCasts ⟨2, ![R, 128]⟩)
    (r : Fin R) (l : Fin 128) (v : ℕ) (hv : v < 128) (y : Fin 256) (hy : y.val = o + v)
    (hi : idx (ix2 r l) = BitVec.ofNat 32 v) :
    dynamicGather (s := ⟨2, ![R, 128]⟩) 1 (extractStridedSlice ⟨2, ![R, 128]⟩ ![0, o] x h)
      (shapeCast ⟨2, ![R, 128]⟩ (shapeCast ⟨3, ![R, 128, 1]⟩
        (select (cmpi .slt idx (broadcast ⟨2, ![R, 128]⟩ 0#32)) (addi idx (broadcast ⟨2, ![R, 128]⟩ 128#32)) idx) h1) h2) (ix2 r l)
      = x (ix2 r y) := by
  rw [shapeCast_shapeCast]
  have hs : select (cmpi .slt idx (broadcast ⟨2, ![R, 128]⟩ 0#32)) (addi idx (broadcast ⟨2, ![R, 128]⟩ 128#32)) idx (ix2 r l)
      = BitVec.ofNat 32 v := by
    show Scalar.select (IntOp.cmpi .slt (idx (ix2 r l)) 0#32) _ (idx (ix2 r l)) = _
    rw [hi]
    have : IntOp.cmpi .slt (BitVec.ofNat 32 v) 0#32 = 0#1 := by
      have : ∀ v : Fin 128, IntOp.cmpi .slt (BitVec.ofNat 32 v.val) 0#32 = 0#1 := by decide
      exact this ⟨v, hv⟩
    rw [this]; rfl
  unfold dynamicGather
  refine extractStridedSlice_apply _ x h _ (ix2 r y) fun a => ?_
  match a with
  | ⟨0, _⟩ => exact (Nat.zero_add _).symm
  | ⟨1, _⟩ =>
    show y.val = o + (select _ _ idx (ix2 r l)).toNat % 128
    rw [hs, hy, BitVec.toNat_ofNat]
    omega

/-- Packing a low and a high 16-bit half: the low half of one word beside another, shifted up. -/
theorem and_mask16 (h l : BitVec 16) :
    ((h ++ l : BitVec 32) &&& 65535#32) ||| ((h ++ l : BitVec 32) <<< 16) = l ++ l := by
  apply BitVec.eq_of_getLsbD_eq; intro i hi
  have e : (65535#32).getLsbD i = decide (i < 16) := by
    have : ∀ i : Fin 32, (65535#32).getLsbD i.val = decide (i.val < 16) := by decide
    exact this ⟨i, hi⟩
  simp only [BitVec.getLsbD_or, BitVec.getLsbD_and, BitVec.getLsbD_shiftLeft, BitVec.getLsbD_append, e]
  by_cases h16 : i < 16
  · simp [h16]
  · simp [h16, hi, show i - 16 < 16 by omega]

theorem and_mask16_hi (h l : BitVec 16) :
    ((h ++ l : BitVec 32) >>> 16) ||| ((h ++ l : BitVec 32) &&& 4294901760#32) = h ++ h := by
  apply BitVec.eq_of_getLsbD_eq; intro i hi
  have e : (4294901760#32).getLsbD i = decide (16 ≤ i) := by
    have : ∀ i : Fin 32, (4294901760#32).getLsbD i.val = decide (16 ≤ i.val) := by decide
    exact this ⟨i, hi⟩
  simp only [BitVec.getLsbD_or, BitVec.getLsbD_and, BitVec.getLsbD_ushiftRight, BitVec.getLsbD_append, e]
  by_cases h16 : i < 16
  · simp [h16, show ¬ 16 ≤ i by omega]
  · simp [h16, show ¬ 16 + i < 16 by omega, show 16 ≤ i by omega, BitVec.getLsbD_of_ge h (16 + i - 16 ) ]

/-- The bits of a `bf16` in `[128, 144)`: `128 + n`. -/
abbrev zbits (n : BitVec 4) : BitVec 16 := (0x430#12 ++ n : BitVec 16)

theorem and15 (w : BitVec 32) (k : ℕ) : (w >>> k) &&& 15#32 = (w.extractLsb' k 4).setWidth 32 := by
  apply BitVec.eq_of_getLsbD_eq; intro i hi
  have e : (15#32).getLsbD i = decide (i < 4) := by
    have : ∀ i : Fin 32, (15#32).getLsbD i.val = decide (i.val < 4) := by decide
    exact this ⟨i, hi⟩
  rw [BitVec.getLsbD_and, BitVec.getLsbD_ushiftRight, e, BitVec.getLsbD_setWidth, BitVec.getLsbD_extractLsb']
  simp only [hi, decide_true, Bool.true_and]
  exact Bool.and_comm _ _

theorem zero_word (w : BitVec 32) (k : ℕ) :
    (((w >>> k) &&& 15#32) ||| (((w >>> k) &&& 15#32) <<< 16)) ||| 1124090624#32
      = zbits (w.extractLsb' k 4) ++ zbits (w.extractLsb' k 4) := by
  rw [and15]
  have : ∀ n : BitVec 4, (n.setWidth 32 ||| (n.setWidth 32 <<< 16)) ||| 1124090624#32 = zbits n ++ zbits n := by decide
  exact this _

/-- The byte a quantised code is read as: the nibble, the high four bits clear. -/
abbrev codeByte (n : BitVec 4) : BitVec 8 := (0#4 ++ n : BitVec 8)

theorem code_lo (w : BitVec 32) (j : Fin 4) :
    (w &&& 252645135#32).extractLsb' (8 * j.val) 8 = codeByte (w.extractLsb' (8 * j.val) 4) := by
  apply BitVec.eq_of_getLsbD_eq; intro i hi
  have e : (252645135#32).getLsbD (8 * j.val + i) = decide (i < 4) := by
    have : ∀ (j : Fin 4) (i : Fin 8), (252645135#32).getLsbD (8 * j.val + i.val) = decide (i.val < 4) := by decide
    exact this j ⟨i, hi⟩
  rw [BitVec.getLsbD_extractLsb', BitVec.getLsbD_and, e, BitVec.getLsbD_append, BitVec.getLsbD_extractLsb']
  by_cases h4 : i < 4
  · simp [h4, hi]
  · simp [h4]

theorem code_hi (w : BitVec 32) (j : Fin 4) :
    ((w >>> 4) &&& 252645135#32).extractLsb' (8 * j.val) 8 = codeByte (w.extractLsb' (8 * j.val + 4) 4) := by
  rw [code_lo]
  congr 1
  apply BitVec.eq_of_getLsbD_eq; intro i hi
  rw [BitVec.getLsbD_extractLsb', BitVec.getLsbD_extractLsb', BitVec.getLsbD_ushiftRight]
  simp only [hi, decide_true, Bool.true_and]
  congr 1; omega

theorem extract_extract (w : BitVec 32) (a b n m : ℕ) (h : b + m ≤ n) :
    (w.extractLsb' a n).extractLsb' b m = w.extractLsb' (a + b) m := by
  apply BitVec.eq_of_getLsbD_eq; intro i hi
  rw [BitVec.getLsbD_extractLsb', BitVec.getLsbD_extractLsb', BitVec.getLsbD_extractLsb']
  simp only [hi, show b + i < n by omega, decide_true, Bool.true_and]
  rw [Nat.add_assoc]

end Cert.Hand
-- ==== Proof.Kern.Tab.lean ====
/-
  The table the kernel fills for one 256-column chunk: for each column half and each group of 128 rows one row of
  scale words and one row of zero-point words, a word holding its 16-bit value twice. Twenty stores fill it; they all
  agree with one function of the chunk's scales and zero points.
-/
module

public import proofs.«01_k».proof.Proof.Kern.Quad
public import proofs.«01_k».proof.Proof.Kern.Words
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

/-- The column of a chunk that lane `l` of column half `par` holds. -/
abbrev colOf (par : ℕ) (l : Fin 128) : ℕ := 2 * l.val + par

/-- The zero point of group `g` at a chunk's column: the low nibbles hold groups 0 to 15, the high nibbles the rest. -/
def zeroNib {n : ℕ} (Z : (⟨2, ![16, n]⟩ : Shape).Idx → BitVec 8) (g : Fin 32) (y : Fin n) : BitVec 4 :=
  (Z (ix2 (n0 := 16) (n1 := n) ⟨g.val % 16, Nat.mod_lt _ (by decide)⟩ y)).extractLsb' (4 * (g.val / 16)) 4

theorem ix2_eq {a b : ℕ} (p q : Fin a) (r s : Fin b) (h : p.val = q.val) (h' : r.val = s.val) :
    ix2 (n0 := a) (n1 := b) p r = ix2 (n0 := a) (n1 := b) q s := by
  rw [Fin.ext h, Fin.ext h']

/-- A 16-bit word held twice in 32 bits. -/
def dbl (w : BitVec 16) : BitVec 32 := w ++ w

/-- The table of a chunk with scales `S` and zero points `Z`. -/
def tabG (S : Vec F S32x256 .i16) (Z : Vec F S16x256 .i8) : Vec F S128x128 .i32 := fun y =>
  have h0 : (y 0).val < 128 := (y 0).isLt
  have h1 : (y 1).val < 128 := (y 1).isLt
  if hr : (y 0).val % 64 < 32 then
    have w : BitVec 16 := S (ix2 (n0 := 32) (n1 := 256) ⟨2 * ((y 0).val % 16) + (y 0).val % 64 / 16, by omega⟩
      ⟨2 * (y 1).val + (y 0).val / 64, by omega⟩)
    dbl w
  else
    have z : BitVec 16 := zbits (zeroNib Z ⟨(y 0).val % 64 - 32, by omega⟩ ⟨2 * (y 1).val + (y 0).val / 64, by omega⟩)
    dbl z

theorem left_at {R : ℕ} (h) (r : Fin R) (l : Fin 128) :
    cmpi .slt (iota .tc ⟨2, ![R, 128]⟩ 32 [1] h) (broadcast ⟨2, ![R, 128]⟩ 64#32) (ix2 r l) = BitVec.ofBool (decide (l.val < 64)) := by
  show IntOp.cmpi .slt (iota .tc ⟨2, ![R, 128]⟩ 32 [1] h (ix2 r l)) 64#32 = _
  rw [show iota .tc ⟨2, ![R, 128]⟩ 32 [1] h (ix2 r l) = BitVec.ofNat 32 l.val from iota_single_apply .tc _ 32 1 h _]
  have : ∀ l : Fin 128, IntOp.cmpi .slt (BitVec.ofNat 32 l.val) 64#32 = BitVec.ofBool (decide (l.val < 64)) := by decide
  exact this l

theorem idx_at {R : ℕ} (h) (r : Fin R) (l : Fin 128) (par : Fin 2) :
    andi (addi (muli (broadcast ⟨2, ![R, 128]⟩ 2#32) (iota .tc ⟨2, ![R, 128]⟩ 32 [1] h)) (broadcast ⟨2, ![R, 128]⟩ (BitVec.ofNat 32 par.val)))
      (broadcast ⟨2, ![R, 128]⟩ 127#32) (ix2 r l) = BitVec.ofNat 32 (colOf par.val l % 128) := by
  show (2#32 * iota .tc ⟨2, ![R, 128]⟩ 32 [1] h (ix2 r l) + BitVec.ofNat 32 par.val) &&& 127#32 = _
  rw [show iota .tc ⟨2, ![R, 128]⟩ 32 [1] h (ix2 r l) = BitVec.ofNat 32 l.val from iota_single_apply .tc _ 32 1 h _]
  have : ∀ (l : Fin 128) (par : Fin 2), (2#32 * BitVec.ofNat 32 l.val + BitVec.ofNat 32 par.val) &&& 127#32
      = BitVec.ofNat 32 (colOf par.val l % 128) := by decide +kernel
  exact this l par

/-- Both halves of a 256-lane row gathered at the same lanes, the left half chosen for the first 64 lanes: lane `l`
    reads lane `2 l + par`. -/
theorem take_both {R : ℕ} {α : Type} (x : (⟨2, ![R, 256]⟩ : Shape).Idx → α) (hs0) (hs1)
    (m : IVec ⟨2, ![R, 128]⟩ 1) (idx : IVec ⟨2, ![R, 128]⟩ 32) (h1) (h2) (r : Fin R) (l : Fin 128) (par : Fin 2)
    (hm : m (ix2 r l) = BitVec.ofBool (decide (l.val < 64))) (hi : idx (ix2 r l) = BitVec.ofNat 32 (colOf par.val l % 128)) :
    select m
      (dynamicGather (s := ⟨2, ![R, 128]⟩) 1 (extractStridedSlice ⟨2, ![R, 128]⟩ ![0, 0] x hs0)
        (shapeCast ⟨2, ![R, 128]⟩ (shapeCast ⟨3, ![R, 128, 1]⟩
          (select (cmpi .slt idx (broadcast ⟨2, ![R, 128]⟩ 0#32)) (addi idx (broadcast ⟨2, ![R, 128]⟩ 128#32)) idx) h1) h2))
      (dynamicGather (s := ⟨2, ![R, 128]⟩) 1 (extractStridedSlice ⟨2, ![R, 128]⟩ ![0, 128] x hs1)
        (shapeCast ⟨2, ![R, 128]⟩ (shapeCast ⟨3, ![R, 128, 1]⟩
          (select (cmpi .slt idx (broadcast ⟨2, ![R, 128]⟩ 0#32)) (addi idx (broadcast ⟨2, ![R, 128]⟩ 128#32)) idx) h1) h2)) (ix2 r l)
      = x (ix2 r ⟨colOf par.val l, by have := par.isLt; have := l.isLt; show 2 * l.val + par.val < 256; omega⟩) := by
  have hp := par.isLt
  have hl := l.isLt
  show Scalar.select (m (ix2 r l)) _ _ = _
  rw [hm]
  by_cases h64 : l.val < 64
  · rw [decide_eq_true h64]
    refine (if_pos rfl).trans ?_
    exact take_ix2 x 0 hs0 idx h1 h2 r l _ (Nat.mod_lt _ (by decide)) _ (by show 2 * l.val + par.val = 0 + (2 * l.val + par.val) % 128; omega) hi
  · rw [decide_eq_false h64]
    refine (if_neg (by decide)).trans ?_
    exact take_ix2 x 128 hs1 idx h1 h2 r l _ (Nat.mod_lt _ (by decide)) _ (by show 2 * l.val + par.val = 128 + (2 * l.val + par.val) % 128; omega) hi

theorem scale0_at (v77 : Vec F S32x256 .i16) (r : Fin 16) (l : Fin 128) :
    k0_pay17 v77 (ix2 (n0 := 16) (n1 := 128) r l) = k0_pay13 v77 (ix2 (n0 := 16) (n1 := 256) r ⟨colOf 0 l, by have := l.isLt; show 2 * l.val + 0 < 256; omega⟩) :=
  take_both (R := 16) (k0_pay13 v77) slices_S16x256_o0_0_S16x128 slices_S16x256_o0_128_S16x128 k0_pay15 k0_pay16 _ _ r l 0
    (left_at _ r l) (idx_at _ r l 0)

theorem scale1_at (v77 : Vec F S32x256 .i16) (r : Fin 16) (l : Fin 128) :
    (k0_pay34 (k0_pay13 v77) (iota .tc S16x128 32 [1] iota_S16x128_d1_w32) k0_pay15) (ix2 (n0 := 16) (n1 := 128) r l) = k0_pay13 v77 (ix2 (n0 := 16) (n1 := 256) r ⟨colOf 1 l, by have := l.isLt; show 2 * l.val + 1 < 256; omega⟩) :=
  take_both (R := 16) (k0_pay13 v77) slices_S16x256_o0_0_S16x128 slices_S16x256_o0_128_S16x128 k0_pay15 _ _ _ r l 1
    (left_at _ r l) (idx_at _ r l 1)

abbrev cat8 (v : IVec S4x256 32) : IVec S8x256 32 := concatenate S8x256 0 [⟨S4x256, v⟩, ⟨S4x256, v⟩] concatenates_S4x256_S4x256_S8x256_d0

theorem cat8_at (v : IVec S4x256 32) (r : Fin 4) (y : Fin 256) :
    cat8 v (ix2 (n0 := 8) (n1 := 256) ⟨r.val, by omega⟩ y) = v (ix2 (n0 := 4) (n1 := 256) r y) :=
  concatenate_pair_apply_left (t := S8x256) 0 v v concatenates_S4x256_S4x256_S8x256_d0 _ rfl _ (fun b => by
    match b with
    | ⟨0, _⟩ => rfl
    | ⟨1, _⟩ => rfl)

abbrev top8 {w : ℕ} (x : IVec S16x128 w) : IVec S8x128 w := extractStridedSlice S8x128 ![0, 0] x slices_S16x128_o0_0_S8x128

theorem top8_at {w : ℕ} (x : IVec S16x128 w) (r : Fin 8) (l : Fin 128) :
    top8 x (ix2 (n0 := 8) (n1 := 128) r l) = x (ix2 (n0 := 16) (n1 := 128) ⟨r.val, by omega⟩ l) :=
  extractStridedSlice_apply _ x slices_S16x128_o0_0_S8x128 _ _ (fun a => by
      match a with
      | ⟨0, _⟩ => exact (Nat.zero_add _).symm
      | ⟨1, _⟩ => exact (Nat.zero_add _).symm)

theorem top4_at (x : IVec S8x128 32) (r : Fin 4) (l : Fin 128) :
    extractStridedSlice S4x128 ![0, 0] x slices_S8x128_o0_0_S4x128 (ix2 (n0 := 4) (n1 := 128) r l)
      = x (ix2 (n0 := 8) (n1 := 128) ⟨r.val, by omega⟩ l) :=
  extractStridedSlice_apply _ x slices_S8x128_o0_0_S4x128 _ _ (fun a => by
      match a with
      | ⟨0, _⟩ => exact (Nat.zero_add _).symm
      | ⟨1, _⟩ => exact (Nat.zero_add _).symm)

abbrev gat8 (x : IVec S8x256 32) (m : IVec S8x128 1) (idx : IVec S8x128 32) : IVec S8x128 32 :=
  select m
    (dynamicGather (s := S8x128) 1 (extractStridedSlice S8x128 ![0, 0] x slices_S8x256_o0_0_S8x128)
      (shapeCast S8x128 (shapeCast S8x128x1
        (select (cmpi .slt idx (broadcast S8x128 0#32)) (addi idx (broadcast S8x128 128#32)) idx) shapeCasts_S8x128_S8x128x1) shapeCasts_S8x128x1_S8x128))
    (dynamicGather (s := S8x128) 1 (extractStridedSlice S8x128 ![0, 128] x slices_S8x256_o0_128_S8x128)
      (shapeCast S8x128 (shapeCast S8x128x1
        (select (cmpi .slt idx (broadcast S8x128 0#32)) (addi idx (broadcast S8x128 128#32)) idx) shapeCasts_S8x128_S8x128x1) shapeCasts_S8x128x1_S8x128))

/-- The row of words of the zero points, doubled, gathered and cut back to four rows. -/
theorem zero_take (v83 : IVec S4x256 32) (idx : IVec S16x128 32) (r : Fin 4) (l : Fin 128) (par : Fin 2)
    (hi : ∀ r : Fin 16, idx (ix2 (n0 := 16) (n1 := 128) r l) = BitVec.ofNat 32 (colOf par.val l % 128)) :
    k0_pay22 v83 k0_pay15 idx (ix2 (n0 := 4) (n1 := 128) r l)
      = v83 (ix2 (n0 := 4) (n1 := 256) r ⟨colOf par.val l, by have := par.isLt; have := l.isLt; show 2 * l.val + par.val < 256; omega⟩) := by
  have hr := r.isLt
  have e : k0_pay22 v83 k0_pay15 idx = extractStridedSlice S4x128 ![0, 0] (gat8 (cat8 v83) (top8 k0_pay15) (top8 idx)) slices_S8x128_o0_0_S4x128 := rfl
  rw [e]
  refine (top4_at _ r l).trans ?_
  refine (take_both (R := 8) (cat8 v83) slices_S8x256_o0_0_S8x128 slices_S8x256_o0_128_S8x128
    (top8 k0_pay15) (top8 idx) _ _ ⟨r.val, by omega⟩ l par
    ((top8_at _ _ l).trans (left_at _ _ l)) ((top8_at _ _ l).trans (hi _))).trans ?_
  exact cat8_at v83 r _

theorem zero0_at (v83 : IVec S4x256 32) (r : Fin 4) (l : Fin 128) :
    k0_pay22 v83 k0_pay15 k0_pay16 (ix2 (n0 := 4) (n1 := 128) r l)
      = v83 (ix2 (n0 := 4) (n1 := 256) r ⟨colOf 0 l, by have := l.isLt; show 2 * l.val + 0 < 256; omega⟩) :=
  zero_take v83 k0_pay16 r l 0 (fun r => idx_at _ r l 0)

theorem zero1_at (v83 : IVec S4x256 32) (r : Fin 4) (l : Fin 128) :
    k0_pay40 v83 k0_pay15 (k0_pay33 (iota .tc S16x128 32 [1] iota_S16x128_d1_w32)) (ix2 (n0 := 4) (n1 := 128) r l)
      = v83 (ix2 (n0 := 4) (n1 := 256) r ⟨colOf 1 l, by have := l.isLt; show 2 * l.val + 1 < 256; omega⟩) :=
  zero_take v83 (k0_pay33 (iota .tc S16x128 32 [1] iota_S16x128_d1_w32)) r l 1 (fun r => idx_at _ r l 1)

/-- The scale words of a row: both rows of the pair, in one word. -/
theorem scaleWord (v77 : IVec S32x256 16) (r : Fin 16) (y : Fin 256) (p0 p1 : Fin 32) (h0 : p0.val = 2 * r.val) (h1 : p1.val = 2 * r.val + 1) :
    bitcast S16x256 32 v77 bitcasts_S32x256_w16_S16x256_w32 (ix2 (n0 := 16) (n1 := 256) r y)
      = v77 (ix2 (n0 := 32) (n1 := 256) p1 y) ++ v77 (ix2 (n0 := 32) (n1 := 256) p0 y) :=
  bitcast_16_32_ix2 (R := 32) (r := 16) (n := 256) v77 _ r y p0 p1 h0 h1

/-- A payload of zero-point words: a nibble of each word, over the exponent of 128, twice. -/
def zform (V : IVec S4x128 32) (k : ℕ) : IVec S4x128 32 :=
  ori (ori (andi (shrui V (broadcast S4x128 (BitVec.ofNat 32 k))) (broadcast S4x128 15#32))
    (shli (andi (shrui V (broadcast S4x128 (BitVec.ofNat 32 k))) (broadcast S4x128 15#32)) (broadcast S4x128 16#32))) (broadcast S4x128 1124090624#32)

theorem zform_at (V : IVec S4x128 32) (k : ℕ) (hk : k < 32) (x : S4x128.Idx) :
    zform V k x = dbl (zbits ((V x).extractLsb' k 4)) := by
  have e : IntOp.shrui .vector (V x) (BitVec.ofNat 32 k) = (V x) >>> k := by
    have hn : (BitVec.ofNat 32 k).toNat = k := by rw [BitVec.toNat_ofNat]; exact Nat.mod_eq_of_lt (by omega)
    unfold IntOp.shrui
    rw [if_pos (by rw [hn]; exact hk)]
    show (V x) >>> (BitVec.ofNat 32 k).toNat = _
    rw [hn]
  show ((IntOp.shrui .vector (V x) (BitVec.ofNat 32 k)) &&& 15#32) ||| (((IntOp.shrui .vector (V x) (BitVec.ofNat 32 k)) &&& 15#32) <<< 16) ||| 1124090624#32 = _
  rw [e]
  exact zero_word (V x) k

/-! Each payload of zero-point words is a shift of the gathered words. -/

theorem pay_48 (V : IVec S4x128 32) : k0_pay25 V = zform V 4 := shapeCast_self (zform V 4) shapeCasts_S4x128_S4x128
theorem pay_33 (V : IVec S4x128 32) : k0_pay26 V = zform V 8 := shapeCast_self (zform V 8) shapeCasts_S4x128_S4x128
theorem pay_49 (V : IVec S4x128 32) : k0_pay27 V = zform V 12 := shapeCast_self (zform V 12) shapeCasts_S4x128_S4x128
theorem pay_34 (V : IVec S4x128 32) : k0_pay28 V = zform V 16 := shapeCast_self (zform V 16) shapeCasts_S4x128_S4x128
theorem pay_50 (V : IVec S4x128 32) : k0_pay29 V = zform V 20 := shapeCast_self (zform V 20) shapeCasts_S4x128_S4x128
theorem pay_35 (V : IVec S4x128 32) : k0_pay30 V = zform V 24 := shapeCast_self (zform V 24) shapeCasts_S4x128_S4x128
theorem pay_51 (V : IVec S4x128 32) : k0_pay32 (k0_pay31 V) = zform V 28 := shapeCast_self (zform V 28) shapeCasts_S4x128_S4x128
theorem pay_112 (V : IVec S4x128 32) : k0_pay42 V = zform V 4 := shapeCast_self (zform V 4) shapeCasts_S4x128_S4x128
theorem pay_97 (V : IVec S4x128 32) : k0_pay43 V = zform V 8 := shapeCast_self (zform V 8) shapeCasts_S4x128_S4x128
theorem pay_113 (V : IVec S4x128 32) : k0_pay44 V = zform V 12 := shapeCast_self (zform V 12) shapeCasts_S4x128_S4x128
theorem pay_98 (V : IVec S4x128 32) : k0_pay46 (k0_pay45 V) = zform V 16 := shapeCast_self (zform V 16) shapeCasts_S4x128_S4x128
theorem pay_114 (V : IVec S4x128 32) : k0_pay47 V = zform V 20 := shapeCast_self (zform V 20) shapeCasts_S4x128_S4x128
theorem pay_99 (V : IVec S4x128 32) : k0_pay48 V = zform V 24 := shapeCast_self (zform V 24) shapeCasts_S4x128_S4x128
theorem pay_115 (V : IVec S4x128 32) : k0_pay50 (k0_pay49 V) = zform V 28 := shapeCast_self (zform V 28) shapeCasts_S4x128_S4x128
theorem pay_32 (v82 : Vec F S16x256 .i8) : k0_pay24 (k0_pay23 (k0_pay14 v82) k0_pay15 k0_pay16) = zform (k0_pay22 (k0_pay14 v82) k0_pay15 k0_pay16) 0 := shapeCast_self (zform (k0_pay22 (k0_pay14 v82) k0_pay15 k0_pay16) 0) shapeCasts_S4x128_S4x128
theorem pay_96 (v82 : Vec F S16x256 .i8) : k0_pay41 (k0_pay14 v82) k0_pay15 (k0_pay33 (iota .tc S16x128 32 [1] iota_S16x128_d1_w32)) = zform (k0_pay40 (k0_pay14 v82) k0_pay15 (k0_pay33 (iota .tc S16x128 32 [1] iota_S16x128_d1_w32))) 0 := shapeCast_self (zform (k0_pay40 (k0_pay14 v82) k0_pay15 (k0_pay33 (iota .tc S16x128 32 [1] iota_S16x128_d1_w32))) 0) shapeCasts_S4x128_S4x128

/-- A row of words with the low half doubled, and with the high half doubled. -/
def lform (v : IVec S16x128 32) : IVec S16x128 32 := ori (andi v (broadcast S16x128 65535#32)) (shli v (broadcast S16x128 16#32))
def hform (v : IVec S16x128 32) : IVec S16x128 32 := ori (shrui v (broadcast S16x128 16#32)) (andi v (broadcast S16x128 4294901760#32))

theorem pay_0 (v77 : Vec F S32x256 .i16) : k0_pay20 (k0_pay18 v77) = lform (k0_pay17 v77) := shapeCast_self (lform (k0_pay17 v77)) shapeCasts_S16x128_S16x128
theorem pay_16 (v77 : Vec F S32x256 .i16) : k0_pay21 (k0_pay17 v77) k0_pay19 = hform (k0_pay17 v77) := shapeCast_self (hform (k0_pay17 v77)) shapeCasts_S16x128_S16x128
theorem pay_64 (v77 : Vec F S32x256 .i16) (w : IVec S16x128 32) (m : IVec S16x128 1) :
    k0_pay38 (k0_pay35 (k0_pay13 v77) w m) = lform (k0_pay34 (k0_pay13 v77) w m) := shapeCast_self (lform (k0_pay34 (k0_pay13 v77) w m)) shapeCasts_S16x128_S16x128
theorem pay_80 (v77 : Vec F S32x256 .i16) (w : IVec S16x128 32) (m : IVec S16x128 1) :
    k0_pay39 (k0_pay34 (k0_pay13 v77) w m) (k0_pay36 (k0_pay13 v77) w m) k0_pay37 = hform (k0_pay34 (k0_pay13 v77) w m) :=
  shapeCast_self (hform (k0_pay34 (k0_pay13 v77) w m)) shapeCasts_S16x128_S16x128

/-- A byte's part of a zero-point word. -/
theorem zeroByte (v82 : IVec S16x256 8) (r : Fin 4) (y : Fin 256) (b o w : ℕ) (hb : b < 4) (how : o + w ≤ 8) (p : Fin 16) (hp : p.val = 4 * r.val + b) :
    (bitcast S4x256 32 v82 bitcasts_S16x256_w8_S4x256_w32 (ix2 (n0 := 4) (n1 := 256) r y)).extractLsb' (8 * b + o) w
      = (v82 (ix2 (n0 := 16) (n1 := 256) p y)).extractLsb' o w :=
  bitcast_8_32_extract (R := 16) (r := 4) (n := 256) v82 _ r y b o w hb how p hp

/-- A nibble of a zero-point word is a group's zero point. -/
theorem zeroNib_of (v82 : IVec S16x256 8) (r : Fin 4) (c : Fin 256) (h : Fin 2) (b : Fin 4) (g : Fin 32) (y : Fin 256)
    (hg : g.val = 16 * h.val + (4 * r.val + b.val)) (hy : y.val = c.val) :
    (bitcast S4x256 32 v82 bitcasts_S16x256_w8_S4x256_w32 (ix2 (n0 := 4) (n1 := 256) r c)).extractLsb' (8 * b.val + 4 * h.val) 4
      = zeroNib (n := 256) v82 g y := by
  obtain rfl : y = c := Fin.ext hy
  have hb := b.isLt
  have hr := r.isLt
  have hh := h.isLt
  refine (zeroByte v82 r y b.val (4 * h.val) 4 hb (by omega) ⟨4 * r.val + b.val, by omega⟩ rfl).trans ?_
  unfold zeroNib
  have e1 : 4 * h.val = 4 * (g.val / 16) := by omega
  have e2 : 4 * r.val + b.val = g.val % 16 := by omega
  exact congrArg₂ (fun (o : ℕ) (w : BitVec 8) => w.extractLsb' o 4) e1 (congrArg v82 (ix2_eq _ _ _ _ e2 rfl))

/-- The table at a row of zero points. -/
theorem tabG_zero (S : Vec F S32x256 .i16) (Z : Vec F S16x256 .i8) (y : S128x128.Idx) (hr : ¬ (y 0).val % 64 < 32) (g : Fin 32) (c : Fin 256)
    (hg : g.val = (y 0).val % 64 - 32) (hc : c.val = 2 * (y 1).val + (y 0).val / 64) :
    tabG S Z y = dbl (zbits (zeroNib Z g c)) := by
  unfold tabG
  rw [dif_neg hr]
  have e : ∀ (p : Fin 32) (q : Fin 256), g = p → c = q → dbl (zbits (zeroNib (n := 256) Z p q)) = dbl (zbits (zeroNib (n := 256) Z g c)) := by
    rintro _ _ rfl rfl; rfl
  exact e _ _ (Fin.ext hg) (Fin.ext hc)

/-- The table at a row of scales. -/
theorem tabG_scale (S : Vec F S32x256 .i16) (Z : Vec F S16x256 .i8) (y : S128x128.Idx) (hr : (y 0).val % 64 < 32) (g : Fin 32) (c : Fin 256)
    (hg : g.val = 2 * ((y 0).val % 16) + (y 0).val % 64 / 16) (hc : c.val = 2 * (y 1).val + (y 0).val / 64) :
    tabG S Z y = dbl (S (ix2 (n0 := 32) (n1 := 256) g c)) := by
  unfold tabG
  rw [dif_pos hr]
  exact congrArg (fun k => dbl (S k)) (ix2_eq _ _ _ _ hg.symm hc.symm)

/-- A strided store of zero-point words agrees with the table. -/
theorem zpiece (S : Vec F S32x256 .i16) (v82 : Vec F S16x256 .i8) (V : IVec S4x128 32) (o : ℕ) (par : Fin 2) (h : Fin 2) (b : Fin 4) (inb) (sp)
    (ho : o = 64 * par.val + 32 + 16 * h.val + b.val)
    (hV : ∀ (r : Fin 4) (l : Fin 128), V (ix2 (n0 := 4) (n1 := 128) r l)
      = k0_pay14 v82 (ix2 (n0 := 4) (n1 := 256) r ⟨colOf par.val l, by have := par.isLt; have := l.isLt; show 2 * l.val + par.val < 256; omega⟩))
    (k : ℕ) (hk : k = 8 * b.val + 4 * h.val) (pay : IVec S4x128 32) (hpay : pay = zform V k) (x : S4x128.Idx) :
    pay x = tabG S v82 ((⟨⟨![o, 0], S4x128.size, ![4, 1], inb⟩, sp⟩ : Rect S128x128).emb x) := by
  obtain ⟨hp, hh, hb⟩ := And.intro par.isLt (And.intro h.isLt b.isLt)
  have hx0 : (x 0).val < 4 := (x 0).isLt
  have hx1 : (x 1).val < 128 := (x 1).isLt
  subst hk
  rw [hpay, zform_at _ _ (by omega)]
  have e0 : ((⟨⟨![o, 0], S4x128.size, ![4, 1], inb⟩, sp⟩ : Rect S128x128).emb x 0).val = o + 4 * (x 0).val := rfl
  have e1 : ((⟨⟨![o, 0], S4x128.size, ![4, 1], inb⟩, sp⟩ : Rect S128x128).emb x 1).val = 0 + 1 * (x 1).val := rfl
  generalize (⟨⟨![o, 0], S4x128.size, ![4, 1], inb⟩, sp⟩ : Rect S128x128).emb x = y at e0 e1
  have hVx : V x = k0_pay14 v82 (ix2 (n0 := 4) (n1 := 256) ⟨(x 0).val, hx0⟩ ⟨2 * (x 1).val + par.val, by omega⟩) :=
    (congrArg V (eq_ix2 x)).trans (hV ⟨(x 0).val, hx0⟩ ⟨(x 1).val, hx1⟩)
  rw [tabG_zero S v82 y (by rw [e0, ho]; omega) ⟨16 * h.val + (4 * (x 0).val + b.val), by omega⟩ ⟨2 * (x 1).val + par.val, by omega⟩
    (by show 16 * h.val + (4 * (x 0).val + b.val) = (y 0).val % 64 - 32; omega) (by show 2 * (x 1).val + par.val = 2 * (y 1).val + (y 0).val / 64; omega), hVx]
  exact congrArg (fun z => dbl (zbits z)) (zeroNib_of v82 _ _ h b _ _ rfl rfl)

/-- A store of scale words agrees with the table: row pair `r` low (`q = 0`) or high (`q = 1`). -/
theorem spiece (v77 : Vec F S32x256 .i16) (Z : Vec F S16x256 .i8) (o : ℕ) (par : Fin 2) (q : Fin 2) (inb)
    (ho : o = 64 * par.val + 16 * q.val) (pay : IVec S16x128 32)
    (hpay : ∀ (r : Fin 16) (l : Fin 128), pay (ix2 (n0 := 16) (n1 := 128) r l)
      = dbl (v77 (ix2 (n0 := 32) (n1 := 256) ⟨2 * r.val + q.val, by have := q.isLt; have := r.isLt; omega⟩
          ⟨colOf par.val l, by have := par.isLt; have := l.isLt; show 2 * l.val + par.val < 256; omega⟩)))
    (x : S16x128.Idx) :
    pay x = tabG v77 Z ((Rect.unit (s := S128x128) ![o, 0] S16x128.size inb).emb x) := by
  obtain ⟨hp, hq⟩ := And.intro par.isLt q.isLt
  have hx0 : (x 0).val < 16 := (x 0).isLt
  have hx1 : (x 1).val < 128 := (x 1).isLt
  have e0 : ((Rect.unit (s := S128x128) ![o, 0] S16x128.size inb).emb x 0).val = o + 1 * (x 0).val := rfl
  have e1 : ((Rect.unit (s := S128x128) ![o, 0] S16x128.size inb).emb x 1).val = 0 + 1 * (x 1).val := rfl
  generalize (Rect.unit (s := S128x128) ![o, 0] S16x128.size inb).emb x = y at e0 e1
  refine ((congrArg pay (eq_ix2 x)).trans (hpay ⟨(x 0).val, hx0⟩ ⟨(x 1).val, hx1⟩)).trans ?_
  exact (tabG_scale v77 Z y (by rw [e0, ho]; omega) _ _ (by show 2 * (x 0).val + q.val = 2 * ((y 0).val % 16) + (y 0).val % 64 / 16; omega)
    (by show 2 * (x 1).val + par.val = 2 * (y 1).val + (y 0).val / 64; omega)).symm

/-- The twenty stores, the newest first. -/
def tabPieces (v77 : Vec F S32x256 .i16) (v82 : Vec F S16x256 .i8) : List (View.Piece (Elt F) S128x128 .i32) :=
  [ ⟨⟨⟨![115, 0], S4x128.size, ![4, 1], inb_S128x128_S4x128_115_0_s_4_1⟩, spos_4_1⟩, k0_pay50 (k0_pay49 (k0_pay40 (k0_pay14 v82) k0_pay15 (k0_pay33 (iota .tc S16x128 32 [1] iota_S16x128_d1_w32))))⟩,
    ⟨⟨⟨![99, 0], S4x128.size, ![4, 1], inb_S128x128_S4x128_99_0_s_4_1⟩, spos_4_1⟩, k0_pay48 (k0_pay40 (k0_pay14 v82) k0_pay15 (k0_pay33 (iota .tc S16x128 32 [1] iota_S16x128_d1_w32)))⟩,
    ⟨⟨⟨![114, 0], S4x128.size, ![4, 1], inb_S128x128_S4x128_114_0_s_4_1⟩, spos_4_1⟩, k0_pay47 (k0_pay40 (k0_pay14 v82) k0_pay15 (k0_pay33 (iota .tc S16x128 32 [1] iota_S16x128_d1_w32)))⟩,
    ⟨⟨⟨![98, 0], S4x128.size, ![4, 1], inb_S128x128_S4x128_98_0_s_4_1⟩, spos_4_1⟩, k0_pay46 (k0_pay45 (k0_pay40 (k0_pay14 v82) k0_pay15 (k0_pay33 (iota .tc S16x128 32 [1] iota_S16x128_d1_w32))))⟩,
    ⟨⟨⟨![113, 0], S4x128.size, ![4, 1], inb_S128x128_S4x128_113_0_s_4_1⟩, spos_4_1⟩, k0_pay44 (k0_pay40 (k0_pay14 v82) k0_pay15 (k0_pay33 (iota .tc S16x128 32 [1] iota_S16x128_d1_w32)))⟩,
    ⟨⟨⟨![97, 0], S4x128.size, ![4, 1], inb_S128x128_S4x128_97_0_s_4_1⟩, spos_4_1⟩, k0_pay43 (k0_pay40 (k0_pay14 v82) k0_pay15 (k0_pay33 (iota .tc S16x128 32 [1] iota_S16x128_d1_w32)))⟩,
    ⟨⟨⟨![112, 0], S4x128.size, ![4, 1], inb_S128x128_S4x128_112_0_s_4_1⟩, spos_4_1⟩, k0_pay42 (k0_pay40 (k0_pay14 v82) k0_pay15 (k0_pay33 (iota .tc S16x128 32 [1] iota_S16x128_d1_w32)))⟩,
    ⟨⟨⟨![96, 0], S4x128.size, ![4, 1], inb_S128x128_S4x128_96_0_s_4_1⟩, spos_4_1⟩, k0_pay41 (k0_pay14 v82) k0_pay15 (k0_pay33 (iota .tc S16x128 32 [1] iota_S16x128_d1_w32))⟩,
    ⟨Rect.unit (s := S128x128) ![80, 0] S16x128.size inb_S128x128_S16x128_80_0, k0_pay39 (k0_pay34 (k0_pay13 v77) (iota .tc S16x128 32 [1] iota_S16x128_d1_w32) k0_pay15) (k0_pay36 (k0_pay13 v77) (iota .tc S16x128 32 [1] iota_S16x128_d1_w32) k0_pay15) k0_pay37⟩,
    ⟨Rect.unit (s := S128x128) ![64, 0] S16x128.size inb_S128x128_S16x128_64_0, k0_pay38 (k0_pay35 (k0_pay13 v77) (iota .tc S16x128 32 [1] iota_S16x128_d1_w32) k0_pay15)⟩,
    ⟨⟨⟨![51, 0], S4x128.size, ![4, 1], inb_S128x128_S4x128_51_0_s_4_1⟩, spos_4_1⟩, k0_pay32 (k0_pay31 (k0_pay22 (k0_pay14 v82) k0_pay15 k0_pay16))⟩,
    ⟨⟨⟨![35, 0], S4x128.size, ![4, 1], inb_S128x128_S4x128_35_0_s_4_1⟩, spos_4_1⟩, k0_pay30 (k0_pay22 (k0_pay14 v82) k0_pay15 k0_pay16)⟩,
    ⟨⟨⟨![50, 0], S4x128.size, ![4, 1], inb_S128x128_S4x128_50_0_s_4_1⟩, spos_4_1⟩, k0_pay29 (k0_pay22 (k0_pay14 v82) k0_pay15 k0_pay16)⟩,
    ⟨⟨⟨![34, 0], S4x128.size, ![4, 1], inb_S128x128_S4x128_34_0_s_4_1⟩, spos_4_1⟩, k0_pay28 (k0_pay22 (k0_pay14 v82) k0_pay15 k0_pay16)⟩,
    ⟨⟨⟨![49, 0], S4x128.size, ![4, 1], inb_S128x128_S4x128_49_0_s_4_1⟩, spos_4_1⟩, k0_pay27 (k0_pay22 (k0_pay14 v82) k0_pay15 k0_pay16)⟩,
    ⟨⟨⟨![33, 0], S4x128.size, ![4, 1], inb_S128x128_S4x128_33_0_s_4_1⟩, spos_4_1⟩, k0_pay26 (k0_pay22 (k0_pay14 v82) k0_pay15 k0_pay16)⟩,
    ⟨⟨⟨![48, 0], S4x128.size, ![4, 1], inb_S128x128_S4x128_48_0_s_4_1⟩, spos_4_1⟩, k0_pay25 (k0_pay22 (k0_pay14 v82) k0_pay15 k0_pay16)⟩,
    ⟨⟨⟨![32, 0], S4x128.size, ![4, 1], inb_S128x128_S4x128_32_0_s_4_1⟩, spos_4_1⟩, k0_pay24 (k0_pay23 (k0_pay14 v82) k0_pay15 k0_pay16)⟩,
    ⟨Rect.unit (s := S128x128) ![16, 0] S16x128.size inb_S128x128_S16x128_16_0, k0_pay21 (k0_pay17 v77) k0_pay19⟩,
    ⟨Rect.unit (s := S128x128) ![0, 0] S16x128.size inb_S128x128_S16x128_0_0, k0_pay20 (k0_pay18 v77)⟩]

/-- Low words doubled. -/
theorem low_at (v : IVec S16x128 32) (x : S16x128.Idx) (a b : BitVec 16) (h : v x = b ++ a) :
    lform v x = dbl a := by
  show (v x &&& 65535#32) ||| (v x <<< 16) = _
  rw [h]
  exact and_mask16 b a

/-- High words doubled. -/
theorem high_at (v : IVec S16x128 32) (x : S16x128.Idx) (a b : BitVec 16) (h : v x = b ++ a) :
    hform v x = dbl b := by
  show (v x >>> 16) ||| (v x &&& 4294901760#32) = _
  rw [h]
  exact and_mask16_hi b a

abbrev CZ (a : Fin 128) (o : ℕ) : Prop := o ≤ a.val ∧ (a.val - o) % 4 = 0 ∧ a.val - o < 16
abbrev CS (a : Fin 128) (o : ℕ) : Prop := o ≤ a.val ∧ a.val - o < 16

/-- Every row of the table is in some store. -/
theorem rows_covered : ∀ a : Fin 128, CZ a 115 ∨ CZ a 99 ∨ CZ a 114 ∨ CZ a 98 ∨ CZ a 113 ∨ CZ a 97 ∨ CZ a 112 ∨ CZ a 96 ∨ CS a 80 ∨ CS a 64 ∨ CZ a 51 ∨ CZ a 35 ∨ CZ a 50 ∨ CZ a 34 ∨ CZ a 49 ∨ CZ a 33 ∨ CZ a 48 ∨ CZ a 32 ∨ CS a 16 ∨ CS a 0 := by decide +kernel

theorem zmem (y : S128x128.Idx) (o : ℕ) (inb) (sp) (h : CZ (y 0) o) :
    y ∈ (⟨⟨![o, 0], S4x128.size, ![4, 1], inb⟩, sp⟩ : Rect S128x128).set := by
  refine (LoadRect.mem_set _).mpr fun a => ?_
  match a with
  | ⟨0, _⟩ => exact ⟨((y 0).val - o) / 4, by show _ < 4; have := h.2.2; omega, by show (y 0).val = o + 4 * (((y 0).val - o) / 4); have := h.1; have := h.2.1; omega⟩
  | ⟨1, _⟩ => exact ⟨(y 1).val, (y 1).isLt, by show (y 1).val = 0 + 1 * (y 1).val; omega⟩

theorem smem_ (y : S128x128.Idx) (o : ℕ) (inb) (h : CS (y 0) o) :
    y ∈ (Rect.unit (s := S128x128) ![o, 0] S16x128.size inb).set := by
  refine (LoadRect.mem_set _).mpr fun a => ?_
  match a with
  | ⟨0, _⟩ => exact ⟨(y 0).val - o, by show _ < 16; exact h.2, by show (y 0).val = o + 1 * ((y 0).val - o); have := h.1; omega⟩
  | ⟨1, _⟩ => exact ⟨(y 1).val, (y 1).isLt, by show (y 1).val = 0 + 1 * (y 1).val; omega⟩

/-- After the twenty stores the table is the function it is meant to be, whatever it held. -/
theorem tab_read {sig : RefSig} {k : Kind} {sp : Space} (v : View sig k sp S128x128 .i32) (f) (v77 : Vec F S32x256 .i16) (v82 : Vec F S16x256 .i8) (y : S128x128.Idx) :
    v.read (Elt F) (v.writes (Elt F) f (tabPieces v77 v82)) y = tabG v77 v82 y := by
  refine View.read_writes_apply_of_pieces v f (tabG v77 v82) (tabPieces v77 v82) ?_ y ?_
  · intro p hp
    unfold tabPieces at hp
    simp only [List.mem_cons, List.not_mem_nil, or_false] at hp
    have hz0 := fun r l => zero0_at (k0_pay14 v82) r l
    have hz1 := fun r l => zero1_at (k0_pay14 v82) r l
    rcases hp with rfl | rfl | rfl | rfl | rfl | rfl | rfl | rfl | rfl | rfl | rfl | rfl | rfl | rfl | rfl | rfl | rfl | rfl | rfl | rfl
    · exact zpiece v77 v82 (k0_pay40 (k0_pay14 v82) k0_pay15 (k0_pay33 (iota .tc S16x128 32 [1] iota_S16x128_d1_w32))) 115 1 1 3 _ _ rfl hz1 28 rfl _ (pay_115 _)
    · exact zpiece v77 v82 (k0_pay40 (k0_pay14 v82) k0_pay15 (k0_pay33 (iota .tc S16x128 32 [1] iota_S16x128_d1_w32))) 99 1 0 3 _ _ rfl hz1 24 rfl _ (pay_99 _)
    · exact zpiece v77 v82 (k0_pay40 (k0_pay14 v82) k0_pay15 (k0_pay33 (iota .tc S16x128 32 [1] iota_S16x128_d1_w32))) 114 1 1 2 _ _ rfl hz1 20 rfl _ (pay_114 _)
    · exact zpiece v77 v82 (k0_pay40 (k0_pay14 v82) k0_pay15 (k0_pay33 (iota .tc S16x128 32 [1] iota_S16x128_d1_w32))) 98 1 0 2 _ _ rfl hz1 16 rfl _ (pay_98 _)
    · exact zpiece v77 v82 (k0_pay40 (k0_pay14 v82) k0_pay15 (k0_pay33 (iota .tc S16x128 32 [1] iota_S16x128_d1_w32))) 113 1 1 1 _ _ rfl hz1 12 rfl _ (pay_113 _)
    · exact zpiece v77 v82 (k0_pay40 (k0_pay14 v82) k0_pay15 (k0_pay33 (iota .tc S16x128 32 [1] iota_S16x128_d1_w32))) 97 1 0 1 _ _ rfl hz1 8 rfl _ (pay_97 _)
    · exact zpiece v77 v82 (k0_pay40 (k0_pay14 v82) k0_pay15 (k0_pay33 (iota .tc S16x128 32 [1] iota_S16x128_d1_w32))) 112 1 1 0 _ _ rfl hz1 4 rfl _ (pay_112 _)
    · exact zpiece v77 v82 (k0_pay40 (k0_pay14 v82) k0_pay15 (k0_pay33 (iota .tc S16x128 32 [1] iota_S16x128_d1_w32))) 96 1 0 0 _ _ rfl hz1 0 rfl _ (pay_96 v82)
    · exact spiece v77 v82 80 1 1 inb_S128x128_S16x128_80_0 rfl _ (fun r l => (congrFun (pay_80 v77 _ _) _).trans (high_at _ _ _ _ ((scale1_at v77 r l).trans (scaleWord v77 r _ ⟨2 * r.val + 0, by omega⟩ ⟨2 * r.val + 1, by omega⟩ rfl rfl))))
    · exact spiece v77 v82 64 1 0 inb_S128x128_S16x128_64_0 rfl _ (fun r l => (congrFun (pay_64 v77 _ _) _).trans (low_at _ _ _ _ ((scale1_at v77 r l).trans (scaleWord v77 r _ ⟨2 * r.val + 0, by omega⟩ ⟨2 * r.val + 1, by omega⟩ rfl rfl))))
    · exact zpiece v77 v82 (k0_pay22 (k0_pay14 v82) k0_pay15 k0_pay16) 51 0 1 3 _ _ rfl hz0 28 rfl _ (pay_51 _)
    · exact zpiece v77 v82 (k0_pay22 (k0_pay14 v82) k0_pay15 k0_pay16) 35 0 0 3 _ _ rfl hz0 24 rfl _ (pay_35 _)
    · exact zpiece v77 v82 (k0_pay22 (k0_pay14 v82) k0_pay15 k0_pay16) 50 0 1 2 _ _ rfl hz0 20 rfl _ (pay_50 _)
    · exact zpiece v77 v82 (k0_pay22 (k0_pay14 v82) k0_pay15 k0_pay16) 34 0 0 2 _ _ rfl hz0 16 rfl _ (pay_34 _)
    · exact zpiece v77 v82 (k0_pay22 (k0_pay14 v82) k0_pay15 k0_pay16) 49 0 1 1 _ _ rfl hz0 12 rfl _ (pay_49 _)
    · exact zpiece v77 v82 (k0_pay22 (k0_pay14 v82) k0_pay15 k0_pay16) 33 0 0 1 _ _ rfl hz0 8 rfl _ (pay_33 _)
    · exact zpiece v77 v82 (k0_pay22 (k0_pay14 v82) k0_pay15 k0_pay16) 48 0 1 0 _ _ rfl hz0 4 rfl _ (pay_48 _)
    · exact zpiece v77 v82 (k0_pay22 (k0_pay14 v82) k0_pay15 k0_pay16) 32 0 0 0 _ _ rfl hz0 0 rfl _ (pay_32 v82)
    · exact spiece v77 v82 16 0 1 inb_S128x128_S16x128_16_0 rfl _ (fun r l => (congrFun (pay_16 v77) _).trans (high_at _ _ _ _ ((scale0_at v77 r l).trans (scaleWord v77 r _ ⟨2 * r.val + 0, by omega⟩ ⟨2 * r.val + 1, by omega⟩ rfl rfl))))
    · exact spiece v77 v82 0 0 0 inb_S128x128_S16x128_0_0 rfl _ (fun r l => (congrFun (pay_0 v77) _).trans (low_at _ _ _ _ ((scale0_at v77 r l).trans (scaleWord v77 r _ ⟨2 * r.val + 0, by omega⟩ ⟨2 * r.val + 1, by omega⟩ rfl rfl))))
  · rcases rows_covered (y 0) with h | h | h | h | h | h | h | h | h | h | h | h | h | h | h | h | h | h | h | h
    · exact ⟨_, List.mem_cons_self, zmem y _ _ _ h⟩
    · exact ⟨_, List.mem_cons_of_mem _ (List.mem_cons_self), zmem y _ _ _ h⟩
    · exact ⟨_, List.mem_cons_of_mem _ (List.mem_cons_of_mem _ (List.mem_cons_self)), zmem y _ _ _ h⟩
    · exact ⟨_, List.mem_cons_of_mem _ (List.mem_cons_of_mem _ (List.mem_cons_of_mem _ (List.mem_cons_self))), zmem y _ _ _ h⟩
    · exact ⟨_, List.mem_cons_of_mem _ (List.mem_cons_of_mem _ (List.mem_cons_of_mem _ (List.mem_cons_of_mem _ (List.mem_cons_self)))), zmem y _ _ _ h⟩
    · exact ⟨_, List.mem_cons_of_mem _ (List.mem_cons_of_mem _ (List.mem_cons_of_mem _ (List.mem_cons_of_mem _ (List.mem_cons_of_mem _ (List.mem_cons_self))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_self)))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), smem_ y 80 inb_S128x128_S16x128_80_0 h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), smem_ y 64 inb_S128x128_S16x128_64_0 h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), smem_ y 16 inb_S128x128_S16x128_16_0 h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), smem_ y 0 inb_S128x128_S16x128_0_0 h⟩

/-- The same with the twenty payloads named. -/
theorem tab_read_of {sig : RefSig} {k : Kind} {sp : Space} (v : View sig k sp S128x128 .i32) (f) (v77 : Vec F S32x256 .i16) (v82 : Vec F S16x256 .i8)
    (p0 : IVec S4x128 32) (p1 : IVec S4x128 32) (p2 : IVec S4x128 32) (p3 : IVec S4x128 32) (p4 : IVec S4x128 32) (p5 : IVec S4x128 32) (p6 : IVec S4x128 32) (p7 : IVec S4x128 32) (p8 : IVec S16x128 32) (p9 : IVec S16x128 32) (p10 : IVec S4x128 32) (p11 : IVec S4x128 32) (p12 : IVec S4x128 32) (p13 : IVec S4x128 32) (p14 : IVec S4x128 32) (p15 : IVec S4x128 32) (p16 : IVec S4x128 32) (p17 : IVec S4x128 32) (p18 : IVec S16x128 32) (p19 : IVec S16x128 32)
    (h0 : p0 = k0_pay50 (k0_pay49 (k0_pay40 (k0_pay14 v82) k0_pay15 (k0_pay33 (iota .tc S16x128 32 [1] iota_S16x128_d1_w32)))))
    (h1 : p1 = k0_pay48 (k0_pay40 (k0_pay14 v82) k0_pay15 (k0_pay33 (iota .tc S16x128 32 [1] iota_S16x128_d1_w32))))
    (h2 : p2 = k0_pay47 (k0_pay40 (k0_pay14 v82) k0_pay15 (k0_pay33 (iota .tc S16x128 32 [1] iota_S16x128_d1_w32))))
    (h3 : p3 = k0_pay46 (k0_pay45 (k0_pay40 (k0_pay14 v82) k0_pay15 (k0_pay33 (iota .tc S16x128 32 [1] iota_S16x128_d1_w32)))))
    (h4 : p4 = k0_pay44 (k0_pay40 (k0_pay14 v82) k0_pay15 (k0_pay33 (iota .tc S16x128 32 [1] iota_S16x128_d1_w32))))
    (h5 : p5 = k0_pay43 (k0_pay40 (k0_pay14 v82) k0_pay15 (k0_pay33 (iota .tc S16x128 32 [1] iota_S16x128_d1_w32))))
    (h6 : p6 = k0_pay42 (k0_pay40 (k0_pay14 v82) k0_pay15 (k0_pay33 (iota .tc S16x128 32 [1] iota_S16x128_d1_w32))))
    (h7 : p7 = k0_pay41 (k0_pay14 v82) k0_pay15 (k0_pay33 (iota .tc S16x128 32 [1] iota_S16x128_d1_w32)))
    (h8 : p8 = k0_pay39 (k0_pay34 (k0_pay13 v77) (iota .tc S16x128 32 [1] iota_S16x128_d1_w32) k0_pay15) (k0_pay36 (k0_pay13 v77) (iota .tc S16x128 32 [1] iota_S16x128_d1_w32) k0_pay15) k0_pay37)
    (h9 : p9 = k0_pay38 (k0_pay35 (k0_pay13 v77) (iota .tc S16x128 32 [1] iota_S16x128_d1_w32) k0_pay15))
    (h10 : p10 = k0_pay32 (k0_pay31 (k0_pay22 (k0_pay14 v82) k0_pay15 k0_pay16)))
    (h11 : p11 = k0_pay30 (k0_pay22 (k0_pay14 v82) k0_pay15 k0_pay16))
    (h12 : p12 = k0_pay29 (k0_pay22 (k0_pay14 v82) k0_pay15 k0_pay16))
    (h13 : p13 = k0_pay28 (k0_pay22 (k0_pay14 v82) k0_pay15 k0_pay16))
    (h14 : p14 = k0_pay27 (k0_pay22 (k0_pay14 v82) k0_pay15 k0_pay16))
    (h15 : p15 = k0_pay26 (k0_pay22 (k0_pay14 v82) k0_pay15 k0_pay16))
    (h16 : p16 = k0_pay25 (k0_pay22 (k0_pay14 v82) k0_pay15 k0_pay16))
    (h17 : p17 = k0_pay24 (k0_pay23 (k0_pay14 v82) k0_pay15 k0_pay16))
    (h18 : p18 = k0_pay21 (k0_pay17 v77) k0_pay19)
    (h19 : p19 = k0_pay20 (k0_pay18 v77)) (y : S128x128.Idx) :
    v.read (Elt F) (v.writes (Elt F) f
    [ ⟨⟨⟨![115, 0], S4x128.size, ![4, 1], inb_S128x128_S4x128_115_0_s_4_1⟩, spos_4_1⟩, p0⟩,
      ⟨⟨⟨![99, 0], S4x128.size, ![4, 1], inb_S128x128_S4x128_99_0_s_4_1⟩, spos_4_1⟩, p1⟩,
      ⟨⟨⟨![114, 0], S4x128.size, ![4, 1], inb_S128x128_S4x128_114_0_s_4_1⟩, spos_4_1⟩, p2⟩,
      ⟨⟨⟨![98, 0], S4x128.size, ![4, 1], inb_S128x128_S4x128_98_0_s_4_1⟩, spos_4_1⟩, p3⟩,
      ⟨⟨⟨![113, 0], S4x128.size, ![4, 1], inb_S128x128_S4x128_113_0_s_4_1⟩, spos_4_1⟩, p4⟩,
      ⟨⟨⟨![97, 0], S4x128.size, ![4, 1], inb_S128x128_S4x128_97_0_s_4_1⟩, spos_4_1⟩, p5⟩,
      ⟨⟨⟨![112, 0], S4x128.size, ![4, 1], inb_S128x128_S4x128_112_0_s_4_1⟩, spos_4_1⟩, p6⟩,
      ⟨⟨⟨![96, 0], S4x128.size, ![4, 1], inb_S128x128_S4x128_96_0_s_4_1⟩, spos_4_1⟩, p7⟩,
      ⟨Rect.unit (s := S128x128) ![80, 0] S16x128.size inb_S128x128_S16x128_80_0, p8⟩,
      ⟨Rect.unit (s := S128x128) ![64, 0] S16x128.size inb_S128x128_S16x128_64_0, p9⟩,
      ⟨⟨⟨![51, 0], S4x128.size, ![4, 1], inb_S128x128_S4x128_51_0_s_4_1⟩, spos_4_1⟩, p10⟩,
      ⟨⟨⟨![35, 0], S4x128.size, ![4, 1], inb_S128x128_S4x128_35_0_s_4_1⟩, spos_4_1⟩, p11⟩,
      ⟨⟨⟨![50, 0], S4x128.size, ![4, 1], inb_S128x128_S4x128_50_0_s_4_1⟩, spos_4_1⟩, p12⟩,
      ⟨⟨⟨![34, 0], S4x128.size, ![4, 1], inb_S128x128_S4x128_34_0_s_4_1⟩, spos_4_1⟩, p13⟩,
      ⟨⟨⟨![49, 0], S4x128.size, ![4, 1], inb_S128x128_S4x128_49_0_s_4_1⟩, spos_4_1⟩, p14⟩,
      ⟨⟨⟨![33, 0], S4x128.size, ![4, 1], inb_S128x128_S4x128_33_0_s_4_1⟩, spos_4_1⟩, p15⟩,
      ⟨⟨⟨![48, 0], S4x128.size, ![4, 1], inb_S128x128_S4x128_48_0_s_4_1⟩, spos_4_1⟩, p16⟩,
      ⟨⟨⟨![32, 0], S4x128.size, ![4, 1], inb_S128x128_S4x128_32_0_s_4_1⟩, spos_4_1⟩, p17⟩,
      ⟨Rect.unit (s := S128x128) ![16, 0] S16x128.size inb_S128x128_S16x128_16_0, p18⟩,
      ⟨Rect.unit (s := S128x128) ![0, 0] S16x128.size inb_S128x128_S16x128_0_0, p19⟩]) y = tabG v77 v82 y := by
  subst h0 h1 h2 h3 h4 h5 h6 h7 h8 h9 h10 h11 h12 h13 h14 h15 h16 h17 h18 h19
  exact tab_read v f v77 v82 y

end Cert.Kernel.Hand
-- ==== Proof.Kern.Pass.lean ====
/-
  One pass of the column loop over 256 input features: the weights it forms from a block of packed words and the
  chunk's table, and the product it adds to the running sum.
-/
module

public import proofs.«01_k».proof.Proof.Kern.Quad
public import proofs.«01_k».proof.Proof.Kern.Tab
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

/-- A weight from its code, its zero point's word and its scale's word. -/
def fwt (code : BitVec 8) (z s : BitVec 16) : F .bf16 :=
  FloatOps.mulf (FloatOps.subf (FloatOps.sitofp .bf16 code) (FloatOps.subf (Scalar.ofBits .bf16 z) (Scalar.ofBits .bf16 0x4300#16)))
    (Scalar.ofBits .bf16 s)

/-- A row of doubled words spread over a block and read as 16-bit floats. -/
theorem spread_at (s : Vec F S1x128 .i32) (w : Fin 128 → BitVec 16) (hs : ∀ l, s (ix2 (n0 := 1) (n1 := 128) 0 l) = dbl (w l)) (r l : Fin 128) :
    (bitcastToFloat .bf16 (bitcast S128x128 16 (broadcastTo S64x128 (shapeCast S1x128 s shapeCasts_S1x128_S1x128) broadcasts_S1x128_S64x128)
      bitcasts_S64x128_w32_S128x128_w16) : FVec F S128x128 .bf16) (ix2 (n0 := 128) (n1 := 128) r l) = Scalar.ofBits .bf16 (w l) := by
  have hr := r.isLt
  have e : bitcast S128x128 16 (broadcastTo S64x128 (shapeCast S1x128 s shapeCasts_S1x128_S1x128) broadcasts_S1x128_S64x128)
      bitcasts_S64x128_w32_S128x128_w16 (ix2 (n0 := 128) (n1 := 128) r l) = w l := by
    refine (bitcast_32_16_ix2 (R := 128) (r := 64) (n := 128) _ _ r l ⟨r.val / 2, by omega⟩ rfl).trans ?_
    have e1 : broadcastTo S64x128 (shapeCast S1x128 s shapeCasts_S1x128_S1x128) broadcasts_S1x128_S64x128 (ix2 (n0 := 64) (n1 := 128) ⟨r.val / 2, by omega⟩ l) = dbl (w l) := by
      refine (broadcastTo_1b_ab_apply (a := 64) (b := 128) _ _ _ l).trans ?_
      exact (congrFun (shapeCast_self s shapeCasts_S1x128_S1x128) _).trans (hs l)
    refine (congrArg (fun v : BitVec 32 => v.extractLsb' (16 * (r.val % 2)) 16) e1).trans ?_
    have h2 : r.val % 2 < 2 := Nat.mod_lt _ (by decide)
    unfold dbl
    match r.val % 2, h2 with
    | 0, _ => exact extract_lo _ _
    | 1, _ => exact extract_hi _ _
  exact congrArg (fun b : BitVec 16 => (Scalar.ofBits .bf16 b : F .bf16)) e

/-- The codes of a block: the low nibbles, and the high nibbles, of its bytes. -/
theorem code0_at (w : Vec F S64x128 .i32) (r : Fin 256) (l : Fin 128) :
    k0_pay7 w (ix2 (n0 := 256) (n1 := 128) r l)
      = FloatOps.sitofp .bf16 (codeByte ((w (ix2 (n0 := 64) (n1 := 128) ⟨r.val / 4, by omega⟩ l)).extractLsb' (8 * (r.val % 4)) 4)) := by
  refine congrArg (fun b : BitVec 8 => (FloatOps.sitofp .bf16 b : F .bf16)) ?_
  refine (bitcast_32_8_ix2 (R := 256) (r := 64) (n := 128) (andi w (broadcast S64x128 252645135#32)) bitcasts_S64x128_w32_S256x128_w8 r l ⟨r.val / 4, by omega⟩ rfl).trans ?_
  exact code_lo _ ⟨r.val % 4, Nat.mod_lt _ (by decide)⟩

theorem code1_at (w : Vec F S64x128 .i32) (r : Fin 256) (l : Fin 128) :
    k0_pay10 w (ix2 (n0 := 256) (n1 := 128) r l)
      = FloatOps.sitofp .bf16 (codeByte ((w (ix2 (n0 := 64) (n1 := 128) ⟨r.val / 4, by omega⟩ l)).extractLsb' (8 * (r.val % 4) + 4) 4)) := by
  refine congrArg (fun b : BitVec 8 => (FloatOps.sitofp .bf16 b : F .bf16)) ?_
  refine (bitcast_32_8_ix2 (R := 256) (r := 64) (n := 128) (andi (shrui w (broadcast S64x128 4#32)) (broadcast S64x128 252645135#32)) bitcasts_S64x128_w32_S256x128_w8 r l ⟨r.val / 4, by omega⟩ rfl).trans ?_
  exact code_hi _ ⟨r.val % 4, Nat.mod_lt _ (by decide)⟩

/-- One column half of a pass's weights, from codes and the two groups' rows of the table. -/
def halfW (cd : FVec F S256x128 .bf16) (s0 z0 s1 z1 : Vec F S1x128 .i32) : FVec F S256x128 .bf16 :=
  k0_pay9 cd (k0_pay8 cd s0 z0) s1 z1

theorem halfW_at (cd : FVec F S256x128 .bf16) (s0 z0 s1 z1 : Vec F S1x128 .i32) (sw zw : Fin 2 → Fin 128 → BitVec 16)
    (hs0 : ∀ l, s0 (ix2 (n0 := 1) (n1 := 128) 0 l) = dbl (sw 0 l)) (hz0 : ∀ l, z0 (ix2 (n0 := 1) (n1 := 128) 0 l) = dbl (zw 0 l))
    (hs1 : ∀ l, s1 (ix2 (n0 := 1) (n1 := 128) 0 l) = dbl (sw 1 l)) (hz1 : ∀ l, z1 (ix2 (n0 := 1) (n1 := 128) 0 l) = dbl (zw 1 l))
    (code : Fin 256 → Fin 128 → BitVec 8) (hcd : ∀ r l, cd (ix2 (n0 := 256) (n1 := 128) r l) = FloatOps.sitofp .bf16 (code r l))
    (r : Fin 256) (l : Fin 128) (g : Fin 2) (hg : g.val = r.val / 128) :
    halfW cd s0 z0 s1 z1 (ix2 (n0 := 256) (n1 := 128) r l) = fwt (code r l) (zw g l) (sw g l) := by
  have hr := r.isLt
  have cut : ∀ (o : ℕ) (ho : S256x128.Slices ![o, 0] S128x128) (p : Fin 128), r.val = o + p.val →
      extractStridedSlice S128x128 ![o, 0] cd ho (ix2 (n0 := 128) (n1 := 128) p l) = FloatOps.sitofp .bf16 (code r l) := fun o ho p hp =>
    (extractStridedSlice_apply _ cd ho _ (ix2 (n0 := 256) (n1 := 128) r l) (fun a => by
      match a with
      | ⟨0, _⟩ => exact hp
      | ⟨1, _⟩ => exact (Nat.zero_add _).symm)).trans (hcd r l)
  have val : ∀ (o : ℕ) (ho : S256x128.Slices ![o, 0] S128x128) (s z : Vec F S1x128 .i32) (p : Fin 128), r.val = o + p.val →
      (∀ l, s (ix2 (n0 := 1) (n1 := 128) 0 l) = dbl (sw g l)) → (∀ l, z (ix2 (n0 := 1) (n1 := 128) 0 l) = dbl (zw g l)) →
      mulf (subf (extractStridedSlice S128x128 ![o, 0] cd ho)
        (subf (bitcastToFloat .bf16 (bitcast S128x128 16 (broadcastTo S64x128 (shapeCast S1x128 z shapeCasts_S1x128_S1x128) broadcasts_S1x128_S64x128)
          bitcasts_S64x128_w32_S128x128_w16) : FVec F S128x128 .bf16) (broadcast S128x128 (Scalar.ofBits .bf16 0x4300#16))))
        (bitcastToFloat .bf16 (bitcast S128x128 16 (broadcastTo S64x128 (shapeCast S1x128 s shapeCasts_S1x128_S1x128) broadcasts_S1x128_S64x128)
          bitcasts_S64x128_w32_S128x128_w16) : FVec F S128x128 .bf16) (ix2 (n0 := 128) (n1 := 128) p l) = fwt (code r l) (zw g l) (sw g l) := fun o ho s z p hp hs hz => by
    show FloatOps.mulf (FloatOps.subf (extractStridedSlice S128x128 ![o, 0] cd ho (ix2 (n0 := 128) (n1 := 128) p l)) (FloatOps.subf _ (Scalar.ofBits .bf16 0x4300#16))) _ = _
    rw [cut o ho p hp, spread_at z _ hz p l, spread_at s _ hs p l]
    rfl
  by_cases h : r.val < 128
  · obtain rfl : g = 0 := Fin.ext (by rw [hg]; show r.val / 128 = 0; omega)
    refine (concatenate_pair_apply_left (t := S256x128) 0 (k0_pay8 cd s0 z0) _ concatenates_S128x128_S128x128_S256x128_d0 (ix2 (n0 := 256) (n1 := 128) r l) rfl
      (ix2 (n0 := 128) (n1 := 128) ⟨r.val, h⟩ l) (fun b => by
        match b with
        | ⟨0, _⟩ => rfl
        | ⟨1, _⟩ => rfl)).trans ?_
    exact val 0 slices_S256x128_o0_0_S128x128 s0 z0 _ (Nat.zero_add _).symm hs0 hz0
  · obtain rfl : g = 1 := Fin.ext (by rw [hg]; show r.val / 128 = 1; omega)
    refine (concatenate_pair_apply_right (t := S256x128) 0 (k0_pay8 cd s0 z0) _ concatenates_S128x128_S128x128_S256x128_d0 (ix2 (n0 := 256) (n1 := 128) r l) rfl rfl
      (ix2 (n0 := 128) (n1 := 128) ⟨r.val - 128, by omega⟩ l) (fun b => by
        match b with
        | ⟨0, _⟩ => intro h; exact absurd rfl h
        | ⟨1, _⟩ => intro _; rfl) (by show r.val - 128 + 128 = r.val; omega)).trans ?_
    exact val 128 slices_S256x128_o128_0_S128x128 s1 z1 _ (by show r.val = 128 + (r.val - 128); omega) hs1 hz1

/-- The weights of pass `p` of a chunk: row `r` is input feature `256 p + r`, column `x` holds the chunk's column
    `2 (x mod 128) + x / 128`. -/
def wtile (S : Vec F S32x256 .i16) (Z : Vec F S16x256 .i8) (w : ℕ → Fin 128 → BitVec 32) (p : ℕ) (hp : p < 16) : FVec F S256x256 .bf16 := fun y =>
  have h0 : (y 0).val < 256 := (y 0).isLt
  have h1 : (y 1).val < 256 := (y 1).isLt
  have col : Fin 256 := ⟨2 * ((y 1).val % 128) + (y 1).val / 128, by omega⟩
  have g : Fin 32 := ⟨2 * p + (y 0).val / 128, by omega⟩
  fwt (codeByte ((w (64 * p + (y 0).val / 4) ⟨(y 1).val % 128, Nat.mod_lt _ (by decide)⟩).extractLsb' (8 * ((y 0).val % 4) + 4 * ((y 1).val / 128)) 4))
    (zbits (zeroNib Z g col)) (S (ix2 (n0 := 32) (n1 := 256) g col))

/-- The permuted input's columns of a pass. -/
def xtile (X : Vec F S192x4096 .bf16) (p : ℕ) (hp : p < 16) : FVec F S192x256 .bf16 := fun y =>
  have h1 : (y 1).val < 256 := (y 1).isLt
  X (ix2 (n0 := 192) (n1 := 4096) (y 0) ⟨256 * p + (y 1).val, by omega⟩)

/-- The running sum of a chunk after `n` passes. -/
def kacc (S : Vec F S32x256 .i16) (Z : Vec F S16x256 .i8) (w : ℕ → Fin 128 → BitVec 32) (X : Vec F S192x4096 .bf16) : ℕ → FVec F S192x256 .f32
  | 0 => broadcast S192x256 (Scalar.ofBits .f32 0x00000000#32)
  | n + 1 => if h : n < 16 then
      addf (kacc S Z w X n) (matmul dot_S192x256_S256x256_S192x256_1_0_0_1_n_n none (xtile X n h) (wtile S Z w n h) (constant S192x256 .f32 0x00000000#32))
    else kacc S Z w X n

/-- The two column halves side by side are the pass's weights. -/
theorem wtile_of (S : Vec F S32x256 .i16) (Z : Vec F S16x256 .i8) (w : ℕ → Fin 128 → BitVec 32) (p : ℕ) (hp : p < 16) (u : Vec F S64x128 .i32)
    (a0 b0 a1 b1 a2 b2 a3 b3 : Vec F S1x128 .i32)
    (hu : ∀ (r : Fin 64) (l : Fin 128), u (ix2 (n0 := 64) (n1 := 128) r l) = w (64 * p + r.val) l)
    (hs : ∀ (par g : Fin 2) (l : Fin 128), (match par, g with | 0, 0 => a0 | 0, 1 => a1 | 1, 0 => a2 | 1, 1 => a3) (ix2 (n0 := 1) (n1 := 128) 0 l)
      = dbl (S (ix2 (n0 := 32) (n1 := 256) ⟨2 * p + g.val, by omega⟩ ⟨2 * l.val + par.val, by omega⟩)))
    (hz : ∀ (par g : Fin 2) (l : Fin 128), (match par, g with | 0, 0 => b0 | 0, 1 => b1 | 1, 0 => b2 | 1, 1 => b3) (ix2 (n0 := 1) (n1 := 128) 0 l)
      = dbl (zbits (zeroNib (n := 256) Z ⟨2 * p + g.val, by omega⟩ ⟨2 * l.val + par.val, by omega⟩))) :
    concatenate S256x256 1 [⟨S256x128, halfW (k0_pay7 u) a0 b0 a1 b1⟩, ⟨S256x128, halfW (k0_pay10 u) a2 b2 a3 b3⟩] concatenates_S256x128_S256x128_S256x256_d1
      = wtile S Z w p hp := by
  funext y
  have h0 : (y 0).val < 256 := (y 0).isLt
  have h1 : (y 1).val < 256 := (y 1).isLt
  have fin : ∀ (r : Fin 256) (l : Fin 128) (par g : Fin 2), r.val = (y 0).val → (y 1).val = 128 * par.val + l.val → g.val = r.val / 128 →
      (fwt (codeByte ((u (ix2 (n0 := 64) (n1 := 128) ⟨r.val / 4, by omega⟩ l)).extractLsb' (8 * (r.val % 4) + 4 * par.val) 4))
        (zbits (zeroNib (n := 256) Z ⟨2 * p + g.val, by omega⟩ ⟨2 * l.val + par.val, by omega⟩))
        (S (ix2 (n0 := 32) (n1 := 256) ⟨2 * p + g.val, by omega⟩ ⟨2 * l.val + par.val, by omega⟩)) : F .bf16) = wtile S Z w p hp y := fun r l par g hr hl hg => by
    have hpar := par.isLt
    rw [hu]
    have e1 : l = ⟨(y 1).val % 128, Nat.mod_lt _ (by decide)⟩ := Fin.ext (by show l.val = (y 1).val % 128; omega)
    have e2 : par.val = (y 1).val / 128 := by omega
    have e3 : (⟨2 * p + g.val, by omega⟩ : Fin 32) = ⟨2 * p + (y 0).val / 128, by omega⟩ := Fin.ext (by show 2 * p + g.val = 2 * p + (y 0).val / 128; omega)
    have e4 : (⟨2 * l.val + par.val, by omega⟩ : Fin 256) = ⟨2 * ((y 1).val % 128) + (y 1).val / 128, by omega⟩ :=
      Fin.ext (by show 2 * l.val + par.val = 2 * ((y 1).val % 128) + (y 1).val / 128; omega)
    rw [e3, e4]
    show fwt (codeByte ((w (64 * p + r.val / 4) l).extractLsb' (8 * (r.val % 4) + 4 * par.val) 4)) _ _ = _
    have e5 : (w (64 * p + r.val / 4) l).extractLsb' (8 * (r.val % 4) + 4 * par.val) 4
        = (w (64 * p + (y 0).val / 4) ⟨(y 1).val % 128, Nat.mod_lt _ (by decide)⟩).extractLsb' (8 * ((y 0).val % 4) + 4 * ((y 1).val / 128)) 4 := by
      rw [hr, ← e2]
      exact congrArg (fun q : Fin 128 => (w (64 * p + (y 0).val / 4) q).extractLsb' (8 * ((y 0).val % 4) + 4 * par.val) 4) e1
    exact congrArg (fun q : BitVec 4 => (fwt (codeByte q) (zbits (zeroNib (n := 256) Z ⟨2 * p + (y 0).val / 128, by omega⟩ ⟨2 * ((y 1).val % 128) + (y 1).val / 128, by omega⟩))
      (S (ix2 (n0 := 32) (n1 := 256) ⟨2 * p + (y 0).val / 128, by omega⟩ ⟨2 * ((y 1).val % 128) + (y 1).val / 128, by omega⟩)) : F .bf16)) e5
  by_cases h : (y 1).val < 128
  · refine (concatenate_pair_apply_left (t := S256x256) 1 (halfW (k0_pay7 u) a0 b0 a1 b1) _ concatenates_S256x128_S256x128_S256x256_d1 y rfl
      (ix2 (n0 := 256) (n1 := 128) ⟨(y 0).val, h0⟩ ⟨(y 1).val, h⟩) (fun b => by
        match b with
        | ⟨0, _⟩ => rfl
        | ⟨1, _⟩ => rfl)).trans ?_
    refine (halfW_at (k0_pay7 u) a0 b0 a1 b1 (fun g l => S (ix2 (n0 := 32) (n1 := 256) ⟨2 * p + g.val, by omega⟩ ⟨2 * l.val + (0 : Fin 2).val, by omega⟩))
      (fun g l => zbits (zeroNib (n := 256) Z ⟨2 * p + g.val, by omega⟩ ⟨2 * l.val + (0 : Fin 2).val, by omega⟩)) (hs 0 0) (hz 0 0) (hs 0 1) (hz 0 1)
      (fun r l => codeByte ((u (ix2 (n0 := 64) (n1 := 128) ⟨r.val / 4, by omega⟩ l)).extractLsb' (8 * (r.val % 4)) 4)) (code0_at u) _ _
      ⟨(y 0).val / 128, by omega⟩ rfl).trans ?_
    exact fin _ _ 0 _ rfl (by show (y 1).val = 128 * 0 + (y 1).val; omega) rfl
  · refine (concatenate_pair_apply_right (t := S256x256) 1 (halfW (k0_pay7 u) a0 b0 a1 b1) _ concatenates_S256x128_S256x128_S256x256_d1 y rfl rfl
      (ix2 (n0 := 256) (n1 := 128) ⟨(y 0).val, h0⟩ ⟨(y 1).val - 128, by omega⟩) (fun b => by
        match b with
        | ⟨0, _⟩ => intro _; rfl
        | ⟨1, _⟩ => intro h; exact absurd rfl h) (by show (y 1).val - 128 + 128 = (y 1).val; omega)).trans ?_
    refine (halfW_at (k0_pay10 u) a2 b2 a3 b3 (fun g l => S (ix2 (n0 := 32) (n1 := 256) ⟨2 * p + g.val, by omega⟩ ⟨2 * l.val + (1 : Fin 2).val, by omega⟩))
      (fun g l => zbits (zeroNib (n := 256) Z ⟨2 * p + g.val, by omega⟩ ⟨2 * l.val + (1 : Fin 2).val, by omega⟩)) (hs 1 0) (hz 1 0) (hs 1 1) (hz 1 1)
      (fun r l => codeByte ((u (ix2 (n0 := 64) (n1 := 128) ⟨r.val / 4, by omega⟩ l)).extractLsb' (8 * (r.val % 4) + 4) 4)) (code1_at u) _ _
      ⟨(y 0).val / 128, by omega⟩ rfl).trans ?_
    exact fin _ _ 1 _ rfl (by show (y 1).val = 128 * 1 + ((y 1).val - 128); omega) rfl

end Cert.Kernel.Hand
-- ==== Proof.Kern.Column.lean ====
/-
  The column loop of a block: each trip fills the chunk's table, runs sixteen passes and stores the chunk's 256 columns
  of the result in their order.
-/
module

public import proofs.«01_k».proof.Proof.Kern.Quad
public import proofs.«01_k».proof.Proof.Kern.Pass
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

/-- Row `q` of chunk `c`'s words in the sorted weights. -/
def srtRow (T : (⟨2, ![8200, 128]⟩ : Shape).Idx → BitVec 32) (c q : ℕ) (l : Fin 128) : BitVec 32 :=
  if h : 1025 * c + q < 8200 then T (ix2 (n0 := 8200) (n1 := 128) ⟨1025 * c + q, h⟩ l) else 0#32

theorem off40_eq : ∀ (p : Fin k0_t6_loop.trips) (par g : Fin 2),
    k0_off40 p (BitVec.ofNat 32 (64 * par.val)) (BitVec.ofNat 32 g.val) = ![64 * par.val + 16 * g.val + p.val, 0] := by decide +kernel

theorem trips_t6 : k0_t6_loop.trips = 16 := by decide
theorem trips_t5 : k0_t5_loop.trips = 8 := by decide

/-- What a pass adds: the loads' values put into the pass's payloads are the next running sum. -/
theorem pass_value (t5 : Fin k0_t5_loop.trips) (p : Fin k0_t6_loop.trips) (S : Vec F S32x256 .i16) (Z : Vec F S16x256 .i8)
    (f8 : Buf (Elt F) (arg8.view.loc (c : Thread nD τ))) (f11 : Buf (Elt F) (arg11.view.loc (c : Thread nD τ))) (f12 : Buf (Elt F) (arg12.view.loc (c : Thread nD τ)))
    (hT : ∀ y, arg12.view.read (Elt F) f12 y = tabG S Z y) (acc : FVec F S192x256 .f32)
    (hacc : acc = kacc S Z (srtRow (arg8.view.read (Elt F) f8) t5.val) (arg11.view.read (Elt F) f11) p.val)
    (i39) (i00) (i01) (i10) (i11) (j00) (j01) (j10) (j11) (i42) (u : Vec F S64x128 .i32)
    (hu : u = arg8.view.readAt (Elt F) (Rect.unit (s := S8200x128) (k0_off39 t5 p) S64x128.size i39).toLoadRect f8) :
    k0_pay52 acc
      (halfW (k0_pay7 u)
        (arg12.view.readAt (Elt F) (Rect.unit (s := S128x128) (k0_off40 p 0#32 0#32) S1x128.size i00).toLoadRect f12)
        (arg12.view.readAt (Elt F) (Rect.unit (s := S128x128) (k0_off41 p 32#32 0#32) S1x128.size j00).toLoadRect f12)
        (arg12.view.readAt (Elt F) (Rect.unit (s := S128x128) (k0_off40 p 0#32 1#32) S1x128.size i01).toLoadRect f12)
        (arg12.view.readAt (Elt F) (Rect.unit (s := S128x128) (k0_off41 p 32#32 1#32) S1x128.size j01).toLoadRect f12))
      (halfW (k0_pay10 u)
        (arg12.view.readAt (Elt F) (Rect.unit (s := S128x128) (k0_off40 p 64#32 0#32) S1x128.size i10).toLoadRect f12)
        (arg12.view.readAt (Elt F) (Rect.unit (s := S128x128) (k0_off41 p 96#32 0#32) S1x128.size j10).toLoadRect f12)
        (arg12.view.readAt (Elt F) (Rect.unit (s := S128x128) (k0_off40 p 64#32 1#32) S1x128.size i11).toLoadRect f12)
        (arg12.view.readAt (Elt F) (Rect.unit (s := S128x128) (k0_off41 p 96#32 1#32) S1x128.size j11).toLoadRect f12))
      (arg11.view.readAt (Elt F) (Rect.unit (s := S192x4096) (k0_off42 p) S192x256.size i42).toLoadRect f11)
      = kacc S Z (srtRow (arg8.view.read (Elt F) f8) t5.val) (arg11.view.read (Elt F) f11) (p.val + 1) := by
  have hp : p.val < 16 := p.isLt
  have ht : t5.val < 8 := t5.isLt
  have hx : arg11.view.readAt (Elt F) (Rect.unit (s := S192x4096) (k0_off42 p) S192x256.size i42).toLoadRect f11 = xtile (arg11.view.read (Elt F) f11) p.val hp := by
    funext y
    have h1 : (y 1).val < 256 := (y 1).isLt
    refine readAt_at arg11.view f11 i42 (k0_off42_eq p) y (ix2 (n0 := 192) (n1 := 4096) (y 0) ⟨256 * p.val + (y 1).val, by omega⟩) (fun a => ?_)
    match a with
    | ⟨0, _⟩ => exact (Nat.zero_add _).symm
    | ⟨1, _⟩ => rfl
  have hw := wtile_of S Z (srtRow (arg8.view.read (Elt F) f8) t5.val) p.val hp u
    (arg12.view.readAt (Elt F) (Rect.unit (s := S128x128) (k0_off40 p 0#32 0#32) S1x128.size i00).toLoadRect f12)
    (arg12.view.readAt (Elt F) (Rect.unit (s := S128x128) (k0_off41 p 32#32 0#32) S1x128.size j00).toLoadRect f12)
    (arg12.view.readAt (Elt F) (Rect.unit (s := S128x128) (k0_off40 p 0#32 1#32) S1x128.size i01).toLoadRect f12)
    (arg12.view.readAt (Elt F) (Rect.unit (s := S128x128) (k0_off41 p 32#32 1#32) S1x128.size j01).toLoadRect f12)
    (arg12.view.readAt (Elt F) (Rect.unit (s := S128x128) (k0_off40 p 64#32 0#32) S1x128.size i10).toLoadRect f12)
    (arg12.view.readAt (Elt F) (Rect.unit (s := S128x128) (k0_off41 p 96#32 0#32) S1x128.size j10).toLoadRect f12)
    (arg12.view.readAt (Elt F) (Rect.unit (s := S128x128) (k0_off40 p 64#32 1#32) S1x128.size i11).toLoadRect f12)
    (arg12.view.readAt (Elt F) (Rect.unit (s := S128x128) (k0_off41 p 96#32 1#32) S1x128.size j11).toLoadRect f12)
    ?hu ?hs ?hz
  case hu =>
    intro r l
    have hr := r.isLt
    rw [hu]
    unfold srtRow
    rw [dif_pos (by omega)]
    refine readAt_at arg8.view f8 i39 (k0_off39_eq t5 p) _ _ (fun a => ?_)
    match a with
    | ⟨0, _⟩ => show 1025 * t5.val + (64 * p.val + r.val) = 1025 * t5.val + 64 * p.val + r.val; omega
    | ⟨1, _⟩ => exact (Nat.zero_add _).symm
  case hs =>
    have row : ∀ (off : Fin 2 → ℕ) (inb) (par g : Fin 2) (l : Fin 128), off = ![64 * par.val + 16 * g.val + p.val, 0] →
        arg12.view.readAt (Elt F) (Rect.unit (s := S128x128) off S1x128.size inb).toLoadRect f12 (ix2 (n0 := 1) (n1 := 128) 0 l)
          = dbl (S (ix2 (n0 := 32) (n1 := 256) ⟨2 * p.val + g.val, by omega⟩ ⟨2 * l.val + par.val, by omega⟩)) := fun off inb par g l ho => by
      have hpar := par.isLt
      have hg := g.isLt
      refine (readAt_at arg12.view f12 inb ho _ (ix2 (n0 := 128) (n1 := 128) ⟨64 * par.val + 16 * g.val + p.val, by omega⟩ l) (fun a => ?_)).trans ((hT _).trans ?_)
      · match a with
        | ⟨0, _⟩ => rfl
        | ⟨1, _⟩ => exact (Nat.zero_add _).symm
      · refine tabG_scale S Z _ ?_ _ _ ?_ ?_
        · show (64 * par.val + 16 * g.val + p.val) % 64 < 32; omega
        · show 2 * p.val + g.val = 2 * ((64 * par.val + 16 * g.val + p.val) % 16) + (64 * par.val + 16 * g.val + p.val) % 64 / 16; omega
        · show 2 * l.val + par.val = 2 * l.val + (64 * par.val + 16 * g.val + p.val) / 64; omega
    intro par g l
    match par, g with
    | 0, 0 => exact row _ i00 0 0 l (off40_eq p 0 0)
    | 0, 1 => exact row _ i01 0 1 l (off40_eq p 0 1)
    | 1, 0 => exact row _ i10 1 0 l (off40_eq p 1 0)
    | 1, 1 => exact row _ i11 1 1 l (off40_eq p 1 1)
  case hz =>
    have row : ∀ (off : Fin 2 → ℕ) (inb) (par g : Fin 2) (l : Fin 128), off = ![64 * par.val + 2 * p.val + g.val + 32, 0] →
        arg12.view.readAt (Elt F) (Rect.unit (s := S128x128) off S1x128.size inb).toLoadRect f12 (ix2 (n0 := 1) (n1 := 128) 0 l)
          = dbl (zbits (zeroNib (n := 256) Z ⟨2 * p.val + g.val, by omega⟩ ⟨2 * l.val + par.val, by omega⟩)) := fun off inb par g l ho => by
      have hpar := par.isLt
      have hg := g.isLt
      refine (readAt_at arg12.view f12 inb ho _ (ix2 (n0 := 128) (n1 := 128) ⟨64 * par.val + 2 * p.val + g.val + 32, by omega⟩ l) (fun a => ?_)).trans ((hT _).trans ?_)
      · match a with
        | ⟨0, _⟩ => rfl
        | ⟨1, _⟩ => exact (Nat.zero_add _).symm
      · refine tabG_zero S Z _ ?_ _ _ ?_ ?_
        · show ¬ (64 * par.val + 2 * p.val + g.val + 32) % 64 < 32; omega
        · show 2 * p.val + g.val = (64 * par.val + 2 * p.val + g.val + 32) % 64 - 32; omega
        · show 2 * l.val + par.val = 2 * l.val + (64 * par.val + 2 * p.val + g.val + 32) / 64; omega
    intro par g l
    match par, g with
    | 0, 0 => exact row _ j00 0 0 l (k0_off41_eq p 0 0)
    | 0, 1 => exact row _ j01 0 1 l (k0_off41_eq p 0 1)
    | 1, 0 => exact row _ j10 1 0 l (k0_off41_eq p 1 0)
    | 1, 1 => exact row _ j11 1 1 l (k0_off41_eq p 1 1)
  unfold kacc
  rw [dif_pos hp, ← hacc, ← hw, ← hx]
  rfl

theorem pass_step (t5 : Fin k0_t5_loop.trips) (a14 : BitVec 32) (v398 : IVec S4x128 32) (S : Vec F S32x256 .i16) (Z : Vec F S16x256 .i8)
    (f8 : Buf (Elt F) (arg8.view.loc (c : Thread nD τ))) (f11 : Buf (Elt F) (arg11.view.loc (c : Thread nD τ))) (f12 : Buf (Elt F) (arg12.view.loc (c : Thread nD τ)))
    (hT : ∀ y, arg12.view.read (Elt F) f12 y = tabG S Z y) (p : Fin k0_t6_loop.trips) (acc : FVec F S192x256 .f32)
    (hacc : acc = kacc S Z (srtRow (arg8.view.read (Elt F) f8) t5.val) (arg11.view.read (Elt F) f11) p.val) :
   iprop(pts c arg8 f8 ∗ pts c arg11 f11 ∗ pts c arg12 f12) ⊢
    wp frame (wpE (defs₀ (F := F)) 𝒱 (c : Thread nD τ) bd) Set.univ
      (k0_t6_body (F := F) i arg1 harg1 arg2 harg2 arg3 harg3 arg4 harg4 arg5 harg5 arg6 harg6 arg7 harg7 arg8 harg8 arg9 harg9 arg10 harg10 arg11 harg11 arg12 harg12 arg13 t5 a14 v398 p acc)
      (fun r => iprop(⌜r = kacc S Z (srtRow (arg8.view.read (Elt F) f8) t5.val) (arg11.view.read (Elt F) f11) (p.val + 1)⌝ ∗ pts c arg8 f8 ∗ pts c arg11 f11 ∗ pts c arg12 f12)) := by
  unfold k0_t6_body pts
  iintro ⟨H8, H11, H12⟩
  sl_exec
  sl_step
  isplitr; swap
  · isplitl [H8]; · iexact H8
    isplitl [H11]; · iexact H11
    iexact H12
  ipureintro
  exact pass_value c arg8 arg11 arg12 t5 p S Z f8 f11 f12 hT acc hacc (k0_off39_inb t5 p) (k0_off40_inb p 0 0) (k0_off40_inb p 0 1) (k0_off40_inb p 1 0) (k0_off40_inb p 1 1)
    (k0_off41_inb p 0 0) (k0_off41_inb p 0 1) (k0_off41_inb p 1 0) (k0_off41_inb p 1 1) (k0_off42_inb p) _ rfl

/-- A chunk's scales and zero points in the block's windows. -/
def Sc (S : Vec F S32x2048 .i16) (k : ℕ) (hk : k < 8) : Vec F S32x256 .i16 := fun y =>
  have h1 : (y 1).val < 256 := (y 1).isLt
  S (ix2 (n0 := 32) (n1 := 2048) (y 0) ⟨256 * k + (y 1).val, by omega⟩)
def Zc (Z : Vec F S16x2048 .i8) (k : ℕ) (hk : k < 8) : Vec F S16x256 .i8 := fun y =>
  have h1 : (y 1).val < 256 := (y 1).isLt
  Z (ix2 (n0 := 16) (n1 := 2048) (y 0) ⟨256 * k + (y 1).val, by omega⟩)

/-- The result's entry at row `m` and column `y` of a chunk, from the chunk's sum. -/
def emitAt (acc : FVec F S192x256 .f32) (m : Fin 192) (y : Fin 256) : F .bf16 :=
  FloatOps.truncf .bf16 bitsLt_bf16_f32 (acc (ix2 (n0 := 192) (n1 := 256) m ⟨128 * (y.val % 2) + y.val / 2, by omega⟩))

theorem odd_at (m : Fin 192) (l : Fin 128) : k0_pay53 (ix2 (n0 := 192) (n1 := 128) m l) = BitVec.ofBool (decide (l.val % 2 = 1)) := by
  show IntOp.cmpi .eq (iota .tc S192x128 32 [1] iota_S192x128_d1_w32 (ix2 (n0 := 192) (n1 := 128) m l) &&& 1#32) 1#32 = _
  rw [show iota .tc S192x128 32 [1] iota_S192x128_d1_w32 (ix2 (n0 := 192) (n1 := 128) m l) = BitVec.ofNat 32 l.val from iota_single_apply .tc _ 32 1 _ _]
  have : ∀ l : Fin 128, IntOp.cmpi .eq (BitVec.ofNat 32 l.val &&& 1#32) 1#32 = BitVec.ofBool (decide (l.val % 2 = 1)) := by decide
  exact this l

theorem lane_at (m : Fin 192) (l : Fin 128) (h : Fin 2) :
    addi (shrui (iota .tc S192x128 32 [1] iota_S192x128_d1_w32) (broadcast S192x128 1#32)) (broadcast S192x128 (BitVec.ofNat 32 (64 * h.val)))
      (ix2 (n0 := 192) (n1 := 128) m l) = BitVec.ofNat 32 (64 * h.val + l.val / 2) := by
  show IntOp.shrui .vector (iota .tc S192x128 32 [1] iota_S192x128_d1_w32 (ix2 (n0 := 192) (n1 := 128) m l)) 1#32 + BitVec.ofNat 32 (64 * h.val) = _
  rw [show iota .tc S192x128 32 [1] iota_S192x128_d1_w32 (ix2 (n0 := 192) (n1 := 128) m l) = BitVec.ofNat 32 l.val from iota_single_apply .tc _ 32 1 _ _]
  have : ∀ (l : Fin 128) (h : Fin 2), IntOp.shrui .vector (BitVec.ofNat 32 l.val) 1#32 + BitVec.ofNat 32 (64 * h.val) = BitVec.ofNat 32 (64 * h.val + l.val / 2) := by decide +kernel
  exact this l h

/-- The interleave of the two column halves: lane `l` of half `h`. -/
def weave (acc : FVec F S192x256 .f32) (idx : IVec S192x128 32) : FVec F S192x128 .bf16 :=
  truncf .bf16 (select k0_pay53
    (dynamicGather (s := S192x128) 1 (extractStridedSlice S192x128 ![0, 128] acc slices_S192x256_o0_128_S192x128)
      (shapeCast S192x128 (shapeCast S192x128x1
        (select (cmpi .slt idx (broadcast S192x128 0#32)) (addi idx (broadcast S192x128 128#32)) idx) shapeCasts_S192x128_S192x128x1) shapeCasts_S192x128x1_S192x128))
    (dynamicGather (s := S192x128) 1 (extractStridedSlice S192x128 ![0, 0] acc slices_S192x256_o0_0_S192x128)
      (shapeCast S192x128 (shapeCast S192x128x1
        (select (cmpi .slt idx (broadcast S192x128 0#32)) (addi idx (broadcast S192x128 128#32)) idx) shapeCasts_S192x128_S192x128x1) shapeCasts_S192x128x1_S192x128))) bitsLt_bf16_f32

theorem weave_at (acc : FVec F S192x256 .f32) (idx : IVec S192x128 32) (m : Fin 192) (l : Fin 128) (h : Fin 2)
    (hi : idx (ix2 (n0 := 192) (n1 := 128) m l) = BitVec.ofNat 32 (64 * h.val + l.val / 2)) (y : Fin 256) (hy : y.val = 128 * h.val + l.val) :
    weave acc idx (ix2 (n0 := 192) (n1 := 128) m l) = emitAt acc m y := by
  have hh := h.isLt
  have hl := l.isLt
  refine congrArg (fun v : F .f32 => FloatOps.truncf .bf16 bitsLt_bf16_f32 v) ?_
  show Scalar.select (k0_pay53 (ix2 (n0 := 192) (n1 := 128) m l)) _ _ = _
  rw [odd_at]
  by_cases ho : l.val % 2 = 1
  · rw [decide_eq_true ho]
    refine (if_pos rfl).trans ?_
    exact take_ix2 (R := 192) acc 128 slices_S192x256_o0_128_S192x128 idx _ _ m l _ (by omega) ⟨128 * (y.val % 2) + y.val / 2, by omega⟩
      (by show 128 * (y.val % 2) + y.val / 2 = 128 + (64 * h.val + l.val / 2); omega) hi
  · rw [decide_eq_false ho]
    refine (if_neg (by decide)).trans ?_
    exact take_ix2 (R := 192) acc 0 slices_S192x256_o0_0_S192x128 idx _ _ m l _ (by omega) ⟨128 * (y.val % 2) + y.val / 2, by omega⟩
      (by show 128 * (y.val % 2) + y.val / 2 = 0 + (64 * h.val + l.val / 2); omega) hi

theorem emit0_at (acc : FVec F S192x256 .f32) (m : Fin 192) (l : Fin 128) :
    k0_pay54 acc (ix2 (n0 := 192) (n1 := 128) m l) = emitAt acc m ⟨l.val, by omega⟩ :=
  weave_at acc _ m l 0 (lane_at m l 0) _ (by show l.val = 128 * 0 + l.val; omega)

theorem emit1_at (acc : FVec F S192x256 .f32) (m : Fin 192) (l : Fin 128) :
    k0_pay2 acc (iota .tc S192x128 32 [1] iota_S192x128_d1_w32) k0_pay53 (ix2 (n0 := 192) (n1 := 128) m l) = emitAt acc m ⟨128 + l.val, by omega⟩ :=
  weave_at acc _ m l 1 (lane_at m l 1) _ (by show 128 + l.val = 128 * 1 + l.val; omega)

/-- A block of the result. -/
def outB (S : Vec F S32x2048 .i16) (Z : Vec F S16x2048 .i8) (T : Vec F S8200x128 .i32) (X : Vec F S192x4096 .bf16) : Vec F S192x2048 .bf16 := fun y =>
  have h1 : (y 1).val < 2048 := (y 1).isLt
  emitAt (kacc (Sc S ((y 1).val / 256) (by omega)) (Zc Z ((y 1).val / 256) (by omega)) (srtRow T ((y 1).val / 256)) X 16) (y 0) ⟨(y 1).val % 256, Nat.mod_lt _ (by decide)⟩

/-- The first `n` chunks of a block are done. -/
def Done (G o : Vec F S192x2048 .bf16) (n : ℕ) : Prop := ∀ y : S192x2048.Idx, (y 1).val < 256 * n → o y = G y

/-- The two stores of a chunk extend the part of the block that is done. -/
theorem done_succ (S : Vec F S32x2048 .i16) (Z : Vec F S16x2048 .i8) (T : Vec F S8200x128 .i32) (X : Vec F S192x4096 .bf16)
    (f6 : Buf (Elt F) (arg6.view.loc (c : Thread nD τ))) (k : Fin k0_t5_loop.trips) (hD : Done (outB S Z T X) (arg6.view.read (Elt F) f6) k.val)
    (acc : FVec F S192x256 .f32) (hacc : acc = kacc (Sc S k.val k.isLt) (Zc Z k.val k.isLt) (srtRow T k.val) X 16) (i1) (i0) :
    Done (outB S Z T X) (arg6.view.read (Elt F) (arg6.view.writes (Elt F) f6
      [⟨Rect.unit (s := S192x2048) (k0_off43 k 128#32) S192x128.size i1, k0_pay2 acc (iota .tc S192x128 32 [1] iota_S192x128_d1_w32) k0_pay53⟩,
        ⟨Rect.unit (s := S192x2048) (k0_off43 k 0#32) S192x128.size i0, k0_pay54 acc⟩])) (k.val + 1) := by
  intro y hy
  have hk : k.val < 8 := k.isLt
  have h1 : (y 1).val < 2048 := (y 1).isLt
  have o1 : k0_off43 k 128#32 = ![0, 256 * k.val + 128] := k0_off43_eq k 1
  have o0 : k0_off43 k 0#32 = ![0, 256 * k.val] := k0_off43_eq k 0
  have val : ∀ (z : Fin 256), (y 1).val = 256 * k.val + z.val → emitAt acc (y 0) z = outB S Z T X y := by
    intro z hz
    have e : ∀ (q : ℕ) (hq : q < 8) (w : Fin 256), q = k.val → w.val = z.val →
        emitAt acc (y 0) z = emitAt (kacc (Sc S q hq) (Zc Z q hq) (srtRow T q) X 16) (y 0) w := by
      rintro q hq w rfl hw
      rw [hacc, show w = z from Fin.ext hw]
    exact e _ _ _ (by omega) (by show (y 1).val % 256 = z.val; have := z.isLt; omega)
  have miss : ∀ (off : Fin 2 → ℕ) (inb) (q : ℕ) (pay : FVec F S192x128 .bf16) (L), off = ![0, q] → ((y 1).val < q ∨ q + 128 ≤ (y 1).val) →
      arg6.view.read (Elt F) (arg6.view.writes (Elt F) f6 (⟨Rect.unit (s := S192x2048) off S192x128.size inb, pay⟩ :: L)) y
        = arg6.view.read (Elt F) (arg6.view.writes (Elt F) f6 L) y := by
    rintro off inb q pay L rfl hq
    refine View.read_writes_cons_miss arg6.view f6 _ L y (fun hm => ?_)
    obtain ⟨j, hj, e⟩ := (LoadRect.mem_set _).mp hm 1
    have hj' : j < 128 := hj
    have e' : (y 1).val = q + 1 * j := e
    omega
  have hit : ∀ (off : Fin 2 → ℕ) (inb) (q : ℕ) (pay : FVec F S192x128 .bf16) (L) (z : Fin 128), off = ![0, q] → (y 1).val = q + z.val →
      arg6.view.read (Elt F) (arg6.view.writes (Elt F) f6 (⟨Rect.unit (s := S192x2048) off S192x128.size inb, pay⟩ :: L)) y
        = pay (ix2 (n0 := 192) (n1 := 128) (y 0) z) := by
    rintro off inb q pay L z rfl hz
    refine View.read_writes_cons_hit_of_coords arg6.view f6 (Rect.unit (s := S192x2048) ![0, q] S192x128.size inb) pay L (ix2 (n0 := 192) (n1 := 128) (y 0) z) y (fun a => ?_)
    match a with
    | ⟨0, _⟩ => show (y 0).val = 0 + 1 * (y 0).val; omega
    | ⟨1, _⟩ => show (y 1).val = q + 1 * z.val; omega
  by_cases hlt : (y 1).val < 256 * k.val
  · refine (miss _ i1 (256 * k.val + 128) _ _ o1 (.inl (by omega))).trans ?_
    exact (miss _ i0 (256 * k.val) _ _ o0 (.inl hlt)).trans (hD y hlt)
  by_cases hh : (y 1).val < 256 * k.val + 128
  · refine (miss _ i1 (256 * k.val + 128) _ _ o1 (.inl hh)).trans ?_
    refine (hit _ i0 (256 * k.val) _ _ ⟨(y 1).val - 256 * k.val, by omega⟩ o0 (by show (y 1).val = 256 * k.val + ((y 1).val - 256 * k.val); omega)).trans ?_
    exact (emit0_at acc (y 0) _).trans (val _ (by show (y 1).val = 256 * k.val + ((y 1).val - 256 * k.val); omega))
  · refine (hit _ i1 (256 * k.val + 128) _ _ ⟨(y 1).val - (256 * k.val + 128), by omega⟩ o1 (by show (y 1).val = 256 * k.val + 128 + ((y 1).val - (256 * k.val + 128)); omega)).trans ?_
    exact (emit1_at acc (y 0) _).trans (val _ (by show (y 1).val = 256 * k.val + (128 + ((y 1).val - (256 * k.val + 128))); omega))

set_option maxHeartbeats 400000 in
theorem col_step (f4 : Buf (Elt F) (arg4.view.loc (c : Thread nD τ))) (f5 : Buf (Elt F) (arg5.view.loc (c : Thread nD τ))) (f6 : Buf (Elt F) (arg6.view.loc (c : Thread nD τ)))
    (f8 : Buf (Elt F) (arg8.view.loc (c : Thread nD τ))) (f11 : Buf (Elt F) (arg11.view.loc (c : Thread nD τ))) (f12 : Buf (Elt F) (arg12.view.loc (c : Thread nD τ))) (k : Fin k0_t5_loop.trips)
    (hD : Done (outB (arg4.view.read (Elt F) f4) (arg5.view.read (Elt F) f5) (arg8.view.read (Elt F) f8) (arg11.view.read (Elt F) f11)) (arg6.view.read (Elt F) f6) k.val) :
   iprop(pts c arg4 f4 ∗ pts c arg5 f5 ∗ pts c arg6 f6 ∗ pts c arg8 f8 ∗ pts c arg11 f11 ∗ pts c arg12 f12) ⊢
    wp frame (wpE (defs₀ (F := F)) 𝒱 (c : Thread nD τ) bd) Set.univ
      (k0_t5_body (F := F) i arg1 harg1 arg2 harg2 arg3 harg3 arg4 harg4 arg5 harg5 arg6 harg6 arg7 harg7 arg8 harg8 arg9 harg9 arg10 harg10 arg11 harg11 arg12 harg12 arg13 k ())
      (fun _ => iprop(pts c arg4 f4 ∗ pts c arg5 f5 ∗ (∃ f6' : Buf (Elt F) (arg6.view.loc (c : Thread nD τ)),
        ⌜Done (outB (arg4.view.read (Elt F) f4) (arg5.view.read (Elt F) f5) (arg8.view.read (Elt F) f8) (arg11.view.read (Elt F) f11)) (arg6.view.read (Elt F) f6') (k.val + 1)⌝ ∗ pts c arg6 f6')
        ∗ pts c arg8 f8 ∗ pts c arg11 f11 ∗ ∃ f12' : Buf (Elt F) (arg12.view.loc (c : Thread nD τ)), pts c arg12 f12')) := by
  have hk : k.val < 8 := k.isLt
  have hS : arg4.view.readAt (Elt F) (Rect.unit (s := S32x2048) (k0_off37 k) S32x256.size (k0_off37_inb k)).toLoadRect f4 = Sc (arg4.view.read (Elt F) f4) k.val hk := by
    funext y
    refine readAt_at arg4.view f4 (k0_off37_inb k) (k0_off37_eq k) y _ (fun a => ?_)
    match a with
    | ⟨0, _⟩ => exact (Nat.zero_add _).symm
    | ⟨1, _⟩ => rfl
  have hZ : arg5.view.readAt (Elt F) (Rect.unit (s := S16x2048) (k0_off38 k) S16x256.size (k0_off38_inb k)).toLoadRect f5 = Zc (arg5.view.read (Elt F) f5) k.val hk := by
    funext y
    refine readAt_at arg5.view f5 (k0_off38_inb k) (k0_off38_eq k) y _ (fun a => ?_)
    match a with
    | ⟨0, _⟩ => exact (Nat.zero_add _).symm
    | ⟨1, _⟩ => rfl
  unfold k0_t5_body pts
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  iintro ⟨H4, H5, H6, H8, H11, H12⟩
  sl_exec
  iapply (Scf.wp_for_bind frame (wpE (defs₀ (F := F)) 𝒱 (c : Thread nD τ) bd) Set.univ k0_t6_loop.lb k0_t6_loop.ub k0_t6_loop.st k0_t6_ok _ _
    (fun n acc => iprop(⌜acc = kacc (Sc (arg4.view.read (Elt F) f4) k.val hk)
        (Zc (arg5.view.read (Elt F) f5) k.val hk)
        (srtRow (arg8.view.read (Elt F) f8) k.val) (arg11.view.read (Elt F) f11) n⌝ ∗ pts c arg8 f8 ∗ pts c arg11 f11 ∗
      ∃ g : Buf (Elt F) (arg12.view.loc (c : Thread nD τ)), ⌜∀ y, arg12.view.read (Elt F) g y = tabG (Sc (arg4.view.read (Elt F) f4) k.val hk)
        (Zc (arg5.view.read (Elt F) f5) k.val hk) y⌝ ∗ pts c arg12 g)) ?_) $$ [H8 H11 H12]
  · intro p acc
    iintro ⟨%hacc, H8, H11, %g, %hT, H12⟩
    iapply (wp_wand_r frame (wpE (defs₀ (F := F)) 𝒱 (c : Thread nD τ) bd) Set.univ)
    isplitl [H8 H11 H12]
    · iapply (pass_step 𝒱 c bd i arg1 harg1 arg2 harg2 arg3 harg3 arg4 harg4 arg5 harg5 arg6 harg6 arg7 harg7 arg8 harg8 arg9 harg9 arg10 harg10 arg11 harg11 arg12 harg12 arg13 k _ _ _ _ f8 f11 g hT p acc hacc)
      isplitl [H8]; · iexact H8
      isplitl [H11]; · iexact H11
      iexact H12
    iintro %r ⟨%hr, H8, H11, H12⟩
    isplitr; · ipureintro; exact hr
    isplitl [H8]; · iexact H8
    isplitl [H11]; · iexact H11
    iexists g; isplitr; · ipureintro; exact hT
    iexact H12
  · isplitr; · ipureintro; rfl
    isplitl [H8]; · iexact H8
    isplitl [H11]; · iexact H11
    iexists _; isplitr; swap; · iexact H12
    ipureintro
    intro y
    refine tab_read_of arg12.view f12 (Sc (arg4.view.read (Elt F) f4) k.val hk)
      (Zc (arg5.view.read (Elt F) f5) k.val hk)
      _ _ _ _ _ _ _ _ _ _ _ _ _ _ _ _ _ _ _ _ ?_ ?_ ?_ ?_ ?_ ?_ ?_ ?_ ?_ ?_ ?_ ?_ ?_ ?_ ?_ ?_ ?_ ?_ ?_ ?_ y
    all_goals rfl
  iintro %acc ⟨%hacc, H8, H11, %g, %hT, H12⟩
  rw [show Scf.trips k0_t6_loop.lb k0_t6_loop.ub k0_t6_loop.st = 16 from trips_t6] at hacc
  unfold pts
  sl_exec
  sl_step
  isplitl [H4]; · iexact H4
  isplitl [H5]; · iexact H5
  isplitl [H6]
  · iexists _; isplitr; swap; · iexact H6
    ipureintro
    exact done_succ c arg6 (arg4.view.read (Elt F) f4) (arg5.view.read (Elt F) f5) (arg8.view.read (Elt F) f8) (arg11.view.read (Elt F) f11) f6 k hD acc hacc
      (k0_off43_inb k 1) (k0_off43_inb k 0)
  isplitl [H8]; · iexact H8
  isplitl [H11]; · iexact H11
  iexists g
  iexact H12

theorem col_loop (f4 : Buf (Elt F) (arg4.view.loc (c : Thread nD τ))) (f5 : Buf (Elt F) (arg5.view.loc (c : Thread nD τ))) (f6 : Buf (Elt F) (arg6.view.loc (c : Thread nD τ)))
    (f8 : Buf (Elt F) (arg8.view.loc (c : Thread nD τ))) (f11 : Buf (Elt F) (arg11.view.loc (c : Thread nD τ))) (f12 : Buf (Elt F) (arg12.view.loc (c : Thread nD τ))) :
   iprop(pts c arg4 f4 ∗ pts c arg5 f5 ∗ pts c arg6 f6 ∗ pts c arg8 f8 ∗ pts c arg11 f11 ∗ pts c arg12 f12) ⊢
    wp frame (wpE (defs₀ (F := F)) 𝒱 (c : Thread nD τ) bd) Set.univ
      (Scf.Loop.for k0_t5_loop k0_t5_ok () (k0_t5_body (F := F) i arg1 harg1 arg2 harg2 arg3 harg3 arg4 harg4 arg5 harg5 arg6 harg6 arg7 harg7 arg8 harg8 arg9 harg9 arg10 harg10 arg11 harg11 arg12 harg12 arg13))
      (fun _ => iprop(pts c arg4 f4 ∗ pts c arg5 f5 ∗ (∃ f6' : Buf (Elt F) (arg6.view.loc (c : Thread nD τ)),
        ⌜Done (outB (arg4.view.read (Elt F) f4) (arg5.view.read (Elt F) f5) (arg8.view.read (Elt F) f8) (arg11.view.read (Elt F) f11)) (arg6.view.read (Elt F) f6') 8⌝ ∗ pts c arg6 f6')
        ∗ pts c arg8 f8 ∗ pts c arg11 f11 ∗ ∃ f12' : Buf (Elt F) (arg12.view.loc (c : Thread nD τ)), pts c arg12 f12')) := by
  iintro ⟨H4, H5, H6, H8, H11, H12⟩
  iapply (Scf.wp_for frame (wpE (defs₀ (F := F)) 𝒱 (c : Thread nD τ) bd) Set.univ k0_t5_loop.lb k0_t5_loop.ub k0_t5_loop.st k0_t5_ok () _
    (fun k _ => iprop(pts c arg4 f4 ∗ pts c arg5 f5 ∗ (∃ f6' : Buf (Elt F) (arg6.view.loc (c : Thread nD τ)),
        ⌜Done (outB (arg4.view.read (Elt F) f4) (arg5.view.read (Elt F) f5) (arg8.view.read (Elt F) f8) (arg11.view.read (Elt F) f11)) (arg6.view.read (Elt F) f6') k⌝ ∗ pts c arg6 f6')
        ∗ pts c arg8 f8 ∗ pts c arg11 f11 ∗ ∃ f12' : Buf (Elt F) (arg12.view.loc (c : Thread nD τ)), pts c arg12 f12')) ?_)
  · intro k _
    iintro ⟨H4, H5, ⟨%g6, %hD, H6⟩, H8, H11, %g12, H12⟩
    iapply (col_step 𝒱 c bd i arg1 harg1 arg2 harg2 arg3 harg3 arg4 harg4 arg5 harg5 arg6 harg6 arg7 harg7 arg8 harg8 arg9 harg9 arg10 harg10 arg11 harg11 arg12 harg12 arg13 f4 f5 g6 f8 f11 g12 k hD)
    isplitl [H4]; · iexact H4
    isplitl [H5]; · iexact H5
    isplitl [H6]; · iexact H6
    isplitl [H8]; · iexact H8
    isplitl [H11]; · iexact H11
    iexact H12
  isplitl [H4 H5 H6 H8 H11 H12]
  · isplitl [H4]; · iexact H4
    isplitl [H5]; · iexact H5
    isplitl [H6]
    · iexists f6; isplitr; swap; · iexact H6
      ipureintro; intro y hy; exact absurd hy (by omega)
    isplitl [H8]; · iexact H8
    isplitl [H11]; · iexact H11
    iexists f12
    iexact H12
  iintro %u H
  rw [show Scf.trips k0_t5_loop.lb k0_t5_loop.ub k0_t5_loop.st = 8 from trips_t5]
  iexact H

end

end Cert.Kernel.Hand
-- ==== Proof.Kern.Dma.lean ====
/-
  The slab copies: the windows they move, what a copy delivers, and the copies of one slab on its slot's semaphore.
-/
module

public import proofs.«01_k».proof.Proof.Kern.Quad
public import proofs.«01_k».proof.Proof.Kern.Column
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

/-! ## The windows of a slab's copies -/

theorem dst_inb (s : ℕ) (hs : s < 2) (t : Fin 8) : ∀ a, (![s, 0, t.val, 0] : Fin 4 → ℕ) a + S1x1024x1x128.size a ≤ S2x1024x8x128.size a := fun a => by
  match a with
  | ⟨0, _⟩ => show s + 1 ≤ 2; omega
  | ⟨1, _⟩ => exact Nat.le_refl _
  | ⟨2, _⟩ => show t.val + 1 ≤ 8; omega
  | ⟨3, _⟩ => exact Nat.le_refl _

theorem src_inb (j : Fin 14) (t : Fin 8) : ∀ a, (![0, 1024 * j.val + 128 * t.val] : Fin 2 → ℕ) a + S1024x128.size a ≤ S1024x14336.size a := fun a => by
  match a with
  | ⟨0, _⟩ => exact Nat.le_refl _
  | ⟨1, _⟩ => show 1024 * j.val + 128 * t.val + 128 ≤ 14336; omega

theorem cell_inb (s : ℕ) (hs : s < 2) : ∀ a, (![s] : Fin 1 → ℕ) a + S1.size a ≤ S2.size a := fun a => by
  match a with
  | ⟨0, _⟩ => show s + 1 ≤ 2; omega

/-- Chunk `t` of slot `s` of the slab scratch. -/
abbrev dstW (s : ℕ) (hs : s < 2) (t : Fin 8) : Memref sig .tc .vmem S1024x128 .i32 :=
  (arg7.slice (Rect.unit (s := S2x1024x8x128) ![s, 0, t.val, 0] S1x1024x1x128.size (dst_inb s hs t)) (fun _ => rfl)).squeeze S1024x128 squeezes_S1x1024x1x128_S1024x128

/-- Chunk `t` of slab `j` of the packed weights. -/
abbrev srcW (j : Fin 14) (t : Fin 8) : Memref sig .tc .hbm S1024x128 .i32 :=
  arg3.slice (Rect.unit (s := S1024x14336) ![0, 1024 * j.val + 128 * t.val] S1024x128.size (src_inb j t)) (fun _ => rfl)

/-- The semaphore of slot `s`. -/
abbrev cellW (s : ℕ) (hs : s < 2) : DmaSem sig :=
  ((arg13.slice (Rect.unit (s := S2) ![s] S1.size (cell_inb s hs))).squeeze S_ squeezes_S1_S_).sem

/-- The slab scratch with slab `j` in both slots. -/
def slabV (q : Vec F S1024x14336 .i32) (j : Fin 14) : Vec F S2x1024x8x128 .i32 := fun y =>
  have h2 : (y 2).val < 8 := (y 2).isLt
  have h3 : (y 3).val < 128 := (y 3).isLt
  q (ix2 (n0 := 1024) (n1 := 14336) (y 1) ⟨1024 * j.val + 128 * (y 2).val + (y 3).val, by omega⟩)

theorem slabWord_slabV (q : Vec F S1024x14336 .i32) (j : Fin 14) (s : Fin 2) (r : Fin 1024) (t : Fin 8) (l : Fin 128) :
    slabWord (slabV (F := F) q j) s r t l = q (ix2 (n0 := 1024) (n1 := 14336) r ⟨1024 * j.val + 128 * t.val + l.val, by omega⟩) := rfl

theorem sq_emb (x : S1024x128.Idx) : Shape.reshapeEquiv squeezes_S1x1024x1x128_S1024x128.numel_eq x
    = (ix4 (n0 := 1) (n1 := 1024) (n2 := 1) (n3 := 128) 0 (x 0) 0 (x 1) : S1x1024x1x128.Idx) := by
  obtain ⟨a, b, rfl⟩ : ∃ a b, x = ix2 (n0 := 1024) (n1 := 128) a b := ⟨x 0, x 1, eq_ix2 x⟩
  refine Shape.reshapeEquiv_eq_of_rowMajor _ ?_
  rw [Shape.rowMajor_val_four, Shape.rowMajor_val_two]
  show (((0 * 1024 + a.val) * 1 + 0) * 128 + b.val) = a.val * 128 + b.val
  omega

/-- What a copy's delivery is: its chunk of the slot landed, and its chunk of the packed weights back. -/
def deliv (s : ℕ) (hs : s < 2) (j : Fin 14) (q : PosShare TreeShare) (fq : Buf (Elt F) (arg3.view.loc (c : Thread nD τ))) (t : Fin 8) : sProp 𝕄 :=
  iprop(((dstW arg7 s hs t).view.loc (c : Thread nD τ) ↦[(dstW arg7 s hs t).view.set]{fullShare} arg7.view.rep (slabV (F := F) (arg3.view.read (Elt F) fq) j))
    ∗ ((srcW arg3 j t).view.loc (c : Thread nD τ) ↦[(srcW arg3 j t).view.set]{q} fq))

instance (s : ℕ) (hs : s < 2) (j : Fin 14) (q : PosShare TreeShare) (fq : Buf (Elt F) (arg3.view.loc (c : Thread nD τ))) (t : Fin 8) :
    Storable (upEmb : UEmb _ 𝕄) (deliv c arg3 arg7 s hs j q fq t) := by
  unfold deliv; infer_instance

theorem landed (s : ℕ) (hs : s < 2) (j : Fin 14) (t : Fin 8) (q : PosShare TreeShare) (fq : Buf (Elt F) (arg3.view.loc (c : Thread nD τ)))
    (fd : Buf (Elt F) ((dstW arg7 s hs t).view.loc (c : Thread nD τ))) :
    iprop(((dstW arg7 s hs t).view.loc (c : Thread nD τ) ↦[(dstW arg7 s hs t).view.set]{fullShare}
        ((dstW arg7 s hs t).view.write (Elt F) fd (ReadAs.same.apply ((srcW arg3 j t).view.read (Elt F) fq)) Finset.univ))
      ∗ ((srcW arg3 j t).view.loc (c : Thread nD τ) ↦[(srcW arg3 j t).view.set]{q} fq)) ⊢ (deliv c arg3 arg7 s hs j q fq t : sProp 𝕄) := by
  unfold deliv
  refine sep_mono (Entails.of_eq (pointsTo_congr fun i hi => ?_)) .rfl
  obtain ⟨x, -, rfl⟩ := Finset.mem_map.mp hi
  rw [View.write_emb_of_mem _ _ (Finset.mem_univ x)]
  refine Eq.trans ?_ (View.rep_emb arg7.view _ _).symm
  refine congrArg (fun v => cast (congrArg (Elt F) arg7.view.elt_eq.symm) v) ?_
  obtain ⟨a, b, rfl⟩ : ∃ a b, x = ix2 (n0 := 1024) (n1 := 128) a b := ⟨x 0, x 1, eq_ix2 x⟩
  show arg3.view.read (Elt F) fq ((Rect.unit (s := S1024x14336) ![0, 1024 * j.val + 128 * t.val] S1024x128.size (src_inb j t)).emb (ix2 (n0 := 1024) (n1 := 128) a b))
    = slabV (arg3.view.read (Elt F) fq) j ((Rect.unit (s := S2x1024x8x128) ![s, 0, t.val, 0] S1x1024x1x128.size (dst_inb s hs t)).emb
        (Shape.reshapeEquiv squeezes_S1x1024x1x128_S1024x128.numel_eq (ix2 (n0 := 1024) (n1 := 128) a b)))
  rw [sq_emb]
  refine congrArg (arg3.view.read (Elt F) fq) ?_
  funext ax
  match ax with
  | ⟨0, _⟩ => rfl
  | ⟨1, _⟩ => exact Fin.ext (by show 1024 * j.val + 128 * t.val + 1 * b.val = 1024 * j.val + 128 * (t.val + 1 * 0) + (0 + 1 * b.val); omega)

/-- A copy of a slab, issued: the next of its slot's batch. -/
theorem issue_step (s : ℕ) (hs : s < 2) (j : Fin 14) (t : Fin 8) (q : PosShare TreeShare) (fq : Buf (Elt F) (arg3.view.loc (c : Thread nD τ)))
    (fd : Buf (Elt F) ((dstW arg7 s hs t).view.loc (c : Thread nD τ)))
    (od : Fin 4 → ℕ) (hd) (ed : od = ![s, 0, t.val, 0]) (oq : Fin 2 → ℕ) (hq) (eq : oq = ![0, 1024 * j.val + 128 * t.val])
    (oc : Fin 1 → ℕ) (hc) (ec : oc = ![s]) (h1) (h2) (h3) (K : PUnit → sProp 𝕄) :
    iprop(((srcW arg3 j t).view.loc (c : Thread nD τ) ↦[(srcW arg3 j t).view.set]{q} fq)
      ∗ ((dstW arg7 s hs t).view.loc (c : Thread nD τ) ↦[(dstW arg7 s hs t).view.set]{fullShare} fd)
      ∗ Transfers.Batch (Lvl := ℕ) (countersEmb (U := Pipeline.UD sig nD τ)) (c : Thread nD τ) (.dma (cellW arg13 s hs)) () (dstW arg7 s hs t).view.dmaCredit (deliv c arg3 arg7 s hs j q fq) t.val 0
      ∗ (Transfers.Batch (Lvl := ℕ) (countersEmb (U := Pipeline.UD sig nD τ)) (c : Thread nD τ) (.dma (cellW arg13 s hs)) () (dstW arg7 s hs t).view.dmaCredit (deliv c arg3 arg7 s hs j q fq) (t.val + 1) 0 -∗ K ⟨⟩))
    ⊢ wp frame (wpE (defs₀ (F := F)) 𝒱 (c : Thread nD τ) bd) Set.univ
      (Prog.lift (.enqueueDma (arg3.slice (Rect.unit (s := S1024x14336) oq S1024x128.size hq) (fun _ => rfl))
        (.here ((arg7.slice (Rect.unit (s := S2x1024x8x128) od S1x1024x1x128.size hd) (fun _ => rfl)).squeeze S1024x128 squeezes_S1x1024x1x128_S1024x128))
        (.dma ((arg13.slice (Rect.unit (s := S2) oc S1.size hc)).squeeze S_ squeezes_S1_S_).sem) h1 h2 h3)) K := by
  subst ed eq ec
  iintro ⟨Hs, Hd, HB, HK⟩
  iapply (Transfers.wp_dmaBatch (countersEmb (U := Pipeline.UD sig nD τ)) 𝒱 (c : Thread nD τ) bd () (dstW arg7 s hs t).view.dmaCredit rfl (Finset.Subset.refl _) t.isLt (Nat.zero_le _)
    (landed c arg3 arg7 s hs j t q fq fd)) $$ [Hs Hd HB]
  · isplitl [Hs]; · iexact Hs
    isplitl [Hd]; · iexact Hd
    iexact HB
  iintro HB
  rw [wp_ret]
  imodintro
  iapply HK
  iexact HB

/-- A wait for a copy of a slab that is not the last. -/
theorem wait_step (s : ℕ) (hs : s < 2) (j : Fin 14) (t : Fin 8) (ht : t.val < 7) (q : PosShare TreeShare) (fq : Buf (Elt F) (arg3.view.loc (c : Thread nD τ)))
    (W : Waits sig Unit)
    (od : Fin 4 → ℕ) (hd) (ed : od = ![s, 0, t.val, 0]) (oq : Fin 2 → ℕ) (hq)
    (oc : Fin 1 → ℕ) (hc) (ec : oc = ![s]) (h1) (h2) (K : PUnit → sProp 𝕄) :
    iprop(Transfers.Batch (Lvl := ℕ) (countersEmb (U := Pipeline.UD sig nD τ)) (c : Thread nD τ) (.dma (cellW arg13 s hs)) () (dstW arg7 s hs 0).view.dmaCredit (deliv c arg3 arg7 s hs j q fq) 8 (t.val * (dstW arg7 s hs 0).view.dmaCredit)
      ∗ owes (c : Thread nD τ) 0 W
      ∗ (∀ W' : Waits sig Unit, Transfers.Batch (Lvl := ℕ) (countersEmb (U := Pipeline.UD sig nD τ)) (c : Thread nD τ) (.dma (cellW arg13 s hs)) () (dstW arg7 s hs 0).view.dmaCredit (deliv c arg3 arg7 s hs j q fq) 8 ((t.val + 1) * (dstW arg7 s hs 0).view.dmaCredit)
          -∗ owes (c : Thread nD τ) 0 W' -∗ K ⟨⟩))
    ⊢ wp frame (wpE (defs₀ (F := F)) 𝒱 (c : Thread nD τ) bd) Set.univ
      (Prog.lift (.waitDma2 ((arg13.slice (Rect.unit (s := S2) oc S1.size hc)).squeeze S_ squeezes_S1_S_).sem
        (arg3.slice (Rect.unit (s := S1024x14336) oq S1024x128.size hq) (fun _ => rfl))
        ((arg7.slice (Rect.unit (s := S2x1024x8x128) od S1x1024x1x128.size hd) (fun _ => rfl)).squeeze S1024x128 squeezes_S1x1024x1x128_S1024x128) h1 h2)) K := by
  subst ed ec
  iintro ⟨HB, HO, HK⟩
  have hN0 : 0 < (dstW arg7 s hs 0).view.dmaCredit := View.dmaCredit_pos _ (by decide)
  have hu : t.val * (dstW arg7 s hs 0).view.dmaCredit + (dstW arg7 s hs 0).view.dmaCredit < (dstW arg7 s hs 0).view.dmaCredit * 8 := by
    generalize (dstW arg7 s hs 0).view.dmaCredit = N at hN0
    rw [Nat.mul_comm N 8, ← Nat.succ_mul]; exact Nat.mul_lt_mul_of_pos_right (by omega) hN0
  iapply (Transfers.wp_waitBatch (countersEmb (U := Pipeline.UD sig nD τ)) 𝒱 (c : Thread nD τ) bd () (N := (dstW arg7 s hs 0).view.dmaCredit) rfl (n := 8)
    (D := deliv c arg3 arg7 s hs j q fq) (hsrc := h1) (hdst := h2) hu) $$ [HB HO]
  · isplitl [HB]; · iexact HB
    iexact HO
  iintro ⟨HB, HO⟩
  rw [wp_ret]
  imodintro
  rw [← Nat.succ_mul]
  iapply HK $$ HB HO

/-- The last wait for a slab's copies: every chunk has landed. -/
theorem wait_last (s : ℕ) (hs : s < 2) (j : Fin 14) (q : PosShare TreeShare) (fq : Buf (Elt F) (arg3.view.loc (c : Thread nD τ)))
    (W : Waits sig Unit)
    (od : Fin 4 → ℕ) (hd) (ed : od = ![s, 0, 7, 0]) (oq : Fin 2 → ℕ) (hq)
    (oc : Fin 1 → ℕ) (hc) (ec : oc = ![s]) (h1) (h2) (K : PUnit → sProp 𝕄) :
    iprop(Transfers.Batch (Lvl := ℕ) (countersEmb (U := Pipeline.UD sig nD τ)) (c : Thread nD τ) (.dma (cellW arg13 s hs)) () (dstW arg7 s hs 0).view.dmaCredit (deliv c arg3 arg7 s hs j q fq) 8 (7 * (dstW arg7 s hs 0).view.dmaCredit)
      ∗ owes (c : Thread nD τ) 0 W
      ∗ (∀ W' : Waits sig Unit, bigSep Finset.univ (deliv c arg3 arg7 s hs j q fq) -∗ semVal ((c : Thread nD τ), SemLoc.dma (cellW arg13 s hs)) 0
          -∗ owes (c : Thread nD τ) 0 W' -∗ K ⟨⟩))
    ⊢ wp frame (wpE (defs₀ (F := F)) 𝒱 (c : Thread nD τ) bd) Set.univ
      (Prog.lift (.waitDma2 ((arg13.slice (Rect.unit (s := S2) oc S1.size hc)).squeeze S_ squeezes_S1_S_).sem
        (arg3.slice (Rect.unit (s := S1024x14336) oq S1024x128.size hq) (fun _ => rfl))
        ((arg7.slice (Rect.unit (s := S2x1024x8x128) od S1x1024x1x128.size hd) (fun _ => rfl)).squeeze S1024x128 squeezes_S1x1024x1x128_S1024x128) h1 h2)) K := by
  subst ed ec
  iintro ⟨HB, HO, HK⟩
  have hN0 : 0 < (dstW arg7 s hs 0).view.dmaCredit := View.dmaCredit_pos _ (by decide)
  have hu : 7 * (dstW arg7 s hs 0).view.dmaCredit + (dstW arg7 s hs 0).view.dmaCredit = (dstW arg7 s hs 0).view.dmaCredit * 8 := by omega
  iapply (Transfers.wp_waitBatchLast (countersEmb (U := Pipeline.UD sig nD τ)) 𝒱 (c : Thread nD τ) bd () (N := (dstW arg7 s hs 0).view.dmaCredit) rfl hN0 (n := 8)
    (D := deliv c arg3 arg7 s hs j q fq) (hsrc := h1) (hdst := h2) hu) $$ [HB HO]
  · isplitl [HB]; · iexact HB
    iexact HO
  iintro ⟨HD, HV, HO⟩
  rw [wp_ret]
  imodintro
  iapply HK $$ HD HV HO

/-! ## A slot and a slab, cut into their chunks -/

theorem family_split {I : Type} (s : Finset I) (A B : I → sProp 𝕄) : bigSep s (fun i => iprop(A i ∗ B i)) ⊢ (iprop(bigSep s A ∗ bigSep s B) : sProp 𝕄) :=
  Entails.of_eq (bigSep_sep s A B)

theorem family_join {I : Type} (s : Finset I) (A B : I → sProp 𝕄) : iprop(bigSep s A ∗ bigSep s B) ⊢ (bigSep s (fun i => iprop(A i ∗ B i)) : sProp 𝕄) :=
  Entails.of_eq (bigSep_sep s A B).symm

theorem dst_set (s : ℕ) (hs : s < 2) (t : Fin 8) :
    (dstW arg7 s hs t).view.set = arg7.view.setOn (Rect.unit (s := S2x1024x8x128) ![s, 0, t.val, 0] S1x1024x1x128.size (dst_inb s hs t)).set :=
  (Memref.set_view_squeeze _ _).trans (View.set_slice arg7.view _)

theorem src_set (j : Fin 14) (t : Fin 8) :
    (srcW arg3 j t).view.set = arg3.view.setOn (Rect.unit (s := S1024x14336) ![0, 1024 * j.val + 128 * t.val] S1024x128.size (src_inb j t)).set :=
  View.set_slice arg3.view _

theorem dst_disj (s : ℕ) (hs : s < 2) (t t' : Fin 8) (h : t ≠ t') : Disjoint (dstW arg7 s hs t).view.set (dstW arg7 s hs t').view.set := by
  rw [dst_set, dst_set]
  refine View.disjoint_setOn _ (Finset.disjoint_left.mpr fun y h1 h2 => h ?_)
  obtain ⟨a, ha, ea⟩ := (LoadRect.mem_set _).mp h1 2
  obtain ⟨b, hb, eb⟩ := (LoadRect.mem_set _).mp h2 2
  have ha' : a < 1 := ha
  have hb' : b < 1 := hb
  have ea' : (y 2).val = t.val + 1 * a := ea
  have eb' : (y 2).val = t'.val + 1 * b := eb
  exact Fin.ext (by omega)

theorem src_disj (j : Fin 14) (t t' : Fin 8) (h : t ≠ t') : Disjoint (srcW arg3 j t).view.set (srcW arg3 j t').view.set := by
  rw [src_set, src_set]
  refine View.disjoint_setOn _ (Finset.disjoint_left.mpr fun y h1 h2 => h ?_)
  obtain ⟨a, ha, ea⟩ := (LoadRect.mem_set _).mp h1 1
  obtain ⟨b, hb, eb⟩ := (LoadRect.mem_set _).mp h2 1
  have ha' : a < 128 := ha
  have hb' : b < 128 := hb
  have ea' : (y 1).val = 1024 * j.val + 128 * t.val + 1 * a := ea
  have eb' : (y 1).val = 1024 * j.val + 128 * t'.val + 1 * b := eb
  exact Fin.ext (by omega)

theorem slot_cut (s : ℕ) (hs : s < 2) :
    (arg7.view.setOn (slotRect s hs).set : Finset (Idx (arg7.view.loc (c : Thread nD τ)))) = Finset.univ.biUnion (fun t : Fin 8 => (dstW arg7 s hs t).view.set) := by
  ext i
  rw [Finset.mem_biUnion]
  constructor
  · intro hi
    obtain ⟨y, hy, rfl⟩ := Finset.mem_map.mp hi
    refine ⟨⟨(y 2).val, (y 2).isLt⟩, Finset.mem_univ _, ?_⟩
    rw [dst_set arg7 s hs ⟨(y 2).val, (y 2).isLt⟩]
    refine Finset.mem_map_of_mem _ ((LoadRect.mem_set _).mpr fun a => ?_)
    obtain ⟨x, hx, ex⟩ := (LoadRect.mem_set _).mp hy 0
    have hx' : x < 1 := hx
    have ex' : (y 0).val = s + 1 * x := ex
    match a with
    | ⟨0, _⟩ => exact ⟨0, Nat.one_pos, by show (y 0).val = s + 1 * 0; omega⟩
    | ⟨1, _⟩ => exact ⟨(y 1).val, (y 1).isLt, by show (y 1).val = 0 + 1 * (y 1).val; omega⟩
    | ⟨2, _⟩ => exact ⟨0, Nat.one_pos, by show (y 2).val = (y 2).val + 1 * 0; omega⟩
    | ⟨3, _⟩ => exact ⟨(y 3).val, (y 3).isLt, by show (y 3).val = 0 + 1 * (y 3).val; omega⟩
  · rintro ⟨t, -, hi⟩
    rw [dst_set] at hi
    obtain ⟨y, hy, rfl⟩ := Finset.mem_map.mp hi
    refine Finset.mem_map_of_mem _ ((LoadRect.mem_set _).mpr fun a => ?_)
    obtain ⟨x, hx, ex⟩ := (LoadRect.mem_set _).mp hy 0
    match a with
    | ⟨0, _⟩ => exact ⟨x, hx, ex⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩
    | ⟨3, _⟩ => exact ⟨(y 3).val, (y 3).isLt, by show (y 3).val = 0 + 1 * (y 3).val; omega⟩

/-- The chunks of slab `j` of the packed weights, together. -/
def slabSet (j : Fin 14) : Finset (Idx (arg3.view.loc (c : Thread nD τ))) := Finset.univ.biUnion (fun t : Fin 8 => (srcW arg3 j t).view.set)

theorem slabSet_sub (j : Fin 14) : slabSet c arg3 j ⊆ arg3.view.set := by
  intro i hi
  obtain ⟨t, -, h⟩ := Finset.mem_biUnion.mp hi
  exact View.set_slice_subset arg3.view _ h

/-- One share of the packed weights, slab `j` taken out of it. -/
abbrev restQ (j : Fin 14) (q : PosShare TreeShare) (fq : Buf (Elt F) (arg3.view.loc (c : Thread nD τ))) : sProp 𝕄 :=
  (arg3.view.loc (c : Thread nD τ)) ↦[arg3.view.set \ slabSet c arg3 j]{q} fq

theorem slabQ (j : Fin 14) (q : PosShare TreeShare) (fq : Buf (Elt F) (arg3.view.loc (c : Thread nD τ))) :
    (arg3.view.loc (c : Thread nD τ) ↦[slabSet c arg3 j]{q} fq : sProp 𝕄)
      = bigSep Finset.univ (fun t : Fin 8 => ((srcW arg3 j t).view.loc (c : Thread nD τ) ↦[(srcW arg3 j t).view.set]{q} fq)) :=
  pointsTo_biUnion Finset.univ _ (fun t _ t' _ h => src_disj arg3 j t t' h)

/-- A free slot and a share of the packed weights give every copy of slab `j` its two windows. -/
theorem windows (s : ℕ) (hs : s < 2) (j : Fin 14) (q : PosShare TreeShare) (fq : Buf (Elt F) (arg3.view.loc (c : Thread nD τ)))
    (f7 : Buf (Elt F) (arg7.view.loc (c : Thread nD τ))) :
    iprop(ptsS c arg7 s hs f7 ∗ (arg3.view.loc (c : Thread nD τ) ↦[arg3.view.set]{q} fq)) ⊢
      (iprop(bigSep Finset.univ (fun t : Fin 8 => iprop(((srcW arg3 j t).view.loc (c : Thread nD τ) ↦[(srcW arg3 j t).view.set]{q} fq)
          ∗ ((dstW arg7 s hs t).view.loc (c : Thread nD τ) ↦[(dstW arg7 s hs t).view.set]{fullShare} f7))) ∗ restQ c arg3 j q fq) : sProp 𝕄) := by
  unfold ptsS restQ
  rw [slot_cut, pointsTo_biUnion Finset.univ _ (fun t _ t' _ h => dst_disj arg7 s hs t t' h)]
  iintro ⟨HD, HQ⟩
  ihave HQ := (pointsTo_split_subset (slabSet_sub c arg3 j)).1 $$ HQ
  icases HQ with ⟨HQ, HR⟩
  isplitl [HD HQ]; swap; · iexact HR
  ihave HQ := (Entails.of_eq (slabQ c arg3 j q fq)) $$ HQ
  ihave H := (show iprop((bigSep Finset.univ (fun t : Fin 8 => ((srcW arg3 j t).view.loc (c : Thread nD τ) ↦[(srcW arg3 j t).view.set]{q} fq : sProp 𝕄)))
      ∗ bigSep Finset.univ (fun t : Fin 8 => ((dstW arg7 s hs t).view.loc (c : Thread nD τ) ↦[(dstW arg7 s hs t).view.set]{fullShare} f7 : sProp 𝕄)))
      ⊢ bigSep Finset.univ (fun t : Fin 8 => iprop(((srcW arg3 j t).view.loc (c : Thread nD τ) ↦[(srcW arg3 j t).view.set]{q} fq)
          ∗ ((dstW arg7 s hs t).view.loc (c : Thread nD τ) ↦[(dstW arg7 s hs t).view.set]{fullShare} f7))) from family_join _ _ _) $$ [HQ HD]
  · isplitl [HQ]; · iexact HQ
    iexact HD
  iexact H

/-- The deliveries together are the slot holding slab `j` and the share of the packed weights back. -/
theorem collect (s : ℕ) (hs : s < 2) (j : Fin 14) (q : PosShare TreeShare) (fq : Buf (Elt F) (arg3.view.loc (c : Thread nD τ))) :
    iprop(bigSep Finset.univ (deliv c arg3 arg7 s hs j q fq) ∗ restQ c arg3 j q fq) ⊢
      (iprop(ptsS c arg7 s hs (arg7.view.rep (slabV (F := F) (arg3.view.read (Elt F) fq) j)) ∗ (arg3.view.loc (c : Thread nD τ) ↦[arg3.view.set]{q} fq)) : sProp 𝕄) := by
  unfold ptsS restQ
  rw [slot_cut, pointsTo_biUnion Finset.univ _ (fun t _ t' _ h => dst_disj arg7 s hs t t' h)]
  iintro ⟨HD, HR⟩
  ihave HD := (show bigSep Finset.univ (deliv c arg3 arg7 s hs j q fq) ⊢ _ from family_split Finset.univ (fun t : Fin 8 => ((dstW arg7 s hs t).view.loc (c : Thread nD τ) ↦[(dstW arg7 s hs t).view.set]{fullShare} arg7.view.rep (slabV (F := F) (arg3.view.read (Elt F) fq) j) : sProp 𝕄))
    (fun t : Fin 8 => ((srcW arg3 j t).view.loc (c : Thread nD τ) ↦[(srcW arg3 j t).view.set]{q} fq : sProp 𝕄))) $$ HD
  icases HD with ⟨HD, HQ⟩
  isplitl [HD]; · iexact HD
  iapply (pointsTo_split_subset (slabSet_sub c arg3 j)).2
  isplitl [HQ]; swap; · iexact HR
  iapply (Entails.of_eq (slabQ c arg3 j q fq).symm)
  iexact HQ

end

end Cert.Kernel.Hand
-- ==== Proof.Kern.Slots.lean ====
/-
  A slot's states: free, being filled with a slab; and the sections of the body that issue a slab's copies and wait for them.
-/
module

public import proofs.«01_k».proof.Proof.Kern.Quad
public import proofs.«01_k».proof.Proof.Kern.Column
public import proofs.«01_k».proof.Proof.Kern.Dma
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

/-- Slot `s` free, with its share of the packed weights. -/
def Idle (s : ℕ) (hs : s < 2) (q : PosShare TreeShare) (fq : Buf (Elt F) (arg3.view.loc (c : Thread nD τ))) : sProp 𝕄 :=
  iprop((∃ f7 : Buf (Elt F) (arg7.view.loc (c : Thread nD τ)), ptsS c arg7 s hs f7) ∗ semVal ((c : Thread nD τ), SemLoc.dma (cellW arg13 s hs)) 0
    ∗ (arg3.view.loc (c : Thread nD τ) ↦[arg3.view.set]{q} fq))

/-- The batch of slot `s`'s copies of slab `j`, `k` of them issued and `u` units waited for. -/
abbrev BatchS (s : ℕ) (hs : s < 2) (j : Fin 14) (q : PosShare TreeShare) (fq : Buf (Elt F) (arg3.view.loc (c : Thread nD τ))) (k u : ℕ) : sProp 𝕄 :=
  Transfers.Batch (Lvl := ℕ) (countersEmb (U := Pipeline.UD sig nD τ)) (c : Thread nD τ) (.dma (cellW arg13 s hs)) () (dstW arg7 s hs 0).view.dmaCredit (deliv c arg3 arg7 s hs j q fq) k u

/-- Slot `s` being filled with slab `j`: every copy issued, none waited for. -/
def Flight (s : ℕ) (hs : s < 2) (j : Fin 14) (q : PosShare TreeShare) (fq : Buf (Elt F) (arg3.view.loc (c : Thread nD τ))) : sProp 𝕄 :=
  iprop(BatchS c arg3 arg7 arg13 s hs j q fq 8 0 ∗ restQ c arg3 j q fq)

/-- The copies of slab `j` into slot `s` from the `k`-th on still to be issued. -/
def Todo (s : ℕ) (hs : s < 2) (j : Fin 14) (q : PosShare TreeShare) (fq : Buf (Elt F) (arg3.view.loc (c : Thread nD τ)))
    (f7 : Buf (Elt F) (arg7.view.loc (c : Thread nD τ))) (k : ℕ) : sProp 𝕄 :=
  iprop(BatchS c arg3 arg7 arg13 s hs j q fq k 0
    ∗ bigSep (Transfers.pending (n := 8) k) (fun t : Fin 8 => iprop(((srcW arg3 j t).view.loc (c : Thread nD τ) ↦[(srcW arg3 j t).view.set]{q} fq)
          ∗ ((dstW arg7 s hs t).view.loc (c : Thread nD τ) ↦[(dstW arg7 s hs t).view.set]{fullShare} f7)))
    ∗ restQ c arg3 j q fq)

theorem todo_open (s : ℕ) (hs : s < 2) (j : Fin 14) (q : PosShare TreeShare) (fq : Buf (Elt F) (arg3.view.loc (c : Thread nD τ))) :
    Idle c arg3 arg7 arg13 s hs q fq ⊢ (iprop(|={Set.univ}=> ∃ f7 : Buf (Elt F) (arg7.view.loc (c : Thread nD τ)), Todo c arg3 arg7 arg13 s hs j q fq f7 0) : sProp 𝕄) := by
  unfold Idle Todo
  iintro ⟨⟨%f7, H7⟩, HV, HQ⟩
  imod (Transfers.batch_alloc' (Lvl := ℕ) (countersEmb (U := Pipeline.UD sig nD τ)) (c : Thread nD τ) () (dstW arg7 s hs 0).view.dmaCredit (deliv c arg3 arg7 s hs j q fq) (sm := .dma (cellW arg13 s hs)) (E := Set.univ)) $$ HV with HB
  imodintro
  iexists f7
  isplitl [HB]; · iexact HB
  rw [Transfers.pending_zero]
  iapply (windows c arg3 arg7 s hs j q fq f7)
  isplitl [H7]; · iexact H7
  iexact HQ

theorem todo_close (s : ℕ) (hs : s < 2) (j : Fin 14) (q : PosShare TreeShare) (fq : Buf (Elt F) (arg3.view.loc (c : Thread nD τ)))
    (f7 : Buf (Elt F) (arg7.view.loc (c : Thread nD τ))) :
    Todo c arg3 arg7 arg13 s hs j q fq f7 8 ⊢ (Flight c arg3 arg7 arg13 s hs j q fq : sProp 𝕄) := by
  unfold Flight Todo
  iintro ⟨HB, -, HR⟩
  isplitl [HB]; · iexact HB
  iexact HR

/-- One copy issued. -/
theorem issue (s : ℕ) (hs : s < 2) (j : Fin 14) (t : Fin 8) (q : PosShare TreeShare) (fq : Buf (Elt F) (arg3.view.loc (c : Thread nD τ)))
    (f7 : Buf (Elt F) (arg7.view.loc (c : Thread nD τ)))
    (od : Fin 4 → ℕ) (hd) (ed : od = ![s, 0, t.val, 0]) (oq : Fin 2 → ℕ) (hq) (eq : oq = ![0, 1024 * j.val + 128 * t.val])
    (oc : Fin 1 → ℕ) (hc) (ec : oc = ![s]) (h1) (h2) (h3) (K : PUnit → sProp 𝕄) :
    iprop(Todo c arg3 arg7 arg13 s hs j q fq f7 t.val ∗ (Todo c arg3 arg7 arg13 s hs j q fq f7 (t.val + 1) -∗ K ⟨⟩))
    ⊢ wp frame (wpE (defs₀ (F := F)) 𝒱 (c : Thread nD τ) bd) Set.univ
      (Prog.lift (.enqueueDma (arg3.slice (Rect.unit (s := S1024x14336) oq S1024x128.size hq) (fun _ => rfl))
        (.here ((arg7.slice (Rect.unit (s := S2x1024x8x128) od S1x1024x1x128.size hd) (fun _ => rfl)).squeeze S1024x128 squeezes_S1x1024x1x128_S1024x128))
        (.dma ((arg13.slice (Rect.unit (s := S2) oc S1.size hc)).squeeze S_ squeezes_S1_S_).sem) h1 h2 h3)) K := by
  unfold Todo
  rw [Transfers.bigSep_pending_step _ t.val t.isLt]
  iintro ⟨⟨HB, ⟨⟨HS, HD⟩, HP⟩, HR⟩, HK⟩
  iapply (issue_step 𝒱 c bd arg3 arg7 arg13 s hs j t q fq f7 od hd ed oq hq eq oc hc ec h1 h2 h3 K)
  isplitl [HS]; · iexact HS
  isplitl [HD]; · iexact HD
  isplitl [HB]; · iexact HB
  iintro HB
  iapply HK
  isplitl [HB]; · iexact HB
  isplitl [HP]; · iexact HP
  iexact HR

/-- The first copies of slab 0. -/
theorem first_part (q : PosShare TreeShare) (fq : Buf (Elt F) (arg3.view.loc (c : Thread nD τ)))
    (f7 : Buf (Elt F) (arg7.view.loc (c : Thread nD τ))) (K : PUnit → sProp 𝕄) :
    iprop(Todo c arg3 arg7 arg13 0 (by decide) 0 q fq f7 0 ∗ (Todo c arg3 arg7 arg13 0 (by decide) 0 q fq f7 3 -∗ K ⟨⟩))
    ⊢ wp frame (wpE (defs₀ (F := F)) 𝒱 (c : Thread nD τ) bd) Set.univ (k0_part1 i arg1 harg1 arg2 harg2 arg3 harg3 arg4 harg4 arg5 harg5 arg6 harg6 arg7 harg7 arg8 harg8 arg9 harg9 arg10 harg10 arg11 harg11 arg12 harg12 arg13) K := by
  simp only [k0_part1_eq_skeleton]
  unfold k0_part1_skel
  simp only [wp_bind]
  iintro ⟨HT, HK⟩
  iapply (issue 𝒱 c bd arg3 arg7 arg13 0 (by decide) 0 0 q fq f7 ![0, 0, 0, 0] _ rfl ![0, 0] _ rfl ![0] _ rfl)
  isplitl [HT]; · iexact HT
  iintro HT
  iapply (issue 𝒱 c bd arg3 arg7 arg13 0 (by decide) 0 1 q fq f7 ![0, 0, 1, 0] _ rfl ![0, 128] _ rfl ![0] _ rfl)
  isplitl [HT]; · iexact HT
  iintro HT
  iapply (issue 𝒱 c bd arg3 arg7 arg13 0 (by decide) 0 2 q fq f7 ![0, 0, 2, 0] _ rfl ![0, 256] _ rfl ![0] _ rfl)
  isplitl [HT]; · iexact HT
  iintro HT
  simp only [wp_pure]
  imodintro
  iapply HK
  iexact HT

/-- The other copies of slab 0, then the fold. -/
theorem second_part (k0_h1 : k0_cond1 i = 1#1) (q : PosShare TreeShare) (fq : Buf (Elt F) (arg3.view.loc (c : Thread nD τ)))
    (f7 : Buf (Elt F) (arg7.view.loc (c : Thread nD τ))) (f2 : Buf (Elt F) (arg2.view.loc (c : Thread nD τ))) (f9 : Buf (Elt F) (arg9.view.loc (c : Thread nD τ)))
    (K : (Σ' (_ : BitVec 32), BitVec 32) → sProp 𝕄) :
    iprop(Todo c arg3 arg7 arg13 0 (by decide) 0 q fq f7 3 ∗ pts c arg2 f2 ∗ pts c arg9 f9 ∗
      (∀ f9' : Buf (Elt F) (arg9.view.loc (c : Thread nD τ)), ⌜Folded (arg2.view.read (Elt F) f2) 4096 (arg9.view.read (Elt F) f9')⌝ -∗ Todo c arg3 arg7 arg13 0 (by decide) 0 q fq f7 8 -∗ pts c arg2 f2 -∗ pts c arg9 f9' -∗ K ⟨0#32, 4096#32⟩))
    ⊢ wp frame (wpE (defs₀ (F := F)) 𝒱 (c : Thread nD τ) bd) Set.univ (k0_part2 i arg1 harg1 arg2 harg2 arg3 harg3 arg4 harg4 arg5 harg5 arg6 harg6 arg7 harg7 arg8 harg8 arg9 harg9 arg10 harg10 arg11 harg11 arg12 harg12 arg13 k0_h1) K := by
  simp only [k0_part2_eq_skeleton]
  unfold k0_part2_skel
  simp only [wp_bind]
  iintro ⟨HT, H2, H9, HK⟩
  iapply (issue 𝒱 c bd arg3 arg7 arg13 0 (by decide) 0 3 q fq f7 ![0, 0, 3, 0] _ rfl ![0, 384] _ rfl ![0] _ rfl)
  isplitl [HT]; · iexact HT
  iintro HT
  iapply (issue 𝒱 c bd arg3 arg7 arg13 0 (by decide) 0 4 q fq f7 ![0, 0, 4, 0] _ rfl ![0, 512] _ rfl ![0] _ rfl)
  isplitl [HT]; · iexact HT
  iintro HT
  iapply (issue 𝒱 c bd arg3 arg7 arg13 0 (by decide) 0 5 q fq f7 ![0, 0, 5, 0] _ rfl ![0, 640] _ rfl ![0] _ rfl)
  isplitl [HT]; · iexact HT
  iintro HT
  iapply (issue 𝒱 c bd arg3 arg7 arg13 0 (by decide) 0 6 q fq f7 ![0, 0, 6, 0] _ rfl ![0, 768] _ rfl ![0] _ rfl)
  isplitl [HT]; · iexact HT
  iintro HT
  iapply (issue 𝒱 c bd arg3 arg7 arg13 0 (by decide) 0 7 q fq f7 ![0, 0, 7, 0] _ rfl ![0, 896] _ rfl ![0] _ rfl)
  isplitl [HT]; · iexact HT
  iintro HT
  iapply (wp_wand_r frame (wpE (defs₀ (F := F)) 𝒱 (c : Thread nD τ) bd) Set.univ)
  isplitl [H2 H9]
  · iapply (fold_loop 𝒱 c bd i arg1 harg1 arg2 harg2 arg3 harg3 arg4 harg4 arg5 harg5 arg6 harg6 arg7 harg7 arg8 harg8 arg9 harg9 arg10 harg10 arg11 harg11 arg12 harg12 arg13 k0_h1 f2 f9)
    isplitl [H2]; · iexact H2
    iexact H9
  iintro %_ ⟨H2, %f9', %hf, H9⟩
  simp only [wp_pure]
  imodintro
  ihave HT := (show Todo c arg3 arg7 arg13 0 (Nat.zero_lt_succ 1) 0 q fq f7 ((7 : Fin 8).val + 1) ⊢ Todo c arg3 arg7 arg13 0 (Nat.zero_lt_succ 1) 0 q fq f7 8 from .rfl) $$ HT
  iapply HK $$ [] HT H2 H9
  ipureintro; exact hf

theorem k0_off10_at (i : grid0.Coords) (j : Fin 14) (hj : j.val = (i 0).val + 1) (r : Fin 8) :
    k0_off10 i (BitVec.ofNat 32 (128 * r.val)) = ![0, 1024 * j.val + 128 * r.val] := by
  rw [k0_off10_eq, hj]
  have e : 1024 * (i 0).val + 128 * r.val + 1024 = 1024 * ((i 0).val + 1) + 128 * r.val := by omega
  rw [e]

/-- The copies of the next slab into the other slot. -/
theorem ahead (k0_h2 : k0_cond2 i = 1#1) (j : Fin 14) (hj : j.val = (i 0).val + 1) (arg0 v0 : BitVec 32) (q : PosShare TreeShare) (fq : Buf (Elt F) (arg3.view.loc (c : Thread nD τ)))
    (f7 : Buf (Elt F) (arg7.view.loc (c : Thread nD τ))) (K : PUnit → sProp 𝕄) :
    iprop(Todo c arg3 arg7 arg13 (1 - (i 0).val % 2) (by omega) j q fq f7 0 ∗ (Todo c arg3 arg7 arg13 (1 - (i 0).val % 2) (by omega) j q fq f7 1 -∗ K ⟨⟩))
    ⊢ wp frame (wpE (defs₀ (F := F)) 𝒱 (c : Thread nD τ) bd) Set.univ (k0_part3 i arg1 harg1 arg2 harg2 arg3 harg3 arg4 harg4 arg5 harg5 arg6 harg6 arg7 harg7 arg8 harg8 arg9 harg9 arg10 harg10 arg11 harg11 arg12 harg12 arg13 arg0 v0 k0_h2) K := by
  simp only [k0_part3_eq_skeleton]
  unfold k0_part3_skel
  simp only [wp_bind]
  iintro ⟨HT, HK⟩
  iapply (issue 𝒱 c bd arg3 arg7 arg13 (1 - (i 0).val % 2) (by omega) j 0 q fq f7 (k0_off9 i) _ (k0_off9_eq i) (k0_off10 i 0#32) _ (k0_off10_at i j hj 0) (k0_off8 i) _ (k0_off8_eq i))
  isplitl [HT]; · iexact HT
  iintro HT
  simp only [wp_pure]
  imodintro
  iapply HK
  iexact HT

theorem ahead_rest (k0_h2 : k0_cond2 i = 1#1) (j : Fin 14) (hj : j.val = (i 0).val + 1) (q : PosShare TreeShare) (fq : Buf (Elt F) (arg3.view.loc (c : Thread nD τ)))
    (f7 : Buf (Elt F) (arg7.view.loc (c : Thread nD τ))) (K : PUnit → sProp 𝕄) :
    iprop(Todo c arg3 arg7 arg13 (1 - (i 0).val % 2) (by omega) j q fq f7 1 ∗ (Todo c arg3 arg7 arg13 (1 - (i 0).val % 2) (by omega) j q fq f7 7 -∗ K ⟨⟩))
    ⊢ wp frame (wpE (defs₀ (F := F)) 𝒱 (c : Thread nD τ) bd) Set.univ (k0_part4 i arg1 harg1 arg2 harg2 arg3 harg3 arg4 harg4 arg5 harg5 arg6 harg6 arg7 harg7 arg8 harg8 arg9 harg9 arg10 harg10 arg11 harg11 arg12 harg12 arg13 k0_h2) K := by
  simp only [k0_part4_eq_skeleton]
  unfold k0_part4_skel
  simp only [wp_bind]
  iintro ⟨HT, HK⟩
  iapply (issue 𝒱 c bd arg3 arg7 arg13 (1 - (i 0).val % 2) (by omega) j 1 q fq f7 (k0_off11 i) _ (k0_off11_eq i) (k0_off10 i 128#32) _ (k0_off10_at i j hj 1) (k0_off8 i) _ (k0_off8_eq i))
  isplitl [HT]; · iexact HT
  iintro HT
  iapply (issue 𝒱 c bd arg3 arg7 arg13 (1 - (i 0).val % 2) (by omega) j 2 q fq f7 (k0_off12 i) _ (k0_off12_eq i) (k0_off10 i 256#32) _ (k0_off10_at i j hj 2) (k0_off8 i) _ (k0_off8_eq i))
  isplitl [HT]; · iexact HT
  iintro HT
  iapply (issue 𝒱 c bd arg3 arg7 arg13 (1 - (i 0).val % 2) (by omega) j 3 q fq f7 (k0_off13 i) _ (k0_off13_eq i) (k0_off10 i 384#32) _ (k0_off10_at i j hj 3) (k0_off8 i) _ (k0_off8_eq i))
  isplitl [HT]; · iexact HT
  iintro HT
  iapply (issue 𝒱 c bd arg3 arg7 arg13 (1 - (i 0).val % 2) (by omega) j 4 q fq f7 (k0_off14 i) _ (k0_off14_eq i) (k0_off10 i 512#32) _ (k0_off10_at i j hj 4) (k0_off8 i) _ (k0_off8_eq i))
  isplitl [HT]; · iexact HT
  iintro HT
  iapply (issue 𝒱 c bd arg3 arg7 arg13 (1 - (i 0).val % 2) (by omega) j 5 q fq f7 (k0_off15 i) _ (k0_off15_eq i) (k0_off10 i 640#32) _ (k0_off10_at i j hj 5) (k0_off8 i) _ (k0_off8_eq i))
  isplitl [HT]; · iexact HT
  iintro HT
  iapply (issue 𝒱 c bd arg3 arg7 arg13 (1 - (i 0).val % 2) (by omega) j 6 q fq f7 (k0_off16 i) _ (k0_off16_eq i) (k0_off10 i 768#32) _ (k0_off10_at i j hj 6) (k0_off8 i) _ (k0_off8_eq i))
  isplitl [HT]; · iexact HT
  iintro HT
  simp only [wp_pure]
  imodintro
  iapply HK
  iexact HT

/-- The first six waits for the slab in hand. -/
theorem drain (j : Fin 14) (q : PosShare TreeShare) (fq : Buf (Elt F) (arg3.view.loc (c : Thread nD τ)))
    (W : Waits sig Unit) (K : PUnit → sProp 𝕄) :
    iprop(BatchS c arg3 arg7 arg13 ((i 0).val % 2) (Nat.mod_lt _ (by decide)) j q fq 8 0 ∗ owes (c : Thread nD τ) 0 W
      ∗ (∀ W' : Waits sig Unit, BatchS c arg3 arg7 arg13 ((i 0).val % 2) (Nat.mod_lt _ (by decide)) j q fq 8 (6 * (dstW arg7 ((i 0).val % 2) (Nat.mod_lt _ (by decide)) 0).view.dmaCredit) -∗ owes (c : Thread nD τ) 0 W' -∗ K ⟨⟩))
    ⊢ wp frame (wpE (defs₀ (F := F)) 𝒱 (c : Thread nD τ) bd) Set.univ (k0_part21 i arg1 harg1 arg2 harg2 arg3 harg3 arg4 harg4 arg5 harg5 arg6 harg6 arg7 harg7 arg8 harg8 arg9 harg9 arg10 harg10 arg11 harg11 arg12 harg12 arg13) K := by
  simp only [k0_part21_eq_skeleton]
  unfold k0_part21_skel
  simp only [wp_bind]
  iintro ⟨HB, HO, HK⟩
  ihave HB := (Entails.of_eq (congrArg (BatchS c arg3 arg7 arg13 ((i 0).val % 2) (Nat.mod_lt _ (by decide)) j q fq 8) (Nat.zero_mul (dstW arg7 ((i 0).val % 2) (Nat.mod_lt _ (by decide)) 0).view.dmaCredit).symm)) $$ HB
  iapply (wait_step 𝒱 c bd arg3 arg7 arg13 ((i 0).val % 2) (Nat.mod_lt _ (by decide)) j 0 (by decide) q fq _ (k0_off19 i) _ (k0_off19_eq i) (k0_off20 i 0#32) _ (k0_off18 i) _ (k0_off18_eq i))
  isplitl [HB]; · iexact HB
  isplitl [HO]; · iexact HO
  iintro %W0 HB HO
  iapply (wait_step 𝒱 c bd arg3 arg7 arg13 ((i 0).val % 2) (Nat.mod_lt _ (by decide)) j 1 (by decide) q fq _ (k0_off21 i) _ (k0_off21_eq i) (k0_off20 i 128#32) _ (k0_off18 i) _ (k0_off18_eq i))
  isplitl [HB]; · iexact HB
  isplitl [HO]; · iexact HO
  iintro %W1 HB HO
  iapply (wait_step 𝒱 c bd arg3 arg7 arg13 ((i 0).val % 2) (Nat.mod_lt _ (by decide)) j 2 (by decide) q fq _ (k0_off22 i) _ (k0_off22_eq i) (k0_off20 i 256#32) _ (k0_off18 i) _ (k0_off18_eq i))
  isplitl [HB]; · iexact HB
  isplitl [HO]; · iexact HO
  iintro %W2 HB HO
  iapply (wait_step 𝒱 c bd arg3 arg7 arg13 ((i 0).val % 2) (Nat.mod_lt _ (by decide)) j 3 (by decide) q fq _ (k0_off23 i) _ (k0_off23_eq i) (k0_off20 i 384#32) _ (k0_off18 i) _ (k0_off18_eq i))
  isplitl [HB]; · iexact HB
  isplitl [HO]; · iexact HO
  iintro %W3 HB HO
  iapply (wait_step 𝒱 c bd arg3 arg7 arg13 ((i 0).val % 2) (Nat.mod_lt _ (by decide)) j 4 (by decide) q fq _ (k0_off24 i) _ (k0_off24_eq i) (k0_off20 i 512#32) _ (k0_off18 i) _ (k0_off18_eq i))
  isplitl [HB]; · iexact HB
  isplitl [HO]; · iexact HO
  iintro %W4 HB HO
  iapply (wait_step 𝒱 c bd arg3 arg7 arg13 ((i 0).val % 2) (Nat.mod_lt _ (by decide)) j 5 (by decide) q fq _ (k0_off25 i) _ (k0_off25_eq i) (k0_off20 i 640#32) _ (k0_off18 i) _ (k0_off18_eq i))
  isplitl [HB]; · iexact HB
  isplitl [HO]; · iexact HO
  iintro %W5 HB HO
  simp only [wp_pure]
  imodintro
  iapply HK $$ [HB] HO
  iexact HB

end

end Cert.Kernel.Hand
-- ==== Proof.Kern.Body.lean ====
/-
  A point of the grid: its head (the copies issued, and at the first point the permuted input), the waits, the quad loop and the column loop.
-/
module

public import proofs.«01_k».proof.Proof.Kern.Quad
public import proofs.«01_k».proof.Proof.Kern.Column
public import proofs.«01_k».proof.Proof.Kern.Dma
public import proofs.«01_k».proof.Proof.Kern.Slots
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

theorem cond1_iff : ∀ i : grid0.Coords, k0_cond1 i = 1#1 ↔ (i 0).val = 0 := by decide +kernel
theorem cond2_iff : ∀ i : grid0.Coords, k0_cond2 i = 1#1 ↔ (i 0).val + 1 < 14 := by decide +kernel

theorem idle_congr {s s' : ℕ} (hs : s < 2) (e : s = s') (q : PosShare TreeShare) (fq : Buf (Elt F) (arg3.view.loc (c : Thread nD τ))) :
    Idle c arg3 arg7 arg13 s hs q fq = Idle c arg3 arg7 arg13 s' (e ▸ hs) q fq := by subst e; rfl

theorem flight_congr {s s' : ℕ} (hs : s < 2) (e : s = s') {j j' : Fin 14} (ej : j = j') (q : PosShare TreeShare) (fq : Buf (Elt F) (arg3.view.loc (c : Thread nD τ))) :
    Flight c arg3 arg7 arg13 s hs j q fq = Flight c arg3 arg7 arg13 s' (e ▸ hs) j' q fq := by subst e ej; rfl

/-- The head of the first point: slab 0's copies, the permuted input, slab 1's copies. -/
theorem head_first (h0 : (i 0).val = 0) (P : Fin 4096 → Fin 4096) (q0 q1 : PosShare TreeShare) (fq : Buf (Elt F) (arg3.view.loc (c : Thread nD τ)))
    (f1 : Buf (Elt F) (arg1.view.loc (c : Thread nD τ))) (f2 : Buf (Elt F) (arg2.view.loc (c : Thread nD τ)))
    (f9 : Buf (Elt F) (arg9.view.loc (c : Thread nD τ))) (f10 : Buf (Elt F) (arg10.view.loc (c : Thread nD τ))) (f11 : Buf (Elt F) (arg11.view.loc (c : Thread nD τ)))
    (hP : Table P (arg1.view.read (Elt F) f1)) (K : BitVec 32 → sProp 𝕄) :
    iprop((Idle c arg3 arg7 arg13 0 (by decide) q0 fq ∗ Idle c arg3 arg7 arg13 1 (by decide) q1 fq ∗ ptsT c arg1 f1 ∗ pts c arg2 f2 ∗ pts c arg9 f9 ∗ pts c arg10 f10 ∗ pts c arg11 f11)
      ∗ (∀ v f11', ⌜Unfolded (arg2.view.read (Elt F) f2) P 4096 (arg11.view.read (Elt F) f11')⌝ -∗ Flight c arg3 arg7 arg13 0 (by decide) 0 q0 fq -∗ ptsT c arg1 f1 -∗ pts c arg11 f11'
          -∗ iprop(Flight c arg3 arg7 arg13 1 (by decide) 1 q1 fq ∗ pts c arg2 f2
            ∗ (∃ f9' : Buf (Elt F) (arg9.view.loc (c : Thread nD τ)), pts c arg9 f9') ∗ (∃ f10' : Buf (Elt F) (arg10.view.loc (c : Thread nD τ)), pts c arg10 f10')) -∗ K v))
    ⊢ wp frame (wpE (defs₀ (F := F)) 𝒱 (c : Thread nD τ) bd) Set.univ (k0_part20 i arg1 harg1 arg2 harg2 arg3 harg3 arg4 harg4 arg5 harg5 arg6 harg6 arg7 harg7 arg8 harg8 arg9 harg9 arg10 harg10 arg11 harg11 arg12 harg12 arg13) K := by
  have h1 := (cond1_iff i).2 h0
  have h2 := (cond2_iff i).2 (by omega)
  have hs1 : 1 - (i 0).val % 2 < 2 := by omega
  simp only [k0_part20_eq_skeleton]
  unfold k0_part20_skel
  simp only [dif_pos h1, dif_pos h2, wp_bind]
  iintro ⟨⟨HI0, HI1, H1, H2, H9, H10, H11⟩, HK⟩
  imod (todo_open c arg3 arg7 arg13 0 (Nat.zero_lt_succ 1) 0 q0 fq) $$ HI0 with ⟨%f7, HT⟩
  iapply (first_part 𝒱 c bd i arg1 harg1 arg2 harg2 arg3 harg3 arg4 harg4 arg5 harg5 arg6 harg6 arg7 harg7 arg8 harg8 arg9 harg9 arg10 harg10 arg11 harg11 arg12 harg12 arg13 q0 fq f7)
  isplitl [HT]; · iexact HT
  iintro HT
  iapply (second_part 𝒱 c bd i arg1 harg1 arg2 harg2 arg3 harg3 arg4 harg4 arg5 harg5 arg6 harg6 arg7 harg7 arg8 harg8 arg9 harg9 arg10 harg10 arg11 harg11 arg12 harg12 arg13 h1 q0 fq f7 f2 f9)
  isplitl [HT]; · iexact HT
  isplitl [H2]; · iexact H2
  isplitl [H9]; · iexact H9
  iintro %f9' %hW HT H2 H9
  ihave HF := (todo_close c arg3 arg7 arg13 0 (Nat.zero_lt_succ 1) 0 q0 fq f7) $$ HT
  iapply (wp_wand_r frame (wpE (defs₀ (F := F)) 𝒱 (c : Thread nD τ) bd) Set.univ)
  isplitl [H1 H9 H10]
  · iapply (row_loop 𝒱 c bd i arg1 harg1 arg2 harg2 arg3 harg3 arg4 harg4 arg5 harg5 arg6 harg6 arg7 harg7 arg8 harg8 arg9 harg9 arg10 harg10 arg11 harg11 arg12 harg12 arg13 h1 P f1 f9' f10 hP)
    isplitl [H1]; · iexact H1
    isplitl [H9]; · iexact H9
    iexact H10
  iintro %_ ⟨H1, H9, %f10', %hS, H10⟩
  iapply (wp_wand_r frame (wpE (defs₀ (F := F)) 𝒱 (c : Thread nD τ) bd) Set.univ)
  isplitl [H10 H11]
  · iapply (unfold_loop 𝒱 c bd i arg1 harg1 arg2 harg2 arg3 harg3 arg4 harg4 arg5 harg5 arg6 harg6 arg7 harg7 arg8 harg8 arg9 harg9 arg10 harg10 arg11 harg11 arg12 harg12 arg13 h1 P (arg2.view.read (Elt F) f2) (arg9.view.read (Elt F) f9') f10' f11 hW hS)
    isplitl [H10]; · iexact H10
    iexact H11
  iintro %_ ⟨H10, %f11', %hU, H11⟩
  simp only [wp_pure]
  ihave HI1 := (Entails.of_eq (idle_congr c arg3 arg7 arg13 (s := 1) (s' := 1 - (i 0).val % 2) (Nat.lt_succ_self 1) (by omega) q1 fq)) $$ HI1
  imod (todo_open c arg3 arg7 arg13 (1 - (i 0).val % 2) hs1 1 q1 fq) $$ HI1 with ⟨%g7, HT⟩
  iapply (ahead 𝒱 c bd i arg1 harg1 arg2 harg2 arg3 harg3 arg4 harg4 arg5 harg5 arg6 harg6 arg7 harg7 arg8 harg8 arg9 harg9 arg10 harg10 arg11 harg11 arg12 harg12 arg13 h2 1 (by rw [h0]; rfl) _ _ q1 fq g7)
  isplitl [HT]; · iexact HT
  iintro HT
  iapply (ahead_rest 𝒱 c bd i arg1 harg1 arg2 harg2 arg3 harg3 arg4 harg4 arg5 harg5 arg6 harg6 arg7 harg7 arg8 harg8 arg9 harg9 arg10 harg10 arg11 harg11 arg12 harg12 arg13 h2 1 (by rw [h0]; rfl) q1 fq g7)
  isplitl [HT]; · iexact HT
  iintro HT
  iapply (issue 𝒱 c bd arg3 arg7 arg13 (1 - (i 0).val % 2) hs1 1 7 q1 fq g7 (k0_off17 i) _ (k0_off17_eq i) (k0_off10 i 896#32) _ (k0_off10_at i 1 (by rw [h0]; rfl) 7) (k0_off8 i) _ (k0_off8_eq i))
  isplitl [HT]; · iexact HT
  iintro HT
  ihave HT := (show Todo c arg3 arg7 arg13 (1 - (i 0).val % 2) hs1 1 q1 fq g7 ((7 : Fin 8).val + 1) ⊢ Todo c arg3 arg7 arg13 (1 - (i 0).val % 2) hs1 1 q1 fq g7 8 from .rfl) $$ HT
  ihave HF1 := (todo_close c arg3 arg7 arg13 (1 - (i 0).val % 2) hs1 1 q1 fq g7) $$ HT
  ihave HF1 := (Entails.of_eq (flight_congr c arg3 arg7 arg13 (s := 1 - (i 0).val % 2) (s' := 1) hs1 (by omega) rfl q1 fq)) $$ HF1
  imodintro
  iapply HK $$ [] HF H1 H11
  · ipureintro; exact hU
  isplitl [HF1]; · iexact HF1
  isplitl [H2]; · iexact H2
  isplitl [H9]; · iexists f9'; iexact H9
  iexists f10'; iexact H10

/-- The head of a point between the first and the last. -/
theorem head_mid (h0 : (i 0).val ≠ 0) (j : Fin 14) (hj : j.val = (i 0).val + 1) (q1 : PosShare TreeShare) (fq : Buf (Elt F) (arg3.view.loc (c : Thread nD τ))) (K : BitVec 32 → sProp 𝕄) :
    iprop(Idle c arg3 arg7 arg13 (1 - (i 0).val % 2) (by omega) q1 fq ∗ (∀ v, Flight c arg3 arg7 arg13 (1 - (i 0).val % 2) (by omega) j q1 fq -∗ K v))
    ⊢ wp frame (wpE (defs₀ (F := F)) 𝒱 (c : Thread nD τ) bd) Set.univ (k0_part20 i arg1 harg1 arg2 harg2 arg3 harg3 arg4 harg4 arg5 harg5 arg6 harg6 arg7 harg7 arg8 harg8 arg9 harg9 arg10 harg10 arg11 harg11 arg12 harg12 arg13) K := by
  have h1 : ¬ k0_cond1 i = 1#1 := fun h => h0 ((cond1_iff i).1 h)
  have h2 := (cond2_iff i).2 (by omega)
  have hs1 : 1 - (i 0).val % 2 < 2 := by omega
  simp only [k0_part20_eq_skeleton]
  unfold k0_part20_skel
  simp only [dif_neg h1, dif_pos h2, wp_bind, wp_pure]
  iintro ⟨HI1, HK⟩
  imod (todo_open c arg3 arg7 arg13 (1 - (i 0).val % 2) hs1 j q1 fq) $$ HI1 with ⟨%g7, HT⟩
  iapply (ahead 𝒱 c bd i arg1 harg1 arg2 harg2 arg3 harg3 arg4 harg4 arg5 harg5 arg6 harg6 arg7 harg7 arg8 harg8 arg9 harg9 arg10 harg10 arg11 harg11 arg12 harg12 arg13 h2 j hj _ _ q1 fq g7)
  isplitl [HT]; · iexact HT
  iintro HT
  iapply (ahead_rest 𝒱 c bd i arg1 harg1 arg2 harg2 arg3 harg3 arg4 harg4 arg5 harg5 arg6 harg6 arg7 harg7 arg8 harg8 arg9 harg9 arg10 harg10 arg11 harg11 arg12 harg12 arg13 h2 j hj q1 fq g7)
  isplitl [HT]; · iexact HT
  iintro HT
  iapply (issue 𝒱 c bd arg3 arg7 arg13 (1 - (i 0).val % 2) (by omega) j 7 q1 fq g7 (k0_off17 i) _ (k0_off17_eq i) (k0_off10 i 896#32) _ (k0_off10_at i j hj 7) (k0_off8 i) _ (k0_off8_eq i))
  isplitl [HT]; · iexact HT
  iintro HT
  ihave HT := (show Todo c arg3 arg7 arg13 (1 - (i 0).val % 2) hs1 j q1 fq g7 ((7 : Fin 8).val + 1) ⊢ Todo c arg3 arg7 arg13 (1 - (i 0).val % 2) hs1 j q1 fq g7 8 from .rfl) $$ HT
  ihave HF1 := (todo_close c arg3 arg7 arg13 (1 - (i 0).val % 2) hs1 j q1 fq g7) $$ HT
  imodintro
  iapply HK $$ HF1

/-- The head of the last point does nothing. -/
theorem head_last (h0 : (i 0).val = 13) (K : BitVec 32 → sProp 𝕄) :
    iprop(∀ v, K v) ⊢ wp frame (wpE (defs₀ (F := F)) 𝒱 (c : Thread nD τ) bd) Set.univ (k0_part20 i arg1 harg1 arg2 harg2 arg3 harg3 arg4 harg4 arg5 harg5 arg6 harg6 arg7 harg7 arg8 harg8 arg9 harg9 arg10 harg10 arg11 harg11 arg12 harg12 arg13) K := by
  have h1 : ¬ k0_cond1 i = 1#1 := fun h => by have := (cond1_iff i).1 h; omega
  have h2 : ¬ k0_cond2 i = 1#1 := fun h => by have := (cond2_iff i).1 h; omega
  simp only [k0_part20_eq_skeleton]
  unfold k0_part20_skel
  simp only [dif_neg h1, dif_neg h2, wp_bind, wp_pure]
  iintro HK
  imodintro
  iapply HK

/-! ## A point -/

/-- The sorted word of quad `q`, block column group `c` and lane `l` of slab `j`: byte `r` is row `P (4 q + r)`'s. -/
def wordC (P : Fin 4096 → Fin 4096) (Q : Vec F S1024x14336 .i32) (j : Fin 14) (c q : ℕ) (l : Fin 128) : BitVec 32 :=
  if h : c < 8 ∧ q < 1024 then
    have byte (r : Fin 4) : BitVec 8 :=
      (Q (ix2 (n0 := 1024) (n1 := 14336) ⟨(P ⟨4 * q + r.val, by omega⟩).val / 4, by omega⟩ ⟨1024 * j.val + 128 * c + l.val, by omega⟩) : BitVec 32).extractLsb'
        (8 * ((P ⟨4 * q + r.val, by omega⟩).val % 4)) 8
    (byte 3 ++ byte 2 ++ byte 1 ++ byte 0 : BitVec 32)
  else 0#32

/-- The permuted input. -/
def xC (P : Fin 4096 → Fin 4096) (X : Vec F S192x4096 .i16) : Vec F S192x4096 .bf16 := fun y => FloatOps.ofBits .bf16 (X (ix2 (n0 := 192) (n1 := 4096) (y 0) (P (y 1))) : BitVec 16)

/-- The block of the result at a point, from the scales, the zero points, the packed weights and the input. -/
def outC (P : Fin 4096 → Fin 4096) (S : Vec F S32x2048 .i16) (Z : Vec F S16x2048 .i8) (Q : Vec F S1024x14336 .i32) (X : Vec F S192x4096 .i16) (j : Fin 14) : Vec F S192x2048 .bf16 := fun y =>
  have h1 : (y 1).val < 2048 := (y 1).isLt
  emitAt (kacc (Sc S ((y 1).val / 256) (by omega)) (Zc Z ((y 1).val / 256) (by omega)) (wordC P Q j ((y 1).val / 256)) (xC P X) 16) (y 0) ⟨(y 1).val % 256, Nat.mod_lt _ (by decide)⟩

theorem bytes4 (w : BitVec 32) : w = w.extractLsb' 24 8 ++ w.extractLsb' 16 8 ++ w.extractLsb' 8 8 ++ w.extractLsb' 0 8 := by
  apply BitVec.eq_of_getLsbD_eq
  intro k hk
  simp only [BitVec.getLsbD_append, BitVec.getLsbD_extractLsb']
  by_cases h1 : k < 8
  · simp [h1]
  by_cases h2 : k < 16
  · have e : 8 + (k - 8) = k := by omega
    simp [h1, show k - 8 < 8 by omega, e]
  by_cases h3 : k < 24
  · have e : 16 + (k - 8 - 8) = k := by omega
    simp [h1, show ¬ k - 8 < 8 by omega, show k - 8 - 8 < 8 by omega, e]
  · have e : 24 + (k - 8 - 8 - 8) = k := by omega
    simp [h1, show ¬ k - 8 < 8 by omega, show ¬ k - 8 - 8 < 8 by omega, show k - 8 - 8 - 8 < 8 by omega, e]

theorem wordC_of (P : Fin 4096 → Fin 4096) (Q : Vec F S1024x14336 .i32) (j : Fin 14) (s : Fin 2) (T : Vec F S8200x128 .i32)
    (hT : Srt P (slabWord (slabV (F := F) Q j) s) 1024 T) (c q : ℕ) (hc : c < 8) (hq : q < 1024) (l : Fin 128) :
    srtRow T c q l = wordC P Q j c q l := by
  unfold srtRow wordC
  rw [dif_pos (show 1025 * c + q < 8200 by omega), dif_pos ⟨hc, hq⟩]
  refine (bytes4 _).trans ?_
  have h (r : Fin 4) := hT ⟨q, hq⟩ ⟨c, hc⟩ l hq r
  simp only [slabWord_slabV] at h
  exact congrArg₂ (· ++ ·) (congrArg₂ (· ++ ·) (congrArg₂ (· ++ ·) (h 3) (h 2)) (h 1)) (h 0)

theorem wtile_congr (S : Vec F S32x256 .i16) (Z : Vec F S16x256 .i8) (w w' : ℕ → Fin 128 → BitVec 32) (h : ∀ q l, q < 1024 → w q l = w' q l) (p : ℕ) (hp : p < 16) :
    wtile S Z w p hp = wtile S Z w' p hp := by
  funext y
  have h0 : (y 0).val < 256 := (y 0).isLt
  unfold wtile
  rw [h _ _ (show 64 * p + (y 0).val / 4 < 1024 by omega)]

theorem kacc_congr (S : Vec F S32x256 .i16) (Z : Vec F S16x256 .i8) (w w' : ℕ → Fin 128 → BitVec 32) (X : Vec F S192x4096 .bf16) (h : ∀ q l, q < 1024 → w q l = w' q l) (n : ℕ) :
    kacc S Z w X n = kacc S Z w' X n := by
  induction n with
  | zero => rfl
  | succ n ih =>
    unfold kacc
    by_cases hn : n < 16
    · rw [dif_pos hn, dif_pos hn, ih, wtile_congr S Z w w' h]
    · rw [dif_neg hn, dif_neg hn, ih]

theorem outC_of (P : Fin 4096 → Fin 4096) (S : Vec F S32x2048 .i16) (Z : Vec F S16x2048 .i8) (Q : Vec F S1024x14336 .i32) (X : Vec F S192x4096 .i16) (j : Fin 14)
    (s : Fin 2) (T : Vec F S8200x128 .i32) (Y : Vec F S192x4096 .bf16) (o : Vec F S192x2048 .bf16)
    (hT : Srt P (slabWord (slabV (F := F) Q j) s) 1024 T) (hY : Unfolded X P 4096 Y) (hD : Done (outB S Z T Y) o 8) : o = outC P S Z Q X j := by
  funext y
  have h1 : (y 1).val < 2048 := (y 1).isLt
  have eY : Y = xC P X := funext fun y => (congrArg Y (eq_ix2 y)).trans (hY (y 0) (y 1) (y 1).isLt)
  rw [hD y h1]
  unfold outB outC
  rw [← eY]
  exact congrArg (fun a => emitAt a (y 0) _) (kacc_congr _ _ _ _ Y (fun q l hq => wordC_of P Q j s T hT _ q (show (y 1).val / 256 < 8 by omega) hq l) 16)

/-- A point of the grid, from its head on. -/
theorem point (P : Fin 4096 → Fin 4096) (X : Vec F S192x4096 .i16) (j : Fin 14) (q : PosShare TreeShare) (fq : Buf (Elt F) (arg3.view.loc (c : Thread nD τ)))
    (f1 : Buf (Elt F) (arg1.view.loc (c : Thread nD τ))) (hP : Table P (arg1.view.read (Elt F) f1))
    (f4 : Buf (Elt F) (arg4.view.loc (c : Thread nD τ))) (f5 : Buf (Elt F) (arg5.view.loc (c : Thread nD τ))) (f6 : Buf (Elt F) (arg6.view.loc (c : Thread nD τ)))
    (W : Waits sig Unit) (B R : sProp 𝕄)
    (hhead : ∀ K : BitVec 32 → sProp 𝕄, iprop(B ∗ (∀ v f11, ⌜Unfolded X P 4096 (arg11.view.read (Elt F) f11)⌝ -∗ Flight c arg3 arg7 arg13 ((i 0).val % 2) (Nat.mod_lt _ (by decide)) j q fq
        -∗ ptsT c arg1 f1 -∗ pts c arg11 f11 -∗ R -∗ K v))
      ⊢ wp frame (wpE (defs₀ (F := F)) 𝒱 (c : Thread nD τ) bd) Set.univ (k0_part20 i arg1 harg1 arg2 harg2 arg3 harg3 arg4 harg4 arg5 harg5 arg6 harg6 arg7 harg7 arg8 harg8 arg9 harg9 arg10 harg10 arg11 harg11 arg12 harg12 arg13) K) :
    iprop(B ∗ owes (c : Thread nD τ) 0 W ∗ pts c arg4 f4 ∗ pts c arg5 f5 ∗ pts c arg6 f6
      ∗ (∃ f8 : Buf (Elt F) (arg8.view.loc (c : Thread nD τ)), pts c arg8 f8) ∗ (∃ f12 : Buf (Elt F) (arg12.view.loc (c : Thread nD τ)), pts c arg12 f12))
    ⊢ wp frame (wpE (defs₀ (F := F)) 𝒱 (c : Thread nD τ) bd) Set.univ (cc0_gptq_linear i arg1 harg1 arg2 harg2 arg3 harg3 arg4 harg4 arg5 harg5 arg6 harg6 arg7 harg7 arg8 harg8 arg9 harg9 arg10 harg10 arg11 harg11 arg12 harg12 arg13)
      (fun _ => iprop(Idle c arg3 arg7 arg13 ((i 0).val % 2) (Nat.mod_lt _ (by decide)) q fq ∗ R ∗ ptsT c arg1 f1
        ∗ (∃ f11 : Buf (Elt F) (arg11.view.loc (c : Thread nD τ)), ⌜Unfolded X P 4096 (arg11.view.read (Elt F) f11)⌝ ∗ pts c arg11 f11)
        ∗ (∃ W', owes (c : Thread nD τ) 0 W') ∗ pts c arg4 f4 ∗ pts c arg5 f5
        ∗ (∃ f6' : Buf (Elt F) (arg6.view.loc (c : Thread nD τ)), ⌜arg6.view.read (Elt F) f6' = outC P (arg4.view.read (Elt F) f4) (arg5.view.read (Elt F) f5) (arg3.view.read (Elt F) fq) X j⌝ ∗ pts c arg6 f6')
        ∗ (∃ f8 : Buf (Elt F) (arg8.view.loc (c : Thread nD τ)), pts c arg8 f8) ∗ (∃ f12 : Buf (Elt F) (arg12.view.loc (c : Thread nD τ)), pts c arg12 f12))) := by
  simp only [cc0_gptq_linear_eq_skeleton]
  unfold cc0_gptq_linear_skel
  simp only [wp_bind]
  iintro ⟨HB, HO, H4, H5, H6, ⟨%f8, H8⟩, ⟨%f12, H12⟩⟩
  iapply (hhead _)
  isplitl [HB]; · iexact HB
  iintro %v %f11 %hU HF H1 H11 HR
  ihave HF := (show Flight c arg3 arg7 arg13 ((i 0).val % 2) (Nat.mod_lt _ (by decide)) j q fq
    ⊢ iprop(BatchS c arg3 arg7 arg13 ((i 0).val % 2) (Nat.mod_lt _ (by decide)) j q fq 8 0 ∗ restQ c arg3 j q fq) from .rfl) $$ HF
  icases HF with ⟨HB, HQ⟩
  iapply (drain 𝒱 c bd i arg1 harg1 arg2 harg2 arg3 harg3 arg4 harg4 arg5 harg5 arg6 harg6 arg7 harg7 arg8 harg8 arg9 harg9 arg10 harg10 arg11 harg11 arg12 harg12 arg13 j q fq W)
  isplitl [HB]; · iexact HB
  isplitl [HO]; · iexact HO
  iintro %W1 HB HO
  iapply (wait_step 𝒱 c bd arg3 arg7 arg13 ((i 0).val % 2) (Nat.mod_lt _ (by decide)) j 6 (by decide) q fq _ (k0_off26 i) _ (k0_off26_eq i) (k0_off20 i 768#32) _ (k0_off18 i) _ (k0_off18_eq i))
  isplitl [HB]; · iexact HB
  isplitl [HO]; · iexact HO
  iintro %W2 HB HO
  iapply (wait_last 𝒱 c bd arg3 arg7 arg13 ((i 0).val % 2) (Nat.mod_lt _ (by decide)) j q fq _ (k0_off27 i) _ (k0_off27_eq i) (k0_off20 i 896#32) _ (k0_off18 i) _ (k0_off18_eq i))
  isplitl [HB]; · iexact HB
  isplitl [HO]; · iexact HO
  iintro %W3 HD HV HO
  ihave HD := (collect c arg3 arg7 ((i 0).val % 2) (Nat.mod_lt _ (by decide)) j q fq) $$ [HD HQ]
  · isplitl [HD]; · iexact HD
    iexact HQ
  icases HD with ⟨H7, HQ⟩
  iapply (wp_wand_r frame (wpE (defs₀ (F := F)) 𝒱 (c : Thread nD τ) bd) Set.univ)
  isplitl [H1 H7 H8]
  · iapply (quad_loop 𝒱 c bd i arg1 harg1 arg2 harg2 arg3 harg3 arg4 harg4 arg5 harg5 arg6 harg6 arg7 harg7 arg8 harg8 arg9 harg9 arg10 harg10 arg11 harg11 arg12 harg12 arg13 P v f1 (arg7.view.rep (slabV (F := F) (arg3.view.read (Elt F) fq) j)) f8 hP)
    isplitl [H1]; · iexact H1
    isplitl [H7]; · iexact H7
    iexact H8
  iintro %_ ⟨H1, H7, %f8', %hT, H8⟩
  iapply (wp_wand_r frame (wpE (defs₀ (F := F)) 𝒱 (c : Thread nD τ) bd) Set.univ)
  isplitl [H4 H5 H6 H8 H11 H12]
  · iapply (col_loop 𝒱 c bd i arg1 harg1 arg2 harg2 arg3 harg3 arg4 harg4 arg5 harg5 arg6 harg6 arg7 harg7 arg8 harg8 arg9 harg9 arg10 harg10 arg11 harg11 arg12 harg12 arg13 f4 f5 f6 f8' f11 f12)
    isplitl [H4]; · iexact H4
    isplitl [H5]; · iexact H5
    isplitl [H6]; · iexact H6
    isplitl [H8]; · iexact H8
    isplitl [H11]; · iexact H11
    iexact H12
  iintro %_ ⟨H4, H5, ⟨%f6', %hD, H6⟩, H8, H11, H12⟩
  rw [View.read_rep] at hT
  simp only [wp_pure]
  imodintro
  isplitl [H7 HV HQ]
  · unfold Idle
    isplitl [H7]; · iexists _; iexact H7
    isplitl [HV]; · iexact HV
    iexact HQ
  isplitl [HR]; · iexact HR
  isplitl [H1]; · iexact H1
  isplitl [H11]
  · iexists f11
    isplitr; · ipureintro; exact hU
    iexact H11
  isplitl [HO]; · iexists W3; iexact HO
  isplitl [H4]; · iexact H4
  isplitl [H5]; · iexact H5
  isplitl [H6]
  · iexists f6'
    isplitr; · ipureintro; exact outC_of P _ _ _ X j _ _ _ _ hT hU hD
    iexact H6
  isplitl [H8]; · iexists f8'; iexact H8
  iexact H12

end

end Cert.Kernel.Hand
-- ==== Proof.Kern.State.lean ====
/-
  What the core holds between two grid points — the slots, one of them being filled, the table, the scratch
  buffers — and the point as a step from one such state to the next.
-/
module

public import proofs.«01_k».proof.Proof.Kern.Quad
public import proofs.«01_k».proof.Proof.Kern.Column
public import proofs.«01_k».proof.Proof.Kern.Dma
public import proofs.«01_k».proof.Proof.Kern.Slots
public import proofs.«01_k».proof.Proof.Kern.Body
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

/-! ## The slots between points -/

/-- The half of the packed weights that slot `s`'s copies read. -/
def qs (s : ℕ) : PosShare TreeShare := if s = 0 then fullShare.left else fullShare.right

variable (fq : Buf (Elt F) (arg3.view.loc (c : Thread nD τ)))

/-- Both slots free. -/
def Free : sProp 𝕄 :=
  iprop(Idle c arg3 arg7 arg13 0 (by decide) (qs 0) fq ∗ Idle c arg3 arg7 arg13 1 (by decide) (qs 1) fq)

/-- Slab `n` on its way into its slot, the other slot free. -/
def Busy (n : ℕ) (h : n < 14) : sProp 𝕄 :=
  iprop(Flight c arg3 arg7 arg13 (n % 2) (Nat.mod_lt _ (by decide)) ⟨n, h⟩ (qs (n % 2)) fq
    ∗ Idle c arg3 arg7 arg13 (1 - n % 2) (by omega) (qs (1 - n % 2)) fq)

/-- The slots before point `n`. -/
def SlotsAt (n : ℕ) : sProp 𝕄 :=
  if h : 0 < n ∧ n < 14 then Busy c arg3 arg7 arg13 fq n h.2 else Free c arg3 arg7 arg13 fq

theorem idle_to {s s' : ℕ} (hs : s < 2) (hs' : s' < 2) (e : s = s') :
    Idle c arg3 arg7 arg13 s hs (qs s) fq ⊢ Idle c arg3 arg7 arg13 s' hs' (qs s') fq := by subst e; exact .rfl

theorem flight_to {s s' : ℕ} (hs : s < 2) (hs' : s' < 2) (e : s = s') {j j' : Fin 14} (ej : j.val = j'.val) :
    Flight c arg3 arg7 arg13 s hs j (qs s) fq ⊢ Flight c arg3 arg7 arg13 s' hs' j' (qs s') fq := by
  subst e; have := Fin.ext ej; subst this; exact .rfl

theorem slots_free {n : ℕ} (h : n = 0 ∨ n = 14) : SlotsAt c arg3 arg7 arg13 fq n = Free c arg3 arg7 arg13 fq := by
  unfold SlotsAt; exact dif_neg (by omega)

theorem slots_busy {n : ℕ} (h0 : 0 < n) (h : n < 14) : SlotsAt c arg3 arg7 arg13 fq n = Busy c arg3 arg7 arg13 fq n h := by
  unfold SlotsAt; exact dif_pos ⟨h0, h⟩

/-- Slot 0 and slot 1, free, in the order a point leaves them. -/
theorem free_of (s : ℕ) (hs : s < 2) :
    iprop(Idle c arg3 arg7 arg13 s hs (qs s) fq ∗ Idle c arg3 arg7 arg13 (1 - s) (by omega) (qs (1 - s)) fq) ⊢ Free c arg3 arg7 arg13 fq := by
  have : s = 0 ∨ s = 1 := by omega
  rcases this with rfl | rfl
  · exact .rfl
  · unfold Free
    iintro ⟨HA, HB⟩
    isplitl [HB]; · iexact HB
    iexact HA

/-! ## What the core holds between points -/

/-- Before point `n`: the slots, the table, the scratch buffers — the permuted input in its own from the second point on. -/
def Held (P : Fin 4096 → Fin 4096) (X : Vec F S192x4096 .i16) (f1 : Buf (Elt F) (arg1.view.loc (c : Thread nD τ))) (n : ℕ) : sProp 𝕄 :=
  iprop(SlotsAt c arg3 arg7 arg13 fq n ∗ ptsT c arg1 f1
    ∗ (∃ f8 : Buf (Elt F) (arg8.view.loc (c : Thread nD τ)), pts c arg8 f8)
    ∗ (∃ f9 : Buf (Elt F) (arg9.view.loc (c : Thread nD τ)), pts c arg9 f9)
    ∗ (∃ f10 : Buf (Elt F) (arg10.view.loc (c : Thread nD τ)), pts c arg10 f10)
    ∗ (∃ f11 : Buf (Elt F) (arg11.view.loc (c : Thread nD τ)), ⌜n ≠ 0 → Unfolded X P 4096 (arg11.view.read (Elt F) f11)⌝ ∗ pts c arg11 f11)
    ∗ (∃ f12 : Buf (Elt F) (arg12.view.loc (c : Thread nD τ)), pts c arg12 f12))

/-- What a point leaves of its windows. -/
def Left (P : Fin 4096 → Fin 4096) (X : Vec F S192x4096 .i16) (j : Fin 14) (f2 : Buf (Elt F) (arg2.view.loc (c : Thread nD τ)))
    (f4 : Buf (Elt F) (arg4.view.loc (c : Thread nD τ))) (f5 : Buf (Elt F) (arg5.view.loc (c : Thread nD τ))) : sProp 𝕄 :=
  iprop((∃ W', owes (c : Thread nD τ) 0 W') ∗ pts c arg2 f2 ∗ pts c arg4 f4 ∗ pts c arg5 f5
    ∗ (∃ f6' : Buf (Elt F) (arg6.view.loc (c : Thread nD τ)), ⌜arg6.view.read (Elt F) f6' = outC P (arg4.view.read (Elt F) f4) (arg5.view.read (Elt F) f5) (arg3.view.read (Elt F) fq) X j⌝ ∗ pts c arg6 f6'))

section
variable (P : Fin 4096 → Fin 4096) (X : Vec F S192x4096 .i16) (f1 : Buf (Elt F) (arg1.view.loc (c : Thread nD τ)))
  (hP : Table P (arg1.view.read (Elt F) f1)) (W : Waits sig Unit) (j : Fin 14) (hj : j.val = (i 0).val)
  (f2 : Buf (Elt F) (arg2.view.loc (c : Thread nD τ))) (f4 : Buf (Elt F) (arg4.view.loc (c : Thread nD τ)))
  (f5 : Buf (Elt F) (arg5.view.loc (c : Thread nD τ))) (f6 : Buf (Elt F) (arg6.view.loc (c : Thread nD τ)))

include hP hj in
/-- The first point. -/
theorem step_first (h0 : (i 0).val = 0) (hX : arg2.view.read (Elt F) f2 = X) :
    iprop(Held c arg1 arg3 arg7 arg8 arg9 arg10 arg11 arg12 arg13 fq P X f1 0 ∗ owes (c : Thread nD τ) 0 W ∗ pts c arg2 f2 ∗ pts c arg4 f4 ∗ pts c arg5 f5 ∗ pts c arg6 f6)
    ⊢ wp frame (wpE (defs₀ (F := F)) 𝒱 (c : Thread nD τ) bd) Set.univ (cc0_gptq_linear i arg1 harg1 arg2 harg2 arg3 harg3 arg4 harg4 arg5 harg5 arg6 harg6 arg7 harg7 arg8 harg8 arg9 harg9 arg10 harg10 arg11 harg11 arg12 harg12 arg13)
      (fun _ => iprop(Held c arg1 arg3 arg7 arg8 arg9 arg10 arg11 arg12 arg13 fq P X f1 1 ∗ Left c arg2 arg3 arg4 arg5 arg6 fq P X j f2 f4 f5)) := by
  unfold Held
  rw [slots_free c arg3 arg7 arg13 fq (.inl rfl), slots_busy c arg3 arg7 arg13 fq Nat.one_pos (by decide)]
  unfold Free Busy Left
  iintro ⟨⟨⟨HI0, HI1⟩, H1, H8, ⟨%f9, H9⟩, ⟨%f10, H10⟩, ⟨%f11, %hU, H11⟩, H12⟩, HO, H2, H4, H5, H6⟩
  iapply (wp_wand_r frame (wpE (defs₀ (F := F)) 𝒱 (c : Thread nD τ) bd) Set.univ)
  isplitl [HI0 HI1 H1 H2 H9 H10 H11 HO H4 H5 H6 H8 H12]
  · iapply (point 𝒱 c bd i arg1 harg1 arg2 harg2 arg3 harg3 arg4 harg4 arg5 harg5 arg6 harg6 arg7 harg7 arg8 harg8 arg9 harg9 arg10 harg10 arg11 harg11 arg12 harg12 arg13 P X j (qs 0) fq f1 hP f4 f5 f6 W
      (iprop(Idle c arg3 arg7 arg13 0 (by decide) (qs 0) fq ∗ Idle c arg3 arg7 arg13 1 (by decide) (qs 1) fq ∗ ptsT c arg1 f1 ∗ pts c arg2 f2 ∗ pts c arg9 f9 ∗ pts c arg10 f10 ∗ pts c arg11 f11))
      (iprop(Flight c arg3 arg7 arg13 1 (by decide) 1 (qs 1) fq ∗ pts c arg2 f2
            ∗ (∃ f9' : Buf (Elt F) (arg9.view.loc (c : Thread nD τ)), pts c arg9 f9') ∗ (∃ f10' : Buf (Elt F) (arg10.view.loc (c : Thread nD τ)), pts c arg10 f10')))
      (fun K => by
        iintro ⟨HB, HK⟩
        iapply (head_first 𝒱 c bd i arg1 harg1 arg2 harg2 arg3 harg3 arg4 harg4 arg5 harg5 arg6 harg6 arg7 harg7 arg8 harg8 arg9 harg9 arg10 harg10 arg11 harg11 arg12 harg12 arg13 h0 P (qs 0) (qs 1) fq f1 f2 f9 f10 f11 hP K)
        isplitl [HB]; · iexact HB
        iintro %v %f11' %hU HF H1 H11 HR
        ihave HF := (Entails.of_eq (flight_congr c arg3 arg7 arg13 (s := 0) (s' := (i 0).val % 2) (Nat.zero_lt_succ 1) (by omega) (j := 0) (j' := j) (Fin.ext (by rw [hj, h0]; rfl)) (qs 0) fq)) $$ HF
        iapply HK $$ [] HF H1 H11 HR
        ipureintro; rw [← hX]; exact hU))
    isplitl [HI0 HI1 H1 H2 H9 H10 H11]
    · isplitl [HI0]; · iexact HI0
      isplitl [HI1]; · iexact HI1
      isplitl [H1]; · iexact H1
      isplitl [H2]; · iexact H2
      isplitl [H9]; · iexact H9
      isplitl [H10]; · iexact H10
      iexact H11
    isplitl [HO]; · iexact HO
    isplitl [H4]; · iexact H4
    isplitl [H5]; · iexact H5
    isplitl [H6]; · iexact H6
    isplitl [H8]; · iexact H8
    iexact H12
  iintro %_ ⟨HI, ⟨HF, H2, H9, H10⟩, H1, ⟨%g11, %hV, H11⟩, HO, H4, H5, H6, H8, H12⟩
  ihave HI := (Entails.of_eq (idle_congr c arg3 arg7 arg13 (s := (i 0).val % 2) (s' := 0) (Nat.mod_lt _ (Nat.zero_lt_succ 1)) (by omega) (qs 0) fq)) $$ HI
  isplitl [HI HF H9 H10 H1 H11 H8 H12]
  · isplitl [HI HF]
    · isplitl [HF]; · iexact HF
      iexact HI
    isplitl [H1]; · iexact H1
    isplitl [H8]; · iexact H8
    isplitl [H9]; · iexact H9
    isplitl [H10]; · iexact H10
    isplitl [H11]
    · iexists g11; isplitr; · ipureintro; exact fun _ => hV
      iexact H11
    iexact H12
  isplitl [HO]; · iexact HO
  isplitl [H2]; · iexact H2
  isplitl [H4]; · iexact H4
  isplitl [H5]; · iexact H5
  iexact H6

include hP hj in
/-- A point between the first and the last. -/
theorem step_mid (h0 : (i 0).val ≠ 0) (h13 : (i 0).val + 1 < 14) :
    iprop(Held c arg1 arg3 arg7 arg8 arg9 arg10 arg11 arg12 arg13 fq P X f1 (i 0).val ∗ owes (c : Thread nD τ) 0 W ∗ pts c arg2 f2 ∗ pts c arg4 f4 ∗ pts c arg5 f5 ∗ pts c arg6 f6)
    ⊢ wp frame (wpE (defs₀ (F := F)) 𝒱 (c : Thread nD τ) bd) Set.univ (cc0_gptq_linear i arg1 harg1 arg2 harg2 arg3 harg3 arg4 harg4 arg5 harg5 arg6 harg6 arg7 harg7 arg8 harg8 arg9 harg9 arg10 harg10 arg11 harg11 arg12 harg12 arg13)
      (fun _ => iprop(Held c arg1 arg3 arg7 arg8 arg9 arg10 arg11 arg12 arg13 fq P X f1 ((i 0).val + 1) ∗ Left c arg2 arg3 arg4 arg5 arg6 fq P X j f2 f4 f5)) := by
  have hs0 : (i 0).val % 2 < 2 := Nat.mod_lt _ (by decide)
  have hs1 : 1 - (i 0).val % 2 < 2 := by omega
  have hn : (i 0).val < 14 := by omega
  unfold Held
  rw [slots_busy c arg3 arg7 arg13 fq (Nat.pos_of_ne_zero h0) hn, slots_busy c arg3 arg7 arg13 fq (Nat.succ_pos _) h13]
  unfold Busy Left
  iintro ⟨⟨⟨HF, HI⟩, H1, H8, H9, H10, ⟨%f11, %hU, H11⟩, H12⟩, HO, H2, H4, H5, H6⟩
  ihave HF := (flight_to c arg3 arg7 arg13 fq hs0 hs0 rfl (j := ⟨(i 0).val, hn⟩) (j' := j) hj.symm) $$ HF
  iapply (wp_wand_r frame (wpE (defs₀ (F := F)) 𝒱 (c : Thread nD τ) bd) Set.univ)
  isplitl [HF HI H1 H11 HO H4 H5 H6 H8 H12]
  · iapply (point 𝒱 c bd i arg1 harg1 arg2 harg2 arg3 harg3 arg4 harg4 arg5 harg5 arg6 harg6 arg7 harg7 arg8 harg8 arg9 harg9 arg10 harg10 arg11 harg11 arg12 harg12 arg13 P X j (qs ((i 0).val % 2)) fq f1 hP f4 f5 f6 W
      (iprop(Flight c arg3 arg7 arg13 ((i 0).val % 2) hs0 j (qs ((i 0).val % 2)) fq ∗ Idle c arg3 arg7 arg13 (1 - (i 0).val % 2) hs1 (qs (1 - (i 0).val % 2)) fq ∗ ptsT c arg1 f1 ∗ pts c arg11 f11))
      (Flight c arg3 arg7 arg13 (1 - (i 0).val % 2) hs1 ⟨(i 0).val + 1, h13⟩ (qs (1 - (i 0).val % 2)) fq)
      (fun K => by
        iintro ⟨⟨HF, HI, H1, H11⟩, HK⟩
        iapply (head_mid 𝒱 c bd i arg1 harg1 arg2 harg2 arg3 harg3 arg4 harg4 arg5 harg5 arg6 harg6 arg7 harg7 arg8 harg8 arg9 harg9 arg10 harg10 arg11 harg11 arg12 harg12 arg13 h0 ⟨(i 0).val + 1, h13⟩ rfl (qs (1 - (i 0).val % 2)) fq K)
        isplitl [HI]; · iexact HI
        iintro %v HR
        iapply HK $$ [] HF H1 H11 HR
        ipureintro; exact hU h0))
    isplitl [HF HI H1 H11]
    · isplitl [HF]; · iexact HF
      isplitl [HI]; · iexact HI
      isplitl [H1]; · iexact H1
      iexact H11
    isplitl [HO]; · iexact HO
    isplitl [H4]; · iexact H4
    isplitl [H5]; · iexact H5
    isplitl [H6]; · iexact H6
    isplitl [H8]; · iexact H8
    iexact H12
  iintro %_ ⟨HI, HF, H1, ⟨%g11, %hV, H11⟩, HO, H4, H5, H6, H8, H12⟩
  isplitl [HI HF H9 H10 H1 H11 H8 H12]
  · isplitl [HI HF]
    · isplitl [HF]
      · iapply (flight_to c arg3 arg7 arg13 fq hs1 _ (by omega) (j := ⟨(i 0).val + 1, h13⟩) rfl) $$ HF
      iapply (idle_to c arg3 arg7 arg13 fq hs0 _ (by omega)) $$ HI
    isplitl [H1]; · iexact H1
    isplitl [H8]; · iexact H8
    isplitl [H9]; · iexact H9
    isplitl [H10]; · iexact H10
    isplitl [H11]
    · iexists g11; isplitr; · ipureintro; exact fun _ => hV
      iexact H11
    iexact H12
  isplitl [HO]; · iexact HO
  isplitl [H2]; · iexact H2
  isplitl [H4]; · iexact H4
  isplitl [H5]; · iexact H5
  iexact H6

include hP hj in
/-- The last point. -/
theorem step_last (h0 : (i 0).val = 13) :
    iprop(Held c arg1 arg3 arg7 arg8 arg9 arg10 arg11 arg12 arg13 fq P X f1 (i 0).val ∗ owes (c : Thread nD τ) 0 W ∗ pts c arg2 f2 ∗ pts c arg4 f4 ∗ pts c arg5 f5 ∗ pts c arg6 f6)
    ⊢ wp frame (wpE (defs₀ (F := F)) 𝒱 (c : Thread nD τ) bd) Set.univ (cc0_gptq_linear i arg1 harg1 arg2 harg2 arg3 harg3 arg4 harg4 arg5 harg5 arg6 harg6 arg7 harg7 arg8 harg8 arg9 harg9 arg10 harg10 arg11 harg11 arg12 harg12 arg13)
      (fun _ => iprop(Held c arg1 arg3 arg7 arg8 arg9 arg10 arg11 arg12 arg13 fq P X f1 ((i 0).val + 1) ∗ Left c arg2 arg3 arg4 arg5 arg6 fq P X j f2 f4 f5)) := by
  have hs0 : (i 0).val % 2 < 2 := Nat.mod_lt _ (by decide)
  have hs1 : 1 - (i 0).val % 2 < 2 := by omega
  have hn : (i 0).val < 14 := by omega
  unfold Held
  rw [slots_busy c arg3 arg7 arg13 fq (by omega) hn, slots_free c arg3 arg7 arg13 fq (n := (i 0).val + 1) (.inr (by omega))]
  unfold Busy Left
  iintro ⟨⟨⟨HF, HI⟩, H1, H8, H9, H10, ⟨%f11, %hU, H11⟩, H12⟩, HO, H2, H4, H5, H6⟩
  ihave HF := (flight_to c arg3 arg7 arg13 fq hs0 hs0 rfl (j := ⟨(i 0).val, hn⟩) (j' := j) hj.symm) $$ HF
  iapply (wp_wand_r frame (wpE (defs₀ (F := F)) 𝒱 (c : Thread nD τ) bd) Set.univ)
  isplitl [HF HI H1 H11 HO H4 H5 H6 H8 H12]
  · iapply (point 𝒱 c bd i arg1 harg1 arg2 harg2 arg3 harg3 arg4 harg4 arg5 harg5 arg6 harg6 arg7 harg7 arg8 harg8 arg9 harg9 arg10 harg10 arg11 harg11 arg12 harg12 arg13 P X j (qs ((i 0).val % 2)) fq f1 hP f4 f5 f6 W
      (iprop(Flight c arg3 arg7 arg13 ((i 0).val % 2) hs0 j (qs ((i 0).val % 2)) fq ∗ Idle c arg3 arg7 arg13 (1 - (i 0).val % 2) hs1 (qs (1 - (i 0).val % 2)) fq ∗ ptsT c arg1 f1 ∗ pts c arg11 f11))
      (Idle c arg3 arg7 arg13 (1 - (i 0).val % 2) hs1 (qs (1 - (i 0).val % 2)) fq)
      (fun K => by
        iintro ⟨⟨HF, HI, H1, H11⟩, HK⟩
        iapply (head_last 𝒱 c bd i arg1 harg1 arg2 harg2 arg3 harg3 arg4 harg4 arg5 harg5 arg6 harg6 arg7 harg7 arg8 harg8 arg9 harg9 arg10 harg10 arg11 harg11 arg12 harg12 arg13 h0 K)
        iintro %v
        iapply HK $$ [] HF H1 H11 HI
        ipureintro; exact hU (by omega)))
    isplitl [HF HI H1 H11]
    · isplitl [HF]; · iexact HF
      isplitl [HI]; · iexact HI
      isplitl [H1]; · iexact H1
      iexact H11
    isplitl [HO]; · iexact HO
    isplitl [H4]; · iexact H4
    isplitl [H5]; · iexact H5
    isplitl [H6]; · iexact H6
    isplitl [H8]; · iexact H8
    iexact H12
  iintro %_ ⟨HI, HF, H1, ⟨%g11, %hV, H11⟩, HO, H4, H5, H6, H8, H12⟩
  isplitl [HI HF H9 H10 H1 H11 H8 H12]
  · isplitl [HI HF]
    · iapply (free_of c arg3 arg7 arg13 fq ((i 0).val % 2) hs0)
      isplitl [HI]; · iexact HI
      iexact HF
    isplitl [H1]; · iexact H1
    isplitl [H8]; · iexact H8
    isplitl [H9]; · iexact H9
    isplitl [H10]; · iexact H10
    isplitl [H11]
    · iexists g11; isplitr; · ipureintro; exact fun _ => hV
      iexact H11
    iexact H12
  isplitl [HO]; · iexact HO
  isplitl [H2]; · iexact H2
  isplitl [H4]; · iexact H4
  isplitl [H5]; · iexact H5
  iexact H6

include hP hj in
/-- A point. -/
theorem step (hX : (i 0).val = 0 → arg2.view.read (Elt F) f2 = X) :
    iprop(Held c arg1 arg3 arg7 arg8 arg9 arg10 arg11 arg12 arg13 fq P X f1 (i 0).val ∗ owes (c : Thread nD τ) 0 W ∗ pts c arg2 f2 ∗ pts c arg4 f4 ∗ pts c arg5 f5 ∗ pts c arg6 f6)
    ⊢ wp frame (wpE (defs₀ (F := F)) 𝒱 (c : Thread nD τ) bd) Set.univ (cc0_gptq_linear i arg1 harg1 arg2 harg2 arg3 harg3 arg4 harg4 arg5 harg5 arg6 harg6 arg7 harg7 arg8 harg8 arg9 harg9 arg10 harg10 arg11 harg11 arg12 harg12 arg13)
      (fun _ => iprop(Held c arg1 arg3 arg7 arg8 arg9 arg10 arg11 arg12 arg13 fq P X f1 ((i 0).val + 1) ∗ Left c arg2 arg3 arg4 arg5 arg6 fq P X j f2 f4 f5)) := by
  have hn : (i 0).val < 14 := hj ▸ j.isLt
  by_cases h0 : (i 0).val = 0
  · rw [h0]
    exact step_first 𝒱 c bd i arg1 harg1 arg2 harg2 arg3 harg3 arg4 harg4 arg5 harg5 arg6 harg6 arg7 harg7 arg8 harg8 arg9 harg9 arg10 harg10 arg11 harg11 arg12 harg12 arg13 fq P X f1 hP W j hj f2 f4 f5 f6 h0 (hX h0)
  by_cases h13 : (i 0).val + 1 < 14
  · exact step_mid 𝒱 c bd i arg1 harg1 arg2 harg2 arg3 harg3 arg4 harg4 arg5 harg5 arg6 harg6 arg7 harg7 arg8 harg8 arg9 harg9 arg10 harg10 arg11 harg11 arg12 harg12 arg13 fq P X f1 hP W j hj f2 f4 f5 f6 h0 h13
  · exact step_last 𝒱 c bd i arg1 harg1 arg2 harg2 arg3 harg3 arg4 harg4 arg5 harg5 arg6 harg6 arg7 harg7 arg8 harg8 arg9 harg9 arg10 harg10 arg11 harg11 arg12 harg12 arg13 fq P X f1 hP W j hj f2 f4 f5 f6 (by omega)

end

end

end Cert.Kernel.Hand
-- ==== Proof.Kern.Entry.lean ====
/-
  What the buffers hold when the kernel's region is entered: the table is the stable sort's permutation of the row
  numbers, the activations and the packed weights are the arguments rearranged.
-/
module

public import Idealize.ShloMosaic.Lib.SortFacts
public import Idealize.ShloMosaic.Lib.Pipeline.Frame
public import proofs.«01_k».proof.Proof.Gen.Kernel.Launch
public import proofs.«01_k».proof.Proof.Kern.Quad
public import proofs.«01_k».proof.Proof.Kern.Column
public import proofs.«01_k».proof.Proof.Kern.Dma
public import proofs.«01_k».proof.Proof.Kern.Slots
public import proofs.«01_k».proof.Proof.Kern.Body
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

/-! ## The buffers when the kernel's region is entered -/

variable (m : (ℓ : Loc nD τ sig) → Buf (Elt F) ℓ) (ρ : Dev nD → PrngReg)

/-- The host's operations before the kernel. -/
abbrev ops : List (List (HloOp τ sig (Elt F))) := [hostOps0, hostOps0_1]

/-- The buffers' contents at entry. -/
def V (c : Dev nD) (b : Ref sig .tc) : Buf (Elt F) ((c : Thread nD τ).loc b) :=
  StableHlo.after (ops (F := F)).flatten (fun b => m (c, b)) b

theorem V_of_ne (c : Dev nD) (b : Ref sig .tc) (h : ∀ op ∈ (ops (F := F)).flatten, (Proc.devRef .tc b : DevRef τ sig) ∉ op.writes) :
    V m c b = m ((c : Thread nD τ).loc b) :=
  StableHlo.after_of_forall_not_mem _ _ h

theorem V_arg0 (c : Dev nD) : V m c main_arg0 = m ((c : Thread nD τ).loc main_arg0) :=
  V_of_ne m c main_arg0 (fun op h => by
    simp only [ops, hostOps0, hostOps0_1, List.flatten_cons, List.flatten_nil, List.append_nil, List.cons_append, List.nil_append, List.mem_cons, List.not_mem_nil, or_false] at h
    rcases h with rfl | rfl | rfl | rfl | rfl | rfl | rfl <;> exact fun h => absurd (Finset.mem_singleton.mp h) (by decide))
theorem V_arg1 (c : Dev nD) : V m c main_arg1 = m ((c : Thread nD τ).loc main_arg1) :=
  V_of_ne m c main_arg1 (fun op h => by
    simp only [ops, hostOps0, hostOps0_1, List.flatten_cons, List.flatten_nil, List.append_nil, List.cons_append, List.nil_append, List.mem_cons, List.not_mem_nil, or_false] at h
    rcases h with rfl | rfl | rfl | rfl | rfl | rfl | rfl <;> exact fun h => absurd (Finset.mem_singleton.mp h) (by decide))
theorem V_arg2 (c : Dev nD) : V m c main_arg2 = m ((c : Thread nD τ).loc main_arg2) :=
  V_of_ne m c main_arg2 (fun op h => by
    simp only [ops, hostOps0, hostOps0_1, List.flatten_cons, List.flatten_nil, List.append_nil, List.cons_append, List.nil_append, List.mem_cons, List.not_mem_nil, or_false] at h
    rcases h with rfl | rfl | rfl | rfl | rfl | rfl | rfl <;> exact fun h => absurd (Finset.mem_singleton.mp h) (by decide))
theorem V_arg3 (c : Dev nD) : V m c main_arg3 = m ((c : Thread nD τ).loc main_arg3) :=
  V_of_ne m c main_arg3 (fun op h => by
    simp only [ops, hostOps0, hostOps0_1, List.flatten_cons, List.flatten_nil, List.append_nil, List.cons_append, List.nil_append, List.mem_cons, List.not_mem_nil, or_false] at h
    rcases h with rfl | rfl | rfl | rfl | rfl | rfl | rfl <;> exact fun h => absurd (Finset.mem_singleton.mp h) (by decide))
theorem V_arg4 (c : Dev nD) : V m c main_arg4 = m ((c : Thread nD τ).loc main_arg4) :=
  V_of_ne m c main_arg4 (fun op h => by
    simp only [ops, hostOps0, hostOps0_1, List.flatten_cons, List.flatten_nil, List.append_nil, List.cons_append, List.nil_append, List.mem_cons, List.not_mem_nil, or_false] at h
    rcases h with rfl | rfl | rfl | rfl | rfl | rfl | rfl <;> exact fun h => absurd (Finset.mem_singleton.mp h) (by decide))

/-- The table at entry: the row numbers carried along by the sort of the group indices. -/
theorem V_v0 (c : Dev nD) : V m c main_v0
    = (Host.sort2 S4096 0 comparator_i32_i32_d0 (m ((c : Thread nD τ).loc main_arg4)) (iotaInDim S4096 32 0)).2 := by
  unfold V ops
  simp only [List.flatten_cons, List.flatten_nil, List.append_nil, List.cons_append, List.nil_append]
  rfl

/-- The activations at entry: the argument at its two-axis shape. -/
theorem V_v1 (c : Dev nD) : V m c main_v1 = shapeCast S192x4096 (m ((c : Thread nD τ).loc main_arg0)) shapeCasts_S192x1x4096_S192x4096 := by
  unfold V ops
  simp only [List.flatten_cons, List.flatten_nil, List.append_nil, List.cons_append, List.nil_append]
  rfl

/-- The packed weights at entry: four rows' bytes a word. -/
theorem V_v4 (c : Dev nD) : V m c main_v4 = Host.bitcastConvertWiden S1024x14336 32
    (transpose S1024x14336x4 [0, 2, 1] (shapeCast S1024x4x14336 (m ((c : Thread nD τ).loc main_arg1)) shapeCasts_S4096x14336_S1024x4x14336) transposes_S1024x4x14336_S1024x14336x4_0_2_1)
    splits_S1024x14336_w32_S1024x14336x4_w8 := by
  unfold V ops
  simp only [List.flatten_cons, List.flatten_nil, List.append_nil, List.cons_append, List.nil_append]
  rfl

/-! ## The row numbers in sorted order -/

omit [FloatOps F] in
/-- The word of the iota at `k`. -/
theorem iota_at (k : Fin 4096) : (iotaInDim S4096 32 0 (ix1 k) : BitVec 32) = BitVec.ofNat 32 k.val := rfl

/-- Row `p` of the sorted order: a stable sort of the rows by their group index. -/
def perm (g : Vec F S4096 .i32) : Fin 4096 → Fin 4096 := fun p =>
  sortedFrom (fun k k' => comparator_i32_i32_d0 (g (ix1 k), iotaInDim S4096 32 0 (ix1 k)) (g (ix1 k'), iotaInDim S4096 32 0 (ix1 k')) == 1#1) p

omit [FloatOps F] in
theorem along_ix1 (j : S4096.Idx) (k : Fin 4096) : j.along (0 : Fin 1) k = ix1 k := by
  rw [Shape.Idx.along_rank1]
  exact eq_ix1 _

omit [FloatOps F] in
theorem table_perm (g : Vec F S4096 .i32) :
    Table (F := F) (perm g) (Host.sort2 S4096 0 comparator_i32_i32_d0 g (iotaInDim S4096 32 0)).2 := by
  intro p
  have hA : ∀ k, (ix1 p : S4096.Idx).along (⟨0, Nat.one_pos⟩ : Fin S4096.rank) k = ix1 k := fun k => along_ix1 _ k
  unfold Host.sort2
  refine (congrArg (iotaInDim S4096 32 0) (hA _)).trans ?_
  exact congrArg (fun b : Fin 4096 → Fin 4096 → Bool => BitVec.ofNat 32 (sortedFrom b p).val)
    (funext fun k => funext fun k' => congrArg₂ (fun a b => comparator_i32_i32_d0 (g a, iotaInDim S4096 32 0 a) (g b, iotaInDim S4096 32 0 b) == 1#1) (hA k) (hA k'))

end Cert.Kernel.Hand
-- ==== Proof.Kern.Run.lean ====
/-
  The kernel's run: the pipeline's data, a point's body against them, and what holds at entry and at exit.
-/
module

public import proofs.«01_k».proof.Proof.Kern.State
public import proofs.«01_k».proof.Proof.Kern.Entry
public import Idealize.ShloMosaic.Lib.Pipeline.Frame
public import proofs.«01_k».proof.Proof.Gen.Kernel.Launch
public import proofs.«01_k».proof.Proof.Kern.Quad
public import proofs.«01_k».proof.Proof.Kern.Column
public import proofs.«01_k».proof.Proof.Kern.Dma
public import proofs.«01_k».proof.Proof.Kern.Slots
public import proofs.«01_k».proof.Proof.Kern.Body
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand
open Idealize.ShloMosaic.Pipeline (Dat BodyObligation)

variable {F : FTy → Type} [FloatOps F]

/-- The proof's user algebra: the pipeline library's beside the transfers' counters. -/
local notation "𝕄" => MT nD τ sig Unit (Elt F) ℕ (Pipeline.UD sig nD τ) ℕ

/-! ## Whole buffers and their parts -/

omit [FloatOps F] in
theorem pts_whole (c : Dev nD) (b : Ref sig .tc) (f : Buf (Elt F) ((c : Thread nD τ).loc b)) :
    (pts c (Memref.whole b) f : sProp 𝕄) = (((c : Thread nD τ).loc b) ↦{fullShare} f) := by
  show (((c : Thread nD τ).loc b) ↦[(View.whole b).set]{fullShare} f : sProp 𝕄) = _
  rw [View.set_whole]

omit [FloatOps F] in
theorem ptsT_whole (c : Dev nD) (b : Ref sig .tc) (f : Buf (Elt F) ((c : Thread nD τ).loc b)) :
    (ptsT c (Memref.whole b) f : sProp 𝕄) = (((c : Thread nD τ).loc b) ↦{fullShare.right} f) := by
  show (((c : Thread nD τ).loc b) ↦[(View.whole b).set]{fullShare.right} f : sProp 𝕄) = _
  rw [View.set_whole]

section
variable (c : Dev nD) (arg3 : Memref sig .tc .hbm S1024x14336 .i32) (arg7 : Memref sig .tc .vmem S2x1024x8x128 .i32) (arg13 : DmaSems sig S2)

theorem slot_univ : (slotRect 0 (by decide)).set ∪ (slotRect 1 (by decide)).set = (Finset.univ : Finset S2x1024x8x128.Idx) := by
  refine Finset.eq_univ_iff_forall.mpr fun y => ?_
  have h0 : (y 0).val < 2 := (y 0).isLt
  have hm : ∀ s (hs : s < 2), (y 0).val = s → y ∈ (slotRect s hs).set := fun s hs e => by
    refine (LoadRect.mem_set _).mpr fun a => ?_
    match a with
    | ⟨0, _⟩ => exact ⟨0, Nat.one_pos, by show (y 0).val = s + 1 * 0; omega⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩
    | ⟨3, _⟩ => exact ⟨(y 3).val, (y 3).isLt, by show (y 3).val = 0 + 1 * (y 3).val; omega⟩
  have : (y 0).val = 0 ∨ (y 0).val = 1 := by omega
  rcases this with h | h
  · exact Finset.mem_union_left _ (hm 0 _ h)
  · exact Finset.mem_union_right _ (hm 1 _ h)

theorem slot_disj : Disjoint (slotRect 0 (by decide)).set (slotRect 1 (by decide)).set := by
  refine Finset.disjoint_left.mpr fun y h0 h1 => ?_
  obtain ⟨x, hx, ex⟩ := (LoadRect.mem_set _).mp h0 0
  obtain ⟨x', hx', ex'⟩ := (LoadRect.mem_set _).mp h1 0
  have hx1 : x < 1 := hx
  have hx1' : x' < 1 := hx'
  have e : (y 0).val = 0 + 1 * x := ex
  have e' : (y 0).val = 1 + 1 * x' := ex'
  omega

theorem slots_set : (arg7.view.set : Finset (Idx (arg7.view.loc (c : Thread nD τ))))
    = arg7.view.setOn (slotRect 0 (by decide)).set ∪ arg7.view.setOn (slotRect 1 (by decide)).set := by
  show Finset.map _ Finset.univ = Finset.map _ _ ∪ Finset.map _ _
  rw [← slot_univ, Finset.map_union]

theorem slots_disj : Disjoint (arg7.view.setOn (slotRect 0 (by decide)).set : Finset (Idx (arg7.view.loc (c : Thread nD τ))))
    (arg7.view.setOn (slotRect 1 (by decide)).set) :=
  (Finset.disjoint_map _).mpr slot_disj

/-- Both slots free, from the scratch, the two cells and the packed weights. -/
theorem free_open (fq : Buf (Elt F) (arg3.view.loc (c : Thread nD τ))) (f7 : Buf (Elt F) (arg7.view.loc (c : Thread nD τ))) :
    iprop(pts c arg7 f7 ∗ semVal ((c : Thread nD τ), SemLoc.dma (cellW arg13 0 (by decide))) 0 ∗ semVal ((c : Thread nD τ), SemLoc.dma (cellW arg13 1 (by decide))) 0
      ∗ pts c arg3 fq) ⊢ Free c arg3 arg7 arg13 fq := by
  unfold Free Idle
  rw [show (pts c arg7 f7 : sProp 𝕄) = (arg7.view.loc (c : Thread nD τ) ↦[arg7.view.setOn (slotRect 0 (by decide)).set ∪ arg7.view.setOn (slotRect 1 (by decide)).set]{fullShare} f7) from by
    rw [← slots_set arg7]]
  iintro ⟨H7, HS0, HS1, HQ⟩
  ihave H7 := (pointsTo_union (slots_disj arg7)).1 $$ H7
  icases H7 with ⟨HA, HB⟩
  ihave HQ := (pointsTo_share (PosShare.mem_left_op_right fullShare)).1 $$ HQ
  icases HQ with ⟨HL, HR⟩
  isplitl [HA HS0 HL]
  · isplitl [HA]; · iexists f7; iexact HA
    isplitl [HS0]; · iexact HS0
    iexact HL
  isplitl [HB]; · iexists f7; iexact HB
  isplitl [HS1]; · iexact HS1
  iexact HR

theorem slots_join (f g : Buf (Elt F) (arg7.view.loc (c : Thread nD τ))) :
    iprop(ptsS c arg7 0 (by decide) f ∗ ptsS c arg7 1 (by decide) g) ⊢ (iprop(∃ f7 : Buf (Elt F) (arg7.view.loc (c : Thread nD τ)), pts c arg7 f7) : sProp 𝕄) :=
  (pointsTo_join (slots_disj arg7)).trans (by
    rw [← slots_set arg7]
    iintro H
    iexists _
    iexact H)

/-- And back. -/
theorem free_close (fq : Buf (Elt F) (arg3.view.loc (c : Thread nD τ))) :
    Free c arg3 arg7 arg13 fq ⊢ iprop((∃ f7 : Buf (Elt F) (arg7.view.loc (c : Thread nD τ)), pts c arg7 f7) ∗ semVal ((c : Thread nD τ), SemLoc.dma (cellW arg13 0 (by decide))) 0
      ∗ semVal ((c : Thread nD τ), SemLoc.dma (cellW arg13 1 (by decide))) 0 ∗ pts c arg3 fq) := by
  unfold Free Idle
  iintro ⟨⟨⟨%f, HA⟩, HS0, HL⟩, ⟨%g, HB⟩, HS1, HR⟩
  isplitl [HA HB]
  · iapply (slots_join c arg7 f g)
    isplitl [HA]; · iexact HA
    iexact HB
  isplitl [HS0]; · iexact HS0
  isplitl [HS1]; · iexact HS1
  iapply (pointsTo_share (PosShare.mem_left_op_right fullShare)).2
  isplitl [HL]; · iexact HL
  iexact HR

end

/-! ## The pipeline's data -/

variable (m : (ℓ : Loc nD τ sig) → Buf (Elt F) ℓ) (ρ : Dev nD → PrngReg)

/-- The table the pipeline runs at. -/
def adm : (p : Fin 1) → (pcfgs (F := F) p).Adm := fun _ => ⟨fun k => V m 0 (pre0.ref k), trivial⟩

/-- The kernel's own cells: the two slots'. -/
abbrev osem0 : Fin 2 → SemLoc sig := ![.dma 7, .dma 8]
theorem ownSemFacts0 : Pipeline.OwnSemFacts spec0 osem0 := by decide
/-- The packed weights, which the kernel copies from itself. -/
abbrev H0 : Finset (Ref sig .tc) := {main_v4}
theorem H0_sub : H0 ⊆ Pipeline.restRefsP sig pre0 spec0 := by decide

theorem cell_0 : SemLoc.dma (cellW cc0_scratch6 0 (by decide)) = osem0 0 := by decide
theorem cell_1 : SemLoc.dma (cellW cc0_scratch6 1 (by decide)) = osem0 1 := by decide

/-- The windowed arrays at entry. -/
abbrev A0 (c : Dev nD) (w : Fin (cfg0 (adm m 0)).W) : Buf (Elt F) (((cfg0 (adm m 0)).win w).arr.view.loc (c.tc : Thread nD τ)) :=
  V m c (Pipeline.arrRef spec0 w)

/-- An input window's contents at a point. -/
abbrev held0 (c : Dev nD) (w : Fin (cfg0 (adm m 0)).W) (t : Fin (cfg0 (adm m 0)).N) := Pipeline.heldIn (c := c) (cfg0 (adm m 0)) (A0 m c) w t.val t.isLt

/-- The order of the rows. -/
abbrev P0 (c : Dev nD) : Fin 4096 → Fin 4096 := perm (m ((c : Thread nD τ).loc main_arg4) : Vec F S4096 .i32)
/-- The activations, as words. -/
abbrev X0 (c : Dev nD) : Vec F S192x4096 .i16 := held0 m c 0 ⟨0, by show 0 < grid0.N; rw [N_0]; decide⟩
/-- The packed weights, as words. -/
abbrev Q0 (c : Dev nD) : Vec F S1024x14336 .i32 := (Memref.whole main_v4).view.read (Elt F) (V m c main_v4)

/-- The result's block at a point. -/
def out0 (c : Dev nD) (t : Fin (cfg0 (adm m 0)).N) : Vec F S192x2048 .bf16 :=
  outC (P0 m c) (held0 m c 1 t) (held0 m c 2 t) (Q0 m c) (X0 m c) ⟨t.val, lt_of_lt_of_eq t.isLt N_0⟩

/-- What the core holds before point `n`. -/
def Phi (c : Dev nD) (n : ℕ) : sProp 𝕄 :=
  iprop(Held c (Memref.whole main_v0) (Memref.whole main_v4) (Memref.whole cc0_scratch0) (Memref.whole cc0_scratch1) (Memref.whole cc0_scratch2)
      (Memref.whole cc0_scratch3) (Memref.whole cc0_scratch4) (Memref.whole cc0_scratch5) cc0_scratch6 (V m c main_v4) (P0 m c) (X0 m c) (V m c main_v0) n
    ∗ (∃ r, prngReg c r))

def dats (_ : Fin 1) (c : Dev nD) : Dat τ (Elt F) Unit ℕ (Pipeline.UD sig nD τ) ℕ (cfg0 (adm m 0)) c where
  A w := A0 m c w
  after w t := match w with
    | ⟨0, _⟩ => held0 m c 0 t
    | ⟨1, _⟩ => held0 m c 1 t
    | ⟨2, _⟩ => held0 m c 2 t
    | ⟨3, _⟩ => out0 m c t
  Φ n := Phi m c n.val
  q _ := fullShare
  owed _ := 0

theorem A_eq (c : Dev nD) (w : Fin (cfg0 (adm m 0)).W) : (dats m 0 c).A w = V m c (Pipeline.arrRef spec0 w) := by
  dsimp only [dats]
theorem after0_0 (c : Dev nD) (t : Fin (cfg0 (adm m 0)).N) : (dats m 0 c).after 0 t = held0 m c 0 t := rfl
theorem after0_1 (c : Dev nD) (t : Fin (cfg0 (adm m 0)).N) : (dats m 0 c).after 1 t = held0 m c 1 t := rfl
theorem after0_2 (c : Dev nD) (t : Fin (cfg0 (adm m 0)).N) : (dats m 0 c).after 2 t = held0 m c 2 t := rfl
theorem after0_3 (c : Dev nD) (t : Fin (cfg0 (adm m 0)).N) : (dats m 0 c).after 3 t = out0 m c t := rfl

theorem before0_0 (c : Dev nD) (t : Fin (cfg0 (adm m 0)).N) (d) : (dats m 0 c).before 0 t d = held0 m c 0 t :=
  Dat.before_eq_heldIn (dats m 0 c) 0 rfl (fun _ => rfl) (fun _ _ => rfl) (after0_0 m c) t d
theorem before0_1 (c : Dev nD) (t : Fin (cfg0 (adm m 0)).N) (d) : (dats m 0 c).before 1 t d = held0 m c 1 t :=
  Dat.before_eq_heldIn (dats m 0 c) 1 rfl (fun _ => rfl) (fun _ _ => rfl) (after0_1 m c) t d
theorem before0_2 (c : Dev nD) (t : Fin (cfg0 (adm m 0)).N) (d) : (dats m 0 c).before 2 t d = held0 m c 2 t :=
  Dat.before_eq_heldIn (dats m 0 c) 2 rfl (fun _ => rfl) (fun _ _ => rfl) (after0_2 m c) t d

/-! ## A point's body -/

abbrev ms0_0 (t : Fin (cfg0 (adm m 0)).N) : Memref sig .tc .vmem S192x4096 .i16 := spec0_0.stage ((cfg0 (adm m 0)).slots t 0)
abbrev ms0_1 (t : Fin (cfg0 (adm m 0)).N) : Memref sig .tc .vmem S32x2048 .i16 := spec0_1.stage ((cfg0 (adm m 0)).slots t 1)
abbrev ms0_2 (t : Fin (cfg0 (adm m 0)).N) : Memref sig .tc .vmem S16x2048 .i8 := spec0_2.stage ((cfg0 (adm m 0)).slots t 2)
abbrev ms0_3 (t : Fin (cfg0 (adm m 0)).N) : Memref sig .tc .vmem S192x2048 .bf16 := spec0_3.stage ((cfg0 (adm m 0)).slots t 3)

def bodyAt0 (t : Fin (cfg0 (adm m 0)).N) : Prog (TpuEff nD τ sig (Elt F) Λ₀ .tc) PUnit :=
  cc0_gptq_linear (grid0.coords t) (Memref.whole main_v0) (Memref.isWhole_whole _) (ms0_0 m t) (hstage0_0 (((cfg0 (adm m 0)).slots t 0).cast nbuf0_0))
    (Memref.whole main_v4) (Memref.isWhole_whole _) (ms0_1 m t) (hstage0_1 (((cfg0 (adm m 0)).slots t 1).cast nbuf0_1))
    (ms0_2 m t) (hstage0_2 (((cfg0 (adm m 0)).slots t 2).cast nbuf0_2)) (ms0_3 m t) (hstage0_3 (((cfg0 (adm m 0)).slots t 3).cast nbuf0_3))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) cc0_scratch6

theorem defs₀_row (t : Fin (cfg0 (adm m 0)).N) :
    defs₀ (F := F) .tc (cfg0 (adm m 0)).body ((cfg0 (adm m 0)).bodyArgs t ((cfg0 (adm m 0)).slots t)) = bodyAt0 m t := by
  unfold defs₀; rw [Defs.onTc_tc]; rfl

def bodyPre (c : Dev nD) (t : Fin (cfg0 (adm m 0)).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d)))
def bodyPost (c : Dev nD) (t : Fin (cfg0 (adm m 0)).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t))

theorem coords0 : ∀ t : Fin grid0.N, (grid0.coords t 0).val = t.val := by decide

theorem table0 (c : Dev nD) : Table (P0 m c) ((Memref.whole main_v0).view.read (Elt F) (V m c main_v0)) := by
  have e : (Memref.whole main_v0).view.read (Elt F) (V m c main_v0) = V m c main_v0 := rfl
  rw [e, V_v0]
  exact table_perm _

theorem held_first (c : Dev nD) (t : Fin (cfg0 (adm m 0)).N) (h : t.val = 0) : held0 m c 0 t = X0 m c := by
  obtain ⟨n, hn⟩ := t
  have e : n = 0 := h
  subst e
  rfl

theorem sound_body (c : Dev nD) (t : Fin (cfg0 (adm m 0)).N) :
    bodyPre m c t ⊢ wp frame (wpE (defs₀ (F := F)) Variants.none c none) Set.univ (bodyAt0 m t) (fun _ => bodyPost m c t) := by
  have hc : (grid0.coords t 0).val = t.val := coords0 t
  unfold bodyPre bodyPost bodyAt0
  rw [show (dats m 0 c).Φ t.castSucc = Phi m c (grid0.coords t 0).val from congrArg (Phi m c) hc.symm,
    show (dats m 0 c).Φ t.succ = Phi m c ((grid0.coords t 0).val + 1) from congrArg (Phi m c) (by rw [hc]; rfl),
    after0_0, after0_1, after0_2, after0_3]
  simp only [before0_0, before0_1, before0_2]
  unfold Dat.owesAt Pipeline.owesWithin
  rw [show (dats m 0 c).owed t.castSucc = 0 from rfl, show (dats m 0 c).owed t.succ = 0 from rfl]
  unfold Phi owns
  iintro ⟨⟨HH, Hg⟩, ⟨%W, -, HW⟩, ⟨%d0, %f2, %e2, H2⟩, ⟨%d1, %f4, %e4, H4⟩, ⟨%d2, %f5, %e5, H5⟩, ⟨%d3, %f6, %e6, H6⟩⟩
  iapply (wp_wand_r frame (wpE (defs₀ (F := F)) Variants.none (c : Thread nD τ) none) Set.univ)
  isplitl [HH HW H2 H4 H5 H6]
  · iapply (step Variants.none c none (grid0.coords t) (Memref.whole main_v0) (Memref.isWhole_whole _) (ms0_0 m t) (hstage0_0 (((cfg0 (adm m 0)).slots t 0).cast nbuf0_0))
      (Memref.whole main_v4) (Memref.isWhole_whole _) (ms0_1 m t) (hstage0_1 (((cfg0 (adm m 0)).slots t 1).cast nbuf0_1))
      (ms0_2 m t) (hstage0_2 (((cfg0 (adm m 0)).slots t 2).cast nbuf0_2)) (ms0_3 m t) (hstage0_3 (((cfg0 (adm m 0)).slots t 3).cast nbuf0_3))
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _) cc0_scratch6
      (V m c main_v4) (P0 m c) (X0 m c) (V m c main_v0) (table0 m c) W ⟨t.val, lt_of_lt_of_eq t.isLt N_0⟩ hc.symm f2 f4 f5 f6
      (fun h => e2.trans (held_first m c t (hc.symm.trans h))))
    isplitl [HH]; · iexact HH
    isplitl [HW]; · iexact HW
    isplitl [H2]; · iexact H2
    isplitl [H4]; · iexact H4
    isplitl [H5]; · iexact H5
    iexact H6
  iintro %_ ⟨HH, HL⟩
  ihave HL := (show Left c (ms0_0 m t) (Memref.whole main_v4) (ms0_1 m t) (ms0_2 m t) (ms0_3 m t) (V m c main_v4) (P0 m c) (X0 m c) ⟨t.val, lt_of_lt_of_eq t.isLt N_0⟩ f2 f4 f5
    ⊢ iprop((∃ W', owes (c : Thread nD τ) 0 W') ∗ pts c (ms0_0 m t) f2 ∗ pts c (ms0_1 m t) f4 ∗ pts c (ms0_2 m t) f5
    ∗ (∃ f6' : Buf (Elt F) ((ms0_3 m t).view.loc (c : Thread nD τ)), ⌜(ms0_3 m t).view.read (Elt F) f6' = outC (P0 m c) ((ms0_1 m t).view.read (Elt F) f4) ((ms0_2 m t).view.read (Elt F) f5) ((Memref.whole main_v4).view.read (Elt F) (V m c main_v4)) (X0 m c) ⟨t.val, lt_of_lt_of_eq t.isLt N_0⟩⌝ ∗ pts c (ms0_3 m t) f6')) from .rfl) $$ HL
  icases HL with ⟨⟨%W', HW⟩, H2, H4, H5, ⟨%g6, %eg, H6⟩⟩
  isplitl [HH Hg]
  · isplitl [HH]; · iexact HH
    iexact Hg
  isplitl [HW]
  · iexists W'; isplitr; · ipureintro; exact fun _ _ => Or.inl trivial
    iexact HW
  isplitl [H2]
  · iexists f2; isplitr; · ipureintro; exact e2
    iexact H2
  isplitl [H4]
  · iexists f4; isplitr; · ipureintro; exact e4
    iexact H4
  isplitl [H5]
  · iexists f5; isplitr; · ipureintro; exact e5
    iexact H5
  iexists g6; isplitr
  · ipureintro; rw [eg, e4, e5]; rfl
  iexact H6

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Entry and exit -/

theorem own_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma (cellW cc0_scratch6 0 (by decide))) 0 ∗ semVal ((c : Thread nD τ), SemLoc.dma (cellW cc0_scratch6 1 (by decide))) 0) := by
  rw [cell_0, cell_1]
  exact (Pipeline.ownSems0_eq_of_list c osem0 [0, 1] (by decide) (by decide)).trans rfl

theorem H0_list : H0 = [main_v4].toFinset := by decide
theorem pre_ref : pre0.ref 0 = main_v0 := rfl

theorem at_ref (c : Dev nD) (q : PosShare TreeShare) {b b' : Ref sig .tc} (e : b = b') :
    ((((c : Thread nD τ).loc b) ↦{q} V m c b) : sProp 𝕄) = (((c : Thread nD τ).loc b') ↦{q} V m c b') := by subst e; rfl

theorem packed_eq (c : Dev nD) : (bigSep H0 (fun b => (((c : Thread nD τ).loc b) ↦{fullShare} V m c b)) : sProp 𝕄) = (((c : Thread nD τ).loc main_v4) ↦{fullShare} V m c main_v4) :=
  (BI.bigSep_eq_bigSepL_of_eq [main_v4] H0_list (List.nodup_singleton _) _).trans rfl

theorem tables_at : (Pipeline.ΦT (τ := τ) pre0 (adm m 0).1 0 : sProp 𝕄) = ((((0 : Dev nD) : Thread nD τ).loc (pre0.ref 0)) ↦{fullShare.right} V m 0 (pre0.ref 0)) := by
  have hV : (adm m 0).1 = fun k => V m 0 (pre0.ref k) := rfl
  unfold Pipeline.ΦT Pipeline.prefHeld
  rw [hV]
  exact (congrArg (fun S : Finset (Fin 1) => bigSep S _) (Finset.univ_unique (α := Fin 1))).trans bigSep_singleton

theorem tables_eq : (Pipeline.ΦT (τ := τ) pre0 (adm m 0).1 0 : sProp 𝕄) = (((0 : Dev nD) : Thread nD τ).loc main_v0 ↦{fullShare.right} V m 0 main_v0) :=
  (tables_at m).trans (at_ref m 0 fullShare.right pre_ref)

theorem phi_in (c : Dev nD) : iprop(Pipeline.ΦD osem0 spec0 H0 (V m) c ∗ Pipeline.ΦT pre0 (adm m 0).1 c) ⊢ (Phi m c 0 : sProp 𝕄) := by
  have hc : c = 0 := Subsingleton.elim _ _
  subst hc
  rw [Pipeline.ΦD_eq, scopedRest0_eq, own_eq, packed_eq, tables_eq]
  unfold Phi Held
  rw [slots_free _ _ _ _ _ (.inl rfl)]
  iintro ⟨⟨⟨⟨%f7, H7⟩, ⟨%f8, H8⟩, ⟨%f9, H9⟩, ⟨%f10, H10⟩, ⟨%f11, H11⟩, ⟨%f12, H12⟩⟩, Hg, ⟨HS0, HS1⟩, HQ⟩, HT⟩
  ihave H7 := (Entails.of_eq (pts_whole 0 cc0_scratch0 f7).symm) $$ H7
  ihave H8 := (Entails.of_eq (pts_whole 0 cc0_scratch1 f8).symm) $$ H8
  ihave H9 := (Entails.of_eq (pts_whole 0 cc0_scratch2 f9).symm) $$ H9
  ihave H10 := (Entails.of_eq (pts_whole 0 cc0_scratch3 f10).symm) $$ H10
  ihave H11 := (Entails.of_eq (pts_whole 0 cc0_scratch4 f11).symm) $$ H11
  ihave H12 := (Entails.of_eq (pts_whole 0 cc0_scratch5 f12).symm) $$ H12
  ihave HQ := (Entails.of_eq (pts_whole 0 main_v4 (V m 0 main_v4)).symm) $$ HQ
  ihave HT := (Entails.of_eq (ptsT_whole 0 main_v0 (V m 0 main_v0)).symm) $$ HT
  isplitr [Hg]
  · isplitl [H7 HS0 HS1 HQ]
    · iapply (free_open 0 (Memref.whole main_v4) (Memref.whole cc0_scratch0) cc0_scratch6 (V m 0 main_v4) f7)
      isplitl [H7]; · iexact H7
      isplitl [HS0]; · iexact HS0
      isplitl [HS1]; · iexact HS1
      iexact HQ
    isplitl [HT]; · iexact HT
    isplitl [H8]; · iexists f8; iexact H8
    isplitl [H9]; · iexists f9; iexact H9
    isplitl [H10]; · iexists f10; iexact H10
    isplitl [H11]
    · iexists f11; isplitr; · ipureintro; exact fun h => absurd rfl h
      iexact H11
    iexists f12; iexact H12
  iexact Hg

theorem phi_out (c : Dev nD) : (Phi m c 14 : sProp 𝕄) ⊢ Pipeline.ΦD osem0 spec0 H0 (V m) c := by
  rw [Pipeline.ΦD_eq, scopedRest0_eq, own_eq, packed_eq]
  unfold Phi Held
  rw [slots_free _ _ _ _ _ (.inr rfl)]
  iintro ⟨⟨HF, -, ⟨%f8, H8⟩, ⟨%f9, H9⟩, ⟨%f10, H10⟩, ⟨%f11, -, H11⟩, ⟨%f12, H12⟩⟩, Hg⟩
  ihave HF := (free_close c (Memref.whole main_v4) (Memref.whole cc0_scratch0) cc0_scratch6 (V m c main_v4)) $$ HF
  icases HF with ⟨⟨%f7, H7⟩, HS0, HS1, HQ⟩
  ihave H7 := (Entails.of_eq (pts_whole c cc0_scratch0 f7)) $$ H7
  ihave H8 := (Entails.of_eq (pts_whole c cc0_scratch1 f8)) $$ H8
  ihave H9 := (Entails.of_eq (pts_whole c cc0_scratch2 f9)) $$ H9
  ihave H10 := (Entails.of_eq (pts_whole c cc0_scratch3 f10)) $$ H10
  ihave H11 := (Entails.of_eq (pts_whole c cc0_scratch4 f11)) $$ H11
  ihave H12 := (Entails.of_eq (pts_whole c cc0_scratch5 f12)) $$ H12
  ihave HQ := (Entails.of_eq (pts_whole c main_v4 (V m c main_v4))) $$ HQ
  isplitl [H7 H8 H9 H10 H11 H12]
  · isplitl [H7]; · iexists f7; iexact H7
    isplitl [H8]; · iexists f8; iexact H8
    isplitl [H9]; · iexists f9; iexact H9
    isplitl [H10]; · iexists f10; iexact H10
    isplitl [H11]; · iexists f11; iexact H11
    iexists f12; iexact H12
  isplitl [Hg]; · iexact Hg
  isplitl [HS0 HS1]
  · isplitl [HS0]; · iexact HS0
    iexact HS1
  iexact HQ

theorem rest_arg0 : main_arg0 ∈ Pipeline.restRefs sig spec0 := Pipeline.mem_restRefs_of main_arg0 (by decide) (by decide)
theorem rest_arg1 : main_arg1 ∈ Pipeline.restRefs sig spec0 := Pipeline.mem_restRefs_of main_arg1 (by decide) (by decide)
theorem rest_arg4 : main_arg4 ∈ Pipeline.restRefs sig spec0 := Pipeline.mem_restRefs_of main_arg4 (by decide) (by decide)

/-! ## The run -/

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main ops
    ⟨hostOps0_sub, hostOps0_1_sub⟩ ⟨⟨rfl, rfl, rfl⟩, ⟨rfl, rfl, rfl, rfl⟩⟩ fun c => (main_chain c).trans rfl

set_option backward.isDefEq.respectTransparency.types false in
theorem run_main : θ_run defs (onTc (τ := τ) (main (F := F))) (s₀ m ρ)
    (fun r => Pipeline.FramePost (Pipeline.pin (pcfgs (F := F)) (adm m)) (dats m) 0 (V m) r ∧ r.2.sem = fun _ => 0) :=
  Pipeline.θ_run_frameP_dma (Q' := _) (pcfgs (F := F)) (adm m) (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hpf := fun c k => by rw [show c = 0 from Subsingleton.elim _ _]; rfl)
    (hin := phi_in m) (hout := phi_out m)

/-- The arguments at the end, the machine quiescent, and the result as the write-backs left it. -/
theorem run_post : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v5) = (dats m 0 c).arrAt 3 (cfg0 (adm m 0)).N)
      ∧ r.2.sem = fun _ => 0) :=
  (θ_run defs _ _).mono (fun _ h => ⟨fun c => ⟨((h.1 c).2 main_arg0 rest_arg0).trans (V_arg0 m c),
      ((h.1 c).2 main_arg1 rest_arg1).trans (V_arg1 m c),
      (((h.1 c).1 1).trans (Dat.arrAt_in (dats m 0 c) 1 rfl _)).trans (V_arg2 m c),
      (((h.1 c).1 2).trans (Dat.arrAt_in (dats m 0 c) 2 rfl _)).trans (V_arg3 m c),
      ((h.1 c).2 main_arg4 rest_arg4).trans (V_arg4 m c), (h.1 c).1 3⟩, h.2⟩) (run_main m ρ)

end Cert.Kernel.Hand
-- ==== Proof.KernI.Gather.lean ====
/-
  The first grid point's three loops over the activations: fold two rows of `x` into words and transpose, gather
  the word rows by the permutation, transpose back and read the words as `bf16`. After them the scratch `xs` holds,
  at `(m, p)`, the value of `x (m, perm p)`.
-/
module

public import proofs.«01_k».proof.Proof.Gen.KernelIdeal.Loops
public import proofs.«01_k».proof.Proof.Kern.Base
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

/-- A whole buffer, seen through a memref, held at contents `f`. -/
abbrev pts {sp : Space} {s : Shape} {e : EltTy} (c : Dev nD) (m : Memref sig .tc sp s e) (f : Buf (Elt F) (m.view.loc (c : Thread nD τ))) : sProp 𝕄 :=
  (m.view.loc (c : Thread nD τ)) ↦[m.view.set]{fullShare} f

/-- A table in scalar memory, the half of it a point's body may read. -/
abbrev ptsT {sp : Space} {s : Shape} {e : EltTy} (c : Dev nD) (m : Memref sig .tc sp s e) (f : Buf (Elt F) (m.view.loc (c : Thread nD τ))) : sProp 𝕄 :=
  (m.view.loc (c : Thread nD τ)) ↦[m.view.set]{fullShare.right} f

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)
  (k0_h1 : k0_cond1 i = 1#1)

/-- Rows below `n` of the folded words: word `(k, l)` is `x (2l+1, k)` on `x (2l, k)`. -/
def Folded (X : Vec F S192x4096 .i16) (n : ℕ) (W : Vec F S4096x128 .i32) : Prop :=
  ∀ (k : Fin 4096) (l : Fin 96), k.val < n →
    (W (ix2 k ⟨l.val, by omega⟩) : BitVec 32)
      = (X (ix2 ⟨2 * l.val + 1, by omega⟩ k) : BitVec 16) ++ (X (ix2 ⟨2 * l.val, by omega⟩ k) : BitVec 16)

/-- Rows below `n` of the sorted words: row `p` is row `P p` of the folded ones. -/
def Sorted (P : Fin 4096 → Fin 4096) (W : Vec F S4096x128 .i32) (n : ℕ) (W' : Vec F S4096x128 .i32) : Prop :=
  ∀ (p : Fin 4096) (l : Fin 128), p.val < n → W' (ix2 p l) = W (ix2 (P p) l)

/-- Columns below `n` of the sorted activations, as `bf16`. -/
def Unfolded (X : Vec F S192x4096 .i16) (P : Fin 4096 → Fin 4096) (n : ℕ) (Y : Vec F S192x4096 .bf16) : Prop :=
  ∀ (m : Fin 192) (p : Fin 4096), p.val < n → Y (ix2 m p) = FloatOps.ofBits .bf16 (X (ix2 m (P p)) : BitVec 16)

omit [FloatOps F] in
theorem fold_word (v : Vec F S192x128 .i16) (k : Fin 128) (l : Fin 96) :
    k0_pay3 v (ix2 k l) = (v (ix2 ⟨2 * l.val + 1, by omega⟩ k) : BitVec 16) ++ (v (ix2 ⟨2 * l.val, by omega⟩ k) : BitVec 16) := by
  unfold k0_pay3
  simp only [shapeCast_self]
  rw [transpose_ix2_apply]
  exact bitcast_16_32_ix2 v _ l k ⟨2 * l.val, by omega⟩ ⟨2 * l.val + 1, by omega⟩ rfl rfl

theorem unfold_val (v : Vec F S128x96 .i32) (m : Fin 192) (k : Fin 128) :
    k0_pay56 v (ix2 m k) = FloatOps.ofBits .bf16 ((v (ix2 k ⟨m.val / 2, by omega⟩) : BitVec 32).extractLsb' (16 * (m.val % 2)) 16) := by
  unfold k0_pay56
  simp only [shapeCast_self]
  refine congrArg (FloatOps.ofBits .bf16) ((bitcast_32_16_ix2 (R := 192) (r := 96) (n := 128) _ _ m k ⟨m.val / 2, by omega⟩ rfl).trans ?_)
  rw [transpose_ix2_apply]

theorem fold_step (f2 : Buf (Elt F) (arg2.view.loc (c : Thread nD τ))) (f9 : Buf (Elt F) (arg9.view.loc (c : Thread nD τ)))
    (k : Fin k0_t1_loop.trips) (h : Folded (arg2.view.read (Elt F) f2) (128 * k.val) (arg9.view.read (Elt F) f9)) :
   iprop(pts c arg2 f2 ∗
    pts c arg9 f9) ⊢
    wp frame (wpE (defs₀ (F := F)) 𝒱 (c : Thread nD τ) bd) Set.univ
      (k0_t1_body (F := F) i arg1 harg1 arg2 harg2 arg3 harg3 arg4 harg4 arg5 harg5 arg6 harg6 arg7 harg7 arg8 harg8 arg9 harg9 arg10 harg10 arg11 harg11 arg12 harg12 arg13 k0_h1 k ())
      (fun _ => iprop(pts c arg2 f2 ∗
        ∃ f9' : Buf (Elt F) (arg9.view.loc (c : Thread nD τ)), ⌜Folded (arg2.view.read (Elt F) f2) (128 * (k.val + 1)) (arg9.view.read (Elt F) f9')⌝ ∗
          pts c arg9 f9')) := by
  have hk : k.val < 32 := Nat.lt_of_lt_of_le k.isLt k0_t1_abs.2.1
  unfold k0_t1_body pts
  iintro ⟨H2, H9⟩
  sl_exec
  sl_step
  isplitl [H2]; · iexact H2
  iexists _; isplitr; swap; · iexact H9
  ipureintro
  intro r l hr
  by_cases hlt : r.val < 128 * k.val
  · refine (View.read_writes_cons_unit_of_not_mem arg9.view f9 _ _ _ _ (k0_off2_eq k) 0 (Or.inl hlt)).trans ?_
    exact h r l hlt
  · refine (View.read_writes_cons_unit_of_mem arg9.view f9 _ _ _ _ (ix2 (n0 := 128) (n1 := 96) ⟨r.val - 128 * k.val, by omega⟩ l)
      (k0_off2_eq k) (fun a => ?_)).trans ?_
    · match a with
      | ⟨0, _⟩ => show r.val = 128 * k.val + (r.val - 128 * k.val); omega
      | ⟨1, _⟩ => show l.val = 0 + l.val; omega
    refine (fold_word _ _ _).trans ?_
    congr 1
    all_goals
      refine readAt_at arg2.view f2 _ (k0_off1_eq k) _ _ fun a => ?_
      match a with
      | ⟨0, _⟩ => exact (Nat.zero_add _).symm
      | ⟨1, _⟩ => show r.val = 128 * k.val + (r.val - 128 * k.val); omega

theorem chk1_of (v : BitVec 32) (h : v.toNat < 4096) : k0_chk1 i v := by
  intro _ a
  match a with
  | ⟨0, _⟩ => show v.toNat + 1 ≤ 4096; omega
  | ⟨1, _⟩ => show 0 + 128 ≤ 128; omega

/-- The table of row numbers: word `p` is `P p`. -/
def Table (P : Fin 4096 → Fin 4096) (T : Vec F S4096 .i32) : Prop :=
  ∀ p : Fin 4096, (T (ix1 p) : BitVec 32) = BitVec.ofNat 32 (P p).val

omit [FloatOps F] in
theorem Table.toNat {P : Fin 4096 → Fin 4096} {T : Vec F S4096 .i32} (h : Table P T) (p : S4096.Idx) :
    (T p : BitVec 32).toNat = (P (p 0)).val := by
  have e : T p = BitVec.ofNat 32 (P (p 0)).val := (congrArg T (eq_ix1 p)).trans (h (p 0))
  refine (congrArg BitVec.toNat e).trans ?_
  rw [BitVec.toNat_ofNat]
  exact Nat.mod_eq_of_lt (Nat.lt_trans (P _).isLt (by decide))

theorem row_step (P : Fin 4096 → Fin 4096) (f1 : Buf (Elt F) (arg1.view.loc (c : Thread nD τ))) (f9 : Buf (Elt F) (arg9.view.loc (c : Thread nD τ))) (f10 : Buf (Elt F) (arg10.view.loc (c : Thread nD τ)))
    (k : Fin k0_t2_loop.trips) (hP : Table P (arg1.view.read (Elt F) f1)) (h : Sorted P (arg9.view.read (Elt F) f9) k.val (arg10.view.read (Elt F) f10)) :
   iprop(ptsT c arg1 f1 ∗ pts c arg9 f9 ∗ pts c arg10 f10) ⊢
    wp frame (wpE (defs₀ (F := F)) 𝒱 (c : Thread nD τ) bd) Set.univ
      (k0_t2_body (F := F) i arg1 harg1 arg2 harg2 arg3 harg3 arg4 harg4 arg5 harg5 arg6 harg6 arg7 harg7 arg8 harg8 arg9 harg9 arg10 harg10 arg11 harg11 arg12 harg12 arg13 k0_h1 k ())
      (fun _ => iprop(ptsT c arg1 f1 ∗ pts c arg9 f9 ∗
        ∃ f10' : Buf (Elt F) (arg10.view.loc (c : Thread nD τ)), ⌜Sorted P (arg9.view.read (Elt F) f9) (k.val + 1) (arg10.view.read (Elt F) f10')⌝ ∗ pts c arg10 f10')) := by
  have hk : k.val < 4096 := Nat.lt_of_lt_of_le k.isLt k0_t2_abs.2.1
  unfold k0_t2_body pts
  iintro ⟨H1, H9, H10⟩
  sl_exec (disch := exact chk1_of _ _ ((hP.toNat _).trans_lt (Fin.isLt _)))
  sl_step
  isplitl [H1]; · iexact H1
  isplitl [H9]; · iexact H9
  iexists _; isplitr; swap; · iexact H10
  ipureintro
  intro p l hp
  by_cases hlt : p.val < k.val
  · refine (View.read_writes_cons_unit_of_not_mem arg10.view f10 _ _ _ _ (k0_off5_eq k) 0 (Or.inl hlt)).trans ?_
    exact h p l hlt
  · have hpk : p = ⟨k.val, hk⟩ := Fin.ext (by show p.val = k.val; omega)
    subst hpk
    refine (View.read_writes_cons_unit_of_mem arg10.view f10 _ _ _ _ (ix2 (n0 := 1) (n1 := 128) 0 l)
      (k0_off5_eq k) (fun a => ?_)).trans ?_
    · match a with
      | ⟨0, _⟩ => rfl
      | ⟨1, _⟩ => exact (Nat.zero_add _).symm
    unfold k0_pay55
    rw [shapeCast_self]
    refine readAt_at arg9.view f9 _ rfl _ _ fun a => ?_
    match a with
    | ⟨0, _⟩ =>
      show (P _).val = (arg1.view.read (Elt F) f1 _ : BitVec 32).toNat + 0
      rw [hP.toNat, Nat.add_zero]
      refine congrArg (fun z => (P z).val) (Fin.ext ?_)
      show k.val = k0_off3 k 0 + 1 * 0
      rw [k0_off3_eq]; rfl
    | ⟨1, _⟩ => exact (Nat.zero_add _).symm

theorem unfold_step (P : Fin 4096 → Fin 4096) (X : Vec F S192x4096 .i16) (W : Vec F S4096x128 .i32)
    (f10 : Buf (Elt F) (arg10.view.loc (c : Thread nD τ))) (f11 : Buf (Elt F) (arg11.view.loc (c : Thread nD τ))) (k : Fin k0_t3_loop.trips)
    (hW : Folded X 4096 W) (hS : Sorted P W 4096 (arg10.view.read (Elt F) f10)) (h : Unfolded X P (128 * k.val) (arg11.view.read (Elt F) f11)) :
   iprop(pts c arg10 f10 ∗ pts c arg11 f11) ⊢
    wp frame (wpE (defs₀ (F := F)) 𝒱 (c : Thread nD τ) bd) Set.univ
      (k0_t3_body (F := F) i arg1 harg1 arg2 harg2 arg3 harg3 arg4 harg4 arg5 harg5 arg6 harg6 arg7 harg7 arg8 harg8 arg9 harg9 arg10 harg10 arg11 harg11 arg12 harg12 arg13 k0_h1 k ())
      (fun _ => iprop(pts c arg10 f10 ∗
        ∃ f11' : Buf (Elt F) (arg11.view.loc (c : Thread nD τ)), ⌜Unfolded X P (128 * (k.val + 1)) (arg11.view.read (Elt F) f11')⌝ ∗ pts c arg11 f11')) := by
  have hk : k.val < 32 := Nat.lt_of_lt_of_le k.isLt k0_t3_abs.2.1
  unfold k0_t3_body pts
  iintro ⟨H10, H11⟩
  sl_exec
  sl_step
  isplitl [H10]; · iexact H10
  iexists _; isplitr; swap; · iexact H11
  ipureintro
  intro m p hp
  by_cases hlt : p.val < 128 * k.val
  · refine (View.read_writes_cons_unit_of_not_mem arg11.view f11 _ _ _ _ (k0_off7_eq k) 1 (Or.inl hlt)).trans ?_
    exact h m p hlt
  · refine (View.read_writes_cons_unit_of_mem arg11.view f11 _ _ _ _ (ix2 (n0 := 192) (n1 := 128) m ⟨p.val - 128 * k.val, by omega⟩)
      (k0_off7_eq k) (fun a => ?_)).trans ?_
    · match a with
      | ⟨0, _⟩ => exact (Nat.zero_add _).symm
      | ⟨1, _⟩ => show p.val = 128 * k.val + (p.val - 128 * k.val); omega
    refine (unfold_val _ _ _).trans ?_
    refine congrArg (FloatOps.ofBits .bf16) ?_
    have e := readAt_at arg10.view f10 (size := S128x96.size) (k0_off6_inb i k k0_h1) (k0_off6_eq k)
      (ix2 (n0 := 128) (n1 := 96) ⟨p.val - 128 * k.val, by omega⟩ ⟨m.val / 2, by omega⟩)
      (ix2 (n0 := 4096) (n1 := 128) p ⟨m.val / 2, by omega⟩) (fun a => by
        match a with
        | ⟨0, _⟩ => show p.val = 128 * k.val + (p.val - 128 * k.val); omega
        | ⟨1, _⟩ => exact (Nat.zero_add _).symm)
    rw [e, hS p ⟨m.val / 2, by omega⟩ p.isLt]
    erw [hW (P p) ⟨m.val / 2, by omega⟩ (P p).isLt]
    rcases Nat.mod_two_eq_zero_or_one m.val with h2 | h2
    · rw [h2, extract_lo]
      exact congrArg (fun z => X (ix2 z (P p))) (Fin.ext (by show 2 * (m.val / 2) = m.val; omega))
    · rw [h2, extract_hi]
      exact congrArg (fun z => X (ix2 z (P p))) (Fin.ext (by show 2 * (m.val / 2) + 1 = m.val; omega))

theorem trips_t1 : k0_t1_loop.trips = 32 := by decide
theorem trips_t2 : k0_t2_loop.trips = 4096 := by decide
theorem trips_t3 : k0_t3_loop.trips = 32 := by decide

theorem fold_loop (f2 : Buf (Elt F) (arg2.view.loc (c : Thread nD τ))) (f9 : Buf (Elt F) (arg9.view.loc (c : Thread nD τ))) :
   iprop(pts c arg2 f2 ∗ pts c arg9 f9) ⊢
    wp frame (wpE (defs₀ (F := F)) 𝒱 (c : Thread nD τ) bd) Set.univ
      (Scf.Loop.for k0_t1_loop (k0_t1_ok i k0_h1) () (k0_t1_body (F := F) i arg1 harg1 arg2 harg2 arg3 harg3 arg4 harg4 arg5 harg5 arg6 harg6 arg7 harg7 arg8 harg8 arg9 harg9 arg10 harg10 arg11 harg11 arg12 harg12 arg13 k0_h1))
      (fun _ => iprop(pts c arg2 f2 ∗
        ∃ f9' : Buf (Elt F) (arg9.view.loc (c : Thread nD τ)), ⌜Folded (arg2.view.read (Elt F) f2) 4096 (arg9.view.read (Elt F) f9')⌝ ∗ pts c arg9 f9')) := by
  iintro ⟨H2, H9⟩
  iapply (Scf.wp_for frame (wpE (defs₀ (F := F)) 𝒱 (c : Thread nD τ) bd) Set.univ k0_t1_loop.lb k0_t1_loop.ub k0_t1_loop.st (k0_t1_ok i k0_h1) () _
    (fun k _ => iprop(pts c arg2 f2 ∗
        ∃ f9' : Buf (Elt F) (arg9.view.loc (c : Thread nD τ)), ⌜Folded (arg2.view.read (Elt F) f2) (128 * k) (arg9.view.read (Elt F) f9')⌝ ∗ pts c arg9 f9')) ?_)
  · intro k _
    iintro ⟨H2, %g, %hg, H9⟩
    iapply (fold_step 𝒱 c bd i arg1 harg1 arg2 harg2 arg3 harg3 arg4 harg4 arg5 harg5 arg6 harg6 arg7 harg7 arg8 harg8 arg9 harg9 arg10 harg10 arg11 harg11 arg12 harg12 arg13 k0_h1 f2 g k hg)
    isplitl [H2]; · iexact H2
    iexact H9
  isplitl [H2 H9]
  · isplitl [H2]; · iexact H2
    iexists f9; isplitr; swap; · iexact H9
    ipureintro; intro r l hr; exact absurd hr (Nat.not_lt_zero _)
  iintro %u H
  rw [show Scf.trips k0_t1_loop.lb k0_t1_loop.ub k0_t1_loop.st = 32 from trips_t1]
  iexact H

theorem row_loop (P : Fin 4096 → Fin 4096) (f1 : Buf (Elt F) (arg1.view.loc (c : Thread nD τ))) (f9 : Buf (Elt F) (arg9.view.loc (c : Thread nD τ))) (f10 : Buf (Elt F) (arg10.view.loc (c : Thread nD τ))) (hP : Table P (arg1.view.read (Elt F) f1)) :
   iprop(ptsT c arg1 f1 ∗ pts c arg9 f9 ∗ pts c arg10 f10) ⊢
    wp frame (wpE (defs₀ (F := F)) 𝒱 (c : Thread nD τ) bd) Set.univ
      (Scf.Loop.for k0_t2_loop (k0_t2_ok i k0_h1) () (k0_t2_body (F := F) i arg1 harg1 arg2 harg2 arg3 harg3 arg4 harg4 arg5 harg5 arg6 harg6 arg7 harg7 arg8 harg8 arg9 harg9 arg10 harg10 arg11 harg11 arg12 harg12 arg13 k0_h1))
      (fun _ => iprop(ptsT c arg1 f1 ∗ pts c arg9 f9 ∗
        ∃ f10' : Buf (Elt F) (arg10.view.loc (c : Thread nD τ)), ⌜Sorted P (arg9.view.read (Elt F) f9) 4096 (arg10.view.read (Elt F) f10')⌝ ∗ pts c arg10 f10')) := by
  iintro ⟨H1, H9, H10⟩
  iapply (Scf.wp_for frame (wpE (defs₀ (F := F)) 𝒱 (c : Thread nD τ) bd) Set.univ k0_t2_loop.lb k0_t2_loop.ub k0_t2_loop.st (k0_t2_ok i k0_h1) () _
    (fun k _ => iprop(ptsT c arg1 f1 ∗ pts c arg9 f9 ∗
        ∃ f10' : Buf (Elt F) (arg10.view.loc (c : Thread nD τ)), ⌜Sorted P (arg9.view.read (Elt F) f9) k (arg10.view.read (Elt F) f10')⌝ ∗ pts c arg10 f10')) ?_)
  · intro k _
    iintro ⟨H1, H9, %g, %hg, H10⟩
    iapply (row_step 𝒱 c bd i arg1 harg1 arg2 harg2 arg3 harg3 arg4 harg4 arg5 harg5 arg6 harg6 arg7 harg7 arg8 harg8 arg9 harg9 arg10 harg10 arg11 harg11 arg12 harg12 arg13 k0_h1 P f1 f9 g k hP hg)
    isplitl [H1]; · iexact H1
    isplitl [H9]; · iexact H9
    iexact H10
  isplitl [H1 H9 H10]
  · isplitl [H1]; · iexact H1
    isplitl [H9]; · iexact H9
    iexists f10; isplitr; swap; · iexact H10
    ipureintro; intro r l hr; exact absurd hr (Nat.not_lt_zero _)
  iintro %u H
  rw [show Scf.trips k0_t2_loop.lb k0_t2_loop.ub k0_t2_loop.st = 4096 from trips_t2]
  iexact H

theorem unfold_loop (P : Fin 4096 → Fin 4096) (X : Vec F S192x4096 .i16) (W : Vec F S4096x128 .i32)
    (f10 : Buf (Elt F) (arg10.view.loc (c : Thread nD τ))) (f11 : Buf (Elt F) (arg11.view.loc (c : Thread nD τ))) (hW : Folded X 4096 W) (hS : Sorted P W 4096 (arg10.view.read (Elt F) f10)) :
   iprop(pts c arg10 f10 ∗ pts c arg11 f11) ⊢
    wp frame (wpE (defs₀ (F := F)) 𝒱 (c : Thread nD τ) bd) Set.univ
      (Scf.Loop.for k0_t3_loop (k0_t3_ok i k0_h1) () (k0_t3_body (F := F) i arg1 harg1 arg2 harg2 arg3 harg3 arg4 harg4 arg5 harg5 arg6 harg6 arg7 harg7 arg8 harg8 arg9 harg9 arg10 harg10 arg11 harg11 arg12 harg12 arg13 k0_h1))
      (fun _ => iprop(pts c arg10 f10 ∗
        ∃ f11' : Buf (Elt F) (arg11.view.loc (c : Thread nD τ)), ⌜Unfolded X P 4096 (arg11.view.read (Elt F) f11')⌝ ∗ pts c arg11 f11')) := by
  iintro ⟨H10, H11⟩
  iapply (Scf.wp_for frame (wpE (defs₀ (F := F)) 𝒱 (c : Thread nD τ) bd) Set.univ k0_t3_loop.lb k0_t3_loop.ub k0_t3_loop.st (k0_t3_ok i k0_h1) () _
    (fun k _ => iprop(pts c arg10 f10 ∗
        ∃ f11' : Buf (Elt F) (arg11.view.loc (c : Thread nD τ)), ⌜Unfolded X P (128 * k) (arg11.view.read (Elt F) f11')⌝ ∗ pts c arg11 f11')) ?_)
  · intro k _
    iintro ⟨H10, %g, %hg, H11⟩
    iapply (unfold_step 𝒱 c bd i arg1 harg1 arg2 harg2 arg3 harg3 arg4 harg4 arg5 harg5 arg6 harg6 arg7 harg7 arg8 harg8 arg9 harg9 arg10 harg10 arg11 harg11 arg12 harg12 arg13 k0_h1 P X W f10 g k hW hS hg)
    isplitl [H10]; · iexact H10
    iexact H11
  isplitl [H10 H11]
  · isplitl [H10]; · iexact H10
    iexists f11; isplitr; swap; · iexact H11
    ipureintro; intro m p hp; exact absurd hp (Nat.not_lt_zero _)
  iintro %u H
  rw [show Scf.trips k0_t3_loop.lb k0_t3_loop.ub k0_t3_loop.st = 32 from trips_t3]
  iexact H

end

end Cert.KernelIdeal.Hand

end
-- ==== Proof.KernI.Quad.lean ====
/-
  The kernel's row loop: for each output row of words, four rows of the slab named by the permutation, one byte of each
  word taken, the four bytes packed into one word and the 8 x 128 words stored one per chunk into the sorted scratch.
-/
module

public import proofs.«01_k».proof.Proof.KernI.Gather
public import Idealize.ShloMosaic.Lib.Pointwise.ElementwiseCore
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

/-- One slot of the slab scratch, as a rectangle of it. -/
abbrev slotRect (s : ℕ) (hs : s < 2) : Rect S2x1024x8x128 :=
  Rect.unit ![s, 0, 0, 0] ![1, 1024, 8, 128] (fun a => by
    match a with
    | ⟨0, _⟩ => show s + 1 ≤ 2; omega
    | ⟨1, _⟩ => exact Nat.le_refl _
    | ⟨2, _⟩ => exact Nat.le_refl _
    | ⟨3, _⟩ => exact Nat.le_refl _)

/-- One slot of the slab scratch held at contents `f`. -/
abbrev ptsS (c : Dev nD) (m : Memref sig .tc .vmem S2x1024x8x128 .i32) (s : ℕ) (hs : s < 2)
    (f : Buf (Elt F) (m.view.loc (c : Thread nD τ))) : sProp 𝕄 :=
  (m.view.loc (c : Thread nD τ)) ↦[m.view.setOn (slotRect s hs).set]{fullShare} f

theorem shr2_toNat (v : BitVec 32) : (Scalar.indexCast (Scalar.shrui v 2#32)).toNat = v.toNat / 4 := by
  show (IntOp.shrui .scalar v 2#32).toNat = _
  unfold IntOp.shrui
  rw [if_pos (by decide)]
  show (v >>> (2#32).toNat).toNat = _
  rw [BitVec.toNat_ushiftRight, Nat.shiftRight_eq_div_pow]; rfl

/-- The four loads of a trip read row `v / 4` of the slot, `v` the word the trip read off the table. -/
abbrev rowOff (v : BitVec 32) : Fin 4 → ℕ := ![(i 0).val % 2, v.toNat / 4, 0, 0]

theorem off29_eq (v : BitVec 32) : k0_off29 i v = rowOff i v := by
  have e : (Scalar.indexCast (Scalar.remsi (BitVec.ofNat 32 (i 0).val) 2#32)).toNat = (i 0).val % 2 := congrFun (k0_off18_eq i) 0
  unfold k0_off29
  show ![_, _, 0, 0] = _
  rw [e, shr2_toNat]

theorem off31_eq (v : BitVec 32) : k0_off31 i v = rowOff i v := by
  have e : (Scalar.indexCast (Scalar.remsi (BitVec.ofNat 32 (i 0).val) 2#32)).toNat = (i 0).val % 2 := congrFun (k0_off18_eq i) 0
  unfold k0_off31
  show ![_, _, 0, 0] = _
  rw [e, shr2_toNat]

theorem off33_eq (v : BitVec 32) : k0_off33 i v = rowOff i v := by
  have e : (Scalar.indexCast (Scalar.remsi (BitVec.ofNat 32 (i 0).val) 2#32)).toNat = (i 0).val % 2 := congrFun (k0_off18_eq i) 0
  unfold k0_off33
  show ![_, _, 0, 0] = _
  rw [e, shr2_toNat]

theorem off35_eq (v : BitVec 32) : k0_off35 i v = rowOff i v := by
  have e : (Scalar.indexCast (Scalar.remsi (BitVec.ofNat 32 (i 0).val) 2#32)).toNat = (i 0).val % 2 := congrFun (k0_off18_eq i) 0
  unfold k0_off35
  show ![_, _, 0, 0] = _
  rw [e, shr2_toNat]

theorem rowOff_inb (v : BitVec 32) (h : v.toNat < 4096) (a : Fin 4) : rowOff i v a + S1x1x8x128.size a ≤ S2x1024x8x128.size a := by
  match a with
  | ⟨0, _⟩ => show (i 0).val % 2 + 1 ≤ 2; omega
  | ⟨1, _⟩ => show v.toNat / 4 + 1 ≤ 1024; omega
  | ⟨2, _⟩ => exact Nat.le_refl _
  | ⟨3, _⟩ => exact Nat.le_refl _

theorem chk2_of (v : BitVec 32) (h : v.toNat < 4096) : k0_chk2 i v := by
  unfold k0_chk2; rw [off29_eq]; exact rowOff_inb i v h

theorem chk3_of (v : BitVec 32) (h : v.toNat < 4096) : k0_chk3 i v := by
  unfold k0_chk3; rw [off31_eq]; exact rowOff_inb i v h

theorem chk4_of (v : BitVec 32) (h : v.toNat < 4096) : k0_chk4 i v := by
  unfold k0_chk4; rw [off33_eq]; exact rowOff_inb i v h

theorem chk5_of (v : BitVec 32) (h : v.toNat < 4096) : k0_chk5 i v := by
  unfold k0_chk5; rw [off35_eq]; exact rowOff_inb i v h

theorem slot_sub {off : Fin 4 → ℕ} (v : BitVec 32) (inb) (h : off = rowOff i v) :
    arg7.view.setOn (Rect.unit (s := S2x1024x8x128) off S1x1x8x128.size inb).toLoadRect.set
     ⊆ arg7.view.setOn (slotRect ((i 0).val % 2) (Nat.mod_lt _ (by decide))).set := by
  subst h
  refine Finset.map_subset_map.mpr fun y hy => ?_
  have hy' := Rect.mem_set_unit.mp hy
  refine Rect.mem_set_unit.mpr fun a => ?_
  have h0 := hy' a
  have hlt := (y a).isLt
  match a with
  | ⟨0, _⟩ => exact h0
  | ⟨1, _⟩ => exact ⟨Nat.zero_le _, hlt.trans_eq (Nat.zero_add _).symm⟩
  | ⟨2, _⟩ => exact h0
  | ⟨3, _⟩ => exact h0

/-- The words of one slot of the slab scratch, by row, chunk and lane. -/
abbrev slabWord (T : Vec F S2x1024x8x128 .i32) (s : Fin 2) (r : Fin 1024) (c : Fin 8) (l : Fin 128) : BitVec 32 :=
  T (ix4 (n0 := 2) (n1 := 1024) (n2 := 8) (n3 := 128) s r c l)

/-- Word rows below `n` of every chunk of the sorted scratch: byte `j` of row `q` is the byte of the slab that
    the permutation names for row `4 q + j`. -/
def Srt (P : Fin 4096 → Fin 4096) (W : Fin 1024 → Fin 8 → Fin 128 → BitVec 32) (n : ℕ) (T : Vec F S8200x128 .i32) : Prop :=
  ∀ (q : Fin 1024) (c : Fin 8) (l : Fin 128), q.val < n → ∀ j : Fin 4,
    (T (ix2 (n0 := 8200) (n1 := 128) ⟨1025 * c.val + q.val, by omega⟩ l) : BitVec 32).extractLsb' (8 * j.val) 8 =
      (W ⟨(P ⟨4 * q.val + j.val, by omega⟩).val / 4, by omega⟩ c l).extractLsb'
        (8 * ((P ⟨4 * q.val + j.val, by omega⟩).val % 4)) 8

theorem shr_byte (x v : BitVec 32) :
    (IntOp.shrui .vector x (Scalar.muli (Scalar.andi v 3#32) 8#32)).setWidth 8 = x.extractLsb' (8 * (v.toNat % 4)) 8 := by
  have e : (Scalar.muli (Scalar.andi v 3#32) 8#32).toNat = 8 * (v.toNat % 4) := by
    show ((v &&& 3#32) * 8#32).toNat = _
    rw [BitVec.toNat_mul, BitVec.toNat_and]
    show (v.toNat &&& (2 ^ 2 - 1)) * 8 % 2 ^ 32 = _
    rw [Nat.and_two_pow_sub_one_eq_mod]
    omega
  unfold IntOp.shrui
  rw [if_pos (by rw [e]; omega)]
  show (x >>> (Scalar.muli (Scalar.andi v 3#32) 8#32).toNat).setWidth 8 = _
  rw [e]; rfl

theorem byte_of_append (a b c d : BitVec 8) (j : Fin 4) :
    (d ++ c ++ b ++ a : BitVec 32).extractLsb' (8 * j.val) 8 = ![a, b, c, d] j := by
  apply BitVec.eq_of_getLsbD_eq; intro i hi
  rw [BitVec.getLsbD_extractLsb', BitVec.getLsbD_append, BitVec.getLsbD_append, BitVec.getLsbD_append]
  have hi' : (i < 8) = True := eq_true hi
  match j with
  | ⟨0, _⟩ => simp [hi]
  | ⟨1, _⟩ =>
    simp only [hi', show ¬ (8 * 1 + i < 8) by omega, show 8 * 1 + i - 8 = i by omega, decide_true, decide_false, Bool.true_and, if_true, if_false, Bool.false_eq_true, cond_true, cond_false]; rfl
  | ⟨2, _⟩ =>
    simp only [hi', show ¬ (8 * 2 + i < 8) by omega, show ¬ (8 * 2 + i - 8 < 8) by omega, show 8 * 2 + i - 8 - 8 = i by omega, decide_true, decide_false, Bool.true_and, if_true, if_false, Bool.false_eq_true, cond_true, cond_false]; rfl
  | ⟨3, _⟩ =>
    simp only [hi', show ¬ (8 * 3 + i < 8) by omega, show ¬ (8 * 3 + i - 8 < 8) by omega, show ¬ (8 * 3 + i - 8 - 8 < 8) by omega, show 8 * 3 + i - 8 - 8 - 8 = i by omega, decide_true, decide_false, Bool.true_and, if_true, if_false, Bool.false_eq_true, cond_true, cond_false]; rfl

/-- The packed word of a trip, byte by byte. -/
theorem quad_word (a0 a1 a2 a3 : BitVec 32) (x0 x1 x2 x3 : Vec F S1x1x8x128 .i32) (c : Fin 8) (l : Fin 128) (j : Fin 4) :
    (k0_pay1 (k0_pay4 (F := F) a0 x0) (k0_pay5 a1 x1) (k0_pay6 x2) (Scalar.andi a2 3#32) a3 x3
      (ix2 (n0 := 8) (n1 := 128) c l) : BitVec 32).extractLsb' (8 * j.val) 8 =
    ((![x0, x1, x2, x3] j) (ix4 (n0 := 1) (n1 := 1) (n2 := 8) (n3 := 128) 0 0 c l) : BitVec 32).extractLsb'
      (8 * ((![a0, a1, a2, a3] j).toNat % 4)) 8 := by
  have hc : ∀ x : Vec F S1x1x8x128 .i32, shapeCast S8x128 x shapeCasts_S1x1x8x128_S8x128 (ix2 (n0 := 8) (n1 := 128) c l)
      = x (ix4 (n0 := 1) (n1 := 1) (n2 := 8) (n3 := 128) 0 0 c l) := fun x =>
    shapeCast_apply x _ _ _ (by
      rw [Shape.rowMajor_val_four, Shape.rowMajor_val_two]
      show ((0 * 1 + 0) * 8 + c.val) * 128 + l.val = c.val * 128 + l.val
      omega)
  unfold k0_pay1 k0_pay4 k0_pay5 k0_pay6
  rw [shapeCast_self]
  refine (congrArg (fun w : BitVec 32 => w.extractLsb' (8 * j.val) 8) (packElementwiseInt8_apply _ _ _ _ _ _)).trans ?_
  refine (byte_of_append _ _ _ _ j).trans ?_
  match j with
  | ⟨0, _⟩ => exact (shr_byte _ a0).trans (congrArg (fun w : BitVec 32 => w.extractLsb' (8 * (a0.toNat % 4)) 8) (hc x0))
  | ⟨1, _⟩ => exact (shr_byte _ a1).trans (congrArg (fun w : BitVec 32 => w.extractLsb' (8 * (a1.toNat % 4)) 8) (hc x1))
  | ⟨2, _⟩ => exact (shr_byte _ a2).trans (congrArg (fun w : BitVec 32 => w.extractLsb' (8 * (a2.toNat % 4)) 8) (hc x2))
  | ⟨3, _⟩ => exact (shr_byte _ a3).trans (congrArg (fun w : BitVec 32 => w.extractLsb' (8 * (a3.toNat % 4)) 8) (hc x3))

/-- A word off the table, read at one of a trip's four offsets. -/
theorem table_word (P : Fin 4096 → Fin 4096) (f1 : Buf (Elt F) (arg1.view.loc (c : Thread nD τ)))
    (hP : Table P (arg1.view.read (Elt F) f1)) {off : Fin 1 → ℕ} (inb) (o : Fin 4096) (ho : off = ![o.val]) (x) :
    (arg1.view.readAt (Elt F) (Rect.unit (s := S4096) off S1.size inb).toLoadRect f1 x : BitVec 32).toNat = (P o).val := by
  have e := readAt_at arg1.view f1 inb ho x (ix1 (n := 4096) o) (fun a => by
    match a with
    | ⟨0, _⟩ =>
      have := (x (0 : Fin 1)).isLt
      show o.val = o.val + (x (0 : Fin 1)).val
      have h1 : (x (0 : Fin 1)).val < 1 := this
      omega)
  refine (congrArg BitVec.toNat e).trans ?_
  exact hP.toNat (ix1 (n := 4096) o)

/-- A row of the slot, read at the offset a trip computes from a table word. -/
theorem slab_row (f7 : Buf (Elt F) (arg7.view.loc (c : Thread nD τ))) {off : Fin 4 → ℕ} (v : BitVec 32) (inb)
    (h : off = rowOff i v) (r : Fin 1024) (hr : v.toNat / 4 = r.val) (c' : Fin 8) (l : Fin 128) :
    arg7.view.readAt (Elt F) (Rect.unit (s := S2x1024x8x128) off S1x1x8x128.size inb).toLoadRect f7
      (ix4 (n0 := 1) (n1 := 1) (n2 := 8) (n3 := 128) 0 0 c' l) =
    slabWord (arg7.view.read (Elt F) f7) ⟨(i 0).val % 2, Nat.mod_lt _ (by decide)⟩ r c' l :=
  readAt_at arg7.view f7 inb h _ _ (fun a => by
    match a with
    | ⟨0, _⟩ => rfl
    | ⟨1, _⟩ => exact hr.symm
    | ⟨2, _⟩ => exact (Nat.zero_add _).symm
    | ⟨3, _⟩ => exact (Nat.zero_add _).symm)

theorem quad_step (P : Fin 4096 → Fin 4096) (v0 : BitVec 32) (f1 : Buf (Elt F) (arg1.view.loc (c : Thread nD τ))) (f7 : Buf (Elt F) (arg7.view.loc (c : Thread nD τ))) (f8 : Buf (Elt F) (arg8.view.loc (c : Thread nD τ)))
    (k : Fin k0_t4_loop.trips) (hP : Table P (arg1.view.read (Elt F) f1))
    (h8 : Srt P (slabWord (arg7.view.read (Elt F) f7) ⟨(i 0).val % 2, Nat.mod_lt _ (by decide)⟩) k.val (arg8.view.read (Elt F) f8)) :
   iprop(ptsT c arg1 f1 ∗ ptsS c arg7 ((i 0).val % 2) (Nat.mod_lt _ (by decide)) f7 ∗ pts c arg8 f8) ⊢
    wp frame (wpE (defs₀ (F := F)) 𝒱 (c : Thread nD τ) bd) Set.univ
      (k0_t4_body (F := F) i arg1 harg1 arg2 harg2 arg3 harg3 arg4 harg4 arg5 harg5 arg6 harg6 arg7 harg7 arg8 harg8 arg9 harg9 arg10 harg10 arg11 harg11 arg12 harg12 arg13 v0 k ())
      (fun _ => iprop(ptsT c arg1 f1 ∗ ptsS c arg7 ((i 0).val % 2) (Nat.mod_lt _ (by decide)) f7 ∗
        ∃ f8' : Buf (Elt F) (arg8.view.loc (c : Thread nD τ)), ⌜Srt P (slabWord (arg7.view.read (Elt F) f7) ⟨(i 0).val % 2, Nat.mod_lt _ (by decide)⟩) (k.val + 1) (arg8.view.read (Elt F) f8')⌝ ∗ pts c arg8 f8')) := by
  have hk : k.val < 1024 := Nat.lt_of_lt_of_le k.isLt k0_t4_abs.2.1
  have hv : ∀ p : S4096.Idx, (arg1.view.read (Elt F) f1 p : BitVec 32).toNat < 4096 :=
    fun p => (hP.toNat p).trans_lt (Fin.isLt _)
  unfold k0_t4_body pts ptsS
  iintro ⟨H1, H7, H8⟩
  sl_exec (disch := first | exact chk2_of _ _ (hv _) | exact chk3_of _ _ (hv _) | exact chk4_of _ _ (hv _) | exact chk5_of _ _ (hv _))
  iapply (wp_load 𝒱 (c : Thread nD τ) bd Set.univ (m := arg7) (slot_sub i arg7 _ _ (off29_eq i _))) $$ H7; iintro H7
  sl_exec (disch := first | exact chk2_of _ _ (hv _) | exact chk3_of _ _ (hv _) | exact chk4_of _ _ (hv _) | exact chk5_of _ _ (hv _))
  iapply (wp_load 𝒱 (c : Thread nD τ) bd Set.univ (m := arg7) (slot_sub i arg7 _ _ (off31_eq i _))) $$ H7; iintro H7
  sl_exec (disch := first | exact chk2_of _ _ (hv _) | exact chk3_of _ _ (hv _) | exact chk4_of _ _ (hv _) | exact chk5_of _ _ (hv _))
  iapply (wp_load 𝒱 (c : Thread nD τ) bd Set.univ (m := arg7) (slot_sub i arg7 _ _ (off33_eq i _))) $$ H7; iintro H7
  sl_exec (disch := first | exact chk2_of _ _ (hv _) | exact chk3_of _ _ (hv _) | exact chk4_of _ _ (hv _) | exact chk5_of _ _ (hv _))
  iapply (wp_load 𝒱 (c : Thread nD τ) bd Set.univ (m := arg7) (slot_sub i arg7 _ _ (off35_eq i _))) $$ H7; iintro H7
  sl_exec
  sl_step
  isplitl [H1]; · iexact H1
  isplitl [H7]; · iexact H7
  iexists _; isplitr; swap; · iexact H8
  ipureintro
  intro q c' l hq j
  by_cases hlt : q.val < k.val
  · refine (congrArg (fun w : BitVec 32 => w.extractLsb' (8 * j.val) 8) (View.read_writes_cons_miss arg8.view f8 _ [] _ ?_)).trans (h8 q c' l hlt j)
    intro hmem
    obtain ⟨x, hx, e⟩ := (LoadRect.mem_set _).mp hmem 0
    have e' : 1025 * c'.val + q.val = k0_off36 k 0 + 1025 * x := e
    have hx' : x < 8 := hx
    rw [k0_off36_eq] at e'
    have e'' : 1025 * c'.val + q.val = k.val + 1025 * x := e'
    omega
  · have hqk : q = ⟨k.val, hk⟩ := Fin.ext (by show q.val = k.val; omega)
    subst hqk
    refine (congrArg (fun w : BitVec 32 => w.extractLsb' (8 * j.val) 8)
      (View.read_writes_cons_hit_of_coords arg8.view f8 _ _ [] (ix2 (n0 := 8) (n1 := 128) c' l) _ (fun a => ?_))).trans ?_
    · match a with
      | ⟨0, _⟩ =>
        show 1025 * c'.val + k.val = k0_off36 k 0 + 1025 * c'.val
        rw [k0_off36_eq]; exact Nat.add_comm _ _
      | ⟨1, _⟩ =>
        show l.val = k0_off36 k 1 + 1 * l.val
        rw [k0_off36_eq]; show l.val = 0 + 1 * l.val; omega
    refine (quad_word _ _ _ _ _ _ _ _ c' l j).trans ?_
    have t0 := table_word c arg1 P f1 hP (k0_off28_inb k) ⟨4 * k.val + 0, by omega⟩ (k0_off28_eq k)
    have t1 := table_word c arg1 P f1 hP (k0_off30_inb k) ⟨4 * k.val + 1, by omega⟩ (k0_off30_eq k)
    have t2 := table_word c arg1 P f1 hP (k0_off32_inb k) ⟨4 * k.val + 2, by omega⟩ (k0_off32_eq k)
    have t3 := table_word c arg1 P f1 hP (k0_off34_inb k) ⟨4 * k.val + 3, by omega⟩ (k0_off34_eq k)
    match j with
    | ⟨0, _⟩ =>
      refine (congrArg (fun w : BitVec 32 => w.extractLsb' _ 8) (slab_row c i arg7 f7 _ _ (off29_eq i _) ⟨(P ⟨4 * k.val + 0, by omega⟩).val / 4, by omega⟩ (congrArg (fun n : ℕ => n / 4) (t0 _)) c' l)).trans ?_
      exact congrArg (fun n => BitVec.extractLsb' (8 * (n % 4)) 8 _) (t0 _)
    | ⟨1, _⟩ =>
      refine (congrArg (fun w : BitVec 32 => w.extractLsb' _ 8) (slab_row c i arg7 f7 _ _ (off31_eq i _) ⟨(P ⟨4 * k.val + 1, by omega⟩).val / 4, by omega⟩ (congrArg (fun n : ℕ => n / 4) (t1 _)) c' l)).trans ?_
      exact congrArg (fun n => BitVec.extractLsb' (8 * (n % 4)) 8 _) (t1 _)
    | ⟨2, _⟩ =>
      refine (congrArg (fun w : BitVec 32 => w.extractLsb' _ 8) (slab_row c i arg7 f7 _ _ (off33_eq i _) ⟨(P ⟨4 * k.val + 2, by omega⟩).val / 4, by omega⟩ (congrArg (fun n : ℕ => n / 4) (t2 _)) c' l)).trans ?_
      exact congrArg (fun n => BitVec.extractLsb' (8 * (n % 4)) 8 _) (t2 _)
    | ⟨3, _⟩ =>
      refine (congrArg (fun w : BitVec 32 => w.extractLsb' _ 8) (slab_row c i arg7 f7 _ _ (off35_eq i _) ⟨(P ⟨4 * k.val + 3, by omega⟩).val / 4, by omega⟩ (congrArg (fun n : ℕ => n / 4) (t3 _)) c' l)).trans ?_
      exact congrArg (fun n => BitVec.extractLsb' (8 * (n % 4)) 8 _) (t3 _)

theorem trips_t4 : k0_t4_loop.trips = 1024 := by decide

theorem quad_loop (P : Fin 4096 → Fin 4096) (v0 : BitVec 32) (f1 : Buf (Elt F) (arg1.view.loc (c : Thread nD τ))) (f7 : Buf (Elt F) (arg7.view.loc (c : Thread nD τ))) (f8 : Buf (Elt F) (arg8.view.loc (c : Thread nD τ)))
    (hP : Table P (arg1.view.read (Elt F) f1)) :
   iprop(ptsT c arg1 f1 ∗ ptsS c arg7 ((i 0).val % 2) (Nat.mod_lt _ (by decide)) f7 ∗ pts c arg8 f8) ⊢
    wp frame (wpE (defs₀ (F := F)) 𝒱 (c : Thread nD τ) bd) Set.univ
      (Scf.Loop.for k0_t4_loop k0_t4_ok () (k0_t4_body (F := F) i arg1 harg1 arg2 harg2 arg3 harg3 arg4 harg4 arg5 harg5 arg6 harg6 arg7 harg7 arg8 harg8 arg9 harg9 arg10 harg10 arg11 harg11 arg12 harg12 arg13 v0))
      (fun _ => iprop(ptsT c arg1 f1 ∗ ptsS c arg7 ((i 0).val % 2) (Nat.mod_lt _ (by decide)) f7 ∗
        ∃ f8' : Buf (Elt F) (arg8.view.loc (c : Thread nD τ)), ⌜Srt P (slabWord (arg7.view.read (Elt F) f7) ⟨(i 0).val % 2, Nat.mod_lt _ (by decide)⟩) 1024 (arg8.view.read (Elt F) f8')⌝ ∗ pts c arg8 f8')) := by
  iintro ⟨H1, H7, H8⟩
  iapply (Scf.wp_for frame (wpE (defs₀ (F := F)) 𝒱 (c : Thread nD τ) bd) Set.univ k0_t4_loop.lb k0_t4_loop.ub k0_t4_loop.st k0_t4_ok () _
    (fun k _ => iprop(ptsT c arg1 f1 ∗ ptsS c arg7 ((i 0).val % 2) (Nat.mod_lt _ (by decide)) f7 ∗
        ∃ f8' : Buf (Elt F) (arg8.view.loc (c : Thread nD τ)), ⌜Srt P (slabWord (arg7.view.read (Elt F) f7) ⟨(i 0).val % 2, Nat.mod_lt _ (by decide)⟩) k (arg8.view.read (Elt F) f8')⌝ ∗ pts c arg8 f8')) ?_)
  · intro k _
    iintro ⟨H1, H7, %g, %hg, H8⟩
    iapply (quad_step 𝒱 c bd i arg1 harg1 arg2 harg2 arg3 harg3 arg4 harg4 arg5 harg5 arg6 harg6 arg7 harg7 arg8 harg8 arg9 harg9 arg10 harg10 arg11 harg11 arg12 harg12 arg13 P v0 f1 f7 g k hP hg)
    isplitl [H1]; · iexact H1
    isplitl [H7]; · iexact H7
    iexact H8
  isplitl [H1 H7 H8]
  · isplitl [H1]; · iexact H1
    isplitl [H7]; · iexact H7
    iexists f8; isplitr; swap; · iexact H8
    ipureintro; intro q _ _ hq; exact absurd hq (Nat.not_lt_zero _)
  iintro %u H
  rw [show Scf.trips k0_t4_loop.lb k0_t4_loop.ub k0_t4_loop.st = 1024 from trips_t4]
  iexact H

end

end Cert.KernelIdeal.Hand
-- ==== Proof.KernI.Tab.lean ====
/-
  The table the kernel fills for one 256-column chunk: for each column half and each group of 128 rows one row of
  scale words and one row of zero-point words, a word holding its 16-bit value twice. Twenty stores fill it; they all
  agree with one function of the chunk's scales and zero points.
-/
module

public import proofs.«01_k».proof.Proof.KernI.Quad
public import proofs.«01_k».proof.Proof.Kern.Words
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

/-- The column of a chunk that lane `l` of column half `par` holds. -/
abbrev colOf (par : ℕ) (l : Fin 128) : ℕ := 2 * l.val + par

/-- The zero point of group `g` at a chunk's column: the low nibbles hold groups 0 to 15, the high nibbles the rest. -/
def zeroNib {n : ℕ} (Z : (⟨2, ![16, n]⟩ : Shape).Idx → BitVec 8) (g : Fin 32) (y : Fin n) : BitVec 4 :=
  (Z (ix2 (n0 := 16) (n1 := n) ⟨g.val % 16, Nat.mod_lt _ (by decide)⟩ y)).extractLsb' (4 * (g.val / 16)) 4

theorem ix2_eq {a b : ℕ} (p q : Fin a) (r s : Fin b) (h : p.val = q.val) (h' : r.val = s.val) :
    ix2 (n0 := a) (n1 := b) p r = ix2 (n0 := a) (n1 := b) q s := by
  rw [Fin.ext h, Fin.ext h']

/-- A 16-bit word held twice in 32 bits. -/
def dbl (w : BitVec 16) : BitVec 32 := w ++ w

/-- The table of a chunk with scales `S` and zero points `Z`. -/
def tabG (S : Vec F S32x256 .i16) (Z : Vec F S16x256 .i8) : Vec F S128x128 .i32 := fun y =>
  have h0 : (y 0).val < 128 := (y 0).isLt
  have h1 : (y 1).val < 128 := (y 1).isLt
  if hr : (y 0).val % 64 < 32 then
    have w : BitVec 16 := S (ix2 (n0 := 32) (n1 := 256) ⟨2 * ((y 0).val % 16) + (y 0).val % 64 / 16, by omega⟩
      ⟨2 * (y 1).val + (y 0).val / 64, by omega⟩)
    dbl w
  else
    have z : BitVec 16 := zbits (zeroNib Z ⟨(y 0).val % 64 - 32, by omega⟩ ⟨2 * (y 1).val + (y 0).val / 64, by omega⟩)
    dbl z

theorem left_at {R : ℕ} (h) (r : Fin R) (l : Fin 128) :
    cmpi .slt (iota .tc ⟨2, ![R, 128]⟩ 32 [1] h) (broadcast ⟨2, ![R, 128]⟩ 64#32) (ix2 r l) = BitVec.ofBool (decide (l.val < 64)) := by
  show IntOp.cmpi .slt (iota .tc ⟨2, ![R, 128]⟩ 32 [1] h (ix2 r l)) 64#32 = _
  rw [show iota .tc ⟨2, ![R, 128]⟩ 32 [1] h (ix2 r l) = BitVec.ofNat 32 l.val from iota_single_apply .tc _ 32 1 h _]
  have : ∀ l : Fin 128, IntOp.cmpi .slt (BitVec.ofNat 32 l.val) 64#32 = BitVec.ofBool (decide (l.val < 64)) := by decide
  exact this l

theorem idx_at {R : ℕ} (h) (r : Fin R) (l : Fin 128) (par : Fin 2) :
    andi (addi (muli (broadcast ⟨2, ![R, 128]⟩ 2#32) (iota .tc ⟨2, ![R, 128]⟩ 32 [1] h)) (broadcast ⟨2, ![R, 128]⟩ (BitVec.ofNat 32 par.val)))
      (broadcast ⟨2, ![R, 128]⟩ 127#32) (ix2 r l) = BitVec.ofNat 32 (colOf par.val l % 128) := by
  show (2#32 * iota .tc ⟨2, ![R, 128]⟩ 32 [1] h (ix2 r l) + BitVec.ofNat 32 par.val) &&& 127#32 = _
  rw [show iota .tc ⟨2, ![R, 128]⟩ 32 [1] h (ix2 r l) = BitVec.ofNat 32 l.val from iota_single_apply .tc _ 32 1 h _]
  have : ∀ (l : Fin 128) (par : Fin 2), (2#32 * BitVec.ofNat 32 l.val + BitVec.ofNat 32 par.val) &&& 127#32
      = BitVec.ofNat 32 (colOf par.val l % 128) := by decide +kernel
  exact this l par

/-- Both halves of a 256-lane row gathered at the same lanes, the left half chosen for the first 64 lanes: lane `l`
    reads lane `2 l + par`. -/
theorem take_both {R : ℕ} {α : Type} (x : (⟨2, ![R, 256]⟩ : Shape).Idx → α) (hs0) (hs1)
    (m : IVec ⟨2, ![R, 128]⟩ 1) (idx : IVec ⟨2, ![R, 128]⟩ 32) (h1) (h2) (r : Fin R) (l : Fin 128) (par : Fin 2)
    (hm : m (ix2 r l) = BitVec.ofBool (decide (l.val < 64))) (hi : idx (ix2 r l) = BitVec.ofNat 32 (colOf par.val l % 128)) :
    select m
      (dynamicGather (s := ⟨2, ![R, 128]⟩) 1 (extractStridedSlice ⟨2, ![R, 128]⟩ ![0, 0] x hs0)
        (shapeCast ⟨2, ![R, 128]⟩ (shapeCast ⟨3, ![R, 128, 1]⟩
          (select (cmpi .slt idx (broadcast ⟨2, ![R, 128]⟩ 0#32)) (addi idx (broadcast ⟨2, ![R, 128]⟩ 128#32)) idx) h1) h2))
      (dynamicGather (s := ⟨2, ![R, 128]⟩) 1 (extractStridedSlice ⟨2, ![R, 128]⟩ ![0, 128] x hs1)
        (shapeCast ⟨2, ![R, 128]⟩ (shapeCast ⟨3, ![R, 128, 1]⟩
          (select (cmpi .slt idx (broadcast ⟨2, ![R, 128]⟩ 0#32)) (addi idx (broadcast ⟨2, ![R, 128]⟩ 128#32)) idx) h1) h2)) (ix2 r l)
      = x (ix2 r ⟨colOf par.val l, by have := par.isLt; have := l.isLt; show 2 * l.val + par.val < 256; omega⟩) := by
  have hp := par.isLt
  have hl := l.isLt
  show Scalar.select (m (ix2 r l)) _ _ = _
  rw [hm]
  by_cases h64 : l.val < 64
  · rw [decide_eq_true h64]
    refine (if_pos rfl).trans ?_
    exact take_ix2 x 0 hs0 idx h1 h2 r l _ (Nat.mod_lt _ (by decide)) _ (by show 2 * l.val + par.val = 0 + (2 * l.val + par.val) % 128; omega) hi
  · rw [decide_eq_false h64]
    refine (if_neg (by decide)).trans ?_
    exact take_ix2 x 128 hs1 idx h1 h2 r l _ (Nat.mod_lt _ (by decide)) _ (by show 2 * l.val + par.val = 128 + (2 * l.val + par.val) % 128; omega) hi

theorem scale0_at (v77 : Vec F S32x256 .i16) (r : Fin 16) (l : Fin 128) :
    k0_pay17 v77 (ix2 (n0 := 16) (n1 := 128) r l) = k0_pay13 v77 (ix2 (n0 := 16) (n1 := 256) r ⟨colOf 0 l, by have := l.isLt; show 2 * l.val + 0 < 256; omega⟩) :=
  take_both (R := 16) (k0_pay13 v77) slices_S16x256_o0_0_S16x128 slices_S16x256_o0_128_S16x128 k0_pay15 k0_pay16 _ _ r l 0
    (left_at _ r l) (idx_at _ r l 0)

theorem scale1_at (v77 : Vec F S32x256 .i16) (r : Fin 16) (l : Fin 128) :
    (k0_pay34 (k0_pay13 v77) (iota .tc S16x128 32 [1] iota_S16x128_d1_w32) k0_pay15) (ix2 (n0 := 16) (n1 := 128) r l) = k0_pay13 v77 (ix2 (n0 := 16) (n1 := 256) r ⟨colOf 1 l, by have := l.isLt; show 2 * l.val + 1 < 256; omega⟩) :=
  take_both (R := 16) (k0_pay13 v77) slices_S16x256_o0_0_S16x128 slices_S16x256_o0_128_S16x128 k0_pay15 _ _ _ r l 1
    (left_at _ r l) (idx_at _ r l 1)

abbrev cat8 (v : IVec S4x256 32) : IVec S8x256 32 := concatenate S8x256 0 [⟨S4x256, v⟩, ⟨S4x256, v⟩] concatenates_S4x256_S4x256_S8x256_d0

theorem cat8_at (v : IVec S4x256 32) (r : Fin 4) (y : Fin 256) :
    cat8 v (ix2 (n0 := 8) (n1 := 256) ⟨r.val, by omega⟩ y) = v (ix2 (n0 := 4) (n1 := 256) r y) :=
  concatenate_pair_apply_left (t := S8x256) 0 v v concatenates_S4x256_S4x256_S8x256_d0 _ rfl _ (fun b => by
    match b with
    | ⟨0, _⟩ => rfl
    | ⟨1, _⟩ => rfl)

abbrev top8 {w : ℕ} (x : IVec S16x128 w) : IVec S8x128 w := extractStridedSlice S8x128 ![0, 0] x slices_S16x128_o0_0_S8x128

theorem top8_at {w : ℕ} (x : IVec S16x128 w) (r : Fin 8) (l : Fin 128) :
    top8 x (ix2 (n0 := 8) (n1 := 128) r l) = x (ix2 (n0 := 16) (n1 := 128) ⟨r.val, by omega⟩ l) :=
  extractStridedSlice_apply _ x slices_S16x128_o0_0_S8x128 _ _ (fun a => by
      match a with
      | ⟨0, _⟩ => exact (Nat.zero_add _).symm
      | ⟨1, _⟩ => exact (Nat.zero_add _).symm)

theorem top4_at (x : IVec S8x128 32) (r : Fin 4) (l : Fin 128) :
    extractStridedSlice S4x128 ![0, 0] x slices_S8x128_o0_0_S4x128 (ix2 (n0 := 4) (n1 := 128) r l)
      = x (ix2 (n0 := 8) (n1 := 128) ⟨r.val, by omega⟩ l) :=
  extractStridedSlice_apply _ x slices_S8x128_o0_0_S4x128 _ _ (fun a => by
      match a with
      | ⟨0, _⟩ => exact (Nat.zero_add _).symm
      | ⟨1, _⟩ => exact (Nat.zero_add _).symm)

abbrev gat8 (x : IVec S8x256 32) (m : IVec S8x128 1) (idx : IVec S8x128 32) : IVec S8x128 32 :=
  select m
    (dynamicGather (s := S8x128) 1 (extractStridedSlice S8x128 ![0, 0] x slices_S8x256_o0_0_S8x128)
      (shapeCast S8x128 (shapeCast S8x128x1
        (select (cmpi .slt idx (broadcast S8x128 0#32)) (addi idx (broadcast S8x128 128#32)) idx) shapeCasts_S8x128_S8x128x1) shapeCasts_S8x128x1_S8x128))
    (dynamicGather (s := S8x128) 1 (extractStridedSlice S8x128 ![0, 128] x slices_S8x256_o0_128_S8x128)
      (shapeCast S8x128 (shapeCast S8x128x1
        (select (cmpi .slt idx (broadcast S8x128 0#32)) (addi idx (broadcast S8x128 128#32)) idx) shapeCasts_S8x128_S8x128x1) shapeCasts_S8x128x1_S8x128))

/-- The row of words of the zero points, doubled, gathered and cut back to four rows. -/
theorem zero_take (v83 : IVec S4x256 32) (idx : IVec S16x128 32) (r : Fin 4) (l : Fin 128) (par : Fin 2)
    (hi : ∀ r : Fin 16, idx (ix2 (n0 := 16) (n1 := 128) r l) = BitVec.ofNat 32 (colOf par.val l % 128)) :
    k0_pay22 v83 k0_pay15 idx (ix2 (n0 := 4) (n1 := 128) r l)
      = v83 (ix2 (n0 := 4) (n1 := 256) r ⟨colOf par.val l, by have := par.isLt; have := l.isLt; show 2 * l.val + par.val < 256; omega⟩) := by
  have hr := r.isLt
  have e : k0_pay22 v83 k0_pay15 idx = extractStridedSlice S4x128 ![0, 0] (gat8 (cat8 v83) (top8 k0_pay15) (top8 idx)) slices_S8x128_o0_0_S4x128 := rfl
  rw [e]
  refine (top4_at _ r l).trans ?_
  refine (take_both (R := 8) (cat8 v83) slices_S8x256_o0_0_S8x128 slices_S8x256_o0_128_S8x128
    (top8 k0_pay15) (top8 idx) _ _ ⟨r.val, by omega⟩ l par
    ((top8_at _ _ l).trans (left_at _ _ l)) ((top8_at _ _ l).trans (hi _))).trans ?_
  exact cat8_at v83 r _

theorem zero0_at (v83 : IVec S4x256 32) (r : Fin 4) (l : Fin 128) :
    k0_pay22 v83 k0_pay15 k0_pay16 (ix2 (n0 := 4) (n1 := 128) r l)
      = v83 (ix2 (n0 := 4) (n1 := 256) r ⟨colOf 0 l, by have := l.isLt; show 2 * l.val + 0 < 256; omega⟩) :=
  zero_take v83 k0_pay16 r l 0 (fun r => idx_at _ r l 0)

theorem zero1_at (v83 : IVec S4x256 32) (r : Fin 4) (l : Fin 128) :
    k0_pay40 v83 k0_pay15 (k0_pay33 (iota .tc S16x128 32 [1] iota_S16x128_d1_w32)) (ix2 (n0 := 4) (n1 := 128) r l)
      = v83 (ix2 (n0 := 4) (n1 := 256) r ⟨colOf 1 l, by have := l.isLt; show 2 * l.val + 1 < 256; omega⟩) :=
  zero_take v83 (k0_pay33 (iota .tc S16x128 32 [1] iota_S16x128_d1_w32)) r l 1 (fun r => idx_at _ r l 1)

/-- The scale words of a row: both rows of the pair, in one word. -/
theorem scaleWord (v77 : IVec S32x256 16) (r : Fin 16) (y : Fin 256) (p0 p1 : Fin 32) (h0 : p0.val = 2 * r.val) (h1 : p1.val = 2 * r.val + 1) :
    bitcast S16x256 32 v77 bitcasts_S32x256_w16_S16x256_w32 (ix2 (n0 := 16) (n1 := 256) r y)
      = v77 (ix2 (n0 := 32) (n1 := 256) p1 y) ++ v77 (ix2 (n0 := 32) (n1 := 256) p0 y) :=
  bitcast_16_32_ix2 (R := 32) (r := 16) (n := 256) v77 _ r y p0 p1 h0 h1

/-- A payload of zero-point words: a nibble of each word, over the exponent of 128, twice. -/
def zform (V : IVec S4x128 32) (k : ℕ) : IVec S4x128 32 :=
  ori (ori (andi (shrui V (broadcast S4x128 (BitVec.ofNat 32 k))) (broadcast S4x128 15#32))
    (shli (andi (shrui V (broadcast S4x128 (BitVec.ofNat 32 k))) (broadcast S4x128 15#32)) (broadcast S4x128 16#32))) (broadcast S4x128 1124090624#32)

theorem zform_at (V : IVec S4x128 32) (k : ℕ) (hk : k < 32) (x : S4x128.Idx) :
    zform V k x = dbl (zbits ((V x).extractLsb' k 4)) := by
  have e : IntOp.shrui .vector (V x) (BitVec.ofNat 32 k) = (V x) >>> k := by
    have hn : (BitVec.ofNat 32 k).toNat = k := by rw [BitVec.toNat_ofNat]; exact Nat.mod_eq_of_lt (by omega)
    unfold IntOp.shrui
    rw [if_pos (by rw [hn]; exact hk)]
    show (V x) >>> (BitVec.ofNat 32 k).toNat = _
    rw [hn]
  show ((IntOp.shrui .vector (V x) (BitVec.ofNat 32 k)) &&& 15#32) ||| (((IntOp.shrui .vector (V x) (BitVec.ofNat 32 k)) &&& 15#32) <<< 16) ||| 1124090624#32 = _
  rw [e]
  exact zero_word (V x) k

/-! Each payload of zero-point words is a shift of the gathered words. -/

theorem pay_48 (V : IVec S4x128 32) : k0_pay25 V = zform V 4 := shapeCast_self (zform V 4) shapeCasts_S4x128_S4x128
theorem pay_33 (V : IVec S4x128 32) : k0_pay26 V = zform V 8 := shapeCast_self (zform V 8) shapeCasts_S4x128_S4x128
theorem pay_49 (V : IVec S4x128 32) : k0_pay27 V = zform V 12 := shapeCast_self (zform V 12) shapeCasts_S4x128_S4x128
theorem pay_34 (V : IVec S4x128 32) : k0_pay28 V = zform V 16 := shapeCast_self (zform V 16) shapeCasts_S4x128_S4x128
theorem pay_50 (V : IVec S4x128 32) : k0_pay29 V = zform V 20 := shapeCast_self (zform V 20) shapeCasts_S4x128_S4x128
theorem pay_35 (V : IVec S4x128 32) : k0_pay30 V = zform V 24 := shapeCast_self (zform V 24) shapeCasts_S4x128_S4x128
theorem pay_51 (V : IVec S4x128 32) : k0_pay32 (k0_pay31 V) = zform V 28 := shapeCast_self (zform V 28) shapeCasts_S4x128_S4x128
theorem pay_112 (V : IVec S4x128 32) : k0_pay42 V = zform V 4 := shapeCast_self (zform V 4) shapeCasts_S4x128_S4x128
theorem pay_97 (V : IVec S4x128 32) : k0_pay43 V = zform V 8 := shapeCast_self (zform V 8) shapeCasts_S4x128_S4x128
theorem pay_113 (V : IVec S4x128 32) : k0_pay44 V = zform V 12 := shapeCast_self (zform V 12) shapeCasts_S4x128_S4x128
theorem pay_98 (V : IVec S4x128 32) : k0_pay46 (k0_pay45 V) = zform V 16 := shapeCast_self (zform V 16) shapeCasts_S4x128_S4x128
theorem pay_114 (V : IVec S4x128 32) : k0_pay47 V = zform V 20 := shapeCast_self (zform V 20) shapeCasts_S4x128_S4x128
theorem pay_99 (V : IVec S4x128 32) : k0_pay48 V = zform V 24 := shapeCast_self (zform V 24) shapeCasts_S4x128_S4x128
theorem pay_115 (V : IVec S4x128 32) : k0_pay50 (k0_pay49 V) = zform V 28 := shapeCast_self (zform V 28) shapeCasts_S4x128_S4x128
theorem pay_32 (v82 : Vec F S16x256 .i8) : k0_pay24 (k0_pay23 (k0_pay14 v82) k0_pay15 k0_pay16) = zform (k0_pay22 (k0_pay14 v82) k0_pay15 k0_pay16) 0 := shapeCast_self (zform (k0_pay22 (k0_pay14 v82) k0_pay15 k0_pay16) 0) shapeCasts_S4x128_S4x128
theorem pay_96 (v82 : Vec F S16x256 .i8) : k0_pay41 (k0_pay14 v82) k0_pay15 (k0_pay33 (iota .tc S16x128 32 [1] iota_S16x128_d1_w32)) = zform (k0_pay40 (k0_pay14 v82) k0_pay15 (k0_pay33 (iota .tc S16x128 32 [1] iota_S16x128_d1_w32))) 0 := shapeCast_self (zform (k0_pay40 (k0_pay14 v82) k0_pay15 (k0_pay33 (iota .tc S16x128 32 [1] iota_S16x128_d1_w32))) 0) shapeCasts_S4x128_S4x128

/-- A row of words with the low half doubled, and with the high half doubled. -/
def lform (v : IVec S16x128 32) : IVec S16x128 32 := ori (andi v (broadcast S16x128 65535#32)) (shli v (broadcast S16x128 16#32))
def hform (v : IVec S16x128 32) : IVec S16x128 32 := ori (shrui v (broadcast S16x128 16#32)) (andi v (broadcast S16x128 4294901760#32))

theorem pay_0 (v77 : Vec F S32x256 .i16) : k0_pay20 (k0_pay18 v77) = lform (k0_pay17 v77) := shapeCast_self (lform (k0_pay17 v77)) shapeCasts_S16x128_S16x128
theorem pay_16 (v77 : Vec F S32x256 .i16) : k0_pay21 (k0_pay17 v77) k0_pay19 = hform (k0_pay17 v77) := shapeCast_self (hform (k0_pay17 v77)) shapeCasts_S16x128_S16x128
theorem pay_64 (v77 : Vec F S32x256 .i16) (w : IVec S16x128 32) (m : IVec S16x128 1) :
    k0_pay38 (k0_pay35 (k0_pay13 v77) w m) = lform (k0_pay34 (k0_pay13 v77) w m) := shapeCast_self (lform (k0_pay34 (k0_pay13 v77) w m)) shapeCasts_S16x128_S16x128
theorem pay_80 (v77 : Vec F S32x256 .i16) (w : IVec S16x128 32) (m : IVec S16x128 1) :
    k0_pay39 (k0_pay34 (k0_pay13 v77) w m) (k0_pay36 (k0_pay13 v77) w m) k0_pay37 = hform (k0_pay34 (k0_pay13 v77) w m) :=
  shapeCast_self (hform (k0_pay34 (k0_pay13 v77) w m)) shapeCasts_S16x128_S16x128

/-- A byte's part of a zero-point word. -/
theorem zeroByte (v82 : IVec S16x256 8) (r : Fin 4) (y : Fin 256) (b o w : ℕ) (hb : b < 4) (how : o + w ≤ 8) (p : Fin 16) (hp : p.val = 4 * r.val + b) :
    (bitcast S4x256 32 v82 bitcasts_S16x256_w8_S4x256_w32 (ix2 (n0 := 4) (n1 := 256) r y)).extractLsb' (8 * b + o) w
      = (v82 (ix2 (n0 := 16) (n1 := 256) p y)).extractLsb' o w :=
  bitcast_8_32_extract (R := 16) (r := 4) (n := 256) v82 _ r y b o w hb how p hp

/-- A nibble of a zero-point word is a group's zero point. -/
theorem zeroNib_of (v82 : IVec S16x256 8) (r : Fin 4) (c : Fin 256) (h : Fin 2) (b : Fin 4) (g : Fin 32) (y : Fin 256)
    (hg : g.val = 16 * h.val + (4 * r.val + b.val)) (hy : y.val = c.val) :
    (bitcast S4x256 32 v82 bitcasts_S16x256_w8_S4x256_w32 (ix2 (n0 := 4) (n1 := 256) r c)).extractLsb' (8 * b.val + 4 * h.val) 4
      = zeroNib (n := 256) v82 g y := by
  obtain rfl : y = c := Fin.ext hy
  have hb := b.isLt
  have hr := r.isLt
  have hh := h.isLt
  refine (zeroByte v82 r y b.val (4 * h.val) 4 hb (by omega) ⟨4 * r.val + b.val, by omega⟩ rfl).trans ?_
  unfold zeroNib
  have e1 : 4 * h.val = 4 * (g.val / 16) := by omega
  have e2 : 4 * r.val + b.val = g.val % 16 := by omega
  exact congrArg₂ (fun (o : ℕ) (w : BitVec 8) => w.extractLsb' o 4) e1 (congrArg v82 (ix2_eq _ _ _ _ e2 rfl))

/-- The table at a row of zero points. -/
theorem tabG_zero (S : Vec F S32x256 .i16) (Z : Vec F S16x256 .i8) (y : S128x128.Idx) (hr : ¬ (y 0).val % 64 < 32) (g : Fin 32) (c : Fin 256)
    (hg : g.val = (y 0).val % 64 - 32) (hc : c.val = 2 * (y 1).val + (y 0).val / 64) :
    tabG S Z y = dbl (zbits (zeroNib Z g c)) := by
  unfold tabG
  rw [dif_neg hr]
  have e : ∀ (p : Fin 32) (q : Fin 256), g = p → c = q → dbl (zbits (zeroNib (n := 256) Z p q)) = dbl (zbits (zeroNib (n := 256) Z g c)) := by
    rintro _ _ rfl rfl; rfl
  exact e _ _ (Fin.ext hg) (Fin.ext hc)

/-- The table at a row of scales. -/
theorem tabG_scale (S : Vec F S32x256 .i16) (Z : Vec F S16x256 .i8) (y : S128x128.Idx) (hr : (y 0).val % 64 < 32) (g : Fin 32) (c : Fin 256)
    (hg : g.val = 2 * ((y 0).val % 16) + (y 0).val % 64 / 16) (hc : c.val = 2 * (y 1).val + (y 0).val / 64) :
    tabG S Z y = dbl (S (ix2 (n0 := 32) (n1 := 256) g c)) := by
  unfold tabG
  rw [dif_pos hr]
  exact congrArg (fun k => dbl (S k)) (ix2_eq _ _ _ _ hg.symm hc.symm)

/-- A strided store of zero-point words agrees with the table. -/
theorem zpiece (S : Vec F S32x256 .i16) (v82 : Vec F S16x256 .i8) (V : IVec S4x128 32) (o : ℕ) (par : Fin 2) (h : Fin 2) (b : Fin 4) (inb) (sp)
    (ho : o = 64 * par.val + 32 + 16 * h.val + b.val)
    (hV : ∀ (r : Fin 4) (l : Fin 128), V (ix2 (n0 := 4) (n1 := 128) r l)
      = k0_pay14 v82 (ix2 (n0 := 4) (n1 := 256) r ⟨colOf par.val l, by have := par.isLt; have := l.isLt; show 2 * l.val + par.val < 256; omega⟩))
    (k : ℕ) (hk : k = 8 * b.val + 4 * h.val) (pay : IVec S4x128 32) (hpay : pay = zform V k) (x : S4x128.Idx) :
    pay x = tabG S v82 ((⟨⟨![o, 0], S4x128.size, ![4, 1], inb⟩, sp⟩ : Rect S128x128).emb x) := by
  obtain ⟨hp, hh, hb⟩ := And.intro par.isLt (And.intro h.isLt b.isLt)
  have hx0 : (x 0).val < 4 := (x 0).isLt
  have hx1 : (x 1).val < 128 := (x 1).isLt
  subst hk
  rw [hpay, zform_at _ _ (by omega)]
  have e0 : ((⟨⟨![o, 0], S4x128.size, ![4, 1], inb⟩, sp⟩ : Rect S128x128).emb x 0).val = o + 4 * (x 0).val := rfl
  have e1 : ((⟨⟨![o, 0], S4x128.size, ![4, 1], inb⟩, sp⟩ : Rect S128x128).emb x 1).val = 0 + 1 * (x 1).val := rfl
  generalize (⟨⟨![o, 0], S4x128.size, ![4, 1], inb⟩, sp⟩ : Rect S128x128).emb x = y at e0 e1
  have hVx : V x = k0_pay14 v82 (ix2 (n0 := 4) (n1 := 256) ⟨(x 0).val, hx0⟩ ⟨2 * (x 1).val + par.val, by omega⟩) :=
    (congrArg V (eq_ix2 x)).trans (hV ⟨(x 0).val, hx0⟩ ⟨(x 1).val, hx1⟩)
  rw [tabG_zero S v82 y (by rw [e0, ho]; omega) ⟨16 * h.val + (4 * (x 0).val + b.val), by omega⟩ ⟨2 * (x 1).val + par.val, by omega⟩
    (by show 16 * h.val + (4 * (x 0).val + b.val) = (y 0).val % 64 - 32; omega) (by show 2 * (x 1).val + par.val = 2 * (y 1).val + (y 0).val / 64; omega), hVx]
  exact congrArg (fun z => dbl (zbits z)) (zeroNib_of v82 _ _ h b _ _ rfl rfl)

/-- A store of scale words agrees with the table: row pair `r` low (`q = 0`) or high (`q = 1`). -/
theorem spiece (v77 : Vec F S32x256 .i16) (Z : Vec F S16x256 .i8) (o : ℕ) (par : Fin 2) (q : Fin 2) (inb)
    (ho : o = 64 * par.val + 16 * q.val) (pay : IVec S16x128 32)
    (hpay : ∀ (r : Fin 16) (l : Fin 128), pay (ix2 (n0 := 16) (n1 := 128) r l)
      = dbl (v77 (ix2 (n0 := 32) (n1 := 256) ⟨2 * r.val + q.val, by have := q.isLt; have := r.isLt; omega⟩
          ⟨colOf par.val l, by have := par.isLt; have := l.isLt; show 2 * l.val + par.val < 256; omega⟩)))
    (x : S16x128.Idx) :
    pay x = tabG v77 Z ((Rect.unit (s := S128x128) ![o, 0] S16x128.size inb).emb x) := by
  obtain ⟨hp, hq⟩ := And.intro par.isLt q.isLt
  have hx0 : (x 0).val < 16 := (x 0).isLt
  have hx1 : (x 1).val < 128 := (x 1).isLt
  have e0 : ((Rect.unit (s := S128x128) ![o, 0] S16x128.size inb).emb x 0).val = o + 1 * (x 0).val := rfl
  have e1 : ((Rect.unit (s := S128x128) ![o, 0] S16x128.size inb).emb x 1).val = 0 + 1 * (x 1).val := rfl
  generalize (Rect.unit (s := S128x128) ![o, 0] S16x128.size inb).emb x = y at e0 e1
  refine ((congrArg pay (eq_ix2 x)).trans (hpay ⟨(x 0).val, hx0⟩ ⟨(x 1).val, hx1⟩)).trans ?_
  exact (tabG_scale v77 Z y (by rw [e0, ho]; omega) _ _ (by show 2 * (x 0).val + q.val = 2 * ((y 0).val % 16) + (y 0).val % 64 / 16; omega)
    (by show 2 * (x 1).val + par.val = 2 * (y 1).val + (y 0).val / 64; omega)).symm

/-- The twenty stores, the newest first. -/
def tabPieces (v77 : Vec F S32x256 .i16) (v82 : Vec F S16x256 .i8) : List (View.Piece (Elt F) S128x128 .i32) :=
  [ ⟨⟨⟨![115, 0], S4x128.size, ![4, 1], inb_S128x128_S4x128_115_0_s_4_1⟩, spos_4_1⟩, k0_pay50 (k0_pay49 (k0_pay40 (k0_pay14 v82) k0_pay15 (k0_pay33 (iota .tc S16x128 32 [1] iota_S16x128_d1_w32))))⟩,
    ⟨⟨⟨![99, 0], S4x128.size, ![4, 1], inb_S128x128_S4x128_99_0_s_4_1⟩, spos_4_1⟩, k0_pay48 (k0_pay40 (k0_pay14 v82) k0_pay15 (k0_pay33 (iota .tc S16x128 32 [1] iota_S16x128_d1_w32)))⟩,
    ⟨⟨⟨![114, 0], S4x128.size, ![4, 1], inb_S128x128_S4x128_114_0_s_4_1⟩, spos_4_1⟩, k0_pay47 (k0_pay40 (k0_pay14 v82) k0_pay15 (k0_pay33 (iota .tc S16x128 32 [1] iota_S16x128_d1_w32)))⟩,
    ⟨⟨⟨![98, 0], S4x128.size, ![4, 1], inb_S128x128_S4x128_98_0_s_4_1⟩, spos_4_1⟩, k0_pay46 (k0_pay45 (k0_pay40 (k0_pay14 v82) k0_pay15 (k0_pay33 (iota .tc S16x128 32 [1] iota_S16x128_d1_w32))))⟩,
    ⟨⟨⟨![113, 0], S4x128.size, ![4, 1], inb_S128x128_S4x128_113_0_s_4_1⟩, spos_4_1⟩, k0_pay44 (k0_pay40 (k0_pay14 v82) k0_pay15 (k0_pay33 (iota .tc S16x128 32 [1] iota_S16x128_d1_w32)))⟩,
    ⟨⟨⟨![97, 0], S4x128.size, ![4, 1], inb_S128x128_S4x128_97_0_s_4_1⟩, spos_4_1⟩, k0_pay43 (k0_pay40 (k0_pay14 v82) k0_pay15 (k0_pay33 (iota .tc S16x128 32 [1] iota_S16x128_d1_w32)))⟩,
    ⟨⟨⟨![112, 0], S4x128.size, ![4, 1], inb_S128x128_S4x128_112_0_s_4_1⟩, spos_4_1⟩, k0_pay42 (k0_pay40 (k0_pay14 v82) k0_pay15 (k0_pay33 (iota .tc S16x128 32 [1] iota_S16x128_d1_w32)))⟩,
    ⟨⟨⟨![96, 0], S4x128.size, ![4, 1], inb_S128x128_S4x128_96_0_s_4_1⟩, spos_4_1⟩, k0_pay41 (k0_pay14 v82) k0_pay15 (k0_pay33 (iota .tc S16x128 32 [1] iota_S16x128_d1_w32))⟩,
    ⟨Rect.unit (s := S128x128) ![80, 0] S16x128.size inb_S128x128_S16x128_80_0, k0_pay39 (k0_pay34 (k0_pay13 v77) (iota .tc S16x128 32 [1] iota_S16x128_d1_w32) k0_pay15) (k0_pay36 (k0_pay13 v77) (iota .tc S16x128 32 [1] iota_S16x128_d1_w32) k0_pay15) k0_pay37⟩,
    ⟨Rect.unit (s := S128x128) ![64, 0] S16x128.size inb_S128x128_S16x128_64_0, k0_pay38 (k0_pay35 (k0_pay13 v77) (iota .tc S16x128 32 [1] iota_S16x128_d1_w32) k0_pay15)⟩,
    ⟨⟨⟨![51, 0], S4x128.size, ![4, 1], inb_S128x128_S4x128_51_0_s_4_1⟩, spos_4_1⟩, k0_pay32 (k0_pay31 (k0_pay22 (k0_pay14 v82) k0_pay15 k0_pay16))⟩,
    ⟨⟨⟨![35, 0], S4x128.size, ![4, 1], inb_S128x128_S4x128_35_0_s_4_1⟩, spos_4_1⟩, k0_pay30 (k0_pay22 (k0_pay14 v82) k0_pay15 k0_pay16)⟩,
    ⟨⟨⟨![50, 0], S4x128.size, ![4, 1], inb_S128x128_S4x128_50_0_s_4_1⟩, spos_4_1⟩, k0_pay29 (k0_pay22 (k0_pay14 v82) k0_pay15 k0_pay16)⟩,
    ⟨⟨⟨![34, 0], S4x128.size, ![4, 1], inb_S128x128_S4x128_34_0_s_4_1⟩, spos_4_1⟩, k0_pay28 (k0_pay22 (k0_pay14 v82) k0_pay15 k0_pay16)⟩,
    ⟨⟨⟨![49, 0], S4x128.size, ![4, 1], inb_S128x128_S4x128_49_0_s_4_1⟩, spos_4_1⟩, k0_pay27 (k0_pay22 (k0_pay14 v82) k0_pay15 k0_pay16)⟩,
    ⟨⟨⟨![33, 0], S4x128.size, ![4, 1], inb_S128x128_S4x128_33_0_s_4_1⟩, spos_4_1⟩, k0_pay26 (k0_pay22 (k0_pay14 v82) k0_pay15 k0_pay16)⟩,
    ⟨⟨⟨![48, 0], S4x128.size, ![4, 1], inb_S128x128_S4x128_48_0_s_4_1⟩, spos_4_1⟩, k0_pay25 (k0_pay22 (k0_pay14 v82) k0_pay15 k0_pay16)⟩,
    ⟨⟨⟨![32, 0], S4x128.size, ![4, 1], inb_S128x128_S4x128_32_0_s_4_1⟩, spos_4_1⟩, k0_pay24 (k0_pay23 (k0_pay14 v82) k0_pay15 k0_pay16)⟩,
    ⟨Rect.unit (s := S128x128) ![16, 0] S16x128.size inb_S128x128_S16x128_16_0, k0_pay21 (k0_pay17 v77) k0_pay19⟩,
    ⟨Rect.unit (s := S128x128) ![0, 0] S16x128.size inb_S128x128_S16x128_0_0, k0_pay20 (k0_pay18 v77)⟩]

/-- Low words doubled. -/
theorem low_at (v : IVec S16x128 32) (x : S16x128.Idx) (a b : BitVec 16) (h : v x = b ++ a) :
    lform v x = dbl a := by
  show (v x &&& 65535#32) ||| (v x <<< 16) = _
  rw [h]
  exact and_mask16 b a

/-- High words doubled. -/
theorem high_at (v : IVec S16x128 32) (x : S16x128.Idx) (a b : BitVec 16) (h : v x = b ++ a) :
    hform v x = dbl b := by
  show (v x >>> 16) ||| (v x &&& 4294901760#32) = _
  rw [h]
  exact and_mask16_hi b a

abbrev CZ (a : Fin 128) (o : ℕ) : Prop := o ≤ a.val ∧ (a.val - o) % 4 = 0 ∧ a.val - o < 16
abbrev CS (a : Fin 128) (o : ℕ) : Prop := o ≤ a.val ∧ a.val - o < 16

/-- Every row of the table is in some store. -/
theorem rows_covered : ∀ a : Fin 128, CZ a 115 ∨ CZ a 99 ∨ CZ a 114 ∨ CZ a 98 ∨ CZ a 113 ∨ CZ a 97 ∨ CZ a 112 ∨ CZ a 96 ∨ CS a 80 ∨ CS a 64 ∨ CZ a 51 ∨ CZ a 35 ∨ CZ a 50 ∨ CZ a 34 ∨ CZ a 49 ∨ CZ a 33 ∨ CZ a 48 ∨ CZ a 32 ∨ CS a 16 ∨ CS a 0 := by decide +kernel

theorem zmem (y : S128x128.Idx) (o : ℕ) (inb) (sp) (h : CZ (y 0) o) :
    y ∈ (⟨⟨![o, 0], S4x128.size, ![4, 1], inb⟩, sp⟩ : Rect S128x128).set := by
  refine (LoadRect.mem_set _).mpr fun a => ?_
  match a with
  | ⟨0, _⟩ => exact ⟨((y 0).val - o) / 4, by show _ < 4; have := h.2.2; omega, by show (y 0).val = o + 4 * (((y 0).val - o) / 4); have := h.1; have := h.2.1; omega⟩
  | ⟨1, _⟩ => exact ⟨(y 1).val, (y 1).isLt, by show (y 1).val = 0 + 1 * (y 1).val; omega⟩

theorem smem_ (y : S128x128.Idx) (o : ℕ) (inb) (h : CS (y 0) o) :
    y ∈ (Rect.unit (s := S128x128) ![o, 0] S16x128.size inb).set := by
  refine (LoadRect.mem_set _).mpr fun a => ?_
  match a with
  | ⟨0, _⟩ => exact ⟨(y 0).val - o, by show _ < 16; exact h.2, by show (y 0).val = o + 1 * ((y 0).val - o); have := h.1; omega⟩
  | ⟨1, _⟩ => exact ⟨(y 1).val, (y 1).isLt, by show (y 1).val = 0 + 1 * (y 1).val; omega⟩

/-- After the twenty stores the table is the function it is meant to be, whatever it held. -/
theorem tab_read {sig : RefSig} {k : Kind} {sp : Space} (v : View sig k sp S128x128 .i32) (f) (v77 : Vec F S32x256 .i16) (v82 : Vec F S16x256 .i8) (y : S128x128.Idx) :
    v.read (Elt F) (v.writes (Elt F) f (tabPieces v77 v82)) y = tabG v77 v82 y := by
  refine View.read_writes_apply_of_pieces v f (tabG v77 v82) (tabPieces v77 v82) ?_ y ?_
  · intro p hp
    unfold tabPieces at hp
    simp only [List.mem_cons, List.not_mem_nil, or_false] at hp
    have hz0 := fun r l => zero0_at (k0_pay14 v82) r l
    have hz1 := fun r l => zero1_at (k0_pay14 v82) r l
    rcases hp with rfl | rfl | rfl | rfl | rfl | rfl | rfl | rfl | rfl | rfl | rfl | rfl | rfl | rfl | rfl | rfl | rfl | rfl | rfl | rfl
    · exact zpiece v77 v82 (k0_pay40 (k0_pay14 v82) k0_pay15 (k0_pay33 (iota .tc S16x128 32 [1] iota_S16x128_d1_w32))) 115 1 1 3 _ _ rfl hz1 28 rfl _ (pay_115 _)
    · exact zpiece v77 v82 (k0_pay40 (k0_pay14 v82) k0_pay15 (k0_pay33 (iota .tc S16x128 32 [1] iota_S16x128_d1_w32))) 99 1 0 3 _ _ rfl hz1 24 rfl _ (pay_99 _)
    · exact zpiece v77 v82 (k0_pay40 (k0_pay14 v82) k0_pay15 (k0_pay33 (iota .tc S16x128 32 [1] iota_S16x128_d1_w32))) 114 1 1 2 _ _ rfl hz1 20 rfl _ (pay_114 _)
    · exact zpiece v77 v82 (k0_pay40 (k0_pay14 v82) k0_pay15 (k0_pay33 (iota .tc S16x128 32 [1] iota_S16x128_d1_w32))) 98 1 0 2 _ _ rfl hz1 16 rfl _ (pay_98 _)
    · exact zpiece v77 v82 (k0_pay40 (k0_pay14 v82) k0_pay15 (k0_pay33 (iota .tc S16x128 32 [1] iota_S16x128_d1_w32))) 113 1 1 1 _ _ rfl hz1 12 rfl _ (pay_113 _)
    · exact zpiece v77 v82 (k0_pay40 (k0_pay14 v82) k0_pay15 (k0_pay33 (iota .tc S16x128 32 [1] iota_S16x128_d1_w32))) 97 1 0 1 _ _ rfl hz1 8 rfl _ (pay_97 _)
    · exact zpiece v77 v82 (k0_pay40 (k0_pay14 v82) k0_pay15 (k0_pay33 (iota .tc S16x128 32 [1] iota_S16x128_d1_w32))) 112 1 1 0 _ _ rfl hz1 4 rfl _ (pay_112 _)
    · exact zpiece v77 v82 (k0_pay40 (k0_pay14 v82) k0_pay15 (k0_pay33 (iota .tc S16x128 32 [1] iota_S16x128_d1_w32))) 96 1 0 0 _ _ rfl hz1 0 rfl _ (pay_96 v82)
    · exact spiece v77 v82 80 1 1 inb_S128x128_S16x128_80_0 rfl _ (fun r l => (congrFun (pay_80 v77 _ _) _).trans (high_at _ _ _ _ ((scale1_at v77 r l).trans (scaleWord v77 r _ ⟨2 * r.val + 0, by omega⟩ ⟨2 * r.val + 1, by omega⟩ rfl rfl))))
    · exact spiece v77 v82 64 1 0 inb_S128x128_S16x128_64_0 rfl _ (fun r l => (congrFun (pay_64 v77 _ _) _).trans (low_at _ _ _ _ ((scale1_at v77 r l).trans (scaleWord v77 r _ ⟨2 * r.val + 0, by omega⟩ ⟨2 * r.val + 1, by omega⟩ rfl rfl))))
    · exact zpiece v77 v82 (k0_pay22 (k0_pay14 v82) k0_pay15 k0_pay16) 51 0 1 3 _ _ rfl hz0 28 rfl _ (pay_51 _)
    · exact zpiece v77 v82 (k0_pay22 (k0_pay14 v82) k0_pay15 k0_pay16) 35 0 0 3 _ _ rfl hz0 24 rfl _ (pay_35 _)
    · exact zpiece v77 v82 (k0_pay22 (k0_pay14 v82) k0_pay15 k0_pay16) 50 0 1 2 _ _ rfl hz0 20 rfl _ (pay_50 _)
    · exact zpiece v77 v82 (k0_pay22 (k0_pay14 v82) k0_pay15 k0_pay16) 34 0 0 2 _ _ rfl hz0 16 rfl _ (pay_34 _)
    · exact zpiece v77 v82 (k0_pay22 (k0_pay14 v82) k0_pay15 k0_pay16) 49 0 1 1 _ _ rfl hz0 12 rfl _ (pay_49 _)
    · exact zpiece v77 v82 (k0_pay22 (k0_pay14 v82) k0_pay15 k0_pay16) 33 0 0 1 _ _ rfl hz0 8 rfl _ (pay_33 _)
    · exact zpiece v77 v82 (k0_pay22 (k0_pay14 v82) k0_pay15 k0_pay16) 48 0 1 0 _ _ rfl hz0 4 rfl _ (pay_48 _)
    · exact zpiece v77 v82 (k0_pay22 (k0_pay14 v82) k0_pay15 k0_pay16) 32 0 0 0 _ _ rfl hz0 0 rfl _ (pay_32 v82)
    · exact spiece v77 v82 16 0 1 inb_S128x128_S16x128_16_0 rfl _ (fun r l => (congrFun (pay_16 v77) _).trans (high_at _ _ _ _ ((scale0_at v77 r l).trans (scaleWord v77 r _ ⟨2 * r.val + 0, by omega⟩ ⟨2 * r.val + 1, by omega⟩ rfl rfl))))
    · exact spiece v77 v82 0 0 0 inb_S128x128_S16x128_0_0 rfl _ (fun r l => (congrFun (pay_0 v77) _).trans (low_at _ _ _ _ ((scale0_at v77 r l).trans (scaleWord v77 r _ ⟨2 * r.val + 0, by omega⟩ ⟨2 * r.val + 1, by omega⟩ rfl rfl))))
  · rcases rows_covered (y 0) with h | h | h | h | h | h | h | h | h | h | h | h | h | h | h | h | h | h | h | h
    · exact ⟨_, List.mem_cons_self, zmem y _ _ _ h⟩
    · exact ⟨_, List.mem_cons_of_mem _ (List.mem_cons_self), zmem y _ _ _ h⟩
    · exact ⟨_, List.mem_cons_of_mem _ (List.mem_cons_of_mem _ (List.mem_cons_self)), zmem y _ _ _ h⟩
    · exact ⟨_, List.mem_cons_of_mem _ (List.mem_cons_of_mem _ (List.mem_cons_of_mem _ (List.mem_cons_self))), zmem y _ _ _ h⟩
    · exact ⟨_, List.mem_cons_of_mem _ (List.mem_cons_of_mem _ (List.mem_cons_of_mem _ (List.mem_cons_of_mem _ (List.mem_cons_self)))), zmem y _ _ _ h⟩
    · exact ⟨_, List.mem_cons_of_mem _ (List.mem_cons_of_mem _ (List.mem_cons_of_mem _ (List.mem_cons_of_mem _ (List.mem_cons_of_mem _ (List.mem_cons_self))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_self)))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), smem_ y 80 inb_S128x128_S16x128_80_0 h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), smem_ y 64 inb_S128x128_S16x128_64_0 h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), zmem y _ _ _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), smem_ y 16 inb_S128x128_S16x128_16_0 h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), smem_ y 0 inb_S128x128_S16x128_0_0 h⟩

/-- The same with the twenty payloads named. -/
theorem tab_read_of {sig : RefSig} {k : Kind} {sp : Space} (v : View sig k sp S128x128 .i32) (f) (v77 : Vec F S32x256 .i16) (v82 : Vec F S16x256 .i8)
    (p0 : IVec S4x128 32) (p1 : IVec S4x128 32) (p2 : IVec S4x128 32) (p3 : IVec S4x128 32) (p4 : IVec S4x128 32) (p5 : IVec S4x128 32) (p6 : IVec S4x128 32) (p7 : IVec S4x128 32) (p8 : IVec S16x128 32) (p9 : IVec S16x128 32) (p10 : IVec S4x128 32) (p11 : IVec S4x128 32) (p12 : IVec S4x128 32) (p13 : IVec S4x128 32) (p14 : IVec S4x128 32) (p15 : IVec S4x128 32) (p16 : IVec S4x128 32) (p17 : IVec S4x128 32) (p18 : IVec S16x128 32) (p19 : IVec S16x128 32)
    (h0 : p0 = k0_pay50 (k0_pay49 (k0_pay40 (k0_pay14 v82) k0_pay15 (k0_pay33 (iota .tc S16x128 32 [1] iota_S16x128_d1_w32)))))
    (h1 : p1 = k0_pay48 (k0_pay40 (k0_pay14 v82) k0_pay15 (k0_pay33 (iota .tc S16x128 32 [1] iota_S16x128_d1_w32))))
    (h2 : p2 = k0_pay47 (k0_pay40 (k0_pay14 v82) k0_pay15 (k0_pay33 (iota .tc S16x128 32 [1] iota_S16x128_d1_w32))))
    (h3 : p3 = k0_pay46 (k0_pay45 (k0_pay40 (k0_pay14 v82) k0_pay15 (k0_pay33 (iota .tc S16x128 32 [1] iota_S16x128_d1_w32)))))
    (h4 : p4 = k0_pay44 (k0_pay40 (k0_pay14 v82) k0_pay15 (k0_pay33 (iota .tc S16x128 32 [1] iota_S16x128_d1_w32))))
    (h5 : p5 = k0_pay43 (k0_pay40 (k0_pay14 v82) k0_pay15 (k0_pay33 (iota .tc S16x128 32 [1] iota_S16x128_d1_w32))))
    (h6 : p6 = k0_pay42 (k0_pay40 (k0_pay14 v82) k0_pay15 (k0_pay33 (iota .tc S16x128 32 [1] iota_S16x128_d1_w32))))
    (h7 : p7 = k0_pay41 (k0_pay14 v82) k0_pay15 (k0_pay33 (iota .tc S16x128 32 [1] iota_S16x128_d1_w32)))
    (h8 : p8 = k0_pay39 (k0_pay34 (k0_pay13 v77) (iota .tc S16x128 32 [1] iota_S16x128_d1_w32) k0_pay15) (k0_pay36 (k0_pay13 v77) (iota .tc S16x128 32 [1] iota_S16x128_d1_w32) k0_pay15) k0_pay37)
    (h9 : p9 = k0_pay38 (k0_pay35 (k0_pay13 v77) (iota .tc S16x128 32 [1] iota_S16x128_d1_w32) k0_pay15))
    (h10 : p10 = k0_pay32 (k0_pay31 (k0_pay22 (k0_pay14 v82) k0_pay15 k0_pay16)))
    (h11 : p11 = k0_pay30 (k0_pay22 (k0_pay14 v82) k0_pay15 k0_pay16))
    (h12 : p12 = k0_pay29 (k0_pay22 (k0_pay14 v82) k0_pay15 k0_pay16))
    (h13 : p13 = k0_pay28 (k0_pay22 (k0_pay14 v82) k0_pay15 k0_pay16))
    (h14 : p14 = k0_pay27 (k0_pay22 (k0_pay14 v82) k0_pay15 k0_pay16))
    (h15 : p15 = k0_pay26 (k0_pay22 (k0_pay14 v82) k0_pay15 k0_pay16))
    (h16 : p16 = k0_pay25 (k0_pay22 (k0_pay14 v82) k0_pay15 k0_pay16))
    (h17 : p17 = k0_pay24 (k0_pay23 (k0_pay14 v82) k0_pay15 k0_pay16))
    (h18 : p18 = k0_pay21 (k0_pay17 v77) k0_pay19)
    (h19 : p19 = k0_pay20 (k0_pay18 v77)) (y : S128x128.Idx) :
    v.read (Elt F) (v.writes (Elt F) f
    [ ⟨⟨⟨![115, 0], S4x128.size, ![4, 1], inb_S128x128_S4x128_115_0_s_4_1⟩, spos_4_1⟩, p0⟩,
      ⟨⟨⟨![99, 0], S4x128.size, ![4, 1], inb_S128x128_S4x128_99_0_s_4_1⟩, spos_4_1⟩, p1⟩,
      ⟨⟨⟨![114, 0], S4x128.size, ![4, 1], inb_S128x128_S4x128_114_0_s_4_1⟩, spos_4_1⟩, p2⟩,
      ⟨⟨⟨![98, 0], S4x128.size, ![4, 1], inb_S128x128_S4x128_98_0_s_4_1⟩, spos_4_1⟩, p3⟩,
      ⟨⟨⟨![113, 0], S4x128.size, ![4, 1], inb_S128x128_S4x128_113_0_s_4_1⟩, spos_4_1⟩, p4⟩,
      ⟨⟨⟨![97, 0], S4x128.size, ![4, 1], inb_S128x128_S4x128_97_0_s_4_1⟩, spos_4_1⟩, p5⟩,
      ⟨⟨⟨![112, 0], S4x128.size, ![4, 1], inb_S128x128_S4x128_112_0_s_4_1⟩, spos_4_1⟩, p6⟩,
      ⟨⟨⟨![96, 0], S4x128.size, ![4, 1], inb_S128x128_S4x128_96_0_s_4_1⟩, spos_4_1⟩, p7⟩,
      ⟨Rect.unit (s := S128x128) ![80, 0] S16x128.size inb_S128x128_S16x128_80_0, p8⟩,
      ⟨Rect.unit (s := S128x128) ![64, 0] S16x128.size inb_S128x128_S16x128_64_0, p9⟩,
      ⟨⟨⟨![51, 0], S4x128.size, ![4, 1], inb_S128x128_S4x128_51_0_s_4_1⟩, spos_4_1⟩, p10⟩,
      ⟨⟨⟨![35, 0], S4x128.size, ![4, 1], inb_S128x128_S4x128_35_0_s_4_1⟩, spos_4_1⟩, p11⟩,
      ⟨⟨⟨![50, 0], S4x128.size, ![4, 1], inb_S128x128_S4x128_50_0_s_4_1⟩, spos_4_1⟩, p12⟩,
      ⟨⟨⟨![34, 0], S4x128.size, ![4, 1], inb_S128x128_S4x128_34_0_s_4_1⟩, spos_4_1⟩, p13⟩,
      ⟨⟨⟨![49, 0], S4x128.size, ![4, 1], inb_S128x128_S4x128_49_0_s_4_1⟩, spos_4_1⟩, p14⟩,
      ⟨⟨⟨![33, 0], S4x128.size, ![4, 1], inb_S128x128_S4x128_33_0_s_4_1⟩, spos_4_1⟩, p15⟩,
      ⟨⟨⟨![48, 0], S4x128.size, ![4, 1], inb_S128x128_S4x128_48_0_s_4_1⟩, spos_4_1⟩, p16⟩,
      ⟨⟨⟨![32, 0], S4x128.size, ![4, 1], inb_S128x128_S4x128_32_0_s_4_1⟩, spos_4_1⟩, p17⟩,
      ⟨Rect.unit (s := S128x128) ![16, 0] S16x128.size inb_S128x128_S16x128_16_0, p18⟩,
      ⟨Rect.unit (s := S128x128) ![0, 0] S16x128.size inb_S128x128_S16x128_0_0, p19⟩]) y = tabG v77 v82 y := by
  subst h0 h1 h2 h3 h4 h5 h6 h7 h8 h9 h10 h11 h12 h13 h14 h15 h16 h17 h18 h19
  exact tab_read v f v77 v82 y

end Cert.KernelIdeal.Hand
-- ==== Proof.KernI.Pass.lean ====
/-
  One pass of the column loop over 256 input features: the weights it forms from a block of packed words and the
  chunk's table, and the product it adds to the running sum.
-/
module

public import proofs.«01_k».proof.Proof.KernI.Quad
public import proofs.«01_k».proof.Proof.KernI.Tab
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

/-- A weight from its code, its zero point's word and its scale's word. -/
def fwt (code : BitVec 8) (z s : BitVec 16) : F .bf16 :=
  FloatOps.mulf (FloatOps.subf (FloatOps.sitofp .bf16 code) (FloatOps.subf (Scalar.ofBits .bf16 z) (Scalar.ofBits .bf16 0x4300#16)))
    (Scalar.ofBits .bf16 s)

/-- A row of doubled words spread over a block and read as 16-bit floats. -/
theorem spread_at (s : Vec F S1x128 .i32) (w : Fin 128 → BitVec 16) (hs : ∀ l, s (ix2 (n0 := 1) (n1 := 128) 0 l) = dbl (w l)) (r l : Fin 128) :
    (bitcastToFloat .bf16 (bitcast S128x128 16 (broadcastTo S64x128 (shapeCast S1x128 s shapeCasts_S1x128_S1x128) broadcasts_S1x128_S64x128)
      bitcasts_S64x128_w32_S128x128_w16) : FVec F S128x128 .bf16) (ix2 (n0 := 128) (n1 := 128) r l) = Scalar.ofBits .bf16 (w l) := by
  have hr := r.isLt
  have e : bitcast S128x128 16 (broadcastTo S64x128 (shapeCast S1x128 s shapeCasts_S1x128_S1x128) broadcasts_S1x128_S64x128)
      bitcasts_S64x128_w32_S128x128_w16 (ix2 (n0 := 128) (n1 := 128) r l) = w l := by
    refine (bitcast_32_16_ix2 (R := 128) (r := 64) (n := 128) _ _ r l ⟨r.val / 2, by omega⟩ rfl).trans ?_
    have e1 : broadcastTo S64x128 (shapeCast S1x128 s shapeCasts_S1x128_S1x128) broadcasts_S1x128_S64x128 (ix2 (n0 := 64) (n1 := 128) ⟨r.val / 2, by omega⟩ l) = dbl (w l) := by
      refine (broadcastTo_1b_ab_apply (a := 64) (b := 128) _ _ _ l).trans ?_
      exact (congrFun (shapeCast_self s shapeCasts_S1x128_S1x128) _).trans (hs l)
    refine (congrArg (fun v : BitVec 32 => v.extractLsb' (16 * (r.val % 2)) 16) e1).trans ?_
    have h2 : r.val % 2 < 2 := Nat.mod_lt _ (by decide)
    unfold dbl
    match r.val % 2, h2 with
    | 0, _ => exact extract_lo _ _
    | 1, _ => exact extract_hi _ _
  exact congrArg (fun b : BitVec 16 => (Scalar.ofBits .bf16 b : F .bf16)) e

/-- The codes of a block: the low nibbles, and the high nibbles, of its bytes. -/
theorem code0_at (w : Vec F S64x128 .i32) (r : Fin 256) (l : Fin 128) :
    k0_pay7 w (ix2 (n0 := 256) (n1 := 128) r l)
      = FloatOps.sitofp .bf16 (codeByte ((w (ix2 (n0 := 64) (n1 := 128) ⟨r.val / 4, by omega⟩ l)).extractLsb' (8 * (r.val % 4)) 4)) := by
  refine congrArg (fun b : BitVec 8 => (FloatOps.sitofp .bf16 b : F .bf16)) ?_
  refine (bitcast_32_8_ix2 (R := 256) (r := 64) (n := 128) (andi w (broadcast S64x128 252645135#32)) bitcasts_S64x128_w32_S256x128_w8 r l ⟨r.val / 4, by omega⟩ rfl).trans ?_
  exact code_lo _ ⟨r.val % 4, Nat.mod_lt _ (by decide)⟩

theorem code1_at (w : Vec F S64x128 .i32) (r : Fin 256) (l : Fin 128) :
    k0_pay10 w (ix2 (n0 := 256) (n1 := 128) r l)
      = FloatOps.sitofp .bf16 (codeByte ((w (ix2 (n0 := 64) (n1 := 128) ⟨r.val / 4, by omega⟩ l)).extractLsb' (8 * (r.val % 4) + 4) 4)) := by
  refine congrArg (fun b : BitVec 8 => (FloatOps.sitofp .bf16 b : F .bf16)) ?_
  refine (bitcast_32_8_ix2 (R := 256) (r := 64) (n := 128) (andi (shrui w (broadcast S64x128 4#32)) (broadcast S64x128 252645135#32)) bitcasts_S64x128_w32_S256x128_w8 r l ⟨r.val / 4, by omega⟩ rfl).trans ?_
  exact code_hi _ ⟨r.val % 4, Nat.mod_lt _ (by decide)⟩

/-- One column half of a pass's weights, from codes and the two groups' rows of the table. -/
def halfW (cd : FVec F S256x128 .bf16) (s0 z0 s1 z1 : Vec F S1x128 .i32) : FVec F S256x128 .bf16 :=
  k0_pay9 cd (k0_pay8 cd s0 z0) s1 z1

theorem halfW_at (cd : FVec F S256x128 .bf16) (s0 z0 s1 z1 : Vec F S1x128 .i32) (sw zw : Fin 2 → Fin 128 → BitVec 16)
    (hs0 : ∀ l, s0 (ix2 (n0 := 1) (n1 := 128) 0 l) = dbl (sw 0 l)) (hz0 : ∀ l, z0 (ix2 (n0 := 1) (n1 := 128) 0 l) = dbl (zw 0 l))
    (hs1 : ∀ l, s1 (ix2 (n0 := 1) (n1 := 128) 0 l) = dbl (sw 1 l)) (hz1 : ∀ l, z1 (ix2 (n0 := 1) (n1 := 128) 0 l) = dbl (zw 1 l))
    (code : Fin 256 → Fin 128 → BitVec 8) (hcd : ∀ r l, cd (ix2 (n0 := 256) (n1 := 128) r l) = FloatOps.sitofp .bf16 (code r l))
    (r : Fin 256) (l : Fin 128) (g : Fin 2) (hg : g.val = r.val / 128) :
    halfW cd s0 z0 s1 z1 (ix2 (n0 := 256) (n1 := 128) r l) = fwt (code r l) (zw g l) (sw g l) := by
  have hr := r.isLt
  have cut : ∀ (o : ℕ) (ho : S256x128.Slices ![o, 0] S128x128) (p : Fin 128), r.val = o + p.val →
      extractStridedSlice S128x128 ![o, 0] cd ho (ix2 (n0 := 128) (n1 := 128) p l) = FloatOps.sitofp .bf16 (code r l) := fun o ho p hp =>
    (extractStridedSlice_apply _ cd ho _ (ix2 (n0 := 256) (n1 := 128) r l) (fun a => by
      match a with
      | ⟨0, _⟩ => exact hp
      | ⟨1, _⟩ => exact (Nat.zero_add _).symm)).trans (hcd r l)
  have val : ∀ (o : ℕ) (ho : S256x128.Slices ![o, 0] S128x128) (s z : Vec F S1x128 .i32) (p : Fin 128), r.val = o + p.val →
      (∀ l, s (ix2 (n0 := 1) (n1 := 128) 0 l) = dbl (sw g l)) → (∀ l, z (ix2 (n0 := 1) (n1 := 128) 0 l) = dbl (zw g l)) →
      mulf (subf (extractStridedSlice S128x128 ![o, 0] cd ho)
        (subf (bitcastToFloat .bf16 (bitcast S128x128 16 (broadcastTo S64x128 (shapeCast S1x128 z shapeCasts_S1x128_S1x128) broadcasts_S1x128_S64x128)
          bitcasts_S64x128_w32_S128x128_w16) : FVec F S128x128 .bf16) (broadcast S128x128 (Scalar.ofBits .bf16 0x4300#16))))
        (bitcastToFloat .bf16 (bitcast S128x128 16 (broadcastTo S64x128 (shapeCast S1x128 s shapeCasts_S1x128_S1x128) broadcasts_S1x128_S64x128)
          bitcasts_S64x128_w32_S128x128_w16) : FVec F S128x128 .bf16) (ix2 (n0 := 128) (n1 := 128) p l) = fwt (code r l) (zw g l) (sw g l) := fun o ho s z p hp hs hz => by
    show FloatOps.mulf (FloatOps.subf (extractStridedSlice S128x128 ![o, 0] cd ho (ix2 (n0 := 128) (n1 := 128) p l)) (FloatOps.subf _ (Scalar.ofBits .bf16 0x4300#16))) _ = _
    rw [cut o ho p hp, spread_at z _ hz p l, spread_at s _ hs p l]
    rfl
  by_cases h : r.val < 128
  · obtain rfl : g = 0 := Fin.ext (by rw [hg]; show r.val / 128 = 0; omega)
    refine (concatenate_pair_apply_left (t := S256x128) 0 (k0_pay8 cd s0 z0) _ concatenates_S128x128_S128x128_S256x128_d0 (ix2 (n0 := 256) (n1 := 128) r l) rfl
      (ix2 (n0 := 128) (n1 := 128) ⟨r.val, h⟩ l) (fun b => by
        match b with
        | ⟨0, _⟩ => rfl
        | ⟨1, _⟩ => rfl)).trans ?_
    exact val 0 slices_S256x128_o0_0_S128x128 s0 z0 _ (Nat.zero_add _).symm hs0 hz0
  · obtain rfl : g = 1 := Fin.ext (by rw [hg]; show r.val / 128 = 1; omega)
    refine (concatenate_pair_apply_right (t := S256x128) 0 (k0_pay8 cd s0 z0) _ concatenates_S128x128_S128x128_S256x128_d0 (ix2 (n0 := 256) (n1 := 128) r l) rfl rfl
      (ix2 (n0 := 128) (n1 := 128) ⟨r.val - 128, by omega⟩ l) (fun b => by
        match b with
        | ⟨0, _⟩ => intro h; exact absurd rfl h
        | ⟨1, _⟩ => intro _; rfl) (by show r.val - 128 + 128 = r.val; omega)).trans ?_
    exact val 128 slices_S256x128_o128_0_S128x128 s1 z1 _ (by show r.val = 128 + (r.val - 128); omega) hs1 hz1

/-- The weights of pass `p` of a chunk: row `r` is input feature `256 p + r`, column `x` holds the chunk's column
    `2 (x mod 128) + x / 128`. -/
def wtile (S : Vec F S32x256 .i16) (Z : Vec F S16x256 .i8) (w : ℕ → Fin 128 → BitVec 32) (p : ℕ) (hp : p < 16) : FVec F S256x256 .bf16 := fun y =>
  have h0 : (y 0).val < 256 := (y 0).isLt
  have h1 : (y 1).val < 256 := (y 1).isLt
  have col : Fin 256 := ⟨2 * ((y 1).val % 128) + (y 1).val / 128, by omega⟩
  have g : Fin 32 := ⟨2 * p + (y 0).val / 128, by omega⟩
  fwt (codeByte ((w (64 * p + (y 0).val / 4) ⟨(y 1).val % 128, Nat.mod_lt _ (by decide)⟩).extractLsb' (8 * ((y 0).val % 4) + 4 * ((y 1).val / 128)) 4))
    (zbits (zeroNib Z g col)) (S (ix2 (n0 := 32) (n1 := 256) g col))

/-- The permuted input's columns of a pass. -/
def xtile (X : Vec F S192x4096 .bf16) (p : ℕ) (hp : p < 16) : FVec F S192x256 .bf16 := fun y =>
  have h1 : (y 1).val < 256 := (y 1).isLt
  X (ix2 (n0 := 192) (n1 := 4096) (y 0) ⟨256 * p + (y 1).val, by omega⟩)

/-- The running sum of a chunk after `n` passes. -/
def kacc (S : Vec F S32x256 .i16) (Z : Vec F S16x256 .i8) (w : ℕ → Fin 128 → BitVec 32) (X : Vec F S192x4096 .bf16) : ℕ → FVec F S192x256 .f32
  | 0 => broadcast S192x256 (Scalar.ofBits .f32 0x00000000#32)
  | n + 1 => if h : n < 16 then
      addf (kacc S Z w X n) (matmul dot_S192x256_S256x256_S192x256_1_0_0_1_n_n none (xtile X n h) (wtile S Z w n h) (constant S192x256 .f32 0x00000000#32))
    else kacc S Z w X n

/-- The two column halves side by side are the pass's weights. -/
theorem wtile_of (S : Vec F S32x256 .i16) (Z : Vec F S16x256 .i8) (w : ℕ → Fin 128 → BitVec 32) (p : ℕ) (hp : p < 16) (u : Vec F S64x128 .i32)
    (a0 b0 a1 b1 a2 b2 a3 b3 : Vec F S1x128 .i32)
    (hu : ∀ (r : Fin 64) (l : Fin 128), u (ix2 (n0 := 64) (n1 := 128) r l) = w (64 * p + r.val) l)
    (hs : ∀ (par g : Fin 2) (l : Fin 128), (match par, g with | 0, 0 => a0 | 0, 1 => a1 | 1, 0 => a2 | 1, 1 => a3) (ix2 (n0 := 1) (n1 := 128) 0 l)
      = dbl (S (ix2 (n0 := 32) (n1 := 256) ⟨2 * p + g.val, by omega⟩ ⟨2 * l.val + par.val, by omega⟩)))
    (hz : ∀ (par g : Fin 2) (l : Fin 128), (match par, g with | 0, 0 => b0 | 0, 1 => b1 | 1, 0 => b2 | 1, 1 => b3) (ix2 (n0 := 1) (n1 := 128) 0 l)
      = dbl (zbits (zeroNib (n := 256) Z ⟨2 * p + g.val, by omega⟩ ⟨2 * l.val + par.val, by omega⟩))) :
    concatenate S256x256 1 [⟨S256x128, halfW (k0_pay7 u) a0 b0 a1 b1⟩, ⟨S256x128, halfW (k0_pay10 u) a2 b2 a3 b3⟩] concatenates_S256x128_S256x128_S256x256_d1
      = wtile S Z w p hp := by
  funext y
  have h0 : (y 0).val < 256 := (y 0).isLt
  have h1 : (y 1).val < 256 := (y 1).isLt
  have fin : ∀ (r : Fin 256) (l : Fin 128) (par g : Fin 2), r.val = (y 0).val → (y 1).val = 128 * par.val + l.val → g.val = r.val / 128 →
      (fwt (codeByte ((u (ix2 (n0 := 64) (n1 := 128) ⟨r.val / 4, by omega⟩ l)).extractLsb' (8 * (r.val % 4) + 4 * par.val) 4))
        (zbits (zeroNib (n := 256) Z ⟨2 * p + g.val, by omega⟩ ⟨2 * l.val + par.val, by omega⟩))
        (S (ix2 (n0 := 32) (n1 := 256) ⟨2 * p + g.val, by omega⟩ ⟨2 * l.val + par.val, by omega⟩)) : F .bf16) = wtile S Z w p hp y := fun r l par g hr hl hg => by
    have hpar := par.isLt
    rw [hu]
    have e1 : l = ⟨(y 1).val % 128, Nat.mod_lt _ (by decide)⟩ := Fin.ext (by show l.val = (y 1).val % 128; omega)
    have e2 : par.val = (y 1).val / 128 := by omega
    have e3 : (⟨2 * p + g.val, by omega⟩ : Fin 32) = ⟨2 * p + (y 0).val / 128, by omega⟩ := Fin.ext (by show 2 * p + g.val = 2 * p + (y 0).val / 128; omega)
    have e4 : (⟨2 * l.val + par.val, by omega⟩ : Fin 256) = ⟨2 * ((y 1).val % 128) + (y 1).val / 128, by omega⟩ :=
      Fin.ext (by show 2 * l.val + par.val = 2 * ((y 1).val % 128) + (y 1).val / 128; omega)
    rw [e3, e4]
    show fwt (codeByte ((w (64 * p + r.val / 4) l).extractLsb' (8 * (r.val % 4) + 4 * par.val) 4)) _ _ = _
    have e5 : (w (64 * p + r.val / 4) l).extractLsb' (8 * (r.val % 4) + 4 * par.val) 4
        = (w (64 * p + (y 0).val / 4) ⟨(y 1).val % 128, Nat.mod_lt _ (by decide)⟩).extractLsb' (8 * ((y 0).val % 4) + 4 * ((y 1).val / 128)) 4 := by
      rw [hr, ← e2]
      exact congrArg (fun q : Fin 128 => (w (64 * p + (y 0).val / 4) q).extractLsb' (8 * ((y 0).val % 4) + 4 * par.val) 4) e1
    exact congrArg (fun q : BitVec 4 => (fwt (codeByte q) (zbits (zeroNib (n := 256) Z ⟨2 * p + (y 0).val / 128, by omega⟩ ⟨2 * ((y 1).val % 128) + (y 1).val / 128, by omega⟩))
      (S (ix2 (n0 := 32) (n1 := 256) ⟨2 * p + (y 0).val / 128, by omega⟩ ⟨2 * ((y 1).val % 128) + (y 1).val / 128, by omega⟩)) : F .bf16)) e5
  by_cases h : (y 1).val < 128
  · refine (concatenate_pair_apply_left (t := S256x256) 1 (halfW (k0_pay7 u) a0 b0 a1 b1) _ concatenates_S256x128_S256x128_S256x256_d1 y rfl
      (ix2 (n0 := 256) (n1 := 128) ⟨(y 0).val, h0⟩ ⟨(y 1).val, h⟩) (fun b => by
        match b with
        | ⟨0, _⟩ => rfl
        | ⟨1, _⟩ => rfl)).trans ?_
    refine (halfW_at (k0_pay7 u) a0 b0 a1 b1 (fun g l => S (ix2 (n0 := 32) (n1 := 256) ⟨2 * p + g.val, by omega⟩ ⟨2 * l.val + (0 : Fin 2).val, by omega⟩))
      (fun g l => zbits (zeroNib (n := 256) Z ⟨2 * p + g.val, by omega⟩ ⟨2 * l.val + (0 : Fin 2).val, by omega⟩)) (hs 0 0) (hz 0 0) (hs 0 1) (hz 0 1)
      (fun r l => codeByte ((u (ix2 (n0 := 64) (n1 := 128) ⟨r.val / 4, by omega⟩ l)).extractLsb' (8 * (r.val % 4)) 4)) (code0_at u) _ _
      ⟨(y 0).val / 128, by omega⟩ rfl).trans ?_
    exact fin _ _ 0 _ rfl (by show (y 1).val = 128 * 0 + (y 1).val; omega) rfl
  · refine (concatenate_pair_apply_right (t := S256x256) 1 (halfW (k0_pay7 u) a0 b0 a1 b1) _ concatenates_S256x128_S256x128_S256x256_d1 y rfl rfl
      (ix2 (n0 := 256) (n1 := 128) ⟨(y 0).val, h0⟩ ⟨(y 1).val - 128, by omega⟩) (fun b => by
        match b with
        | ⟨0, _⟩ => intro _; rfl
        | ⟨1, _⟩ => intro h; exact absurd rfl h) (by show (y 1).val - 128 + 128 = (y 1).val; omega)).trans ?_
    refine (halfW_at (k0_pay10 u) a2 b2 a3 b3 (fun g l => S (ix2 (n0 := 32) (n1 := 256) ⟨2 * p + g.val, by omega⟩ ⟨2 * l.val + (1 : Fin 2).val, by omega⟩))
      (fun g l => zbits (zeroNib (n := 256) Z ⟨2 * p + g.val, by omega⟩ ⟨2 * l.val + (1 : Fin 2).val, by omega⟩)) (hs 1 0) (hz 1 0) (hs 1 1) (hz 1 1)
      (fun r l => codeByte ((u (ix2 (n0 := 64) (n1 := 128) ⟨r.val / 4, by omega⟩ l)).extractLsb' (8 * (r.val % 4) + 4) 4)) (code1_at u) _ _
      ⟨(y 0).val / 128, by omega⟩ rfl).trans ?_
    exact fin _ _ 1 _ rfl (by show (y 1).val = 128 * 1 + ((y 1).val - 128); omega) rfl

end Cert.KernelIdeal.Hand
-- ==== Proof.KernI.Column.lean ====
/-
  The column loop of a block: each trip fills the chunk's table, runs sixteen passes and stores the chunk's 256 columns
  of the result in their order.
-/
module

public import proofs.«01_k».proof.Proof.KernI.Quad
public import proofs.«01_k».proof.Proof.KernI.Pass
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

/-- Row `q` of chunk `c`'s words in the sorted weights. -/
def srtRow (T : (⟨2, ![8200, 128]⟩ : Shape).Idx → BitVec 32) (c q : ℕ) (l : Fin 128) : BitVec 32 :=
  if h : 1025 * c + q < 8200 then T (ix2 (n0 := 8200) (n1 := 128) ⟨1025 * c + q, h⟩ l) else 0#32

theorem off40_eq : ∀ (p : Fin k0_t6_loop.trips) (par g : Fin 2),
    k0_off40 p (BitVec.ofNat 32 (64 * par.val)) (BitVec.ofNat 32 g.val) = ![64 * par.val + 16 * g.val + p.val, 0] := by decide +kernel

theorem trips_t6 : k0_t6_loop.trips = 16 := by decide
theorem trips_t5 : k0_t5_loop.trips = 8 := by decide

/-- What a pass adds: the loads' values put into the pass's payloads are the next running sum. -/
theorem pass_value (t5 : Fin k0_t5_loop.trips) (p : Fin k0_t6_loop.trips) (S : Vec F S32x256 .i16) (Z : Vec F S16x256 .i8)
    (f8 : Buf (Elt F) (arg8.view.loc (c : Thread nD τ))) (f11 : Buf (Elt F) (arg11.view.loc (c : Thread nD τ))) (f12 : Buf (Elt F) (arg12.view.loc (c : Thread nD τ)))
    (hT : ∀ y, arg12.view.read (Elt F) f12 y = tabG S Z y) (acc : FVec F S192x256 .f32)
    (hacc : acc = kacc S Z (srtRow (arg8.view.read (Elt F) f8) t5.val) (arg11.view.read (Elt F) f11) p.val)
    (i39) (i00) (i01) (i10) (i11) (j00) (j01) (j10) (j11) (i42) (u : Vec F S64x128 .i32)
    (hu : u = arg8.view.readAt (Elt F) (Rect.unit (s := S8200x128) (k0_off39 t5 p) S64x128.size i39).toLoadRect f8) :
    k0_pay52 acc
      (halfW (k0_pay7 u)
        (arg12.view.readAt (Elt F) (Rect.unit (s := S128x128) (k0_off40 p 0#32 0#32) S1x128.size i00).toLoadRect f12)
        (arg12.view.readAt (Elt F) (Rect.unit (s := S128x128) (k0_off41 p 32#32 0#32) S1x128.size j00).toLoadRect f12)
        (arg12.view.readAt (Elt F) (Rect.unit (s := S128x128) (k0_off40 p 0#32 1#32) S1x128.size i01).toLoadRect f12)
        (arg12.view.readAt (Elt F) (Rect.unit (s := S128x128) (k0_off41 p 32#32 1#32) S1x128.size j01).toLoadRect f12))
      (halfW (k0_pay10 u)
        (arg12.view.readAt (Elt F) (Rect.unit (s := S128x128) (k0_off40 p 64#32 0#32) S1x128.size i10).toLoadRect f12)
        (arg12.view.readAt (Elt F) (Rect.unit (s := S128x128) (k0_off41 p 96#32 0#32) S1x128.size j10).toLoadRect f12)
        (arg12.view.readAt (Elt F) (Rect.unit (s := S128x128) (k0_off40 p 64#32 1#32) S1x128.size i11).toLoadRect f12)
        (arg12.view.readAt (Elt F) (Rect.unit (s := S128x128) (k0_off41 p 96#32 1#32) S1x128.size j11).toLoadRect f12))
      (arg11.view.readAt (Elt F) (Rect.unit (s := S192x4096) (k0_off42 p) S192x256.size i42).toLoadRect f11)
      = kacc S Z (srtRow (arg8.view.read (Elt F) f8) t5.val) (arg11.view.read (Elt F) f11) (p.val + 1) := by
  have hp : p.val < 16 := p.isLt
  have ht : t5.val < 8 := t5.isLt
  have hx : arg11.view.readAt (Elt F) (Rect.unit (s := S192x4096) (k0_off42 p) S192x256.size i42).toLoadRect f11 = xtile (arg11.view.read (Elt F) f11) p.val hp := by
    funext y
    have h1 : (y 1).val < 256 := (y 1).isLt
    refine readAt_at arg11.view f11 i42 (k0_off42_eq p) y (ix2 (n0 := 192) (n1 := 4096) (y 0) ⟨256 * p.val + (y 1).val, by omega⟩) (fun a => ?_)
    match a with
    | ⟨0, _⟩ => exact (Nat.zero_add _).symm
    | ⟨1, _⟩ => rfl
  have hw := wtile_of S Z (srtRow (arg8.view.read (Elt F) f8) t5.val) p.val hp u
    (arg12.view.readAt (Elt F) (Rect.unit (s := S128x128) (k0_off40 p 0#32 0#32) S1x128.size i00).toLoadRect f12)
    (arg12.view.readAt (Elt F) (Rect.unit (s := S128x128) (k0_off41 p 32#32 0#32) S1x128.size j00).toLoadRect f12)
    (arg12.view.readAt (Elt F) (Rect.unit (s := S128x128) (k0_off40 p 0#32 1#32) S1x128.size i01).toLoadRect f12)
    (arg12.view.readAt (Elt F) (Rect.unit (s := S128x128) (k0_off41 p 32#32 1#32) S1x128.size j01).toLoadRect f12)
    (arg12.view.readAt (Elt F) (Rect.unit (s := S128x128) (k0_off40 p 64#32 0#32) S1x128.size i10).toLoadRect f12)
    (arg12.view.readAt (Elt F) (Rect.unit (s := S128x128) (k0_off41 p 96#32 0#32) S1x128.size j10).toLoadRect f12)
    (arg12.view.readAt (Elt F) (Rect.unit (s := S128x128) (k0_off40 p 64#32 1#32) S1x128.size i11).toLoadRect f12)
    (arg12.view.readAt (Elt F) (Rect.unit (s := S128x128) (k0_off41 p 96#32 1#32) S1x128.size j11).toLoadRect f12)
    ?hu ?hs ?hz
  case hu =>
    intro r l
    have hr := r.isLt
    rw [hu]
    unfold srtRow
    rw [dif_pos (by omega)]
    refine readAt_at arg8.view f8 i39 (k0_off39_eq t5 p) _ _ (fun a => ?_)
    match a with
    | ⟨0, _⟩ => show 1025 * t5.val + (64 * p.val + r.val) = 1025 * t5.val + 64 * p.val + r.val; omega
    | ⟨1, _⟩ => exact (Nat.zero_add _).symm
  case hs =>
    have row : ∀ (off : Fin 2 → ℕ) (inb) (par g : Fin 2) (l : Fin 128), off = ![64 * par.val + 16 * g.val + p.val, 0] →
        arg12.view.readAt (Elt F) (Rect.unit (s := S128x128) off S1x128.size inb).toLoadRect f12 (ix2 (n0 := 1) (n1 := 128) 0 l)
          = dbl (S (ix2 (n0 := 32) (n1 := 256) ⟨2 * p.val + g.val, by omega⟩ ⟨2 * l.val + par.val, by omega⟩)) := fun off inb par g l ho => by
      have hpar := par.isLt
      have hg := g.isLt
      refine (readAt_at arg12.view f12 inb ho _ (ix2 (n0 := 128) (n1 := 128) ⟨64 * par.val + 16 * g.val + p.val, by omega⟩ l) (fun a => ?_)).trans ((hT _).trans ?_)
      · match a with
        | ⟨0, _⟩ => rfl
        | ⟨1, _⟩ => exact (Nat.zero_add _).symm
      · refine tabG_scale S Z _ ?_ _ _ ?_ ?_
        · show (64 * par.val + 16 * g.val + p.val) % 64 < 32; omega
        · show 2 * p.val + g.val = 2 * ((64 * par.val + 16 * g.val + p.val) % 16) + (64 * par.val + 16 * g.val + p.val) % 64 / 16; omega
        · show 2 * l.val + par.val = 2 * l.val + (64 * par.val + 16 * g.val + p.val) / 64; omega
    intro par g l
    match par, g with
    | 0, 0 => exact row _ i00 0 0 l (off40_eq p 0 0)
    | 0, 1 => exact row _ i01 0 1 l (off40_eq p 0 1)
    | 1, 0 => exact row _ i10 1 0 l (off40_eq p 1 0)
    | 1, 1 => exact row _ i11 1 1 l (off40_eq p 1 1)
  case hz =>
    have row : ∀ (off : Fin 2 → ℕ) (inb) (par g : Fin 2) (l : Fin 128), off = ![64 * par.val + 2 * p.val + g.val + 32, 0] →
        arg12.view.readAt (Elt F) (Rect.unit (s := S128x128) off S1x128.size inb).toLoadRect f12 (ix2 (n0 := 1) (n1 := 128) 0 l)
          = dbl (zbits (zeroNib (n := 256) Z ⟨2 * p.val + g.val, by omega⟩ ⟨2 * l.val + par.val, by omega⟩)) := fun off inb par g l ho => by
      have hpar := par.isLt
      have hg := g.isLt
      refine (readAt_at arg12.view f12 inb ho _ (ix2 (n0 := 128) (n1 := 128) ⟨64 * par.val + 2 * p.val + g.val + 32, by omega⟩ l) (fun a => ?_)).trans ((hT _).trans ?_)
      · match a with
        | ⟨0, _⟩ => rfl
        | ⟨1, _⟩ => exact (Nat.zero_add _).symm
      · refine tabG_zero S Z _ ?_ _ _ ?_ ?_
        · show ¬ (64 * par.val + 2 * p.val + g.val + 32) % 64 < 32; omega
        · show 2 * p.val + g.val = (64 * par.val + 2 * p.val + g.val + 32) % 64 - 32; omega
        · show 2 * l.val + par.val = 2 * l.val + (64 * par.val + 2 * p.val + g.val + 32) / 64; omega
    intro par g l
    match par, g with
    | 0, 0 => exact row _ j00 0 0 l (k0_off41_eq p 0 0)
    | 0, 1 => exact row _ j01 0 1 l (k0_off41_eq p 0 1)
    | 1, 0 => exact row _ j10 1 0 l (k0_off41_eq p 1 0)
    | 1, 1 => exact row _ j11 1 1 l (k0_off41_eq p 1 1)
  unfold kacc
  rw [dif_pos hp, ← hacc, ← hw, ← hx]
  rfl

theorem pass_step (t5 : Fin k0_t5_loop.trips) (a14 : BitVec 32) (v398 : IVec S4x128 32) (S : Vec F S32x256 .i16) (Z : Vec F S16x256 .i8)
    (f8 : Buf (Elt F) (arg8.view.loc (c : Thread nD τ))) (f11 : Buf (Elt F) (arg11.view.loc (c : Thread nD τ))) (f12 : Buf (Elt F) (arg12.view.loc (c : Thread nD τ)))
    (hT : ∀ y, arg12.view.read (Elt F) f12 y = tabG S Z y) (p : Fin k0_t6_loop.trips) (acc : FVec F S192x256 .f32)
    (hacc : acc = kacc S Z (srtRow (arg8.view.read (Elt F) f8) t5.val) (arg11.view.read (Elt F) f11) p.val) :
   iprop(pts c arg8 f8 ∗ pts c arg11 f11 ∗ pts c arg12 f12) ⊢
    wp frame (wpE (defs₀ (F := F)) 𝒱 (c : Thread nD τ) bd) Set.univ
      (k0_t6_body (F := F) i arg1 harg1 arg2 harg2 arg3 harg3 arg4 harg4 arg5 harg5 arg6 harg6 arg7 harg7 arg8 harg8 arg9 harg9 arg10 harg10 arg11 harg11 arg12 harg12 arg13 t5 a14 v398 p acc)
      (fun r => iprop(⌜r = kacc S Z (srtRow (arg8.view.read (Elt F) f8) t5.val) (arg11.view.read (Elt F) f11) (p.val + 1)⌝ ∗ pts c arg8 f8 ∗ pts c arg11 f11 ∗ pts c arg12 f12)) := by
  unfold k0_t6_body pts
  iintro ⟨H8, H11, H12⟩
  sl_exec
  sl_step
  isplitr; swap
  · isplitl [H8]; · iexact H8
    isplitl [H11]; · iexact H11
    iexact H12
  ipureintro
  exact pass_value c arg8 arg11 arg12 t5 p S Z f8 f11 f12 hT acc hacc (k0_off39_inb t5 p) (k0_off40_inb p 0 0) (k0_off40_inb p 0 1) (k0_off40_inb p 1 0) (k0_off40_inb p 1 1)
    (k0_off41_inb p 0 0) (k0_off41_inb p 0 1) (k0_off41_inb p 1 0) (k0_off41_inb p 1 1) (k0_off42_inb p) _ rfl

/-- A chunk's scales and zero points in the block's windows. -/
def Sc (S : Vec F S32x2048 .i16) (k : ℕ) (hk : k < 8) : Vec F S32x256 .i16 := fun y =>
  have h1 : (y 1).val < 256 := (y 1).isLt
  S (ix2 (n0 := 32) (n1 := 2048) (y 0) ⟨256 * k + (y 1).val, by omega⟩)
def Zc (Z : Vec F S16x2048 .i8) (k : ℕ) (hk : k < 8) : Vec F S16x256 .i8 := fun y =>
  have h1 : (y 1).val < 256 := (y 1).isLt
  Z (ix2 (n0 := 16) (n1 := 2048) (y 0) ⟨256 * k + (y 1).val, by omega⟩)

/-- The result's entry at row `m` and column `y` of a chunk, from the chunk's sum. -/
def emitAt (acc : FVec F S192x256 .f32) (m : Fin 192) (y : Fin 256) : F .bf16 :=
  FloatOps.truncf .bf16 bitsLt_bf16_f32 (acc (ix2 (n0 := 192) (n1 := 256) m ⟨128 * (y.val % 2) + y.val / 2, by omega⟩))

theorem odd_at (m : Fin 192) (l : Fin 128) : k0_pay53 (ix2 (n0 := 192) (n1 := 128) m l) = BitVec.ofBool (decide (l.val % 2 = 1)) := by
  show IntOp.cmpi .eq (iota .tc S192x128 32 [1] iota_S192x128_d1_w32 (ix2 (n0 := 192) (n1 := 128) m l) &&& 1#32) 1#32 = _
  rw [show iota .tc S192x128 32 [1] iota_S192x128_d1_w32 (ix2 (n0 := 192) (n1 := 128) m l) = BitVec.ofNat 32 l.val from iota_single_apply .tc _ 32 1 _ _]
  have : ∀ l : Fin 128, IntOp.cmpi .eq (BitVec.ofNat 32 l.val &&& 1#32) 1#32 = BitVec.ofBool (decide (l.val % 2 = 1)) := by decide
  exact this l

theorem lane_at (m : Fin 192) (l : Fin 128) (h : Fin 2) :
    addi (shrui (iota .tc S192x128 32 [1] iota_S192x128_d1_w32) (broadcast S192x128 1#32)) (broadcast S192x128 (BitVec.ofNat 32 (64 * h.val)))
      (ix2 (n0 := 192) (n1 := 128) m l) = BitVec.ofNat 32 (64 * h.val + l.val / 2) := by
  show IntOp.shrui .vector (iota .tc S192x128 32 [1] iota_S192x128_d1_w32 (ix2 (n0 := 192) (n1 := 128) m l)) 1#32 + BitVec.ofNat 32 (64 * h.val) = _
  rw [show iota .tc S192x128 32 [1] iota_S192x128_d1_w32 (ix2 (n0 := 192) (n1 := 128) m l) = BitVec.ofNat 32 l.val from iota_single_apply .tc _ 32 1 _ _]
  have : ∀ (l : Fin 128) (h : Fin 2), IntOp.shrui .vector (BitVec.ofNat 32 l.val) 1#32 + BitVec.ofNat 32 (64 * h.val) = BitVec.ofNat 32 (64 * h.val + l.val / 2) := by decide +kernel
  exact this l h

/-- The interleave of the two column halves: lane `l` of half `h`. -/
def weave (acc : FVec F S192x256 .f32) (idx : IVec S192x128 32) : FVec F S192x128 .bf16 :=
  truncf .bf16 (select k0_pay53
    (dynamicGather (s := S192x128) 1 (extractStridedSlice S192x128 ![0, 128] acc slices_S192x256_o0_128_S192x128)
      (shapeCast S192x128 (shapeCast S192x128x1
        (select (cmpi .slt idx (broadcast S192x128 0#32)) (addi idx (broadcast S192x128 128#32)) idx) shapeCasts_S192x128_S192x128x1) shapeCasts_S192x128x1_S192x128))
    (dynamicGather (s := S192x128) 1 (extractStridedSlice S192x128 ![0, 0] acc slices_S192x256_o0_0_S192x128)
      (shapeCast S192x128 (shapeCast S192x128x1
        (select (cmpi .slt idx (broadcast S192x128 0#32)) (addi idx (broadcast S192x128 128#32)) idx) shapeCasts_S192x128_S192x128x1) shapeCasts_S192x128x1_S192x128))) bitsLt_bf16_f32

theorem weave_at (acc : FVec F S192x256 .f32) (idx : IVec S192x128 32) (m : Fin 192) (l : Fin 128) (h : Fin 2)
    (hi : idx (ix2 (n0 := 192) (n1 := 128) m l) = BitVec.ofNat 32 (64 * h.val + l.val / 2)) (y : Fin 256) (hy : y.val = 128 * h.val + l.val) :
    weave acc idx (ix2 (n0 := 192) (n1 := 128) m l) = emitAt acc m y := by
  have hh := h.isLt
  have hl := l.isLt
  refine congrArg (fun v : F .f32 => FloatOps.truncf .bf16 bitsLt_bf16_f32 v) ?_
  show Scalar.select (k0_pay53 (ix2 (n0 := 192) (n1 := 128) m l)) _ _ = _
  rw [odd_at]
  by_cases ho : l.val % 2 = 1
  · rw [decide_eq_true ho]
    refine (if_pos rfl).trans ?_
    exact take_ix2 (R := 192) acc 128 slices_S192x256_o0_128_S192x128 idx _ _ m l _ (by omega) ⟨128 * (y.val % 2) + y.val / 2, by omega⟩
      (by show 128 * (y.val % 2) + y.val / 2 = 128 + (64 * h.val + l.val / 2); omega) hi
  · rw [decide_eq_false ho]
    refine (if_neg (by decide)).trans ?_
    exact take_ix2 (R := 192) acc 0 slices_S192x256_o0_0_S192x128 idx _ _ m l _ (by omega) ⟨128 * (y.val % 2) + y.val / 2, by omega⟩
      (by show 128 * (y.val % 2) + y.val / 2 = 0 + (64 * h.val + l.val / 2); omega) hi

theorem emit0_at (acc : FVec F S192x256 .f32) (m : Fin 192) (l : Fin 128) :
    k0_pay54 acc (ix2 (n0 := 192) (n1 := 128) m l) = emitAt acc m ⟨l.val, by omega⟩ :=
  weave_at acc _ m l 0 (lane_at m l 0) _ (by show l.val = 128 * 0 + l.val; omega)

theorem emit1_at (acc : FVec F S192x256 .f32) (m : Fin 192) (l : Fin 128) :
    k0_pay2 acc (iota .tc S192x128 32 [1] iota_S192x128_d1_w32) k0_pay53 (ix2 (n0 := 192) (n1 := 128) m l) = emitAt acc m ⟨128 + l.val, by omega⟩ :=
  weave_at acc _ m l 1 (lane_at m l 1) _ (by show 128 + l.val = 128 * 1 + l.val; omega)

/-- A block of the result. -/
def outB (S : Vec F S32x2048 .i16) (Z : Vec F S16x2048 .i8) (T : Vec F S8200x128 .i32) (X : Vec F S192x4096 .bf16) : Vec F S192x2048 .bf16 := fun y =>
  have h1 : (y 1).val < 2048 := (y 1).isLt
  emitAt (kacc (Sc S ((y 1).val / 256) (by omega)) (Zc Z ((y 1).val / 256) (by omega)) (srtRow T ((y 1).val / 256)) X 16) (y 0) ⟨(y 1).val % 256, Nat.mod_lt _ (by decide)⟩

/-- The first `n` chunks of a block are done. -/
def Done (G o : Vec F S192x2048 .bf16) (n : ℕ) : Prop := ∀ y : S192x2048.Idx, (y 1).val < 256 * n → o y = G y

/-- The two stores of a chunk extend the part of the block that is done. -/
theorem done_succ (S : Vec F S32x2048 .i16) (Z : Vec F S16x2048 .i8) (T : Vec F S8200x128 .i32) (X : Vec F S192x4096 .bf16)
    (f6 : Buf (Elt F) (arg6.view.loc (c : Thread nD τ))) (k : Fin k0_t5_loop.trips) (hD : Done (outB S Z T X) (arg6.view.read (Elt F) f6) k.val)
    (acc : FVec F S192x256 .f32) (hacc : acc = kacc (Sc S k.val k.isLt) (Zc Z k.val k.isLt) (srtRow T k.val) X 16) (i1) (i0) :
    Done (outB S Z T X) (arg6.view.read (Elt F) (arg6.view.writes (Elt F) f6
      [⟨Rect.unit (s := S192x2048) (k0_off43 k 128#32) S192x128.size i1, k0_pay2 acc (iota .tc S192x128 32 [1] iota_S192x128_d1_w32) k0_pay53⟩,
        ⟨Rect.unit (s := S192x2048) (k0_off43 k 0#32) S192x128.size i0, k0_pay54 acc⟩])) (k.val + 1) := by
  intro y hy
  have hk : k.val < 8 := k.isLt
  have h1 : (y 1).val < 2048 := (y 1).isLt
  have o1 : k0_off43 k 128#32 = ![0, 256 * k.val + 128] := k0_off43_eq k 1
  have o0 : k0_off43 k 0#32 = ![0, 256 * k.val] := k0_off43_eq k 0
  have val : ∀ (z : Fin 256), (y 1).val = 256 * k.val + z.val → emitAt acc (y 0) z = outB S Z T X y := by
    intro z hz
    have e : ∀ (q : ℕ) (hq : q < 8) (w : Fin 256), q = k.val → w.val = z.val →
        emitAt acc (y 0) z = emitAt (kacc (Sc S q hq) (Zc Z q hq) (srtRow T q) X 16) (y 0) w := by
      rintro q hq w rfl hw
      rw [hacc, show w = z from Fin.ext hw]
    exact e _ _ _ (by omega) (by show (y 1).val % 256 = z.val; have := z.isLt; omega)
  have miss : ∀ (off : Fin 2 → ℕ) (inb) (q : ℕ) (pay : FVec F S192x128 .bf16) (L), off = ![0, q] → ((y 1).val < q ∨ q + 128 ≤ (y 1).val) →
      arg6.view.read (Elt F) (arg6.view.writes (Elt F) f6 (⟨Rect.unit (s := S192x2048) off S192x128.size inb, pay⟩ :: L)) y
        = arg6.view.read (Elt F) (arg6.view.writes (Elt F) f6 L) y := by
    rintro off inb q pay L rfl hq
    refine View.read_writes_cons_miss arg6.view f6 _ L y (fun hm => ?_)
    obtain ⟨j, hj, e⟩ := (LoadRect.mem_set _).mp hm 1
    have hj' : j < 128 := hj
    have e' : (y 1).val = q + 1 * j := e
    omega
  have hit : ∀ (off : Fin 2 → ℕ) (inb) (q : ℕ) (pay : FVec F S192x128 .bf16) (L) (z : Fin 128), off = ![0, q] → (y 1).val = q + z.val →
      arg6.view.read (Elt F) (arg6.view.writes (Elt F) f6 (⟨Rect.unit (s := S192x2048) off S192x128.size inb, pay⟩ :: L)) y
        = pay (ix2 (n0 := 192) (n1 := 128) (y 0) z) := by
    rintro off inb q pay L z rfl hz
    refine View.read_writes_cons_hit_of_coords arg6.view f6 (Rect.unit (s := S192x2048) ![0, q] S192x128.size inb) pay L (ix2 (n0 := 192) (n1 := 128) (y 0) z) y (fun a => ?_)
    match a with
    | ⟨0, _⟩ => show (y 0).val = 0 + 1 * (y 0).val; omega
    | ⟨1, _⟩ => show (y 1).val = q + 1 * z.val; omega
  by_cases hlt : (y 1).val < 256 * k.val
  · refine (miss _ i1 (256 * k.val + 128) _ _ o1 (.inl (by omega))).trans ?_
    exact (miss _ i0 (256 * k.val) _ _ o0 (.inl hlt)).trans (hD y hlt)
  by_cases hh : (y 1).val < 256 * k.val + 128
  · refine (miss _ i1 (256 * k.val + 128) _ _ o1 (.inl hh)).trans ?_
    refine (hit _ i0 (256 * k.val) _ _ ⟨(y 1).val - 256 * k.val, by omega⟩ o0 (by show (y 1).val = 256 * k.val + ((y 1).val - 256 * k.val); omega)).trans ?_
    exact (emit0_at acc (y 0) _).trans (val _ (by show (y 1).val = 256 * k.val + ((y 1).val - 256 * k.val); omega))
  · refine (hit _ i1 (256 * k.val + 128) _ _ ⟨(y 1).val - (256 * k.val + 128), by omega⟩ o1 (by show (y 1).val = 256 * k.val + 128 + ((y 1).val - (256 * k.val + 128)); omega)).trans ?_
    exact (emit1_at acc (y 0) _).trans (val _ (by show (y 1).val = 256 * k.val + (128 + ((y 1).val - (256 * k.val + 128))); omega))

set_option maxHeartbeats 400000 in
theorem col_step (f4 : Buf (Elt F) (arg4.view.loc (c : Thread nD τ))) (f5 : Buf (Elt F) (arg5.view.loc (c : Thread nD τ))) (f6 : Buf (Elt F) (arg6.view.loc (c : Thread nD τ)))
    (f8 : Buf (Elt F) (arg8.view.loc (c : Thread nD τ))) (f11 : Buf (Elt F) (arg11.view.loc (c : Thread nD τ))) (f12 : Buf (Elt F) (arg12.view.loc (c : Thread nD τ))) (k : Fin k0_t5_loop.trips)
    (hD : Done (outB (arg4.view.read (Elt F) f4) (arg5.view.read (Elt F) f5) (arg8.view.read (Elt F) f8) (arg11.view.read (Elt F) f11)) (arg6.view.read (Elt F) f6) k.val) :
   iprop(pts c arg4 f4 ∗ pts c arg5 f5 ∗ pts c arg6 f6 ∗ pts c arg8 f8 ∗ pts c arg11 f11 ∗ pts c arg12 f12) ⊢
    wp frame (wpE (defs₀ (F := F)) 𝒱 (c : Thread nD τ) bd) Set.univ
      (k0_t5_body (F := F) i arg1 harg1 arg2 harg2 arg3 harg3 arg4 harg4 arg5 harg5 arg6 harg6 arg7 harg7 arg8 harg8 arg9 harg9 arg10 harg10 arg11 harg11 arg12 harg12 arg13 k ())
      (fun _ => iprop(pts c arg4 f4 ∗ pts c arg5 f5 ∗ (∃ f6' : Buf (Elt F) (arg6.view.loc (c : Thread nD τ)),
        ⌜Done (outB (arg4.view.read (Elt F) f4) (arg5.view.read (Elt F) f5) (arg8.view.read (Elt F) f8) (arg11.view.read (Elt F) f11)) (arg6.view.read (Elt F) f6') (k.val + 1)⌝ ∗ pts c arg6 f6')
        ∗ pts c arg8 f8 ∗ pts c arg11 f11 ∗ ∃ f12' : Buf (Elt F) (arg12.view.loc (c : Thread nD τ)), pts c arg12 f12')) := by
  have hk : k.val < 8 := k.isLt
  have hS : arg4.view.readAt (Elt F) (Rect.unit (s := S32x2048) (k0_off37 k) S32x256.size (k0_off37_inb k)).toLoadRect f4 = Sc (arg4.view.read (Elt F) f4) k.val hk := by
    funext y
    refine readAt_at arg4.view f4 (k0_off37_inb k) (k0_off37_eq k) y _ (fun a => ?_)
    match a with
    | ⟨0, _⟩ => exact (Nat.zero_add _).symm
    | ⟨1, _⟩ => rfl
  have hZ : arg5.view.readAt (Elt F) (Rect.unit (s := S16x2048) (k0_off38 k) S16x256.size (k0_off38_inb k)).toLoadRect f5 = Zc (arg5.view.read (Elt F) f5) k.val hk := by
    funext y
    refine readAt_at arg5.view f5 (k0_off38_inb k) (k0_off38_eq k) y _ (fun a => ?_)
    match a with
    | ⟨0, _⟩ => exact (Nat.zero_add _).symm
    | ⟨1, _⟩ => rfl
  unfold k0_t5_body pts
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  iintro ⟨H4, H5, H6, H8, H11, H12⟩
  sl_exec
  iapply (Scf.wp_for_bind frame (wpE (defs₀ (F := F)) 𝒱 (c : Thread nD τ) bd) Set.univ k0_t6_loop.lb k0_t6_loop.ub k0_t6_loop.st k0_t6_ok _ _
    (fun n acc => iprop(⌜acc = kacc (Sc (arg4.view.read (Elt F) f4) k.val hk)
        (Zc (arg5.view.read (Elt F) f5) k.val hk)
        (srtRow (arg8.view.read (Elt F) f8) k.val) (arg11.view.read (Elt F) f11) n⌝ ∗ pts c arg8 f8 ∗ pts c arg11 f11 ∗
      ∃ g : Buf (Elt F) (arg12.view.loc (c : Thread nD τ)), ⌜∀ y, arg12.view.read (Elt F) g y = tabG (Sc (arg4.view.read (Elt F) f4) k.val hk)
        (Zc (arg5.view.read (Elt F) f5) k.val hk) y⌝ ∗ pts c arg12 g)) ?_) $$ [H8 H11 H12]
  · intro p acc
    iintro ⟨%hacc, H8, H11, %g, %hT, H12⟩
    iapply (wp_wand_r frame (wpE (defs₀ (F := F)) 𝒱 (c : Thread nD τ) bd) Set.univ)
    isplitl [H8 H11 H12]
    · iapply (pass_step 𝒱 c bd i arg1 harg1 arg2 harg2 arg3 harg3 arg4 harg4 arg5 harg5 arg6 harg6 arg7 harg7 arg8 harg8 arg9 harg9 arg10 harg10 arg11 harg11 arg12 harg12 arg13 k _ _ _ _ f8 f11 g hT p acc hacc)
      isplitl [H8]; · iexact H8
      isplitl [H11]; · iexact H11
      iexact H12
    iintro %r ⟨%hr, H8, H11, H12⟩
    isplitr; · ipureintro; exact hr
    isplitl [H8]; · iexact H8
    isplitl [H11]; · iexact H11
    iexists g; isplitr; · ipureintro; exact hT
    iexact H12
  · isplitr; · ipureintro; rfl
    isplitl [H8]; · iexact H8
    isplitl [H11]; · iexact H11
    iexists _; isplitr; swap; · iexact H12
    ipureintro
    intro y
    refine tab_read_of arg12.view f12 (Sc (arg4.view.read (Elt F) f4) k.val hk)
      (Zc (arg5.view.read (Elt F) f5) k.val hk)
      _ _ _ _ _ _ _ _ _ _ _ _ _ _ _ _ _ _ _ _ ?_ ?_ ?_ ?_ ?_ ?_ ?_ ?_ ?_ ?_ ?_ ?_ ?_ ?_ ?_ ?_ ?_ ?_ ?_ ?_ y
    all_goals rfl
  iintro %acc ⟨%hacc, H8, H11, %g, %hT, H12⟩
  rw [show Scf.trips k0_t6_loop.lb k0_t6_loop.ub k0_t6_loop.st = 16 from trips_t6] at hacc
  unfold pts
  sl_exec
  sl_step
  isplitl [H4]; · iexact H4
  isplitl [H5]; · iexact H5
  isplitl [H6]
  · iexists _; isplitr; swap; · iexact H6
    ipureintro
    exact done_succ c arg6 (arg4.view.read (Elt F) f4) (arg5.view.read (Elt F) f5) (arg8.view.read (Elt F) f8) (arg11.view.read (Elt F) f11) f6 k hD acc hacc
      (k0_off43_inb k 1) (k0_off43_inb k 0)
  isplitl [H8]; · iexact H8
  isplitl [H11]; · iexact H11
  iexists g
  iexact H12

theorem col_loop (f4 : Buf (Elt F) (arg4.view.loc (c : Thread nD τ))) (f5 : Buf (Elt F) (arg5.view.loc (c : Thread nD τ))) (f6 : Buf (Elt F) (arg6.view.loc (c : Thread nD τ)))
    (f8 : Buf (Elt F) (arg8.view.loc (c : Thread nD τ))) (f11 : Buf (Elt F) (arg11.view.loc (c : Thread nD τ))) (f12 : Buf (Elt F) (arg12.view.loc (c : Thread nD τ))) :
   iprop(pts c arg4 f4 ∗ pts c arg5 f5 ∗ pts c arg6 f6 ∗ pts c arg8 f8 ∗ pts c arg11 f11 ∗ pts c arg12 f12) ⊢
    wp frame (wpE (defs₀ (F := F)) 𝒱 (c : Thread nD τ) bd) Set.univ
      (Scf.Loop.for k0_t5_loop k0_t5_ok () (k0_t5_body (F := F) i arg1 harg1 arg2 harg2 arg3 harg3 arg4 harg4 arg5 harg5 arg6 harg6 arg7 harg7 arg8 harg8 arg9 harg9 arg10 harg10 arg11 harg11 arg12 harg12 arg13))
      (fun _ => iprop(pts c arg4 f4 ∗ pts c arg5 f5 ∗ (∃ f6' : Buf (Elt F) (arg6.view.loc (c : Thread nD τ)),
        ⌜Done (outB (arg4.view.read (Elt F) f4) (arg5.view.read (Elt F) f5) (arg8.view.read (Elt F) f8) (arg11.view.read (Elt F) f11)) (arg6.view.read (Elt F) f6') 8⌝ ∗ pts c arg6 f6')
        ∗ pts c arg8 f8 ∗ pts c arg11 f11 ∗ ∃ f12' : Buf (Elt F) (arg12.view.loc (c : Thread nD τ)), pts c arg12 f12')) := by
  iintro ⟨H4, H5, H6, H8, H11, H12⟩
  iapply (Scf.wp_for frame (wpE (defs₀ (F := F)) 𝒱 (c : Thread nD τ) bd) Set.univ k0_t5_loop.lb k0_t5_loop.ub k0_t5_loop.st k0_t5_ok () _
    (fun k _ => iprop(pts c arg4 f4 ∗ pts c arg5 f5 ∗ (∃ f6' : Buf (Elt F) (arg6.view.loc (c : Thread nD τ)),
        ⌜Done (outB (arg4.view.read (Elt F) f4) (arg5.view.read (Elt F) f5) (arg8.view.read (Elt F) f8) (arg11.view.read (Elt F) f11)) (arg6.view.read (Elt F) f6') k⌝ ∗ pts c arg6 f6')
        ∗ pts c arg8 f8 ∗ pts c arg11 f11 ∗ ∃ f12' : Buf (Elt F) (arg12.view.loc (c : Thread nD τ)), pts c arg12 f12')) ?_)
  · intro k _
    iintro ⟨H4, H5, ⟨%g6, %hD, H6⟩, H8, H11, %g12, H12⟩
    iapply (col_step 𝒱 c bd i arg1 harg1 arg2 harg2 arg3 harg3 arg4 harg4 arg5 harg5 arg6 harg6 arg7 harg7 arg8 harg8 arg9 harg9 arg10 harg10 arg11 harg11 arg12 harg12 arg13 f4 f5 g6 f8 f11 g12 k hD)
    isplitl [H4]; · iexact H4
    isplitl [H5]; · iexact H5
    isplitl [H6]; · iexact H6
    isplitl [H8]; · iexact H8
    isplitl [H11]; · iexact H11
    iexact H12
  isplitl [H4 H5 H6 H8 H11 H12]
  · isplitl [H4]; · iexact H4
    isplitl [H5]; · iexact H5
    isplitl [H6]
    · iexists f6; isplitr; swap; · iexact H6
      ipureintro; intro y hy; exact absurd hy (by omega)
    isplitl [H8]; · iexact H8
    isplitl [H11]; · iexact H11
    iexists f12
    iexact H12
  iintro %u H
  rw [show Scf.trips k0_t5_loop.lb k0_t5_loop.ub k0_t5_loop.st = 8 from trips_t5]
  iexact H

end

end Cert.KernelIdeal.Hand
-- ==== Proof.KernI.Dma.lean ====
/-
  The slab copies: the windows they move, what a copy delivers, and the copies of one slab on its slot's semaphore.
-/
module

public import proofs.«01_k».proof.Proof.KernI.Quad
public import proofs.«01_k».proof.Proof.KernI.Column
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

/-! ## The windows of a slab's copies -/

theorem dst_inb (s : ℕ) (hs : s < 2) (t : Fin 8) : ∀ a, (![s, 0, t.val, 0] : Fin 4 → ℕ) a + S1x1024x1x128.size a ≤ S2x1024x8x128.size a := fun a => by
  match a with
  | ⟨0, _⟩ => show s + 1 ≤ 2; omega
  | ⟨1, _⟩ => exact Nat.le_refl _
  | ⟨2, _⟩ => show t.val + 1 ≤ 8; omega
  | ⟨3, _⟩ => exact Nat.le_refl _

theorem src_inb (j : Fin 14) (t : Fin 8) : ∀ a, (![0, 1024 * j.val + 128 * t.val] : Fin 2 → ℕ) a + S1024x128.size a ≤ S1024x14336.size a := fun a => by
  match a with
  | ⟨0, _⟩ => exact Nat.le_refl _
  | ⟨1, _⟩ => show 1024 * j.val + 128 * t.val + 128 ≤ 14336; omega

theorem cell_inb (s : ℕ) (hs : s < 2) : ∀ a, (![s] : Fin 1 → ℕ) a + S1.size a ≤ S2.size a := fun a => by
  match a with
  | ⟨0, _⟩ => show s + 1 ≤ 2; omega

/-- Chunk `t` of slot `s` of the slab scratch. -/
abbrev dstW (s : ℕ) (hs : s < 2) (t : Fin 8) : Memref sig .tc .vmem S1024x128 .i32 :=
  (arg7.slice (Rect.unit (s := S2x1024x8x128) ![s, 0, t.val, 0] S1x1024x1x128.size (dst_inb s hs t)) (fun _ => rfl)).squeeze S1024x128 squeezes_S1x1024x1x128_S1024x128

/-- Chunk `t` of slab `j` of the packed weights. -/
abbrev srcW (j : Fin 14) (t : Fin 8) : Memref sig .tc .hbm S1024x128 .i32 :=
  arg3.slice (Rect.unit (s := S1024x14336) ![0, 1024 * j.val + 128 * t.val] S1024x128.size (src_inb j t)) (fun _ => rfl)

/-- The semaphore of slot `s`. -/
abbrev cellW (s : ℕ) (hs : s < 2) : DmaSem sig :=
  ((arg13.slice (Rect.unit (s := S2) ![s] S1.size (cell_inb s hs))).squeeze S_ squeezes_S1_S_).sem

/-- The slab scratch with slab `j` in both slots. -/
def slabV (q : Vec F S1024x14336 .i32) (j : Fin 14) : Vec F S2x1024x8x128 .i32 := fun y =>
  have h2 : (y 2).val < 8 := (y 2).isLt
  have h3 : (y 3).val < 128 := (y 3).isLt
  q (ix2 (n0 := 1024) (n1 := 14336) (y 1) ⟨1024 * j.val + 128 * (y 2).val + (y 3).val, by omega⟩)

theorem slabWord_slabV (q : Vec F S1024x14336 .i32) (j : Fin 14) (s : Fin 2) (r : Fin 1024) (t : Fin 8) (l : Fin 128) :
    slabWord (slabV (F := F) q j) s r t l = q (ix2 (n0 := 1024) (n1 := 14336) r ⟨1024 * j.val + 128 * t.val + l.val, by omega⟩) := rfl

theorem sq_emb (x : S1024x128.Idx) : Shape.reshapeEquiv squeezes_S1x1024x1x128_S1024x128.numel_eq x
    = (ix4 (n0 := 1) (n1 := 1024) (n2 := 1) (n3 := 128) 0 (x 0) 0 (x 1) : S1x1024x1x128.Idx) := by
  obtain ⟨a, b, rfl⟩ : ∃ a b, x = ix2 (n0 := 1024) (n1 := 128) a b := ⟨x 0, x 1, eq_ix2 x⟩
  refine Shape.reshapeEquiv_eq_of_rowMajor _ ?_
  rw [Shape.rowMajor_val_four, Shape.rowMajor_val_two]
  show (((0 * 1024 + a.val) * 1 + 0) * 128 + b.val) = a.val * 128 + b.val
  omega

/-- What a copy's delivery is: its chunk of the slot landed, and its chunk of the packed weights back. -/
def deliv (s : ℕ) (hs : s < 2) (j : Fin 14) (q : PosShare TreeShare) (fq : Buf (Elt F) (arg3.view.loc (c : Thread nD τ))) (t : Fin 8) : sProp 𝕄 :=
  iprop(((dstW arg7 s hs t).view.loc (c : Thread nD τ) ↦[(dstW arg7 s hs t).view.set]{fullShare} arg7.view.rep (slabV (F := F) (arg3.view.read (Elt F) fq) j))
    ∗ ((srcW arg3 j t).view.loc (c : Thread nD τ) ↦[(srcW arg3 j t).view.set]{q} fq))

instance (s : ℕ) (hs : s < 2) (j : Fin 14) (q : PosShare TreeShare) (fq : Buf (Elt F) (arg3.view.loc (c : Thread nD τ))) (t : Fin 8) :
    Storable (upEmb : UEmb _ 𝕄) (deliv c arg3 arg7 s hs j q fq t) := by
  unfold deliv; infer_instance

theorem landed (s : ℕ) (hs : s < 2) (j : Fin 14) (t : Fin 8) (q : PosShare TreeShare) (fq : Buf (Elt F) (arg3.view.loc (c : Thread nD τ)))
    (fd : Buf (Elt F) ((dstW arg7 s hs t).view.loc (c : Thread nD τ))) :
    iprop(((dstW arg7 s hs t).view.loc (c : Thread nD τ) ↦[(dstW arg7 s hs t).view.set]{fullShare}
        ((dstW arg7 s hs t).view.write (Elt F) fd (ReadAs.same.apply ((srcW arg3 j t).view.read (Elt F) fq)) Finset.univ))
      ∗ ((srcW arg3 j t).view.loc (c : Thread nD τ) ↦[(srcW arg3 j t).view.set]{q} fq)) ⊢ (deliv c arg3 arg7 s hs j q fq t : sProp 𝕄) := by
  unfold deliv
  refine sep_mono (Entails.of_eq (pointsTo_congr fun i hi => ?_)) .rfl
  obtain ⟨x, -, rfl⟩ := Finset.mem_map.mp hi
  rw [View.write_emb_of_mem _ _ (Finset.mem_univ x)]
  refine Eq.trans ?_ (View.rep_emb arg7.view _ _).symm
  refine congrArg (fun v => cast (congrArg (Elt F) arg7.view.elt_eq.symm) v) ?_
  obtain ⟨a, b, rfl⟩ : ∃ a b, x = ix2 (n0 := 1024) (n1 := 128) a b := ⟨x 0, x 1, eq_ix2 x⟩
  show arg3.view.read (Elt F) fq ((Rect.unit (s := S1024x14336) ![0, 1024 * j.val + 128 * t.val] S1024x128.size (src_inb j t)).emb (ix2 (n0 := 1024) (n1 := 128) a b))
    = slabV (arg3.view.read (Elt F) fq) j ((Rect.unit (s := S2x1024x8x128) ![s, 0, t.val, 0] S1x1024x1x128.size (dst_inb s hs t)).emb
        (Shape.reshapeEquiv squeezes_S1x1024x1x128_S1024x128.numel_eq (ix2 (n0 := 1024) (n1 := 128) a b)))
  rw [sq_emb]
  refine congrArg (arg3.view.read (Elt F) fq) ?_
  funext ax
  match ax with
  | ⟨0, _⟩ => rfl
  | ⟨1, _⟩ => exact Fin.ext (by show 1024 * j.val + 128 * t.val + 1 * b.val = 1024 * j.val + 128 * (t.val + 1 * 0) + (0 + 1 * b.val); omega)

/-- A copy of a slab, issued: the next of its slot's batch. -/
theorem issue_step (s : ℕ) (hs : s < 2) (j : Fin 14) (t : Fin 8) (q : PosShare TreeShare) (fq : Buf (Elt F) (arg3.view.loc (c : Thread nD τ)))
    (fd : Buf (Elt F) ((dstW arg7 s hs t).view.loc (c : Thread nD τ)))
    (od : Fin 4 → ℕ) (hd) (ed : od = ![s, 0, t.val, 0]) (oq : Fin 2 → ℕ) (hq) (eq : oq = ![0, 1024 * j.val + 128 * t.val])
    (oc : Fin 1 → ℕ) (hc) (ec : oc = ![s]) (h1) (h2) (h3) (K : PUnit → sProp 𝕄) :
    iprop(((srcW arg3 j t).view.loc (c : Thread nD τ) ↦[(srcW arg3 j t).view.set]{q} fq)
      ∗ ((dstW arg7 s hs t).view.loc (c : Thread nD τ) ↦[(dstW arg7 s hs t).view.set]{fullShare} fd)
      ∗ Transfers.Batch (Lvl := ℕ) (countersEmb (U := Pipeline.UD sig nD τ)) (c : Thread nD τ) (.dma (cellW arg13 s hs)) () (dstW arg7 s hs t).view.dmaCredit (deliv c arg3 arg7 s hs j q fq) t.val 0
      ∗ (Transfers.Batch (Lvl := ℕ) (countersEmb (U := Pipeline.UD sig nD τ)) (c : Thread nD τ) (.dma (cellW arg13 s hs)) () (dstW arg7 s hs t).view.dmaCredit (deliv c arg3 arg7 s hs j q fq) (t.val + 1) 0 -∗ K ⟨⟩))
    ⊢ wp frame (wpE (defs₀ (F := F)) 𝒱 (c : Thread nD τ) bd) Set.univ
      (Prog.lift (.enqueueDma (arg3.slice (Rect.unit (s := S1024x14336) oq S1024x128.size hq) (fun _ => rfl))
        (.here ((arg7.slice (Rect.unit (s := S2x1024x8x128) od S1x1024x1x128.size hd) (fun _ => rfl)).squeeze S1024x128 squeezes_S1x1024x1x128_S1024x128))
        (.dma ((arg13.slice (Rect.unit (s := S2) oc S1.size hc)).squeeze S_ squeezes_S1_S_).sem) h1 h2 h3)) K := by
  subst ed eq ec
  iintro ⟨Hs, Hd, HB, HK⟩
  iapply (Transfers.wp_dmaBatch (countersEmb (U := Pipeline.UD sig nD τ)) 𝒱 (c : Thread nD τ) bd () (dstW arg7 s hs t).view.dmaCredit rfl (Finset.Subset.refl _) t.isLt (Nat.zero_le _)
    (landed c arg3 arg7 s hs j t q fq fd)) $$ [Hs Hd HB]
  · isplitl [Hs]; · iexact Hs
    isplitl [Hd]; · iexact Hd
    iexact HB
  iintro HB
  rw [wp_ret]
  imodintro
  iapply HK
  iexact HB

/-- A wait for a copy of a slab that is not the last. -/
theorem wait_step (s : ℕ) (hs : s < 2) (j : Fin 14) (t : Fin 8) (ht : t.val < 7) (q : PosShare TreeShare) (fq : Buf (Elt F) (arg3.view.loc (c : Thread nD τ)))
    (W : Waits sig Unit)
    (od : Fin 4 → ℕ) (hd) (ed : od = ![s, 0, t.val, 0]) (oq : Fin 2 → ℕ) (hq)
    (oc : Fin 1 → ℕ) (hc) (ec : oc = ![s]) (h1) (h2) (K : PUnit → sProp 𝕄) :
    iprop(Transfers.Batch (Lvl := ℕ) (countersEmb (U := Pipeline.UD sig nD τ)) (c : Thread nD τ) (.dma (cellW arg13 s hs)) () (dstW arg7 s hs 0).view.dmaCredit (deliv c arg3 arg7 s hs j q fq) 8 (t.val * (dstW arg7 s hs 0).view.dmaCredit)
      ∗ owes (c : Thread nD τ) 0 W
      ∗ (∀ W' : Waits sig Unit, Transfers.Batch (Lvl := ℕ) (countersEmb (U := Pipeline.UD sig nD τ)) (c : Thread nD τ) (.dma (cellW arg13 s hs)) () (dstW arg7 s hs 0).view.dmaCredit (deliv c arg3 arg7 s hs j q fq) 8 ((t.val + 1) * (dstW arg7 s hs 0).view.dmaCredit)
          -∗ owes (c : Thread nD τ) 0 W' -∗ K ⟨⟩))
    ⊢ wp frame (wpE (defs₀ (F := F)) 𝒱 (c : Thread nD τ) bd) Set.univ
      (Prog.lift (.waitDma2 ((arg13.slice (Rect.unit (s := S2) oc S1.size hc)).squeeze S_ squeezes_S1_S_).sem
        (arg3.slice (Rect.unit (s := S1024x14336) oq S1024x128.size hq) (fun _ => rfl))
        ((arg7.slice (Rect.unit (s := S2x1024x8x128) od S1x1024x1x128.size hd) (fun _ => rfl)).squeeze S1024x128 squeezes_S1x1024x1x128_S1024x128) h1 h2)) K := by
  subst ed ec
  iintro ⟨HB, HO, HK⟩
  have hN0 : 0 < (dstW arg7 s hs 0).view.dmaCredit := View.dmaCredit_pos _ (by decide)
  have hu : t.val * (dstW arg7 s hs 0).view.dmaCredit + (dstW arg7 s hs 0).view.dmaCredit < (dstW arg7 s hs 0).view.dmaCredit * 8 := by
    generalize (dstW arg7 s hs 0).view.dmaCredit = N at hN0
    rw [Nat.mul_comm N 8, ← Nat.succ_mul]; exact Nat.mul_lt_mul_of_pos_right (by omega) hN0
  iapply (Transfers.wp_waitBatch (countersEmb (U := Pipeline.UD sig nD τ)) 𝒱 (c : Thread nD τ) bd () (N := (dstW arg7 s hs 0).view.dmaCredit) rfl (n := 8)
    (D := deliv c arg3 arg7 s hs j q fq) (hsrc := h1) (hdst := h2) hu) $$ [HB HO]
  · isplitl [HB]; · iexact HB
    iexact HO
  iintro ⟨HB, HO⟩
  rw [wp_ret]
  imodintro
  rw [← Nat.succ_mul]
  iapply HK $$ HB HO

/-- The last wait for a slab's copies: every chunk has landed. -/
theorem wait_last (s : ℕ) (hs : s < 2) (j : Fin 14) (q : PosShare TreeShare) (fq : Buf (Elt F) (arg3.view.loc (c : Thread nD τ)))
    (W : Waits sig Unit)
    (od : Fin 4 → ℕ) (hd) (ed : od = ![s, 0, 7, 0]) (oq : Fin 2 → ℕ) (hq)
    (oc : Fin 1 → ℕ) (hc) (ec : oc = ![s]) (h1) (h2) (K : PUnit → sProp 𝕄) :
    iprop(Transfers.Batch (Lvl := ℕ) (countersEmb (U := Pipeline.UD sig nD τ)) (c : Thread nD τ) (.dma (cellW arg13 s hs)) () (dstW arg7 s hs 0).view.dmaCredit (deliv c arg3 arg7 s hs j q fq) 8 (7 * (dstW arg7 s hs 0).view.dmaCredit)
      ∗ owes (c : Thread nD τ) 0 W
      ∗ (∀ W' : Waits sig Unit, bigSep Finset.univ (deliv c arg3 arg7 s hs j q fq) -∗ semVal ((c : Thread nD τ), SemLoc.dma (cellW arg13 s hs)) 0
          -∗ owes (c : Thread nD τ) 0 W' -∗ K ⟨⟩))
    ⊢ wp frame (wpE (defs₀ (F := F)) 𝒱 (c : Thread nD τ) bd) Set.univ
      (Prog.lift (.waitDma2 ((arg13.slice (Rect.unit (s := S2) oc S1.size hc)).squeeze S_ squeezes_S1_S_).sem
        (arg3.slice (Rect.unit (s := S1024x14336) oq S1024x128.size hq) (fun _ => rfl))
        ((arg7.slice (Rect.unit (s := S2x1024x8x128) od S1x1024x1x128.size hd) (fun _ => rfl)).squeeze S1024x128 squeezes_S1x1024x1x128_S1024x128) h1 h2)) K := by
  subst ed ec
  iintro ⟨HB, HO, HK⟩
  have hN0 : 0 < (dstW arg7 s hs 0).view.dmaCredit := View.dmaCredit_pos _ (by decide)
  have hu : 7 * (dstW arg7 s hs 0).view.dmaCredit + (dstW arg7 s hs 0).view.dmaCredit = (dstW arg7 s hs 0).view.dmaCredit * 8 := by omega
  iapply (Transfers.wp_waitBatchLast (countersEmb (U := Pipeline.UD sig nD τ)) 𝒱 (c : Thread nD τ) bd () (N := (dstW arg7 s hs 0).view.dmaCredit) rfl hN0 (n := 8)
    (D := deliv c arg3 arg7 s hs j q fq) (hsrc := h1) (hdst := h2) hu) $$ [HB HO]
  · isplitl [HB]; · iexact HB
    iexact HO
  iintro ⟨HD, HV, HO⟩
  rw [wp_ret]
  imodintro
  iapply HK $$ HD HV HO

/-! ## A slot and a slab, cut into their chunks -/

theorem family_split {I : Type} (s : Finset I) (A B : I → sProp 𝕄) : bigSep s (fun i => iprop(A i ∗ B i)) ⊢ (iprop(bigSep s A ∗ bigSep s B) : sProp 𝕄) :=
  Entails.of_eq (bigSep_sep s A B)

theorem family_join {I : Type} (s : Finset I) (A B : I → sProp 𝕄) : iprop(bigSep s A ∗ bigSep s B) ⊢ (bigSep s (fun i => iprop(A i ∗ B i)) : sProp 𝕄) :=
  Entails.of_eq (bigSep_sep s A B).symm

theorem dst_set (s : ℕ) (hs : s < 2) (t : Fin 8) :
    (dstW arg7 s hs t).view.set = arg7.view.setOn (Rect.unit (s := S2x1024x8x128) ![s, 0, t.val, 0] S1x1024x1x128.size (dst_inb s hs t)).set :=
  (Memref.set_view_squeeze _ _).trans (View.set_slice arg7.view _)

theorem src_set (j : Fin 14) (t : Fin 8) :
    (srcW arg3 j t).view.set = arg3.view.setOn (Rect.unit (s := S1024x14336) ![0, 1024 * j.val + 128 * t.val] S1024x128.size (src_inb j t)).set :=
  View.set_slice arg3.view _

theorem dst_disj (s : ℕ) (hs : s < 2) (t t' : Fin 8) (h : t ≠ t') : Disjoint (dstW arg7 s hs t).view.set (dstW arg7 s hs t').view.set := by
  rw [dst_set, dst_set]
  refine View.disjoint_setOn _ (Finset.disjoint_left.mpr fun y h1 h2 => h ?_)
  obtain ⟨a, ha, ea⟩ := (LoadRect.mem_set _).mp h1 2
  obtain ⟨b, hb, eb⟩ := (LoadRect.mem_set _).mp h2 2
  have ha' : a < 1 := ha
  have hb' : b < 1 := hb
  have ea' : (y 2).val = t.val + 1 * a := ea
  have eb' : (y 2).val = t'.val + 1 * b := eb
  exact Fin.ext (by omega)

theorem src_disj (j : Fin 14) (t t' : Fin 8) (h : t ≠ t') : Disjoint (srcW arg3 j t).view.set (srcW arg3 j t').view.set := by
  rw [src_set, src_set]
  refine View.disjoint_setOn _ (Finset.disjoint_left.mpr fun y h1 h2 => h ?_)
  obtain ⟨a, ha, ea⟩ := (LoadRect.mem_set _).mp h1 1
  obtain ⟨b, hb, eb⟩ := (LoadRect.mem_set _).mp h2 1
  have ha' : a < 128 := ha
  have hb' : b < 128 := hb
  have ea' : (y 1).val = 1024 * j.val + 128 * t.val + 1 * a := ea
  have eb' : (y 1).val = 1024 * j.val + 128 * t'.val + 1 * b := eb
  exact Fin.ext (by omega)

theorem slot_cut (s : ℕ) (hs : s < 2) :
    (arg7.view.setOn (slotRect s hs).set : Finset (Idx (arg7.view.loc (c : Thread nD τ)))) = Finset.univ.biUnion (fun t : Fin 8 => (dstW arg7 s hs t).view.set) := by
  ext i
  rw [Finset.mem_biUnion]
  constructor
  · intro hi
    obtain ⟨y, hy, rfl⟩ := Finset.mem_map.mp hi
    refine ⟨⟨(y 2).val, (y 2).isLt⟩, Finset.mem_univ _, ?_⟩
    rw [dst_set arg7 s hs ⟨(y 2).val, (y 2).isLt⟩]
    refine Finset.mem_map_of_mem _ ((LoadRect.mem_set _).mpr fun a => ?_)
    obtain ⟨x, hx, ex⟩ := (LoadRect.mem_set _).mp hy 0
    have hx' : x < 1 := hx
    have ex' : (y 0).val = s + 1 * x := ex
    match a with
    | ⟨0, _⟩ => exact ⟨0, Nat.one_pos, by show (y 0).val = s + 1 * 0; omega⟩
    | ⟨1, _⟩ => exact ⟨(y 1).val, (y 1).isLt, by show (y 1).val = 0 + 1 * (y 1).val; omega⟩
    | ⟨2, _⟩ => exact ⟨0, Nat.one_pos, by show (y 2).val = (y 2).val + 1 * 0; omega⟩
    | ⟨3, _⟩ => exact ⟨(y 3).val, (y 3).isLt, by show (y 3).val = 0 + 1 * (y 3).val; omega⟩
  · rintro ⟨t, -, hi⟩
    rw [dst_set] at hi
    obtain ⟨y, hy, rfl⟩ := Finset.mem_map.mp hi
    refine Finset.mem_map_of_mem _ ((LoadRect.mem_set _).mpr fun a => ?_)
    obtain ⟨x, hx, ex⟩ := (LoadRect.mem_set _).mp hy 0
    match a with
    | ⟨0, _⟩ => exact ⟨x, hx, ex⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩
    | ⟨3, _⟩ => exact ⟨(y 3).val, (y 3).isLt, by show (y 3).val = 0 + 1 * (y 3).val; omega⟩

/-- The chunks of slab `j` of the packed weights, together. -/
def slabSet (j : Fin 14) : Finset (Idx (arg3.view.loc (c : Thread nD τ))) := Finset.univ.biUnion (fun t : Fin 8 => (srcW arg3 j t).view.set)

theorem slabSet_sub (j : Fin 14) : slabSet c arg3 j ⊆ arg3.view.set := by
  intro i hi
  obtain ⟨t, -, h⟩ := Finset.mem_biUnion.mp hi
  exact View.set_slice_subset arg3.view _ h

/-- One share of the packed weights, slab `j` taken out of it. -/
abbrev restQ (j : Fin 14) (q : PosShare TreeShare) (fq : Buf (Elt F) (arg3.view.loc (c : Thread nD τ))) : sProp 𝕄 :=
  (arg3.view.loc (c : Thread nD τ)) ↦[arg3.view.set \ slabSet c arg3 j]{q} fq

theorem slabQ (j : Fin 14) (q : PosShare TreeShare) (fq : Buf (Elt F) (arg3.view.loc (c : Thread nD τ))) :
    (arg3.view.loc (c : Thread nD τ) ↦[slabSet c arg3 j]{q} fq : sProp 𝕄)
      = bigSep Finset.univ (fun t : Fin 8 => ((srcW arg3 j t).view.loc (c : Thread nD τ) ↦[(srcW arg3 j t).view.set]{q} fq)) :=
  pointsTo_biUnion Finset.univ _ (fun t _ t' _ h => src_disj arg3 j t t' h)

/-- A free slot and a share of the packed weights give every copy of slab `j` its two windows. -/
theorem windows (s : ℕ) (hs : s < 2) (j : Fin 14) (q : PosShare TreeShare) (fq : Buf (Elt F) (arg3.view.loc (c : Thread nD τ)))
    (f7 : Buf (Elt F) (arg7.view.loc (c : Thread nD τ))) :
    iprop(ptsS c arg7 s hs f7 ∗ (arg3.view.loc (c : Thread nD τ) ↦[arg3.view.set]{q} fq)) ⊢
      (iprop(bigSep Finset.univ (fun t : Fin 8 => iprop(((srcW arg3 j t).view.loc (c : Thread nD τ) ↦[(srcW arg3 j t).view.set]{q} fq)
          ∗ ((dstW arg7 s hs t).view.loc (c : Thread nD τ) ↦[(dstW arg7 s hs t).view.set]{fullShare} f7))) ∗ restQ c arg3 j q fq) : sProp 𝕄) := by
  unfold ptsS restQ
  rw [slot_cut, pointsTo_biUnion Finset.univ _ (fun t _ t' _ h => dst_disj arg7 s hs t t' h)]
  iintro ⟨HD, HQ⟩
  ihave HQ := (pointsTo_split_subset (slabSet_sub c arg3 j)).1 $$ HQ
  icases HQ with ⟨HQ, HR⟩
  isplitl [HD HQ]; swap; · iexact HR
  ihave HQ := (Entails.of_eq (slabQ c arg3 j q fq)) $$ HQ
  ihave H := (show iprop((bigSep Finset.univ (fun t : Fin 8 => ((srcW arg3 j t).view.loc (c : Thread nD τ) ↦[(srcW arg3 j t).view.set]{q} fq : sProp 𝕄)))
      ∗ bigSep Finset.univ (fun t : Fin 8 => ((dstW arg7 s hs t).view.loc (c : Thread nD τ) ↦[(dstW arg7 s hs t).view.set]{fullShare} f7 : sProp 𝕄)))
      ⊢ bigSep Finset.univ (fun t : Fin 8 => iprop(((srcW arg3 j t).view.loc (c : Thread nD τ) ↦[(srcW arg3 j t).view.set]{q} fq)
          ∗ ((dstW arg7 s hs t).view.loc (c : Thread nD τ) ↦[(dstW arg7 s hs t).view.set]{fullShare} f7))) from family_join _ _ _) $$ [HQ HD]
  · isplitl [HQ]; · iexact HQ
    iexact HD
  iexact H

/-- The deliveries together are the slot holding slab `j` and the share of the packed weights back. -/
theorem collect (s : ℕ) (hs : s < 2) (j : Fin 14) (q : PosShare TreeShare) (fq : Buf (Elt F) (arg3.view.loc (c : Thread nD τ))) :
    iprop(bigSep Finset.univ (deliv c arg3 arg7 s hs j q fq) ∗ restQ c arg3 j q fq) ⊢
      (iprop(ptsS c arg7 s hs (arg7.view.rep (slabV (F := F) (arg3.view.read (Elt F) fq) j)) ∗ (arg3.view.loc (c : Thread nD τ) ↦[arg3.view.set]{q} fq)) : sProp 𝕄) := by
  unfold ptsS restQ
  rw [slot_cut, pointsTo_biUnion Finset.univ _ (fun t _ t' _ h => dst_disj arg7 s hs t t' h)]
  iintro ⟨HD, HR⟩
  ihave HD := (show bigSep Finset.univ (deliv c arg3 arg7 s hs j q fq) ⊢ _ from family_split Finset.univ (fun t : Fin 8 => ((dstW arg7 s hs t).view.loc (c : Thread nD τ) ↦[(dstW arg7 s hs t).view.set]{fullShare} arg7.view.rep (slabV (F := F) (arg3.view.read (Elt F) fq) j) : sProp 𝕄))
    (fun t : Fin 8 => ((srcW arg3 j t).view.loc (c : Thread nD τ) ↦[(srcW arg3 j t).view.set]{q} fq : sProp 𝕄))) $$ HD
  icases HD with ⟨HD, HQ⟩
  isplitl [HD]; · iexact HD
  iapply (pointsTo_split_subset (slabSet_sub c arg3 j)).2
  isplitl [HQ]; swap; · iexact HR
  iapply (Entails.of_eq (slabQ c arg3 j q fq).symm)
  iexact HQ

end

end Cert.KernelIdeal.Hand
-- ==== Proof.KernI.Slots.lean ====
/-
  A slot's states: free, being filled with a slab; and the sections of the body that issue a slab's copies and wait for them.
-/
module

public import proofs.«01_k».proof.Proof.KernI.Quad
public import proofs.«01_k».proof.Proof.KernI.Column
public import proofs.«01_k».proof.Proof.KernI.Dma
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

/-- Slot `s` free, with its share of the packed weights. -/
def Idle (s : ℕ) (hs : s < 2) (q : PosShare TreeShare) (fq : Buf (Elt F) (arg3.view.loc (c : Thread nD τ))) : sProp 𝕄 :=
  iprop((∃ f7 : Buf (Elt F) (arg7.view.loc (c : Thread nD τ)), ptsS c arg7 s hs f7) ∗ semVal ((c : Thread nD τ), SemLoc.dma (cellW arg13 s hs)) 0
    ∗ (arg3.view.loc (c : Thread nD τ) ↦[arg3.view.set]{q} fq))

/-- The batch of slot `s`'s copies of slab `j`, `k` of them issued and `u` units waited for. -/
abbrev BatchS (s : ℕ) (hs : s < 2) (j : Fin 14) (q : PosShare TreeShare) (fq : Buf (Elt F) (arg3.view.loc (c : Thread nD τ))) (k u : ℕ) : sProp 𝕄 :=
  Transfers.Batch (Lvl := ℕ) (countersEmb (U := Pipeline.UD sig nD τ)) (c : Thread nD τ) (.dma (cellW arg13 s hs)) () (dstW arg7 s hs 0).view.dmaCredit (deliv c arg3 arg7 s hs j q fq) k u

/-- Slot `s` being filled with slab `j`: every copy issued, none waited for. -/
def Flight (s : ℕ) (hs : s < 2) (j : Fin 14) (q : PosShare TreeShare) (fq : Buf (Elt F) (arg3.view.loc (c : Thread nD τ))) : sProp 𝕄 :=
  iprop(BatchS c arg3 arg7 arg13 s hs j q fq 8 0 ∗ restQ c arg3 j q fq)

/-- The copies of slab `j` into slot `s` from the `k`-th on still to be issued. -/
def Todo (s : ℕ) (hs : s < 2) (j : Fin 14) (q : PosShare TreeShare) (fq : Buf (Elt F) (arg3.view.loc (c : Thread nD τ)))
    (f7 : Buf (Elt F) (arg7.view.loc (c : Thread nD τ))) (k : ℕ) : sProp 𝕄 :=
  iprop(BatchS c arg3 arg7 arg13 s hs j q fq k 0
    ∗ bigSep (Transfers.pending (n := 8) k) (fun t : Fin 8 => iprop(((srcW arg3 j t).view.loc (c : Thread nD τ) ↦[(srcW arg3 j t).view.set]{q} fq)
          ∗ ((dstW arg7 s hs t).view.loc (c : Thread nD τ) ↦[(dstW arg7 s hs t).view.set]{fullShare} f7)))
    ∗ restQ c arg3 j q fq)

theorem todo_open (s : ℕ) (hs : s < 2) (j : Fin 14) (q : PosShare TreeShare) (fq : Buf (Elt F) (arg3.view.loc (c : Thread nD τ))) :
    Idle c arg3 arg7 arg13 s hs q fq ⊢ (iprop(|={Set.univ}=> ∃ f7 : Buf (Elt F) (arg7.view.loc (c : Thread nD τ)), Todo c arg3 arg7 arg13 s hs j q fq f7 0) : sProp 𝕄) := by
  unfold Idle Todo
  iintro ⟨⟨%f7, H7⟩, HV, HQ⟩
  imod (Transfers.batch_alloc' (Lvl := ℕ) (countersEmb (U := Pipeline.UD sig nD τ)) (c : Thread nD τ) () (dstW arg7 s hs 0).view.dmaCredit (deliv c arg3 arg7 s hs j q fq) (sm := .dma (cellW arg13 s hs)) (E := Set.univ)) $$ HV with HB
  imodintro
  iexists f7
  isplitl [HB]; · iexact HB
  rw [Transfers.pending_zero]
  iapply (windows c arg3 arg7 s hs j q fq f7)
  isplitl [H7]; · iexact H7
  iexact HQ

theorem todo_close (s : ℕ) (hs : s < 2) (j : Fin 14) (q : PosShare TreeShare) (fq : Buf (Elt F) (arg3.view.loc (c : Thread nD τ)))
    (f7 : Buf (Elt F) (arg7.view.loc (c : Thread nD τ))) :
    Todo c arg3 arg7 arg13 s hs j q fq f7 8 ⊢ (Flight c arg3 arg7 arg13 s hs j q fq : sProp 𝕄) := by
  unfold Flight Todo
  iintro ⟨HB, -, HR⟩
  isplitl [HB]; · iexact HB
  iexact HR

/-- One copy issued. -/
theorem issue (s : ℕ) (hs : s < 2) (j : Fin 14) (t : Fin 8) (q : PosShare TreeShare) (fq : Buf (Elt F) (arg3.view.loc (c : Thread nD τ)))
    (f7 : Buf (Elt F) (arg7.view.loc (c : Thread nD τ)))
    (od : Fin 4 → ℕ) (hd) (ed : od = ![s, 0, t.val, 0]) (oq : Fin 2 → ℕ) (hq) (eq : oq = ![0, 1024 * j.val + 128 * t.val])
    (oc : Fin 1 → ℕ) (hc) (ec : oc = ![s]) (h1) (h2) (h3) (K : PUnit → sProp 𝕄) :
    iprop(Todo c arg3 arg7 arg13 s hs j q fq f7 t.val ∗ (Todo c arg3 arg7 arg13 s hs j q fq f7 (t.val + 1) -∗ K ⟨⟩))
    ⊢ wp frame (wpE (defs₀ (F := F)) 𝒱 (c : Thread nD τ) bd) Set.univ
      (Prog.lift (.enqueueDma (arg3.slice (Rect.unit (s := S1024x14336) oq S1024x128.size hq) (fun _ => rfl))
        (.here ((arg7.slice (Rect.unit (s := S2x1024x8x128) od S1x1024x1x128.size hd) (fun _ => rfl)).squeeze S1024x128 squeezes_S1x1024x1x128_S1024x128))
        (.dma ((arg13.slice (Rect.unit (s := S2) oc S1.size hc)).squeeze S_ squeezes_S1_S_).sem) h1 h2 h3)) K := by
  unfold Todo
  rw [Transfers.bigSep_pending_step _ t.val t.isLt]
  iintro ⟨⟨HB, ⟨⟨HS, HD⟩, HP⟩, HR⟩, HK⟩
  iapply (issue_step 𝒱 c bd arg3 arg7 arg13 s hs j t q fq f7 od hd ed oq hq eq oc hc ec h1 h2 h3 K)
  isplitl [HS]; · iexact HS
  isplitl [HD]; · iexact HD
  isplitl [HB]; · iexact HB
  iintro HB
  iapply HK
  isplitl [HB]; · iexact HB
  isplitl [HP]; · iexact HP
  iexact HR

/-- The first copies of slab 0. -/
theorem first_part (q : PosShare TreeShare) (fq : Buf (Elt F) (arg3.view.loc (c : Thread nD τ)))
    (f7 : Buf (Elt F) (arg7.view.loc (c : Thread nD τ))) (K : PUnit → sProp 𝕄) :
    iprop(Todo c arg3 arg7 arg13 0 (by decide) 0 q fq f7 0 ∗ (Todo c arg3 arg7 arg13 0 (by decide) 0 q fq f7 3 -∗ K ⟨⟩))
    ⊢ wp frame (wpE (defs₀ (F := F)) 𝒱 (c : Thread nD τ) bd) Set.univ (k0_part1 i arg1 harg1 arg2 harg2 arg3 harg3 arg4 harg4 arg5 harg5 arg6 harg6 arg7 harg7 arg8 harg8 arg9 harg9 arg10 harg10 arg11 harg11 arg12 harg12 arg13) K := by
  simp only [k0_part1_eq_skeleton]
  unfold k0_part1_skel
  simp only [wp_bind]
  iintro ⟨HT, HK⟩
  iapply (issue 𝒱 c bd arg3 arg7 arg13 0 (by decide) 0 0 q fq f7 ![0, 0, 0, 0] _ rfl ![0, 0] _ rfl ![0] _ rfl)
  isplitl [HT]; · iexact HT
  iintro HT
  iapply (issue 𝒱 c bd arg3 arg7 arg13 0 (by decide) 0 1 q fq f7 ![0, 0, 1, 0] _ rfl ![0, 128] _ rfl ![0] _ rfl)
  isplitl [HT]; · iexact HT
  iintro HT
  iapply (issue 𝒱 c bd arg3 arg7 arg13 0 (by decide) 0 2 q fq f7 ![0, 0, 2, 0] _ rfl ![0, 256] _ rfl ![0] _ rfl)
  isplitl [HT]; · iexact HT
  iintro HT
  simp only [wp_pure]
  imodintro
  iapply HK
  iexact HT

/-- The other copies of slab 0, then the fold. -/
theorem second_part (k0_h1 : k0_cond1 i = 1#1) (q : PosShare TreeShare) (fq : Buf (Elt F) (arg3.view.loc (c : Thread nD τ)))
    (f7 : Buf (Elt F) (arg7.view.loc (c : Thread nD τ))) (f2 : Buf (Elt F) (arg2.view.loc (c : Thread nD τ))) (f9 : Buf (Elt F) (arg9.view.loc (c : Thread nD τ)))
    (K : (Σ' (_ : BitVec 32), BitVec 32) → sProp 𝕄) :
    iprop(Todo c arg3 arg7 arg13 0 (by decide) 0 q fq f7 3 ∗ pts c arg2 f2 ∗ pts c arg9 f9 ∗
      (∀ f9' : Buf (Elt F) (arg9.view.loc (c : Thread nD τ)), ⌜Folded (arg2.view.read (Elt F) f2) 4096 (arg9.view.read (Elt F) f9')⌝ -∗ Todo c arg3 arg7 arg13 0 (by decide) 0 q fq f7 8 -∗ pts c arg2 f2 -∗ pts c arg9 f9' -∗ K ⟨0#32, 4096#32⟩))
    ⊢ wp frame (wpE (defs₀ (F := F)) 𝒱 (c : Thread nD τ) bd) Set.univ (k0_part2 i arg1 harg1 arg2 harg2 arg3 harg3 arg4 harg4 arg5 harg5 arg6 harg6 arg7 harg7 arg8 harg8 arg9 harg9 arg10 harg10 arg11 harg11 arg12 harg12 arg13 k0_h1) K := by
  simp only [k0_part2_eq_skeleton]
  unfold k0_part2_skel
  simp only [wp_bind]
  iintro ⟨HT, H2, H9, HK⟩
  iapply (issue 𝒱 c bd arg3 arg7 arg13 0 (by decide) 0 3 q fq f7 ![0, 0, 3, 0] _ rfl ![0, 384] _ rfl ![0] _ rfl)
  isplitl [HT]; · iexact HT
  iintro HT
  iapply (issue 𝒱 c bd arg3 arg7 arg13 0 (by decide) 0 4 q fq f7 ![0, 0, 4, 0] _ rfl ![0, 512] _ rfl ![0] _ rfl)
  isplitl [HT]; · iexact HT
  iintro HT
  iapply (issue 𝒱 c bd arg3 arg7 arg13 0 (by decide) 0 5 q fq f7 ![0, 0, 5, 0] _ rfl ![0, 640] _ rfl ![0] _ rfl)
  isplitl [HT]; · iexact HT
  iintro HT
  iapply (issue 𝒱 c bd arg3 arg7 arg13 0 (by decide) 0 6 q fq f7 ![0, 0, 6, 0] _ rfl ![0, 768] _ rfl ![0] _ rfl)
  isplitl [HT]; · iexact HT
  iintro HT
  iapply (issue 𝒱 c bd arg3 arg7 arg13 0 (by decide) 0 7 q fq f7 ![0, 0, 7, 0] _ rfl ![0, 896] _ rfl ![0] _ rfl)
  isplitl [HT]; · iexact HT
  iintro HT
  iapply (wp_wand_r frame (wpE (defs₀ (F := F)) 𝒱 (c : Thread nD τ) bd) Set.univ)
  isplitl [H2 H9]
  · iapply (fold_loop 𝒱 c bd i arg1 harg1 arg2 harg2 arg3 harg3 arg4 harg4 arg5 harg5 arg6 harg6 arg7 harg7 arg8 harg8 arg9 harg9 arg10 harg10 arg11 harg11 arg12 harg12 arg13 k0_h1 f2 f9)
    isplitl [H2]; · iexact H2
    iexact H9
  iintro %_ ⟨H2, %f9', %hf, H9⟩
  simp only [wp_pure]
  imodintro
  ihave HT := (show Todo c arg3 arg7 arg13 0 (Nat.zero_lt_succ 1) 0 q fq f7 ((7 : Fin 8).val + 1) ⊢ Todo c arg3 arg7 arg13 0 (Nat.zero_lt_succ 1) 0 q fq f7 8 from .rfl) $$ HT
  iapply HK $$ [] HT H2 H9
  ipureintro; exact hf

theorem k0_off10_at (i : grid0.Coords) (j : Fin 14) (hj : j.val = (i 0).val + 1) (r : Fin 8) :
    k0_off10 i (BitVec.ofNat 32 (128 * r.val)) = ![0, 1024 * j.val + 128 * r.val] := by
  rw [k0_off10_eq, hj]
  have e : 1024 * (i 0).val + 128 * r.val + 1024 = 1024 * ((i 0).val + 1) + 128 * r.val := by omega
  rw [e]

/-- The copies of the next slab into the other slot. -/
theorem ahead (k0_h2 : k0_cond2 i = 1#1) (j : Fin 14) (hj : j.val = (i 0).val + 1) (arg0 v0 : BitVec 32) (q : PosShare TreeShare) (fq : Buf (Elt F) (arg3.view.loc (c : Thread nD τ)))
    (f7 : Buf (Elt F) (arg7.view.loc (c : Thread nD τ))) (K : PUnit → sProp 𝕄) :
    iprop(Todo c arg3 arg7 arg13 (1 - (i 0).val % 2) (by omega) j q fq f7 0 ∗ (Todo c arg3 arg7 arg13 (1 - (i 0).val % 2) (by omega) j q fq f7 1 -∗ K ⟨⟩))
    ⊢ wp frame (wpE (defs₀ (F := F)) 𝒱 (c : Thread nD τ) bd) Set.univ (k0_part3 i arg1 harg1 arg2 harg2 arg3 harg3 arg4 harg4 arg5 harg5 arg6 harg6 arg7 harg7 arg8 harg8 arg9 harg9 arg10 harg10 arg11 harg11 arg12 harg12 arg13 arg0 v0 k0_h2) K := by
  simp only [k0_part3_eq_skeleton]
  unfold k0_part3_skel
  simp only [wp_bind]
  iintro ⟨HT, HK⟩
  iapply (issue 𝒱 c bd arg3 arg7 arg13 (1 - (i 0).val % 2) (by omega) j 0 q fq f7 (k0_off9 i) _ (k0_off9_eq i) (k0_off10 i 0#32) _ (k0_off10_at i j hj 0) (k0_off8 i) _ (k0_off8_eq i))
  isplitl [HT]; · iexact HT
  iintro HT
  simp only [wp_pure]
  imodintro
  iapply HK
  iexact HT

theorem ahead_rest (k0_h2 : k0_cond2 i = 1#1) (j : Fin 14) (hj : j.val = (i 0).val + 1) (q : PosShare TreeShare) (fq : Buf (Elt F) (arg3.view.loc (c : Thread nD τ)))
    (f7 : Buf (Elt F) (arg7.view.loc (c : Thread nD τ))) (K : PUnit → sProp 𝕄) :
    iprop(Todo c arg3 arg7 arg13 (1 - (i 0).val % 2) (by omega) j q fq f7 1 ∗ (Todo c arg3 arg7 arg13 (1 - (i 0).val % 2) (by omega) j q fq f7 7 -∗ K ⟨⟩))
    ⊢ wp frame (wpE (defs₀ (F := F)) 𝒱 (c : Thread nD τ) bd) Set.univ (k0_part4 i arg1 harg1 arg2 harg2 arg3 harg3 arg4 harg4 arg5 harg5 arg6 harg6 arg7 harg7 arg8 harg8 arg9 harg9 arg10 harg10 arg11 harg11 arg12 harg12 arg13 k0_h2) K := by
  simp only [k0_part4_eq_skeleton]
  unfold k0_part4_skel
  simp only [wp_bind]
  iintro ⟨HT, HK⟩
  iapply (issue 𝒱 c bd arg3 arg7 arg13 (1 - (i 0).val % 2) (by omega) j 1 q fq f7 (k0_off11 i) _ (k0_off11_eq i) (k0_off10 i 128#32) _ (k0_off10_at i j hj 1) (k0_off8 i) _ (k0_off8_eq i))
  isplitl [HT]; · iexact HT
  iintro HT
  iapply (issue 𝒱 c bd arg3 arg7 arg13 (1 - (i 0).val % 2) (by omega) j 2 q fq f7 (k0_off12 i) _ (k0_off12_eq i) (k0_off10 i 256#32) _ (k0_off10_at i j hj 2) (k0_off8 i) _ (k0_off8_eq i))
  isplitl [HT]; · iexact HT
  iintro HT
  iapply (issue 𝒱 c bd arg3 arg7 arg13 (1 - (i 0).val % 2) (by omega) j 3 q fq f7 (k0_off13 i) _ (k0_off13_eq i) (k0_off10 i 384#32) _ (k0_off10_at i j hj 3) (k0_off8 i) _ (k0_off8_eq i))
  isplitl [HT]; · iexact HT
  iintro HT
  iapply (issue 𝒱 c bd arg3 arg7 arg13 (1 - (i 0).val % 2) (by omega) j 4 q fq f7 (k0_off14 i) _ (k0_off14_eq i) (k0_off10 i 512#32) _ (k0_off10_at i j hj 4) (k0_off8 i) _ (k0_off8_eq i))
  isplitl [HT]; · iexact HT
  iintro HT
  iapply (issue 𝒱 c bd arg3 arg7 arg13 (1 - (i 0).val % 2) (by omega) j 5 q fq f7 (k0_off15 i) _ (k0_off15_eq i) (k0_off10 i 640#32) _ (k0_off10_at i j hj 5) (k0_off8 i) _ (k0_off8_eq i))
  isplitl [HT]; · iexact HT
  iintro HT
  iapply (issue 𝒱 c bd arg3 arg7 arg13 (1 - (i 0).val % 2) (by omega) j 6 q fq f7 (k0_off16 i) _ (k0_off16_eq i) (k0_off10 i 768#32) _ (k0_off10_at i j hj 6) (k0_off8 i) _ (k0_off8_eq i))
  isplitl [HT]; · iexact HT
  iintro HT
  simp only [wp_pure]
  imodintro
  iapply HK
  iexact HT

/-- The first six waits for the slab in hand. -/
theorem drain (j : Fin 14) (q : PosShare TreeShare) (fq : Buf (Elt F) (arg3.view.loc (c : Thread nD τ)))
    (W : Waits sig Unit) (K : PUnit → sProp 𝕄) :
    iprop(BatchS c arg3 arg7 arg13 ((i 0).val % 2) (Nat.mod_lt _ (by decide)) j q fq 8 0 ∗ owes (c : Thread nD τ) 0 W
      ∗ (∀ W' : Waits sig Unit, BatchS c arg3 arg7 arg13 ((i 0).val % 2) (Nat.mod_lt _ (by decide)) j q fq 8 (6 * (dstW arg7 ((i 0).val % 2) (Nat.mod_lt _ (by decide)) 0).view.dmaCredit) -∗ owes (c : Thread nD τ) 0 W' -∗ K ⟨⟩))
    ⊢ wp frame (wpE (defs₀ (F := F)) 𝒱 (c : Thread nD τ) bd) Set.univ (k0_part21 i arg1 harg1 arg2 harg2 arg3 harg3 arg4 harg4 arg5 harg5 arg6 harg6 arg7 harg7 arg8 harg8 arg9 harg9 arg10 harg10 arg11 harg11 arg12 harg12 arg13) K := by
  simp only [k0_part21_eq_skeleton]
  unfold k0_part21_skel
  simp only [wp_bind]
  iintro ⟨HB, HO, HK⟩
  ihave HB := (Entails.of_eq (congrArg (BatchS c arg3 arg7 arg13 ((i 0).val % 2) (Nat.mod_lt _ (by decide)) j q fq 8) (Nat.zero_mul (dstW arg7 ((i 0).val % 2) (Nat.mod_lt _ (by decide)) 0).view.dmaCredit).symm)) $$ HB
  iapply (wait_step 𝒱 c bd arg3 arg7 arg13 ((i 0).val % 2) (Nat.mod_lt _ (by decide)) j 0 (by decide) q fq _ (k0_off19 i) _ (k0_off19_eq i) (k0_off20 i 0#32) _ (k0_off18 i) _ (k0_off18_eq i))
  isplitl [HB]; · iexact HB
  isplitl [HO]; · iexact HO
  iintro %W0 HB HO
  iapply (wait_step 𝒱 c bd arg3 arg7 arg13 ((i 0).val % 2) (Nat.mod_lt _ (by decide)) j 1 (by decide) q fq _ (k0_off21 i) _ (k0_off21_eq i) (k0_off20 i 128#32) _ (k0_off18 i) _ (k0_off18_eq i))
  isplitl [HB]; · iexact HB
  isplitl [HO]; · iexact HO
  iintro %W1 HB HO
  iapply (wait_step 𝒱 c bd arg3 arg7 arg13 ((i 0).val % 2) (Nat.mod_lt _ (by decide)) j 2 (by decide) q fq _ (k0_off22 i) _ (k0_off22_eq i) (k0_off20 i 256#32) _ (k0_off18 i) _ (k0_off18_eq i))
  isplitl [HB]; · iexact HB
  isplitl [HO]; · iexact HO
  iintro %W2 HB HO
  iapply (wait_step 𝒱 c bd arg3 arg7 arg13 ((i 0).val % 2) (Nat.mod_lt _ (by decide)) j 3 (by decide) q fq _ (k0_off23 i) _ (k0_off23_eq i) (k0_off20 i 384#32) _ (k0_off18 i) _ (k0_off18_eq i))
  isplitl [HB]; · iexact HB
  isplitl [HO]; · iexact HO
  iintro %W3 HB HO
  iapply (wait_step 𝒱 c bd arg3 arg7 arg13 ((i 0).val % 2) (Nat.mod_lt _ (by decide)) j 4 (by decide) q fq _ (k0_off24 i) _ (k0_off24_eq i) (k0_off20 i 512#32) _ (k0_off18 i) _ (k0_off18_eq i))
  isplitl [HB]; · iexact HB
  isplitl [HO]; · iexact HO
  iintro %W4 HB HO
  iapply (wait_step 𝒱 c bd arg3 arg7 arg13 ((i 0).val % 2) (Nat.mod_lt _ (by decide)) j 5 (by decide) q fq _ (k0_off25 i) _ (k0_off25_eq i) (k0_off20 i 640#32) _ (k0_off18 i) _ (k0_off18_eq i))
  isplitl [HB]; · iexact HB
  isplitl [HO]; · iexact HO
  iintro %W5 HB HO
  simp only [wp_pure]
  imodintro
  iapply HK $$ [HB] HO
  iexact HB

end

end Cert.KernelIdeal.Hand
-- ==== Proof.KernI.Body.lean ====
/-
  A point of the grid: its head (the copies issued, and at the first point the permuted input), the waits, the quad loop and the column loop.
-/
module

public import proofs.«01_k».proof.Proof.KernI.Quad
public import proofs.«01_k».proof.Proof.KernI.Column
public import proofs.«01_k».proof.Proof.KernI.Dma
public import proofs.«01_k».proof.Proof.KernI.Slots
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

theorem cond1_iff : ∀ i : grid0.Coords, k0_cond1 i = 1#1 ↔ (i 0).val = 0 := by decide +kernel
theorem cond2_iff : ∀ i : grid0.Coords, k0_cond2 i = 1#1 ↔ (i 0).val + 1 < 14 := by decide +kernel

theorem idle_congr {s s' : ℕ} (hs : s < 2) (e : s = s') (q : PosShare TreeShare) (fq : Buf (Elt F) (arg3.view.loc (c : Thread nD τ))) :
    Idle c arg3 arg7 arg13 s hs q fq = Idle c arg3 arg7 arg13 s' (e ▸ hs) q fq := by subst e; rfl

theorem flight_congr {s s' : ℕ} (hs : s < 2) (e : s = s') {j j' : Fin 14} (ej : j = j') (q : PosShare TreeShare) (fq : Buf (Elt F) (arg3.view.loc (c : Thread nD τ))) :
    Flight c arg3 arg7 arg13 s hs j q fq = Flight c arg3 arg7 arg13 s' (e ▸ hs) j' q fq := by subst e ej; rfl

/-- The head of the first point: slab 0's copies, the permuted input, slab 1's copies. -/
theorem head_first (h0 : (i 0).val = 0) (P : Fin 4096 → Fin 4096) (q0 q1 : PosShare TreeShare) (fq : Buf (Elt F) (arg3.view.loc (c : Thread nD τ)))
    (f1 : Buf (Elt F) (arg1.view.loc (c : Thread nD τ))) (f2 : Buf (Elt F) (arg2.view.loc (c : Thread nD τ)))
    (f9 : Buf (Elt F) (arg9.view.loc (c : Thread nD τ))) (f10 : Buf (Elt F) (arg10.view.loc (c : Thread nD τ))) (f11 : Buf (Elt F) (arg11.view.loc (c : Thread nD τ)))
    (hP : Table P (arg1.view.read (Elt F) f1)) (K : BitVec 32 → sProp 𝕄) :
    iprop((Idle c arg3 arg7 arg13 0 (by decide) q0 fq ∗ Idle c arg3 arg7 arg13 1 (by decide) q1 fq ∗ ptsT c arg1 f1 ∗ pts c arg2 f2 ∗ pts c arg9 f9 ∗ pts c arg10 f10 ∗ pts c arg11 f11)
      ∗ (∀ v f11', ⌜Unfolded (arg2.view.read (Elt F) f2) P 4096 (arg11.view.read (Elt F) f11')⌝ -∗ Flight c arg3 arg7 arg13 0 (by decide) 0 q0 fq -∗ ptsT c arg1 f1 -∗ pts c arg11 f11'
          -∗ iprop(Flight c arg3 arg7 arg13 1 (by decide) 1 q1 fq ∗ pts c arg2 f2
            ∗ (∃ f9' : Buf (Elt F) (arg9.view.loc (c : Thread nD τ)), pts c arg9 f9') ∗ (∃ f10' : Buf (Elt F) (arg10.view.loc (c : Thread nD τ)), pts c arg10 f10')) -∗ K v))
    ⊢ wp frame (wpE (defs₀ (F := F)) 𝒱 (c : Thread nD τ) bd) Set.univ (k0_part20 i arg1 harg1 arg2 harg2 arg3 harg3 arg4 harg4 arg5 harg5 arg6 harg6 arg7 harg7 arg8 harg8 arg9 harg9 arg10 harg10 arg11 harg11 arg12 harg12 arg13) K := by
  have h1 := (cond1_iff i).2 h0
  have h2 := (cond2_iff i).2 (by omega)
  have hs1 : 1 - (i 0).val % 2 < 2 := by omega
  simp only [k0_part20_eq_skeleton]
  unfold k0_part20_skel
  simp only [dif_pos h1, dif_pos h2, wp_bind]
  iintro ⟨⟨HI0, HI1, H1, H2, H9, H10, H11⟩, HK⟩
  imod (todo_open c arg3 arg7 arg13 0 (Nat.zero_lt_succ 1) 0 q0 fq) $$ HI0 with ⟨%f7, HT⟩
  iapply (first_part 𝒱 c bd i arg1 harg1 arg2 harg2 arg3 harg3 arg4 harg4 arg5 harg5 arg6 harg6 arg7 harg7 arg8 harg8 arg9 harg9 arg10 harg10 arg11 harg11 arg12 harg12 arg13 q0 fq f7)
  isplitl [HT]; · iexact HT
  iintro HT
  iapply (second_part 𝒱 c bd i arg1 harg1 arg2 harg2 arg3 harg3 arg4 harg4 arg5 harg5 arg6 harg6 arg7 harg7 arg8 harg8 arg9 harg9 arg10 harg10 arg11 harg11 arg12 harg12 arg13 h1 q0 fq f7 f2 f9)
  isplitl [HT]; · iexact HT
  isplitl [H2]; · iexact H2
  isplitl [H9]; · iexact H9
  iintro %f9' %hW HT H2 H9
  ihave HF := (todo_close c arg3 arg7 arg13 0 (Nat.zero_lt_succ 1) 0 q0 fq f7) $$ HT
  iapply (wp_wand_r frame (wpE (defs₀ (F := F)) 𝒱 (c : Thread nD τ) bd) Set.univ)
  isplitl [H1 H9 H10]
  · iapply (row_loop 𝒱 c bd i arg1 harg1 arg2 harg2 arg3 harg3 arg4 harg4 arg5 harg5 arg6 harg6 arg7 harg7 arg8 harg8 arg9 harg9 arg10 harg10 arg11 harg11 arg12 harg12 arg13 h1 P f1 f9' f10 hP)
    isplitl [H1]; · iexact H1
    isplitl [H9]; · iexact H9
    iexact H10
  iintro %_ ⟨H1, H9, %f10', %hS, H10⟩
  iapply (wp_wand_r frame (wpE (defs₀ (F := F)) 𝒱 (c : Thread nD τ) bd) Set.univ)
  isplitl [H10 H11]
  · iapply (unfold_loop 𝒱 c bd i arg1 harg1 arg2 harg2 arg3 harg3 arg4 harg4 arg5 harg5 arg6 harg6 arg7 harg7 arg8 harg8 arg9 harg9 arg10 harg10 arg11 harg11 arg12 harg12 arg13 h1 P (arg2.view.read (Elt F) f2) (arg9.view.read (Elt F) f9') f10' f11 hW hS)
    isplitl [H10]; · iexact H10
    iexact H11
  iintro %_ ⟨H10, %f11', %hU, H11⟩
  simp only [wp_pure]
  ihave HI1 := (Entails.of_eq (idle_congr c arg3 arg7 arg13 (s := 1) (s' := 1 - (i 0).val % 2) (Nat.lt_succ_self 1) (by omega) q1 fq)) $$ HI1
  imod (todo_open c arg3 arg7 arg13 (1 - (i 0).val % 2) hs1 1 q1 fq) $$ HI1 with ⟨%g7, HT⟩
  iapply (ahead 𝒱 c bd i arg1 harg1 arg2 harg2 arg3 harg3 arg4 harg4 arg5 harg5 arg6 harg6 arg7 harg7 arg8 harg8 arg9 harg9 arg10 harg10 arg11 harg11 arg12 harg12 arg13 h2 1 (by rw [h0]; rfl) _ _ q1 fq g7)
  isplitl [HT]; · iexact HT
  iintro HT
  iapply (ahead_rest 𝒱 c bd i arg1 harg1 arg2 harg2 arg3 harg3 arg4 harg4 arg5 harg5 arg6 harg6 arg7 harg7 arg8 harg8 arg9 harg9 arg10 harg10 arg11 harg11 arg12 harg12 arg13 h2 1 (by rw [h0]; rfl) q1 fq g7)
  isplitl [HT]; · iexact HT
  iintro HT
  iapply (issue 𝒱 c bd arg3 arg7 arg13 (1 - (i 0).val % 2) hs1 1 7 q1 fq g7 (k0_off17 i) _ (k0_off17_eq i) (k0_off10 i 896#32) _ (k0_off10_at i 1 (by rw [h0]; rfl) 7) (k0_off8 i) _ (k0_off8_eq i))
  isplitl [HT]; · iexact HT
  iintro HT
  ihave HT := (show Todo c arg3 arg7 arg13 (1 - (i 0).val % 2) hs1 1 q1 fq g7 ((7 : Fin 8).val + 1) ⊢ Todo c arg3 arg7 arg13 (1 - (i 0).val % 2) hs1 1 q1 fq g7 8 from .rfl) $$ HT
  ihave HF1 := (todo_close c arg3 arg7 arg13 (1 - (i 0).val % 2) hs1 1 q1 fq g7) $$ HT
  ihave HF1 := (Entails.of_eq (flight_congr c arg3 arg7 arg13 (s := 1 - (i 0).val % 2) (s' := 1) hs1 (by omega) rfl q1 fq)) $$ HF1
  imodintro
  iapply HK $$ [] HF H1 H11
  · ipureintro; exact hU
  isplitl [HF1]; · iexact HF1
  isplitl [H2]; · iexact H2
  isplitl [H9]; · iexists f9'; iexact H9
  iexists f10'; iexact H10

/-- The head of a point between the first and the last. -/
theorem head_mid (h0 : (i 0).val ≠ 0) (j : Fin 14) (hj : j.val = (i 0).val + 1) (q1 : PosShare TreeShare) (fq : Buf (Elt F) (arg3.view.loc (c : Thread nD τ))) (K : BitVec 32 → sProp 𝕄) :
    iprop(Idle c arg3 arg7 arg13 (1 - (i 0).val % 2) (by omega) q1 fq ∗ (∀ v, Flight c arg3 arg7 arg13 (1 - (i 0).val % 2) (by omega) j q1 fq -∗ K v))
    ⊢ wp frame (wpE (defs₀ (F := F)) 𝒱 (c : Thread nD τ) bd) Set.univ (k0_part20 i arg1 harg1 arg2 harg2 arg3 harg3 arg4 harg4 arg5 harg5 arg6 harg6 arg7 harg7 arg8 harg8 arg9 harg9 arg10 harg10 arg11 harg11 arg12 harg12 arg13) K := by
  have h1 : ¬ k0_cond1 i = 1#1 := fun h => h0 ((cond1_iff i).1 h)
  have h2 := (cond2_iff i).2 (by omega)
  have hs1 : 1 - (i 0).val % 2 < 2 := by omega
  simp only [k0_part20_eq_skeleton]
  unfold k0_part20_skel
  simp only [dif_neg h1, dif_pos h2, wp_bind, wp_pure]
  iintro ⟨HI1, HK⟩
  imod (todo_open c arg3 arg7 arg13 (1 - (i 0).val % 2) hs1 j q1 fq) $$ HI1 with ⟨%g7, HT⟩
  iapply (ahead 𝒱 c bd i arg1 harg1 arg2 harg2 arg3 harg3 arg4 harg4 arg5 harg5 arg6 harg6 arg7 harg7 arg8 harg8 arg9 harg9 arg10 harg10 arg11 harg11 arg12 harg12 arg13 h2 j hj _ _ q1 fq g7)
  isplitl [HT]; · iexact HT
  iintro HT
  iapply (ahead_rest 𝒱 c bd i arg1 harg1 arg2 harg2 arg3 harg3 arg4 harg4 arg5 harg5 arg6 harg6 arg7 harg7 arg8 harg8 arg9 harg9 arg10 harg10 arg11 harg11 arg12 harg12 arg13 h2 j hj q1 fq g7)
  isplitl [HT]; · iexact HT
  iintro HT
  iapply (issue 𝒱 c bd arg3 arg7 arg13 (1 - (i 0).val % 2) (by omega) j 7 q1 fq g7 (k0_off17 i) _ (k0_off17_eq i) (k0_off10 i 896#32) _ (k0_off10_at i j hj 7) (k0_off8 i) _ (k0_off8_eq i))
  isplitl [HT]; · iexact HT
  iintro HT
  ihave HT := (show Todo c arg3 arg7 arg13 (1 - (i 0).val % 2) hs1 j q1 fq g7 ((7 : Fin 8).val + 1) ⊢ Todo c arg3 arg7 arg13 (1 - (i 0).val % 2) hs1 j q1 fq g7 8 from .rfl) $$ HT
  ihave HF1 := (todo_close c arg3 arg7 arg13 (1 - (i 0).val % 2) hs1 j q1 fq g7) $$ HT
  imodintro
  iapply HK $$ HF1

/-- The head of the last point does nothing. -/
theorem head_last (h0 : (i 0).val = 13) (K : BitVec 32 → sProp 𝕄) :
    iprop(∀ v, K v) ⊢ wp frame (wpE (defs₀ (F := F)) 𝒱 (c : Thread nD τ) bd) Set.univ (k0_part20 i arg1 harg1 arg2 harg2 arg3 harg3 arg4 harg4 arg5 harg5 arg6 harg6 arg7 harg7 arg8 harg8 arg9 harg9 arg10 harg10 arg11 harg11 arg12 harg12 arg13) K := by
  have h1 : ¬ k0_cond1 i = 1#1 := fun h => by have := (cond1_iff i).1 h; omega
  have h2 : ¬ k0_cond2 i = 1#1 := fun h => by have := (cond2_iff i).1 h; omega
  simp only [k0_part20_eq_skeleton]
  unfold k0_part20_skel
  simp only [dif_neg h1, dif_neg h2, wp_bind, wp_pure]
  iintro HK
  imodintro
  iapply HK

/-! ## A point -/

/-- The sorted word of quad `q`, block column group `c` and lane `l` of slab `j`: byte `r` is row `P (4 q + r)`'s. -/
def wordC (P : Fin 4096 → Fin 4096) (Q : Vec F S1024x14336 .i32) (j : Fin 14) (c q : ℕ) (l : Fin 128) : BitVec 32 :=
  if h : c < 8 ∧ q < 1024 then
    have byte (r : Fin 4) : BitVec 8 :=
      (Q (ix2 (n0 := 1024) (n1 := 14336) ⟨(P ⟨4 * q + r.val, by omega⟩).val / 4, by omega⟩ ⟨1024 * j.val + 128 * c + l.val, by omega⟩) : BitVec 32).extractLsb'
        (8 * ((P ⟨4 * q + r.val, by omega⟩).val % 4)) 8
    (byte 3 ++ byte 2 ++ byte 1 ++ byte 0 : BitVec 32)
  else 0#32

/-- The permuted input. -/
def xC (P : Fin 4096 → Fin 4096) (X : Vec F S192x4096 .i16) : Vec F S192x4096 .bf16 := fun y => FloatOps.ofBits .bf16 (X (ix2 (n0 := 192) (n1 := 4096) (y 0) (P (y 1))) : BitVec 16)

/-- The block of the result at a point, from the scales, the zero points, the packed weights and the input. -/
def outC (P : Fin 4096 → Fin 4096) (S : Vec F S32x2048 .i16) (Z : Vec F S16x2048 .i8) (Q : Vec F S1024x14336 .i32) (X : Vec F S192x4096 .i16) (j : Fin 14) : Vec F S192x2048 .bf16 := fun y =>
  have h1 : (y 1).val < 2048 := (y 1).isLt
  emitAt (kacc (Sc S ((y 1).val / 256) (by omega)) (Zc Z ((y 1).val / 256) (by omega)) (wordC P Q j ((y 1).val / 256)) (xC P X) 16) (y 0) ⟨(y 1).val % 256, Nat.mod_lt _ (by decide)⟩

theorem bytes4 (w : BitVec 32) : w = w.extractLsb' 24 8 ++ w.extractLsb' 16 8 ++ w.extractLsb' 8 8 ++ w.extractLsb' 0 8 := by
  apply BitVec.eq_of_getLsbD_eq
  intro k hk
  simp only [BitVec.getLsbD_append, BitVec.getLsbD_extractLsb']
  by_cases h1 : k < 8
  · simp [h1]
  by_cases h2 : k < 16
  · have e : 8 + (k - 8) = k := by omega
    simp [h1, show k - 8 < 8 by omega, e]
  by_cases h3 : k < 24
  · have e : 16 + (k - 8 - 8) = k := by omega
    simp [h1, show ¬ k - 8 < 8 by omega, show k - 8 - 8 < 8 by omega, e]
  · have e : 24 + (k - 8 - 8 - 8) = k := by omega
    simp [h1, show ¬ k - 8 < 8 by omega, show ¬ k - 8 - 8 < 8 by omega, show k - 8 - 8 - 8 < 8 by omega, e]

theorem wordC_of (P : Fin 4096 → Fin 4096) (Q : Vec F S1024x14336 .i32) (j : Fin 14) (s : Fin 2) (T : Vec F S8200x128 .i32)
    (hT : Srt P (slabWord (slabV (F := F) Q j) s) 1024 T) (c q : ℕ) (hc : c < 8) (hq : q < 1024) (l : Fin 128) :
    srtRow T c q l = wordC P Q j c q l := by
  unfold srtRow wordC
  rw [dif_pos (show 1025 * c + q < 8200 by omega), dif_pos ⟨hc, hq⟩]
  refine (bytes4 _).trans ?_
  have h (r : Fin 4) := hT ⟨q, hq⟩ ⟨c, hc⟩ l hq r
  simp only [slabWord_slabV] at h
  exact congrArg₂ (· ++ ·) (congrArg₂ (· ++ ·) (congrArg₂ (· ++ ·) (h 3) (h 2)) (h 1)) (h 0)

theorem wtile_congr (S : Vec F S32x256 .i16) (Z : Vec F S16x256 .i8) (w w' : ℕ → Fin 128 → BitVec 32) (h : ∀ q l, q < 1024 → w q l = w' q l) (p : ℕ) (hp : p < 16) :
    wtile S Z w p hp = wtile S Z w' p hp := by
  funext y
  have h0 : (y 0).val < 256 := (y 0).isLt
  unfold wtile
  rw [h _ _ (show 64 * p + (y 0).val / 4 < 1024 by omega)]

theorem kacc_congr (S : Vec F S32x256 .i16) (Z : Vec F S16x256 .i8) (w w' : ℕ → Fin 128 → BitVec 32) (X : Vec F S192x4096 .bf16) (h : ∀ q l, q < 1024 → w q l = w' q l) (n : ℕ) :
    kacc S Z w X n = kacc S Z w' X n := by
  induction n with
  | zero => rfl
  | succ n ih =>
    unfold kacc
    by_cases hn : n < 16
    · rw [dif_pos hn, dif_pos hn, ih, wtile_congr S Z w w' h]
    · rw [dif_neg hn, dif_neg hn, ih]

theorem outC_of (P : Fin 4096 → Fin 4096) (S : Vec F S32x2048 .i16) (Z : Vec F S16x2048 .i8) (Q : Vec F S1024x14336 .i32) (X : Vec F S192x4096 .i16) (j : Fin 14)
    (s : Fin 2) (T : Vec F S8200x128 .i32) (Y : Vec F S192x4096 .bf16) (o : Vec F S192x2048 .bf16)
    (hT : Srt P (slabWord (slabV (F := F) Q j) s) 1024 T) (hY : Unfolded X P 4096 Y) (hD : Done (outB S Z T Y) o 8) : o = outC P S Z Q X j := by
  funext y
  have h1 : (y 1).val < 2048 := (y 1).isLt
  have eY : Y = xC P X := funext fun y => (congrArg Y (eq_ix2 y)).trans (hY (y 0) (y 1) (y 1).isLt)
  rw [hD y h1]
  unfold outB outC
  rw [← eY]
  exact congrArg (fun a => emitAt a (y 0) _) (kacc_congr _ _ _ _ Y (fun q l hq => wordC_of P Q j s T hT _ q (show (y 1).val / 256 < 8 by omega) hq l) 16)

/-- A point of the grid, from its head on. -/
theorem point (P : Fin 4096 → Fin 4096) (X : Vec F S192x4096 .i16) (j : Fin 14) (q : PosShare TreeShare) (fq : Buf (Elt F) (arg3.view.loc (c : Thread nD τ)))
    (f1 : Buf (Elt F) (arg1.view.loc (c : Thread nD τ))) (hP : Table P (arg1.view.read (Elt F) f1))
    (f4 : Buf (Elt F) (arg4.view.loc (c : Thread nD τ))) (f5 : Buf (Elt F) (arg5.view.loc (c : Thread nD τ))) (f6 : Buf (Elt F) (arg6.view.loc (c : Thread nD τ)))
    (W : Waits sig Unit) (B R : sProp 𝕄)
    (hhead : ∀ K : BitVec 32 → sProp 𝕄, iprop(B ∗ (∀ v f11, ⌜Unfolded X P 4096 (arg11.view.read (Elt F) f11)⌝ -∗ Flight c arg3 arg7 arg13 ((i 0).val % 2) (Nat.mod_lt _ (by decide)) j q fq
        -∗ ptsT c arg1 f1 -∗ pts c arg11 f11 -∗ R -∗ K v))
      ⊢ wp frame (wpE (defs₀ (F := F)) 𝒱 (c : Thread nD τ) bd) Set.univ (k0_part20 i arg1 harg1 arg2 harg2 arg3 harg3 arg4 harg4 arg5 harg5 arg6 harg6 arg7 harg7 arg8 harg8 arg9 harg9 arg10 harg10 arg11 harg11 arg12 harg12 arg13) K) :
    iprop(B ∗ owes (c : Thread nD τ) 0 W ∗ pts c arg4 f4 ∗ pts c arg5 f5 ∗ pts c arg6 f6
      ∗ (∃ f8 : Buf (Elt F) (arg8.view.loc (c : Thread nD τ)), pts c arg8 f8) ∗ (∃ f12 : Buf (Elt F) (arg12.view.loc (c : Thread nD τ)), pts c arg12 f12))
    ⊢ wp frame (wpE (defs₀ (F := F)) 𝒱 (c : Thread nD τ) bd) Set.univ (cc0_gptq_linear i arg1 harg1 arg2 harg2 arg3 harg3 arg4 harg4 arg5 harg5 arg6 harg6 arg7 harg7 arg8 harg8 arg9 harg9 arg10 harg10 arg11 harg11 arg12 harg12 arg13)
      (fun _ => iprop(Idle c arg3 arg7 arg13 ((i 0).val % 2) (Nat.mod_lt _ (by decide)) q fq ∗ R ∗ ptsT c arg1 f1
        ∗ (∃ f11 : Buf (Elt F) (arg11.view.loc (c : Thread nD τ)), ⌜Unfolded X P 4096 (arg11.view.read (Elt F) f11)⌝ ∗ pts c arg11 f11)
        ∗ (∃ W', owes (c : Thread nD τ) 0 W') ∗ pts c arg4 f4 ∗ pts c arg5 f5
        ∗ (∃ f6' : Buf (Elt F) (arg6.view.loc (c : Thread nD τ)), ⌜arg6.view.read (Elt F) f6' = outC P (arg4.view.read (Elt F) f4) (arg5.view.read (Elt F) f5) (arg3.view.read (Elt F) fq) X j⌝ ∗ pts c arg6 f6')
        ∗ (∃ f8 : Buf (Elt F) (arg8.view.loc (c : Thread nD τ)), pts c arg8 f8) ∗ (∃ f12 : Buf (Elt F) (arg12.view.loc (c : Thread nD τ)), pts c arg12 f12))) := by
  simp only [cc0_gptq_linear_eq_skeleton]
  unfold cc0_gptq_linear_skel
  simp only [wp_bind]
  iintro ⟨HB, HO, H4, H5, H6, ⟨%f8, H8⟩, ⟨%f12, H12⟩⟩
  iapply (hhead _)
  isplitl [HB]; · iexact HB
  iintro %v %f11 %hU HF H1 H11 HR
  ihave HF := (show Flight c arg3 arg7 arg13 ((i 0).val % 2) (Nat.mod_lt _ (by decide)) j q fq
    ⊢ iprop(BatchS c arg3 arg7 arg13 ((i 0).val % 2) (Nat.mod_lt _ (by decide)) j q fq 8 0 ∗ restQ c arg3 j q fq) from .rfl) $$ HF
  icases HF with ⟨HB, HQ⟩
  iapply (drain 𝒱 c bd i arg1 harg1 arg2 harg2 arg3 harg3 arg4 harg4 arg5 harg5 arg6 harg6 arg7 harg7 arg8 harg8 arg9 harg9 arg10 harg10 arg11 harg11 arg12 harg12 arg13 j q fq W)
  isplitl [HB]; · iexact HB
  isplitl [HO]; · iexact HO
  iintro %W1 HB HO
  iapply (wait_step 𝒱 c bd arg3 arg7 arg13 ((i 0).val % 2) (Nat.mod_lt _ (by decide)) j 6 (by decide) q fq _ (k0_off26 i) _ (k0_off26_eq i) (k0_off20 i 768#32) _ (k0_off18 i) _ (k0_off18_eq i))
  isplitl [HB]; · iexact HB
  isplitl [HO]; · iexact HO
  iintro %W2 HB HO
  iapply (wait_last 𝒱 c bd arg3 arg7 arg13 ((i 0).val % 2) (Nat.mod_lt _ (by decide)) j q fq _ (k0_off27 i) _ (k0_off27_eq i) (k0_off20 i 896#32) _ (k0_off18 i) _ (k0_off18_eq i))
  isplitl [HB]; · iexact HB
  isplitl [HO]; · iexact HO
  iintro %W3 HD HV HO
  ihave HD := (collect c arg3 arg7 ((i 0).val % 2) (Nat.mod_lt _ (by decide)) j q fq) $$ [HD HQ]
  · isplitl [HD]; · iexact HD
    iexact HQ
  icases HD with ⟨H7, HQ⟩
  iapply (wp_wand_r frame (wpE (defs₀ (F := F)) 𝒱 (c : Thread nD τ) bd) Set.univ)
  isplitl [H1 H7 H8]
  · iapply (quad_loop 𝒱 c bd i arg1 harg1 arg2 harg2 arg3 harg3 arg4 harg4 arg5 harg5 arg6 harg6 arg7 harg7 arg8 harg8 arg9 harg9 arg10 harg10 arg11 harg11 arg12 harg12 arg13 P v f1 (arg7.view.rep (slabV (F := F) (arg3.view.read (Elt F) fq) j)) f8 hP)
    isplitl [H1]; · iexact H1
    isplitl [H7]; · iexact H7
    iexact H8
  iintro %_ ⟨H1, H7, %f8', %hT, H8⟩
  iapply (wp_wand_r frame (wpE (defs₀ (F := F)) 𝒱 (c : Thread nD τ) bd) Set.univ)
  isplitl [H4 H5 H6 H8 H11 H12]
  · iapply (col_loop 𝒱 c bd i arg1 harg1 arg2 harg2 arg3 harg3 arg4 harg4 arg5 harg5 arg6 harg6 arg7 harg7 arg8 harg8 arg9 harg9 arg10 harg10 arg11 harg11 arg12 harg12 arg13 f4 f5 f6 f8' f11 f12)
    isplitl [H4]; · iexact H4
    isplitl [H5]; · iexact H5
    isplitl [H6]; · iexact H6
    isplitl [H8]; · iexact H8
    isplitl [H11]; · iexact H11
    iexact H12
  iintro %_ ⟨H4, H5, ⟨%f6', %hD, H6⟩, H8, H11, H12⟩
  rw [View.read_rep] at hT
  simp only [wp_pure]
  imodintro
  isplitl [H7 HV HQ]
  · unfold Idle
    isplitl [H7]; · iexists _; iexact H7
    isplitl [HV]; · iexact HV
    iexact HQ
  isplitl [HR]; · iexact HR
  isplitl [H1]; · iexact H1
  isplitl [H11]
  · iexists f11
    isplitr; · ipureintro; exact hU
    iexact H11
  isplitl [HO]; · iexists W3; iexact HO
  isplitl [H4]; · iexact H4
  isplitl [H5]; · iexact H5
  isplitl [H6]
  · iexists f6'
    isplitr; · ipureintro; exact outC_of P _ _ _ X j _ _ _ _ hT hU hD
    iexact H6
  isplitl [H8]; · iexists f8'; iexact H8
  iexact H12

end

end Cert.KernelIdeal.Hand
-- ==== Proof.KernI.State.lean ====
/-
  What the core holds between two grid points — the slots, one of them being filled, the table, the scratch
  buffers — and the point as a step from one such state to the next.
-/
module

public import proofs.«01_k».proof.Proof.KernI.Quad
public import proofs.«01_k».proof.Proof.KernI.Column
public import proofs.«01_k».proof.Proof.KernI.Dma
public import proofs.«01_k».proof.Proof.KernI.Slots
public import proofs.«01_k».proof.Proof.KernI.Body
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

section
variable (𝒱 : Variants) (c : Dev nD) (bd : Option 𝒱.V) (i : grid0.Coords)
  (arg1 : Memref sig .tc .smem S4096 .i32) (harg1 : arg1.IsWhole)
  (arg2 : Memref sig .tc .vmem S192x4096 .i16) (harg2 : arg2.IsWhole)
  (arg3 : Memref sig .tc .hbm S1024x14336 .i32) (harg3 : arg3.IsWhole)
  (arg4 : Memref sig .tc .vmem S32x2048 .i16) (harg4 : arg4.IsWhole)
  (arg5 : Memref sig .tc .vmem S16x2048 .i8) (harg5 : arg5.IsWhole)
  (arg6 : Memref sig .tc .vmem S192x2048 .bf16) (harg6 : arg6.IsWhole)
  (arg7 : Memref sig .tc .vmem S2x1024x8x128 .i32) (harg7 : arg7.IsWhole)
  (arg8 : Memref sig .tc .vmem S8200x128 .i32) (harg8 : arg8.IsWhole)
  (arg9 : Memref sig .tc .vmem S4096x128 .i32) (harg9 : arg9.IsWhole)
  (arg10 : Memref sig .tc .vmem S4096x128 .i32) (harg10 : arg10.IsWhole)
  (arg11 : Memref sig .tc .vmem S192x4096 .bf16) (harg11 : arg11.IsWhole)
  (arg12 : Memref sig .tc .vmem S128x128 .i32) (harg12 : arg12.IsWhole) (arg13 : DmaSems sig S2)

/-! ## The slots between points -/

/-- The half of the packed weights that slot `s`'s copies read. -/
def qs (s : ℕ) : PosShare TreeShare := if s = 0 then fullShare.left else fullShare.right

variable (fq : Buf (Elt F) (arg3.view.loc (c : Thread nD τ)))

/-- Both slots free. -/
def Free : sProp 𝕄 :=
  iprop(Idle c arg3 arg7 arg13 0 (by decide) (qs 0) fq ∗ Idle c arg3 arg7 arg13 1 (by decide) (qs 1) fq)

/-- Slab `n` on its way into its slot, the other slot free. -/
def Busy (n : ℕ) (h : n < 14) : sProp 𝕄 :=
  iprop(Flight c arg3 arg7 arg13 (n % 2) (Nat.mod_lt _ (by decide)) ⟨n, h⟩ (qs (n % 2)) fq
    ∗ Idle c arg3 arg7 arg13 (1 - n % 2) (by omega) (qs (1 - n % 2)) fq)

/-- The slots before point `n`. -/
def SlotsAt (n : ℕ) : sProp 𝕄 :=
  if h : 0 < n ∧ n < 14 then Busy c arg3 arg7 arg13 fq n h.2 else Free c arg3 arg7 arg13 fq

theorem idle_to {s s' : ℕ} (hs : s < 2) (hs' : s' < 2) (e : s = s') :
    Idle c arg3 arg7 arg13 s hs (qs s) fq ⊢ Idle c arg3 arg7 arg13 s' hs' (qs s') fq := by subst e; exact .rfl

theorem flight_to {s s' : ℕ} (hs : s < 2) (hs' : s' < 2) (e : s = s') {j j' : Fin 14} (ej : j.val = j'.val) :
    Flight c arg3 arg7 arg13 s hs j (qs s) fq ⊢ Flight c arg3 arg7 arg13 s' hs' j' (qs s') fq := by
  subst e; have := Fin.ext ej; subst this; exact .rfl

theorem slots_free {n : ℕ} (h : n = 0 ∨ n = 14) : SlotsAt c arg3 arg7 arg13 fq n = Free c arg3 arg7 arg13 fq := by
  unfold SlotsAt; exact dif_neg (by omega)

theorem slots_busy {n : ℕ} (h0 : 0 < n) (h : n < 14) : SlotsAt c arg3 arg7 arg13 fq n = Busy c arg3 arg7 arg13 fq n h := by
  unfold SlotsAt; exact dif_pos ⟨h0, h⟩

/-- Slot 0 and slot 1, free, in the order a point leaves them. -/
theorem free_of (s : ℕ) (hs : s < 2) :
    iprop(Idle c arg3 arg7 arg13 s hs (qs s) fq ∗ Idle c arg3 arg7 arg13 (1 - s) (by omega) (qs (1 - s)) fq) ⊢ Free c arg3 arg7 arg13 fq := by
  have : s = 0 ∨ s = 1 := by omega
  rcases this with rfl | rfl
  · exact .rfl
  · unfold Free
    iintro ⟨HA, HB⟩
    isplitl [HB]; · iexact HB
    iexact HA

/-! ## What the core holds between points -/

/-- Before point `n`: the slots, the table, the scratch buffers — the permuted input in its own from the second point on. -/
def Held (P : Fin 4096 → Fin 4096) (X : Vec F S192x4096 .i16) (f1 : Buf (Elt F) (arg1.view.loc (c : Thread nD τ))) (n : ℕ) : sProp 𝕄 :=
  iprop(SlotsAt c arg3 arg7 arg13 fq n ∗ ptsT c arg1 f1
    ∗ (∃ f8 : Buf (Elt F) (arg8.view.loc (c : Thread nD τ)), pts c arg8 f8)
    ∗ (∃ f9 : Buf (Elt F) (arg9.view.loc (c : Thread nD τ)), pts c arg9 f9)
    ∗ (∃ f10 : Buf (Elt F) (arg10.view.loc (c : Thread nD τ)), pts c arg10 f10)
    ∗ (∃ f11 : Buf (Elt F) (arg11.view.loc (c : Thread nD τ)), ⌜n ≠ 0 → Unfolded X P 4096 (arg11.view.read (Elt F) f11)⌝ ∗ pts c arg11 f11)
    ∗ (∃ f12 : Buf (Elt F) (arg12.view.loc (c : Thread nD τ)), pts c arg12 f12))

/-- What a point leaves of its windows. -/
def Left (P : Fin 4096 → Fin 4096) (X : Vec F S192x4096 .i16) (j : Fin 14) (f2 : Buf (Elt F) (arg2.view.loc (c : Thread nD τ)))
    (f4 : Buf (Elt F) (arg4.view.loc (c : Thread nD τ))) (f5 : Buf (Elt F) (arg5.view.loc (c : Thread nD τ))) : sProp 𝕄 :=
  iprop((∃ W', owes (c : Thread nD τ) 0 W') ∗ pts c arg2 f2 ∗ pts c arg4 f4 ∗ pts c arg5 f5
    ∗ (∃ f6' : Buf (Elt F) (arg6.view.loc (c : Thread nD τ)), ⌜arg6.view.read (Elt F) f6' = outC P (arg4.view.read (Elt F) f4) (arg5.view.read (Elt F) f5) (arg3.view.read (Elt F) fq) X j⌝ ∗ pts c arg6 f6'))

section
variable (P : Fin 4096 → Fin 4096) (X : Vec F S192x4096 .i16) (f1 : Buf (Elt F) (arg1.view.loc (c : Thread nD τ)))
  (hP : Table P (arg1.view.read (Elt F) f1)) (W : Waits sig Unit) (j : Fin 14) (hj : j.val = (i 0).val)
  (f2 : Buf (Elt F) (arg2.view.loc (c : Thread nD τ))) (f4 : Buf (Elt F) (arg4.view.loc (c : Thread nD τ)))
  (f5 : Buf (Elt F) (arg5.view.loc (c : Thread nD τ))) (f6 : Buf (Elt F) (arg6.view.loc (c : Thread nD τ)))

include hP hj in
/-- The first point. -/
theorem step_first (h0 : (i 0).val = 0) (hX : arg2.view.read (Elt F) f2 = X) :
    iprop(Held c arg1 arg3 arg7 arg8 arg9 arg10 arg11 arg12 arg13 fq P X f1 0 ∗ owes (c : Thread nD τ) 0 W ∗ pts c arg2 f2 ∗ pts c arg4 f4 ∗ pts c arg5 f5 ∗ pts c arg6 f6)
    ⊢ wp frame (wpE (defs₀ (F := F)) 𝒱 (c : Thread nD τ) bd) Set.univ (cc0_gptq_linear i arg1 harg1 arg2 harg2 arg3 harg3 arg4 harg4 arg5 harg5 arg6 harg6 arg7 harg7 arg8 harg8 arg9 harg9 arg10 harg10 arg11 harg11 arg12 harg12 arg13)
      (fun _ => iprop(Held c arg1 arg3 arg7 arg8 arg9 arg10 arg11 arg12 arg13 fq P X f1 1 ∗ Left c arg2 arg3 arg4 arg5 arg6 fq P X j f2 f4 f5)) := by
  unfold Held
  rw [slots_free c arg3 arg7 arg13 fq (.inl rfl), slots_busy c arg3 arg7 arg13 fq Nat.one_pos (by decide)]
  unfold Free Busy Left
  iintro ⟨⟨⟨HI0, HI1⟩, H1, H8, ⟨%f9, H9⟩, ⟨%f10, H10⟩, ⟨%f11, %hU, H11⟩, H12⟩, HO, H2, H4, H5, H6⟩
  iapply (wp_wand_r frame (wpE (defs₀ (F := F)) 𝒱 (c : Thread nD τ) bd) Set.univ)
  isplitl [HI0 HI1 H1 H2 H9 H10 H11 HO H4 H5 H6 H8 H12]
  · iapply (point 𝒱 c bd i arg1 harg1 arg2 harg2 arg3 harg3 arg4 harg4 arg5 harg5 arg6 harg6 arg7 harg7 arg8 harg8 arg9 harg9 arg10 harg10 arg11 harg11 arg12 harg12 arg13 P X j (qs 0) fq f1 hP f4 f5 f6 W
      (iprop(Idle c arg3 arg7 arg13 0 (by decide) (qs 0) fq ∗ Idle c arg3 arg7 arg13 1 (by decide) (qs 1) fq ∗ ptsT c arg1 f1 ∗ pts c arg2 f2 ∗ pts c arg9 f9 ∗ pts c arg10 f10 ∗ pts c arg11 f11))
      (iprop(Flight c arg3 arg7 arg13 1 (by decide) 1 (qs 1) fq ∗ pts c arg2 f2
            ∗ (∃ f9' : Buf (Elt F) (arg9.view.loc (c : Thread nD τ)), pts c arg9 f9') ∗ (∃ f10' : Buf (Elt F) (arg10.view.loc (c : Thread nD τ)), pts c arg10 f10')))
      (fun K => by
        iintro ⟨HB, HK⟩
        iapply (head_first 𝒱 c bd i arg1 harg1 arg2 harg2 arg3 harg3 arg4 harg4 arg5 harg5 arg6 harg6 arg7 harg7 arg8 harg8 arg9 harg9 arg10 harg10 arg11 harg11 arg12 harg12 arg13 h0 P (qs 0) (qs 1) fq f1 f2 f9 f10 f11 hP K)
        isplitl [HB]; · iexact HB
        iintro %v %f11' %hU HF H1 H11 HR
        ihave HF := (Entails.of_eq (flight_congr c arg3 arg7 arg13 (s := 0) (s' := (i 0).val % 2) (Nat.zero_lt_succ 1) (by omega) (j := 0) (j' := j) (Fin.ext (by rw [hj, h0]; rfl)) (qs 0) fq)) $$ HF
        iapply HK $$ [] HF H1 H11 HR
        ipureintro; rw [← hX]; exact hU))
    isplitl [HI0 HI1 H1 H2 H9 H10 H11]
    · isplitl [HI0]; · iexact HI0
      isplitl [HI1]; · iexact HI1
      isplitl [H1]; · iexact H1
      isplitl [H2]; · iexact H2
      isplitl [H9]; · iexact H9
      isplitl [H10]; · iexact H10
      iexact H11
    isplitl [HO]; · iexact HO
    isplitl [H4]; · iexact H4
    isplitl [H5]; · iexact H5
    isplitl [H6]; · iexact H6
    isplitl [H8]; · iexact H8
    iexact H12
  iintro %_ ⟨HI, ⟨HF, H2, H9, H10⟩, H1, ⟨%g11, %hV, H11⟩, HO, H4, H5, H6, H8, H12⟩
  ihave HI := (Entails.of_eq (idle_congr c arg3 arg7 arg13 (s := (i 0).val % 2) (s' := 0) (Nat.mod_lt _ (Nat.zero_lt_succ 1)) (by omega) (qs 0) fq)) $$ HI
  isplitl [HI HF H9 H10 H1 H11 H8 H12]
  · isplitl [HI HF]
    · isplitl [HF]; · iexact HF
      iexact HI
    isplitl [H1]; · iexact H1
    isplitl [H8]; · iexact H8
    isplitl [H9]; · iexact H9
    isplitl [H10]; · iexact H10
    isplitl [H11]
    · iexists g11; isplitr; · ipureintro; exact fun _ => hV
      iexact H11
    iexact H12
  isplitl [HO]; · iexact HO
  isplitl [H2]; · iexact H2
  isplitl [H4]; · iexact H4
  isplitl [H5]; · iexact H5
  iexact H6

include hP hj in
/-- A point between the first and the last. -/
theorem step_mid (h0 : (i 0).val ≠ 0) (h13 : (i 0).val + 1 < 14) :
    iprop(Held c arg1 arg3 arg7 arg8 arg9 arg10 arg11 arg12 arg13 fq P X f1 (i 0).val ∗ owes (c : Thread nD τ) 0 W ∗ pts c arg2 f2 ∗ pts c arg4 f4 ∗ pts c arg5 f5 ∗ pts c arg6 f6)
    ⊢ wp frame (wpE (defs₀ (F := F)) 𝒱 (c : Thread nD τ) bd) Set.univ (cc0_gptq_linear i arg1 harg1 arg2 harg2 arg3 harg3 arg4 harg4 arg5 harg5 arg6 harg6 arg7 harg7 arg8 harg8 arg9 harg9 arg10 harg10 arg11 harg11 arg12 harg12 arg13)
      (fun _ => iprop(Held c arg1 arg3 arg7 arg8 arg9 arg10 arg11 arg12 arg13 fq P X f1 ((i 0).val + 1) ∗ Left c arg2 arg3 arg4 arg5 arg6 fq P X j f2 f4 f5)) := by
  have hs0 : (i 0).val % 2 < 2 := Nat.mod_lt _ (by decide)
  have hs1 : 1 - (i 0).val % 2 < 2 := by omega
  have hn : (i 0).val < 14 := by omega
  unfold Held
  rw [slots_busy c arg3 arg7 arg13 fq (Nat.pos_of_ne_zero h0) hn, slots_busy c arg3 arg7 arg13 fq (Nat.succ_pos _) h13]
  unfold Busy Left
  iintro ⟨⟨⟨HF, HI⟩, H1, H8, H9, H10, ⟨%f11, %hU, H11⟩, H12⟩, HO, H2, H4, H5, H6⟩
  ihave HF := (flight_to c arg3 arg7 arg13 fq hs0 hs0 rfl (j := ⟨(i 0).val, hn⟩) (j' := j) hj.symm) $$ HF
  iapply (wp_wand_r frame (wpE (defs₀ (F := F)) 𝒱 (c : Thread nD τ) bd) Set.univ)
  isplitl [HF HI H1 H11 HO H4 H5 H6 H8 H12]
  · iapply (point 𝒱 c bd i arg1 harg1 arg2 harg2 arg3 harg3 arg4 harg4 arg5 harg5 arg6 harg6 arg7 harg7 arg8 harg8 arg9 harg9 arg10 harg10 arg11 harg11 arg12 harg12 arg13 P X j (qs ((i 0).val % 2)) fq f1 hP f4 f5 f6 W
      (iprop(Flight c arg3 arg7 arg13 ((i 0).val % 2) hs0 j (qs ((i 0).val % 2)) fq ∗ Idle c arg3 arg7 arg13 (1 - (i 0).val % 2) hs1 (qs (1 - (i 0).val % 2)) fq ∗ ptsT c arg1 f1 ∗ pts c arg11 f11))
      (Flight c arg3 arg7 arg13 (1 - (i 0).val % 2) hs1 ⟨(i 0).val + 1, h13⟩ (qs (1 - (i 0).val % 2)) fq)
      (fun K => by
        iintro ⟨⟨HF, HI, H1, H11⟩, HK⟩
        iapply (head_mid 𝒱 c bd i arg1 harg1 arg2 harg2 arg3 harg3 arg4 harg4 arg5 harg5 arg6 harg6 arg7 harg7 arg8 harg8 arg9 harg9 arg10 harg10 arg11 harg11 arg12 harg12 arg13 h0 ⟨(i 0).val + 1, h13⟩ rfl (qs (1 - (i 0).val % 2)) fq K)
        isplitl [HI]; · iexact HI
        iintro %v HR
        iapply HK $$ [] HF H1 H11 HR
        ipureintro; exact hU h0))
    isplitl [HF HI H1 H11]
    · isplitl [HF]; · iexact HF
      isplitl [HI]; · iexact HI
      isplitl [H1]; · iexact H1
      iexact H11
    isplitl [HO]; · iexact HO
    isplitl [H4]; · iexact H4
    isplitl [H5]; · iexact H5
    isplitl [H6]; · iexact H6
    isplitl [H8]; · iexact H8
    iexact H12
  iintro %_ ⟨HI, HF, H1, ⟨%g11, %hV, H11⟩, HO, H4, H5, H6, H8, H12⟩
  isplitl [HI HF H9 H10 H1 H11 H8 H12]
  · isplitl [HI HF]
    · isplitl [HF]
      · iapply (flight_to c arg3 arg7 arg13 fq hs1 _ (by omega) (j := ⟨(i 0).val + 1, h13⟩) rfl) $$ HF
      iapply (idle_to c arg3 arg7 arg13 fq hs0 _ (by omega)) $$ HI
    isplitl [H1]; · iexact H1
    isplitl [H8]; · iexact H8
    isplitl [H9]; · iexact H9
    isplitl [H10]; · iexact H10
    isplitl [H11]
    · iexists g11; isplitr; · ipureintro; exact fun _ => hV
      iexact H11
    iexact H12
  isplitl [HO]; · iexact HO
  isplitl [H2]; · iexact H2
  isplitl [H4]; · iexact H4
  isplitl [H5]; · iexact H5
  iexact H6

include hP hj in
/-- The last point. -/
theorem step_last (h0 : (i 0).val = 13) :
    iprop(Held c arg1 arg3 arg7 arg8 arg9 arg10 arg11 arg12 arg13 fq P X f1 (i 0).val ∗ owes (c : Thread nD τ) 0 W ∗ pts c arg2 f2 ∗ pts c arg4 f4 ∗ pts c arg5 f5 ∗ pts c arg6 f6)
    ⊢ wp frame (wpE (defs₀ (F := F)) 𝒱 (c : Thread nD τ) bd) Set.univ (cc0_gptq_linear i arg1 harg1 arg2 harg2 arg3 harg3 arg4 harg4 arg5 harg5 arg6 harg6 arg7 harg7 arg8 harg8 arg9 harg9 arg10 harg10 arg11 harg11 arg12 harg12 arg13)
      (fun _ => iprop(Held c arg1 arg3 arg7 arg8 arg9 arg10 arg11 arg12 arg13 fq P X f1 ((i 0).val + 1) ∗ Left c arg2 arg3 arg4 arg5 arg6 fq P X j f2 f4 f5)) := by
  have hs0 : (i 0).val % 2 < 2 := Nat.mod_lt _ (by decide)
  have hs1 : 1 - (i 0).val % 2 < 2 := by omega
  have hn : (i 0).val < 14 := by omega
  unfold Held
  rw [slots_busy c arg3 arg7 arg13 fq (by omega) hn, slots_free c arg3 arg7 arg13 fq (n := (i 0).val + 1) (.inr (by omega))]
  unfold Busy Left
  iintro ⟨⟨⟨HF, HI⟩, H1, H8, H9, H10, ⟨%f11, %hU, H11⟩, H12⟩, HO, H2, H4, H5, H6⟩
  ihave HF := (flight_to c arg3 arg7 arg13 fq hs0 hs0 rfl (j := ⟨(i 0).val, hn⟩) (j' := j) hj.symm) $$ HF
  iapply (wp_wand_r frame (wpE (defs₀ (F := F)) 𝒱 (c : Thread nD τ) bd) Set.univ)
  isplitl [HF HI H1 H11 HO H4 H5 H6 H8 H12]
  · iapply (point 𝒱 c bd i arg1 harg1 arg2 harg2 arg3 harg3 arg4 harg4 arg5 harg5 arg6 harg6 arg7 harg7 arg8 harg8 arg9 harg9 arg10 harg10 arg11 harg11 arg12 harg12 arg13 P X j (qs ((i 0).val % 2)) fq f1 hP f4 f5 f6 W
      (iprop(Flight c arg3 arg7 arg13 ((i 0).val % 2) hs0 j (qs ((i 0).val % 2)) fq ∗ Idle c arg3 arg7 arg13 (1 - (i 0).val % 2) hs1 (qs (1 - (i 0).val % 2)) fq ∗ ptsT c arg1 f1 ∗ pts c arg11 f11))
      (Idle c arg3 arg7 arg13 (1 - (i 0).val % 2) hs1 (qs (1 - (i 0).val % 2)) fq)
      (fun K => by
        iintro ⟨⟨HF, HI, H1, H11⟩, HK⟩
        iapply (head_last 𝒱 c bd i arg1 harg1 arg2 harg2 arg3 harg3 arg4 harg4 arg5 harg5 arg6 harg6 arg7 harg7 arg8 harg8 arg9 harg9 arg10 harg10 arg11 harg11 arg12 harg12 arg13 h0 K)
        iintro %v
        iapply HK $$ [] HF H1 H11 HI
        ipureintro; exact hU (by omega)))
    isplitl [HF HI H1 H11]
    · isplitl [HF]; · iexact HF
      isplitl [HI]; · iexact HI
      isplitl [H1]; · iexact H1
      iexact H11
    isplitl [HO]; · iexact HO
    isplitl [H4]; · iexact H4
    isplitl [H5]; · iexact H5
    isplitl [H6]; · iexact H6
    isplitl [H8]; · iexact H8
    iexact H12
  iintro %_ ⟨HI, HF, H1, ⟨%g11, %hV, H11⟩, HO, H4, H5, H6, H8, H12⟩
  isplitl [HI HF H9 H10 H1 H11 H8 H12]
  · isplitl [HI HF]
    · iapply (free_of c arg3 arg7 arg13 fq ((i 0).val % 2) hs0)
      isplitl [HI]; · iexact HI
      iexact HF
    isplitl [H1]; · iexact H1
    isplitl [H8]; · iexact H8
    isplitl [H9]; · iexact H9
    isplitl [H10]; · iexact H10
    isplitl [H11]
    · iexists g11; isplitr; · ipureintro; exact fun _ => hV
      iexact H11
    iexact H12
  isplitl [HO]; · iexact HO
  isplitl [H2]; · iexact H2
  isplitl [H4]; · iexact H4
  isplitl [H5]; · iexact H5
  iexact H6

include hP hj in
/-- A point. -/
theorem step (hX : (i 0).val = 0 → arg2.view.read (Elt F) f2 = X) :
    iprop(Held c arg1 arg3 arg7 arg8 arg9 arg10 arg11 arg12 arg13 fq P X f1 (i 0).val ∗ owes (c : Thread nD τ) 0 W ∗ pts c arg2 f2 ∗ pts c arg4 f4 ∗ pts c arg5 f5 ∗ pts c arg6 f6)
    ⊢ wp frame (wpE (defs₀ (F := F)) 𝒱 (c : Thread nD τ) bd) Set.univ (cc0_gptq_linear i arg1 harg1 arg2 harg2 arg3 harg3 arg4 harg4 arg5 harg5 arg6 harg6 arg7 harg7 arg8 harg8 arg9 harg9 arg10 harg10 arg11 harg11 arg12 harg12 arg13)
      (fun _ => iprop(Held c arg1 arg3 arg7 arg8 arg9 arg10 arg11 arg12 arg13 fq P X f1 ((i 0).val + 1) ∗ Left c arg2 arg3 arg4 arg5 arg6 fq P X j f2 f4 f5)) := by
  have hn : (i 0).val < 14 := hj ▸ j.isLt
  by_cases h0 : (i 0).val = 0
  · rw [h0]
    exact step_first 𝒱 c bd i arg1 harg1 arg2 harg2 arg3 harg3 arg4 harg4 arg5 harg5 arg6 harg6 arg7 harg7 arg8 harg8 arg9 harg9 arg10 harg10 arg11 harg11 arg12 harg12 arg13 fq P X f1 hP W j hj f2 f4 f5 f6 h0 (hX h0)
  by_cases h13 : (i 0).val + 1 < 14
  · exact step_mid 𝒱 c bd i arg1 harg1 arg2 harg2 arg3 harg3 arg4 harg4 arg5 harg5 arg6 harg6 arg7 harg7 arg8 harg8 arg9 harg9 arg10 harg10 arg11 harg11 arg12 harg12 arg13 fq P X f1 hP W j hj f2 f4 f5 f6 h0 h13
  · exact step_last 𝒱 c bd i arg1 harg1 arg2 harg2 arg3 harg3 arg4 harg4 arg5 harg5 arg6 harg6 arg7 harg7 arg8 harg8 arg9 harg9 arg10 harg10 arg11 harg11 arg12 harg12 arg13 fq P X f1 hP W j hj f2 f4 f5 f6 (by omega)

end

end

end Cert.KernelIdeal.Hand
-- ==== Proof.KernI.Entry.lean ====
/-
  What the buffers hold when the kernel's region is entered: the table is the stable sort's permutation of the row
  numbers, the activations and the packed weights are the arguments rearranged.
-/
module

public import Idealize.ShloMosaic.Lib.SortFacts
public import Idealize.ShloMosaic.Lib.Pipeline.Frame
public import proofs.«01_k».proof.Proof.Gen.KernelIdeal.Launch
public import proofs.«01_k».proof.Proof.KernI.Quad
public import proofs.«01_k».proof.Proof.KernI.Column
public import proofs.«01_k».proof.Proof.KernI.Dma
public import proofs.«01_k».proof.Proof.KernI.Slots
public import proofs.«01_k».proof.Proof.KernI.Body
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand

variable {F : FTy → Type} [FloatOps F]

/-- The proof's user algebra: the pipeline library's beside the transfers' counters. -/
local notation "𝕄" => MT nD τ sig Unit (Elt F) ℕ (Pipeline.UD sig nD τ) ℕ

/-! ## The buffers when the kernel's region is entered -/

variable (m : (ℓ : Loc nD τ sig) → Buf (Elt F) ℓ) (ρ : Dev nD → PrngReg)

/-- The host's operations before the kernel. -/
abbrev ops : List (List (HloOp τ sig (Elt F))) := [hostOps0, hostOps0_1]

/-- The buffers' contents at entry. -/
def V (c : Dev nD) (b : Ref sig .tc) : Buf (Elt F) ((c : Thread nD τ).loc b) :=
  StableHlo.after (ops (F := F)).flatten (fun b => m (c, b)) b

theorem V_of_ne (c : Dev nD) (b : Ref sig .tc) (h : ∀ op ∈ (ops (F := F)).flatten, (Proc.devRef .tc b : DevRef τ sig) ∉ op.writes) :
    V m c b = m ((c : Thread nD τ).loc b) :=
  StableHlo.after_of_forall_not_mem _ _ h

theorem V_arg0 (c : Dev nD) : V m c main_arg0 = m ((c : Thread nD τ).loc main_arg0) :=
  V_of_ne m c main_arg0 (fun op h => by
    simp only [ops, hostOps0, hostOps0_1, List.flatten_cons, List.flatten_nil, List.append_nil, List.cons_append, List.nil_append, List.mem_cons, List.not_mem_nil, or_false] at h
    rcases h with rfl | rfl | rfl | rfl | rfl | rfl | rfl <;> exact fun h => absurd (Finset.mem_singleton.mp h) (by decide))
theorem V_arg1 (c : Dev nD) : V m c main_arg1 = m ((c : Thread nD τ).loc main_arg1) :=
  V_of_ne m c main_arg1 (fun op h => by
    simp only [ops, hostOps0, hostOps0_1, List.flatten_cons, List.flatten_nil, List.append_nil, List.cons_append, List.nil_append, List.mem_cons, List.not_mem_nil, or_false] at h
    rcases h with rfl | rfl | rfl | rfl | rfl | rfl | rfl <;> exact fun h => absurd (Finset.mem_singleton.mp h) (by decide))
theorem V_arg2 (c : Dev nD) : V m c main_arg2 = m ((c : Thread nD τ).loc main_arg2) :=
  V_of_ne m c main_arg2 (fun op h => by
    simp only [ops, hostOps0, hostOps0_1, List.flatten_cons, List.flatten_nil, List.append_nil, List.cons_append, List.nil_append, List.mem_cons, List.not_mem_nil, or_false] at h
    rcases h with rfl | rfl | rfl | rfl | rfl | rfl | rfl <;> exact fun h => absurd (Finset.mem_singleton.mp h) (by decide))
theorem V_arg3 (c : Dev nD) : V m c main_arg3 = m ((c : Thread nD τ).loc main_arg3) :=
  V_of_ne m c main_arg3 (fun op h => by
    simp only [ops, hostOps0, hostOps0_1, List.flatten_cons, List.flatten_nil, List.append_nil, List.cons_append, List.nil_append, List.mem_cons, List.not_mem_nil, or_false] at h
    rcases h with rfl | rfl | rfl | rfl | rfl | rfl | rfl <;> exact fun h => absurd (Finset.mem_singleton.mp h) (by decide))
theorem V_arg4 (c : Dev nD) : V m c main_arg4 = m ((c : Thread nD τ).loc main_arg4) :=
  V_of_ne m c main_arg4 (fun op h => by
    simp only [ops, hostOps0, hostOps0_1, List.flatten_cons, List.flatten_nil, List.append_nil, List.cons_append, List.nil_append, List.mem_cons, List.not_mem_nil, or_false] at h
    rcases h with rfl | rfl | rfl | rfl | rfl | rfl | rfl <;> exact fun h => absurd (Finset.mem_singleton.mp h) (by decide))

/-- The table at entry: the row numbers carried along by the sort of the group indices. -/
theorem V_v0 (c : Dev nD) : V m c main_v0
    = (Host.sort2 S4096 0 comparator_i32_i32_d0 (m ((c : Thread nD τ).loc main_arg4)) (iotaInDim S4096 32 0)).2 := by
  unfold V ops
  simp only [List.flatten_cons, List.flatten_nil, List.append_nil, List.cons_append, List.nil_append]
  rfl

/-- The activations at entry: the argument at its two-axis shape. -/
theorem V_v1 (c : Dev nD) : V m c main_v1 = shapeCast S192x4096 (m ((c : Thread nD τ).loc main_arg0)) shapeCasts_S192x1x4096_S192x4096 := by
  unfold V ops
  simp only [List.flatten_cons, List.flatten_nil, List.append_nil, List.cons_append, List.nil_append]
  rfl

/-- The packed weights at entry: four rows' bytes a word. -/
theorem V_v4 (c : Dev nD) : V m c main_v4 = Host.bitcastConvertWiden S1024x14336 32
    (transpose S1024x14336x4 [0, 2, 1] (shapeCast S1024x4x14336 (m ((c : Thread nD τ).loc main_arg1)) shapeCasts_S4096x14336_S1024x4x14336) transposes_S1024x4x14336_S1024x14336x4_0_2_1)
    splits_S1024x14336_w32_S1024x14336x4_w8 := by
  unfold V ops
  simp only [List.flatten_cons, List.flatten_nil, List.append_nil, List.cons_append, List.nil_append]
  rfl

/-! ## The row numbers in sorted order -/

omit [FloatOps F] in
/-- The word of the iota at `k`. -/
theorem iota_at (k : Fin 4096) : (iotaInDim S4096 32 0 (ix1 k) : BitVec 32) = BitVec.ofNat 32 k.val := rfl

/-- Row `p` of the sorted order: a stable sort of the rows by their group index. -/
def perm (g : Vec F S4096 .i32) : Fin 4096 → Fin 4096 := fun p =>
  sortedFrom (fun k k' => comparator_i32_i32_d0 (g (ix1 k), iotaInDim S4096 32 0 (ix1 k)) (g (ix1 k'), iotaInDim S4096 32 0 (ix1 k')) == 1#1) p

omit [FloatOps F] in
theorem along_ix1 (j : S4096.Idx) (k : Fin 4096) : j.along (0 : Fin 1) k = ix1 k := by
  rw [Shape.Idx.along_rank1]
  exact eq_ix1 _

omit [FloatOps F] in
theorem table_perm (g : Vec F S4096 .i32) :
    Table (F := F) (perm g) (Host.sort2 S4096 0 comparator_i32_i32_d0 g (iotaInDim S4096 32 0)).2 := by
  intro p
  have hA : ∀ k, (ix1 p : S4096.Idx).along (⟨0, Nat.one_pos⟩ : Fin S4096.rank) k = ix1 k := fun k => along_ix1 _ k
  unfold Host.sort2
  refine (congrArg (iotaInDim S4096 32 0) (hA _)).trans ?_
  exact congrArg (fun b : Fin 4096 → Fin 4096 → Bool => BitVec.ofNat 32 (sortedFrom b p).val)
    (funext fun k => funext fun k' => congrArg₂ (fun a b => comparator_i32_i32_d0 (g a, iotaInDim S4096 32 0 a) (g b, iotaInDim S4096 32 0 b) == 1#1) (hA k) (hA k'))

end Cert.KernelIdeal.Hand
-- ==== Proof.KernI.Run.lean ====
/-
  The kernel's run: the pipeline's data, a point's body against them, and what holds at entry and at exit.
-/
module

public import proofs.«01_k».proof.Proof.KernI.State
public import proofs.«01_k».proof.Proof.KernI.Entry
public import Idealize.ShloMosaic.Lib.Pipeline.Frame
public import proofs.«01_k».proof.Proof.Gen.KernelIdeal.Launch
public import proofs.«01_k».proof.Proof.KernI.Quad
public import proofs.«01_k».proof.Proof.KernI.Column
public import proofs.«01_k».proof.Proof.KernI.Dma
public import proofs.«01_k».proof.Proof.KernI.Slots
public import proofs.«01_k».proof.Proof.KernI.Body
public import Idealize.ShloMosaic.Lib.Pipeline.FrameBody
public import Idealize.ShloMosaic.Lib.Tactic
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Hand
open Idealize.ShloMosaic.Pipeline (Dat BodyObligation)

variable {F : FTy → Type} [FloatOps F]

/-- The proof's user algebra: the pipeline library's beside the transfers' counters. -/
local notation "𝕄" => MT nD τ sig Unit (Elt F) ℕ (Pipeline.UD sig nD τ) ℕ

/-! ## Whole buffers and their parts -/

omit [FloatOps F] in
theorem pts_whole (c : Dev nD) (b : Ref sig .tc) (f : Buf (Elt F) ((c : Thread nD τ).loc b)) :
    (pts c (Memref.whole b) f : sProp 𝕄) = (((c : Thread nD τ).loc b) ↦{fullShare} f) := by
  show (((c : Thread nD τ).loc b) ↦[(View.whole b).set]{fullShare} f : sProp 𝕄) = _
  rw [View.set_whole]

omit [FloatOps F] in
theorem ptsT_whole (c : Dev nD) (b : Ref sig .tc) (f : Buf (Elt F) ((c : Thread nD τ).loc b)) :
    (ptsT c (Memref.whole b) f : sProp 𝕄) = (((c : Thread nD τ).loc b) ↦{fullShare.right} f) := by
  show (((c : Thread nD τ).loc b) ↦[(View.whole b).set]{fullShare.right} f : sProp 𝕄) = _
  rw [View.set_whole]

section
variable (c : Dev nD) (arg3 : Memref sig .tc .hbm S1024x14336 .i32) (arg7 : Memref sig .tc .vmem S2x1024x8x128 .i32) (arg13 : DmaSems sig S2)

theorem slot_univ : (slotRect 0 (by decide)).set ∪ (slotRect 1 (by decide)).set = (Finset.univ : Finset S2x1024x8x128.Idx) := by
  refine Finset.eq_univ_iff_forall.mpr fun y => ?_
  have h0 : (y 0).val < 2 := (y 0).isLt
  have hm : ∀ s (hs : s < 2), (y 0).val = s → y ∈ (slotRect s hs).set := fun s hs e => by
    refine (LoadRect.mem_set _).mpr fun a => ?_
    match a with
    | ⟨0, _⟩ => exact ⟨0, Nat.one_pos, by show (y 0).val = s + 1 * 0; omega⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩
    | ⟨3, _⟩ => exact ⟨(y 3).val, (y 3).isLt, by show (y 3).val = 0 + 1 * (y 3).val; omega⟩
  have : (y 0).val = 0 ∨ (y 0).val = 1 := by omega
  rcases this with h | h
  · exact Finset.mem_union_left _ (hm 0 _ h)
  · exact Finset.mem_union_right _ (hm 1 _ h)

theorem slot_disj : Disjoint (slotRect 0 (by decide)).set (slotRect 1 (by decide)).set := by
  refine Finset.disjoint_left.mpr fun y h0 h1 => ?_
  obtain ⟨x, hx, ex⟩ := (LoadRect.mem_set _).mp h0 0
  obtain ⟨x', hx', ex'⟩ := (LoadRect.mem_set _).mp h1 0
  have hx1 : x < 1 := hx
  have hx1' : x' < 1 := hx'
  have e : (y 0).val = 0 + 1 * x := ex
  have e' : (y 0).val = 1 + 1 * x' := ex'
  omega

theorem slots_set : (arg7.view.set : Finset (Idx (arg7.view.loc (c : Thread nD τ))))
    = arg7.view.setOn (slotRect 0 (by decide)).set ∪ arg7.view.setOn (slotRect 1 (by decide)).set := by
  show Finset.map _ Finset.univ = Finset.map _ _ ∪ Finset.map _ _
  rw [← slot_univ, Finset.map_union]

theorem slots_disj : Disjoint (arg7.view.setOn (slotRect 0 (by decide)).set : Finset (Idx (arg7.view.loc (c : Thread nD τ))))
    (arg7.view.setOn (slotRect 1 (by decide)).set) :=
  (Finset.disjoint_map _).mpr slot_disj

/-- Both slots free, from the scratch, the two cells and the packed weights. -/
theorem free_open (fq : Buf (Elt F) (arg3.view.loc (c : Thread nD τ))) (f7 : Buf (Elt F) (arg7.view.loc (c : Thread nD τ))) :
    iprop(pts c arg7 f7 ∗ semVal ((c : Thread nD τ), SemLoc.dma (cellW arg13 0 (by decide))) 0 ∗ semVal ((c : Thread nD τ), SemLoc.dma (cellW arg13 1 (by decide))) 0
      ∗ pts c arg3 fq) ⊢ Free c arg3 arg7 arg13 fq := by
  unfold Free Idle
  rw [show (pts c arg7 f7 : sProp 𝕄) = (arg7.view.loc (c : Thread nD τ) ↦[arg7.view.setOn (slotRect 0 (by decide)).set ∪ arg7.view.setOn (slotRect 1 (by decide)).set]{fullShare} f7) from by
    rw [← slots_set arg7]]
  iintro ⟨H7, HS0, HS1, HQ⟩
  ihave H7 := (pointsTo_union (slots_disj arg7)).1 $$ H7
  icases H7 with ⟨HA, HB⟩
  ihave HQ := (pointsTo_share (PosShare.mem_left_op_right fullShare)).1 $$ HQ
  icases HQ with ⟨HL, HR⟩
  isplitl [HA HS0 HL]
  · isplitl [HA]; · iexists f7; iexact HA
    isplitl [HS0]; · iexact HS0
    iexact HL
  isplitl [HB]; · iexists f7; iexact HB
  isplitl [HS1]; · iexact HS1
  iexact HR

theorem slots_join (f g : Buf (Elt F) (arg7.view.loc (c : Thread nD τ))) :
    iprop(ptsS c arg7 0 (by decide) f ∗ ptsS c arg7 1 (by decide) g) ⊢ (iprop(∃ f7 : Buf (Elt F) (arg7.view.loc (c : Thread nD τ)), pts c arg7 f7) : sProp 𝕄) :=
  (pointsTo_join (slots_disj arg7)).trans (by
    rw [← slots_set arg7]
    iintro H
    iexists _
    iexact H)

/-- And back. -/
theorem free_close (fq : Buf (Elt F) (arg3.view.loc (c : Thread nD τ))) :
    Free c arg3 arg7 arg13 fq ⊢ iprop((∃ f7 : Buf (Elt F) (arg7.view.loc (c : Thread nD τ)), pts c arg7 f7) ∗ semVal ((c : Thread nD τ), SemLoc.dma (cellW arg13 0 (by decide))) 0
      ∗ semVal ((c : Thread nD τ), SemLoc.dma (cellW arg13 1 (by decide))) 0 ∗ pts c arg3 fq) := by
  unfold Free Idle
  iintro ⟨⟨⟨%f, HA⟩, HS0, HL⟩, ⟨%g, HB⟩, HS1, HR⟩
  isplitl [HA HB]
  · iapply (slots_join c arg7 f g)
    isplitl [HA]; · iexact HA
    iexact HB
  isplitl [HS0]; · iexact HS0
  isplitl [HS1]; · iexact HS1
  iapply (pointsTo_share (PosShare.mem_left_op_right fullShare)).2
  isplitl [HL]; · iexact HL
  iexact HR

end

/-! ## The pipeline's data -/

variable (m : (ℓ : Loc nD τ sig) → Buf (Elt F) ℓ) (ρ : Dev nD → PrngReg)

/-- The table the pipeline runs at. -/
def adm : (p : Fin 1) → (pcfgs (F := F) p).Adm := fun _ => ⟨fun k => V m 0 (pre0.ref k), trivial⟩

/-- The kernel's own cells: the two slots'. -/
abbrev osem0 : Fin 2 → SemLoc sig := ![.dma 7, .dma 8]
theorem ownSemFacts0 : Pipeline.OwnSemFacts spec0 osem0 := by decide
/-- The packed weights, which the kernel copies from itself. -/
abbrev H0 : Finset (Ref sig .tc) := {main_v4}
theorem H0_sub : H0 ⊆ Pipeline.restRefsP sig pre0 spec0 := by decide

theorem cell_0 : SemLoc.dma (cellW cc0_scratch6 0 (by decide)) = osem0 0 := by decide
theorem cell_1 : SemLoc.dma (cellW cc0_scratch6 1 (by decide)) = osem0 1 := by decide

/-- The windowed arrays at entry. -/
abbrev A0 (c : Dev nD) (w : Fin (cfg0 (adm m 0)).W) : Buf (Elt F) (((cfg0 (adm m 0)).win w).arr.view.loc (c.tc : Thread nD τ)) :=
  V m c (Pipeline.arrRef spec0 w)

/-- An input window's contents at a point. -/
abbrev held0 (c : Dev nD) (w : Fin (cfg0 (adm m 0)).W) (t : Fin (cfg0 (adm m 0)).N) := Pipeline.heldIn (c := c) (cfg0 (adm m 0)) (A0 m c) w t.val t.isLt

/-- The order of the rows. -/
abbrev P0 (c : Dev nD) : Fin 4096 → Fin 4096 := perm (m ((c : Thread nD τ).loc main_arg4) : Vec F S4096 .i32)
/-- The activations, as words. -/
abbrev X0 (c : Dev nD) : Vec F S192x4096 .i16 := held0 m c 0 ⟨0, by show 0 < grid0.N; rw [N_0]; decide⟩
/-- The packed weights, as words. -/
abbrev Q0 (c : Dev nD) : Vec F S1024x14336 .i32 := (Memref.whole main_v4).view.read (Elt F) (V m c main_v4)

/-- The result's block at a point. -/
def out0 (c : Dev nD) (t : Fin (cfg0 (adm m 0)).N) : Vec F S192x2048 .bf16 :=
  outC (P0 m c) (held0 m c 1 t) (held0 m c 2 t) (Q0 m c) (X0 m c) ⟨t.val, lt_of_lt_of_eq t.isLt N_0⟩

/-- What the core holds before point `n`. -/
def Phi (c : Dev nD) (n : ℕ) : sProp 𝕄 :=
  iprop(Held c (Memref.whole main_v0) (Memref.whole main_v4) (Memref.whole cc0_scratch0) (Memref.whole cc0_scratch1) (Memref.whole cc0_scratch2)
      (Memref.whole cc0_scratch3) (Memref.whole cc0_scratch4) (Memref.whole cc0_scratch5) cc0_scratch6 (V m c main_v4) (P0 m c) (X0 m c) (V m c main_v0) n
    ∗ (∃ r, prngReg c r))

def dats (_ : Fin 1) (c : Dev nD) : Dat τ (Elt F) Unit ℕ (Pipeline.UD sig nD τ) ℕ (cfg0 (adm m 0)) c where
  A w := A0 m c w
  after w t := match w with
    | ⟨0, _⟩ => held0 m c 0 t
    | ⟨1, _⟩ => held0 m c 1 t
    | ⟨2, _⟩ => held0 m c 2 t
    | ⟨3, _⟩ => out0 m c t
  Φ n := Phi m c n.val
  q _ := fullShare
  owed _ := 0

theorem A_eq (c : Dev nD) (w : Fin (cfg0 (adm m 0)).W) : (dats m 0 c).A w = V m c (Pipeline.arrRef spec0 w) := by
  dsimp only [dats]
theorem after0_0 (c : Dev nD) (t : Fin (cfg0 (adm m 0)).N) : (dats m 0 c).after 0 t = held0 m c 0 t := rfl
theorem after0_1 (c : Dev nD) (t : Fin (cfg0 (adm m 0)).N) : (dats m 0 c).after 1 t = held0 m c 1 t := rfl
theorem after0_2 (c : Dev nD) (t : Fin (cfg0 (adm m 0)).N) : (dats m 0 c).after 2 t = held0 m c 2 t := rfl
theorem after0_3 (c : Dev nD) (t : Fin (cfg0 (adm m 0)).N) : (dats m 0 c).after 3 t = out0 m c t := rfl

theorem before0_0 (c : Dev nD) (t : Fin (cfg0 (adm m 0)).N) (d) : (dats m 0 c).before 0 t d = held0 m c 0 t :=
  Dat.before_eq_heldIn (dats m 0 c) 0 rfl (fun _ => rfl) (fun _ _ => rfl) (after0_0 m c) t d
theorem before0_1 (c : Dev nD) (t : Fin (cfg0 (adm m 0)).N) (d) : (dats m 0 c).before 1 t d = held0 m c 1 t :=
  Dat.before_eq_heldIn (dats m 0 c) 1 rfl (fun _ => rfl) (fun _ _ => rfl) (after0_1 m c) t d
theorem before0_2 (c : Dev nD) (t : Fin (cfg0 (adm m 0)).N) (d) : (dats m 0 c).before 2 t d = held0 m c 2 t :=
  Dat.before_eq_heldIn (dats m 0 c) 2 rfl (fun _ => rfl) (fun _ _ => rfl) (after0_2 m c) t d

/-! ## A point's body -/

abbrev ms0_0 (t : Fin (cfg0 (adm m 0)).N) : Memref sig .tc .vmem S192x4096 .i16 := spec0_0.stage ((cfg0 (adm m 0)).slots t 0)
abbrev ms0_1 (t : Fin (cfg0 (adm m 0)).N) : Memref sig .tc .vmem S32x2048 .i16 := spec0_1.stage ((cfg0 (adm m 0)).slots t 1)
abbrev ms0_2 (t : Fin (cfg0 (adm m 0)).N) : Memref sig .tc .vmem S16x2048 .i8 := spec0_2.stage ((cfg0 (adm m 0)).slots t 2)
abbrev ms0_3 (t : Fin (cfg0 (adm m 0)).N) : Memref sig .tc .vmem S192x2048 .bf16 := spec0_3.stage ((cfg0 (adm m 0)).slots t 3)

def bodyAt0 (t : Fin (cfg0 (adm m 0)).N) : Prog (TpuEff nD τ sig (Elt F) Λ₀ .tc) PUnit :=
  cc0_gptq_linear (grid0.coords t) (Memref.whole main_v0) (Memref.isWhole_whole _) (ms0_0 m t) (hstage0_0 (((cfg0 (adm m 0)).slots t 0).cast nbuf0_0))
    (Memref.whole main_v4) (Memref.isWhole_whole _) (ms0_1 m t) (hstage0_1 (((cfg0 (adm m 0)).slots t 1).cast nbuf0_1))
    (ms0_2 m t) (hstage0_2 (((cfg0 (adm m 0)).slots t 2).cast nbuf0_2)) (ms0_3 m t) (hstage0_3 (((cfg0 (adm m 0)).slots t 3).cast nbuf0_3))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) cc0_scratch6

theorem defs₀_row (t : Fin (cfg0 (adm m 0)).N) :
    defs₀ (F := F) .tc (cfg0 (adm m 0)).body ((cfg0 (adm m 0)).bodyArgs t ((cfg0 (adm m 0)).slots t)) = bodyAt0 m t := by
  unfold defs₀; rw [Defs.onTc_tc]; rfl

def bodyPre (c : Dev nD) (t : Fin (cfg0 (adm m 0)).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d)))
def bodyPost (c : Dev nD) (t : Fin (cfg0 (adm m 0)).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t))

theorem coords0 : ∀ t : Fin grid0.N, (grid0.coords t 0).val = t.val := by decide

theorem table0 (c : Dev nD) : Table (P0 m c) ((Memref.whole main_v0).view.read (Elt F) (V m c main_v0)) := by
  have e : (Memref.whole main_v0).view.read (Elt F) (V m c main_v0) = V m c main_v0 := rfl
  rw [e, V_v0]
  exact table_perm _

theorem held_first (c : Dev nD) (t : Fin (cfg0 (adm m 0)).N) (h : t.val = 0) : held0 m c 0 t = X0 m c := by
  obtain ⟨n, hn⟩ := t
  have e : n = 0 := h
  subst e
  rfl

theorem sound_body (c : Dev nD) (t : Fin (cfg0 (adm m 0)).N) :
    bodyPre m c t ⊢ wp frame (wpE (defs₀ (F := F)) Variants.none c none) Set.univ (bodyAt0 m t) (fun _ => bodyPost m c t) := by
  have hc : (grid0.coords t 0).val = t.val := coords0 t
  unfold bodyPre bodyPost bodyAt0
  rw [show (dats m 0 c).Φ t.castSucc = Phi m c (grid0.coords t 0).val from congrArg (Phi m c) hc.symm,
    show (dats m 0 c).Φ t.succ = Phi m c ((grid0.coords t 0).val + 1) from congrArg (Phi m c) (by rw [hc]; rfl),
    after0_0, after0_1, after0_2, after0_3]
  simp only [before0_0, before0_1, before0_2]
  unfold Dat.owesAt Pipeline.owesWithin
  rw [show (dats m 0 c).owed t.castSucc = 0 from rfl, show (dats m 0 c).owed t.succ = 0 from rfl]
  unfold Phi owns
  iintro ⟨⟨HH, Hg⟩, ⟨%W, -, HW⟩, ⟨%d0, %f2, %e2, H2⟩, ⟨%d1, %f4, %e4, H4⟩, ⟨%d2, %f5, %e5, H5⟩, ⟨%d3, %f6, %e6, H6⟩⟩
  iapply (wp_wand_r frame (wpE (defs₀ (F := F)) Variants.none (c : Thread nD τ) none) Set.univ)
  isplitl [HH HW H2 H4 H5 H6]
  · iapply (step Variants.none c none (grid0.coords t) (Memref.whole main_v0) (Memref.isWhole_whole _) (ms0_0 m t) (hstage0_0 (((cfg0 (adm m 0)).slots t 0).cast nbuf0_0))
      (Memref.whole main_v4) (Memref.isWhole_whole _) (ms0_1 m t) (hstage0_1 (((cfg0 (adm m 0)).slots t 1).cast nbuf0_1))
      (ms0_2 m t) (hstage0_2 (((cfg0 (adm m 0)).slots t 2).cast nbuf0_2)) (ms0_3 m t) (hstage0_3 (((cfg0 (adm m 0)).slots t 3).cast nbuf0_3))
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _) cc0_scratch6
      (V m c main_v4) (P0 m c) (X0 m c) (V m c main_v0) (table0 m c) W ⟨t.val, lt_of_lt_of_eq t.isLt N_0⟩ hc.symm f2 f4 f5 f6
      (fun h => e2.trans (held_first m c t (hc.symm.trans h))))
    isplitl [HH]; · iexact HH
    isplitl [HW]; · iexact HW
    isplitl [H2]; · iexact H2
    isplitl [H4]; · iexact H4
    isplitl [H5]; · iexact H5
    iexact H6
  iintro %_ ⟨HH, HL⟩
  ihave HL := (show Left c (ms0_0 m t) (Memref.whole main_v4) (ms0_1 m t) (ms0_2 m t) (ms0_3 m t) (V m c main_v4) (P0 m c) (X0 m c) ⟨t.val, lt_of_lt_of_eq t.isLt N_0⟩ f2 f4 f5
    ⊢ iprop((∃ W', owes (c : Thread nD τ) 0 W') ∗ pts c (ms0_0 m t) f2 ∗ pts c (ms0_1 m t) f4 ∗ pts c (ms0_2 m t) f5
    ∗ (∃ f6' : Buf (Elt F) ((ms0_3 m t).view.loc (c : Thread nD τ)), ⌜(ms0_3 m t).view.read (Elt F) f6' = outC (P0 m c) ((ms0_1 m t).view.read (Elt F) f4) ((ms0_2 m t).view.read (Elt F) f5) ((Memref.whole main_v4).view.read (Elt F) (V m c main_v4)) (X0 m c) ⟨t.val, lt_of_lt_of_eq t.isLt N_0⟩⌝ ∗ pts c (ms0_3 m t) f6')) from .rfl) $$ HL
  icases HL with ⟨⟨%W', HW⟩, H2, H4, H5, ⟨%g6, %eg, H6⟩⟩
  isplitl [HH Hg]
  · isplitl [HH]; · iexact HH
    iexact Hg
  isplitl [HW]
  · iexists W'; isplitr; · ipureintro; exact fun _ _ => Or.inl trivial
    iexact HW
  isplitl [H2]
  · iexists f2; isplitr; · ipureintro; exact e2
    iexact H2
  isplitl [H4]
  · iexists f4; isplitr; · ipureintro; exact e4
    iexact H4
  isplitl [H5]
  · iexists f5; isplitr; · ipureintro; exact e5
    iexact H5
  iexists g6; isplitr
  · ipureintro; rw [eg, e4, e5]; rfl
  iexact H6

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Entry and exit -/

theorem own_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma (cellW cc0_scratch6 0 (by decide))) 0 ∗ semVal ((c : Thread nD τ), SemLoc.dma (cellW cc0_scratch6 1 (by decide))) 0) := by
  rw [cell_0, cell_1]
  exact (Pipeline.ownSems0_eq_of_list c osem0 [0, 1] (by decide) (by decide)).trans rfl

theorem H0_list : H0 = [main_v4].toFinset := by decide
theorem pre_ref : pre0.ref 0 = main_v0 := rfl

theorem at_ref (c : Dev nD) (q : PosShare TreeShare) {b b' : Ref sig .tc} (e : b = b') :
    ((((c : Thread nD τ).loc b) ↦{q} V m c b) : sProp 𝕄) = (((c : Thread nD τ).loc b') ↦{q} V m c b') := by subst e; rfl

theorem packed_eq (c : Dev nD) : (bigSep H0 (fun b => (((c : Thread nD τ).loc b) ↦{fullShare} V m c b)) : sProp 𝕄) = (((c : Thread nD τ).loc main_v4) ↦{fullShare} V m c main_v4) :=
  (BI.bigSep_eq_bigSepL_of_eq [main_v4] H0_list (List.nodup_singleton _) _).trans rfl

theorem tables_at : (Pipeline.ΦT (τ := τ) pre0 (adm m 0).1 0 : sProp 𝕄) = ((((0 : Dev nD) : Thread nD τ).loc (pre0.ref 0)) ↦{fullShare.right} V m 0 (pre0.ref 0)) := by
  have hV : (adm m 0).1 = fun k => V m 0 (pre0.ref k) := rfl
  unfold Pipeline.ΦT Pipeline.prefHeld
  rw [hV]
  exact (congrArg (fun S : Finset (Fin 1) => bigSep S _) (Finset.univ_unique (α := Fin 1))).trans bigSep_singleton

theorem tables_eq : (Pipeline.ΦT (τ := τ) pre0 (adm m 0).1 0 : sProp 𝕄) = (((0 : Dev nD) : Thread nD τ).loc main_v0 ↦{fullShare.right} V m 0 main_v0) :=
  (tables_at m).trans (at_ref m 0 fullShare.right pre_ref)

theorem phi_in (c : Dev nD) : iprop(Pipeline.ΦD osem0 spec0 H0 (V m) c ∗ Pipeline.ΦT pre0 (adm m 0).1 c) ⊢ (Phi m c 0 : sProp 𝕄) := by
  have hc : c = 0 := Subsingleton.elim _ _
  subst hc
  rw [Pipeline.ΦD_eq, scopedRest0_eq, own_eq, packed_eq, tables_eq]
  unfold Phi Held
  rw [slots_free _ _ _ _ _ (.inl rfl)]
  iintro ⟨⟨⟨⟨%f7, H7⟩, ⟨%f8, H8⟩, ⟨%f9, H9⟩, ⟨%f10, H10⟩, ⟨%f11, H11⟩, ⟨%f12, H12⟩⟩, Hg, ⟨HS0, HS1⟩, HQ⟩, HT⟩
  ihave H7 := (Entails.of_eq (pts_whole 0 cc0_scratch0 f7).symm) $$ H7
  ihave H8 := (Entails.of_eq (pts_whole 0 cc0_scratch1 f8).symm) $$ H8
  ihave H9 := (Entails.of_eq (pts_whole 0 cc0_scratch2 f9).symm) $$ H9
  ihave H10 := (Entails.of_eq (pts_whole 0 cc0_scratch3 f10).symm) $$ H10
  ihave H11 := (Entails.of_eq (pts_whole 0 cc0_scratch4 f11).symm) $$ H11
  ihave H12 := (Entails.of_eq (pts_whole 0 cc0_scratch5 f12).symm) $$ H12
  ihave HQ := (Entails.of_eq (pts_whole 0 main_v4 (V m 0 main_v4)).symm) $$ HQ
  ihave HT := (Entails.of_eq (ptsT_whole 0 main_v0 (V m 0 main_v0)).symm) $$ HT
  isplitr [Hg]
  · isplitl [H7 HS0 HS1 HQ]
    · iapply (free_open 0 (Memref.whole main_v4) (Memref.whole cc0_scratch0) cc0_scratch6 (V m 0 main_v4) f7)
      isplitl [H7]; · iexact H7
      isplitl [HS0]; · iexact HS0
      isplitl [HS1]; · iexact HS1
      iexact HQ
    isplitl [HT]; · iexact HT
    isplitl [H8]; · iexists f8; iexact H8
    isplitl [H9]; · iexists f9; iexact H9
    isplitl [H10]; · iexists f10; iexact H10
    isplitl [H11]
    · iexists f11; isplitr; · ipureintro; exact fun h => absurd rfl h
      iexact H11
    iexists f12; iexact H12
  iexact Hg

theorem phi_out (c : Dev nD) : (Phi m c 14 : sProp 𝕄) ⊢ Pipeline.ΦD osem0 spec0 H0 (V m) c := by
  rw [Pipeline.ΦD_eq, scopedRest0_eq, own_eq, packed_eq]
  unfold Phi Held
  rw [slots_free _ _ _ _ _ (.inr rfl)]
  iintro ⟨⟨HF, -, ⟨%f8, H8⟩, ⟨%f9, H9⟩, ⟨%f10, H10⟩, ⟨%f11, -, H11⟩, ⟨%f12, H12⟩⟩, Hg⟩
  ihave HF := (free_close c (Memref.whole main_v4) (Memref.whole cc0_scratch0) cc0_scratch6 (V m c main_v4)) $$ HF
  icases HF with ⟨⟨%f7, H7⟩, HS0, HS1, HQ⟩
  ihave H7 := (Entails.of_eq (pts_whole c cc0_scratch0 f7)) $$ H7
  ihave H8 := (Entails.of_eq (pts_whole c cc0_scratch1 f8)) $$ H8
  ihave H9 := (Entails.of_eq (pts_whole c cc0_scratch2 f9)) $$ H9
  ihave H10 := (Entails.of_eq (pts_whole c cc0_scratch3 f10)) $$ H10
  ihave H11 := (Entails.of_eq (pts_whole c cc0_scratch4 f11)) $$ H11
  ihave H12 := (Entails.of_eq (pts_whole c cc0_scratch5 f12)) $$ H12
  ihave HQ := (Entails.of_eq (pts_whole c main_v4 (V m c main_v4))) $$ HQ
  isplitl [H7 H8 H9 H10 H11 H12]
  · isplitl [H7]; · iexists f7; iexact H7
    isplitl [H8]; · iexists f8; iexact H8
    isplitl [H9]; · iexists f9; iexact H9
    isplitl [H10]; · iexists f10; iexact H10
    isplitl [H11]; · iexists f11; iexact H11
    iexists f12; iexact H12
  isplitl [Hg]; · iexact Hg
  isplitl [HS0 HS1]
  · isplitl [HS0]; · iexact HS0
    iexact HS1
  iexact HQ

theorem rest_arg0 : main_arg0 ∈ Pipeline.restRefs sig spec0 := Pipeline.mem_restRefs_of main_arg0 (by decide) (by decide)
theorem rest_arg1 : main_arg1 ∈ Pipeline.restRefs sig spec0 := Pipeline.mem_restRefs_of main_arg1 (by decide) (by decide)
theorem rest_arg4 : main_arg4 ∈ Pipeline.restRefs sig spec0 := Pipeline.mem_restRefs_of main_arg4 (by decide) (by decide)

/-! ## The run -/

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main ops
    ⟨hostOps0_sub, hostOps0_1_sub⟩ ⟨⟨rfl, rfl, rfl⟩, ⟨rfl, rfl, rfl, rfl⟩⟩ fun c => (main_chain c).trans rfl

set_option backward.isDefEq.respectTransparency.types false in
theorem run_main : θ_run defs (onTc (τ := τ) (main (F := F))) (s₀ m ρ)
    (fun r => Pipeline.FramePost (Pipeline.pin (pcfgs (F := F)) (adm m)) (dats m) 0 (V m) r ∧ r.2.sem = fun _ => 0) :=
  Pipeline.θ_run_frameP_dma (Q' := _) (pcfgs (F := F)) (adm m) (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hpf := fun c k => by rw [show c = 0 from Subsingleton.elim _ _]; rfl)
    (hin := phi_in m) (hout := phi_out m)

/-- The arguments at the end, the machine quiescent, and the result as the write-backs left it. -/
theorem run_post : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v5) = (dats m 0 c).arrAt 3 (cfg0 (adm m 0)).N)
      ∧ r.2.sem = fun _ => 0) :=
  (θ_run defs _ _).mono (fun _ h => ⟨fun c => ⟨((h.1 c).2 main_arg0 rest_arg0).trans (V_arg0 m c),
      ((h.1 c).2 main_arg1 rest_arg1).trans (V_arg1 m c),
      (((h.1 c).1 1).trans (Dat.arrAt_in (dats m 0 c) 1 rfl _)).trans (V_arg2 m c),
      (((h.1 c).1 2).trans (Dat.arrAt_in (dats m 0 c) 2 rfl _)).trans (V_arg3 m c),
      ((h.1 c).2 main_arg4 rest_arg4).trans (V_arg4 m c), (h.1 c).1 3⟩, h.2⟩) (run_main m ρ)

end Cert.KernelIdeal.Hand
-- ==== Proof.Val.Sum.lean ====
/-
  Over the extended reals: a weight of the kernel is `(code - zero) * scale`, and a chunk's sum after its 16 passes is
  one sum over all 4096 rows.
-/
module

public import proofs.«01_k».proof.Proof.KernI.Pass
public import Idealize.ShloMosaic.Lib.Pointwise
public import Idealize.ShloMosaic.Lib.ValueIdx

@[expose] public section

noncomputable section

namespace Cert.KernelIdeal.Hand

open Cert.KernelIdeal Cert.KernelIdeal.Gen
open Idealize.ShloMosaic hiding ix1 ix2 ix3 ix4
open Idealize.ShloMosaic.TcCoe
open Idealize.ShloMosaic.ValueIdx
open Cert.Hand

/-- The value of a weight: its code less its zero point, times its scale. -/
def weight (code zero : BitVec 4) (s : BitVec 16) : EReal :=
  (((code.toNat : ℝ) : EReal) - ((zero.toNat : ℝ) : EReal)) * Ideal.ofBits .bf16 s

theorem code_real (n : BitVec 4) : (FloatOps.sitofp .bf16 (codeByte n) : Ideal .bf16) = ((n.toNat : ℝ) : EReal) := by
  show (((codeByte n).toInt : ℝ) : EReal) = _
  have : ∀ n : BitVec 4, (codeByte n).toInt = (n.toNat : ℤ) := by decide
  rw [this n]
  norm_cast

theorem zero_exp : ∀ n : BitVec 4, (zbits n).extractLsb' 15 1 = 0#1 ∧ ((zbits n).extractLsb' 7 8).toNat = 134 ∧ ((zbits n).extractLsb' 0 7).toNat = n.toNat := by decide

/-- A word with the exponent of 128 and a nibble in its lowest four bits is 128 and the nibble. -/
theorem zero_bits (n : BitVec 4) : Ideal.ofBits .bf16 (zbits n) = (((128 + n.toNat : ℕ) : ℝ) : EReal) := by
  obtain ⟨h1, h2, h3⟩ := zero_exp n
  show Ideal.ieee 8 7 (zbits n) = _
  unfold Ideal.ieee
  simp only [show 8 + 7 = 15 from rfl, h1, h2, h3]
  norm_num [-EReal.coe_mul, -EReal.coe_add]

theorem zero_real (n : BitVec 4) :
    (FloatOps.subf (Scalar.ofBits .bf16 (zbits n)) (Scalar.ofBits .bf16 0x4300#16) : Ideal .bf16) = ((n.toNat : ℝ) : EReal) := by
  show Ideal.ofBits .bf16 (zbits n) - Ideal.ofBits .bf16 0x4300#16 = _
  rw [zero_bits n, show (0x4300#16 : BitVec 16) = zbits 0#4 from by decide, zero_bits 0#4, ← EReal.coe_sub]
  congr 1
  push_cast
  simp

theorem fwt_real (c z : BitVec 4) (s : BitVec 16) : (fwt (codeByte c) (zbits z) s : Ideal .bf16) = weight c z s := by
  unfold fwt weight
  rw [zero_real z, code_real c]
  rfl

variable (S : Vec Ideal S32x256 .i16) (Z : Vec Ideal S16x256 .i8) (w : ℕ → Fin 128 → BitVec 32) (X : Vec Ideal S192x4096 .bf16)

/-- Row `k`'s term of the chunk's column `2 (y mod 128) + y / 128`. -/
def term (m : Fin 192) (y : Fin 256) (k : ℕ) : EReal :=
  if h : k < 4096 then
    X (ix2 (n0 := 192) (n1 := 4096) m ⟨k, h⟩)
      * weight ((w (k / 4) ⟨y.val % 128, Nat.mod_lt _ (by decide)⟩).extractLsb' (8 * (k % 4) + 4 * (y.val / 128)) 4)
          (zeroNib Z ⟨k / 128, by omega⟩ ⟨2 * (y.val % 128) + y.val / 128, by omega⟩)
          (S (ix2 (n0 := 32) (n1 := 256) ⟨k / 128, by omega⟩ ⟨2 * (y.val % 128) + y.val / 128, by omega⟩))
  else 0

theorem wtile_term (m : Fin 192) (y : Fin 256) (p : ℕ) (hp : p < 16) (r : Fin 256) :
    (xtile X p hp (ix2 (n0 := 192) (n1 := 256) m r) * wtile S Z w p hp (ix2 (n0 := 256) (n1 := 256) r y) : EReal) = term S Z w X m y (256 * p + r.val) := by
  have hr := r.isLt
  unfold term
  rw [dif_pos (show 256 * p + r.val < 4096 by omega)]
  refine congrArg (fun v : EReal => X (ix2 (n0 := 192) (n1 := 4096) m ⟨256 * p + r.val, by omega⟩) * v) ?_
  refine Eq.trans ?_ (fwt_real _ _ _)
  have e1 : 64 * p + r.val / 4 = (256 * p + r.val) / 4 := by omega
  have e2 : r.val % 4 = (256 * p + r.val) % 4 := by omega
  have e3 : 2 * p + r.val / 128 = (256 * p + r.val) / 128 := by omega
  show fwt (codeByte ((w (64 * p + r.val / 4) ⟨y.val % 128, _⟩).extractLsb' (8 * (r.val % 4) + 4 * (y.val / 128)) 4))
      (zbits (zeroNib Z ⟨2 * p + r.val / 128, _⟩ ⟨2 * (y.val % 128) + y.val / 128, _⟩)) (S (ix2 (n0 := 32) (n1 := 256) ⟨2 * p + r.val / 128, _⟩ ⟨2 * (y.val % 128) + y.val / 128, _⟩)) = _
  simp only [e1, e2, e3]

theorem kacc_range (m : Fin 192) (y : Fin 256) : ∀ n : ℕ, n ≤ 16 →
    (kacc S Z w X n (ix2 (n0 := 192) (n1 := 256) m y) : EReal) = ∑ k ∈ Finset.range (256 * n), term S Z w X m y k
  | 0, _ => by
    show Ideal.ofBits .f32 0x00000000#32 = _
    rw [Ideal.ofBits_zero_f32]; rfl
  | n + 1, hn => by
    have ih := kacc_range m y n (by omega)
    have hn' : n < 16 := by omega
    rw [show 256 * (n + 1) = 256 * n + 256 from rfl, Finset.sum_range_add, ← ih, Finset.sum_range]
    have step : (kacc S Z w X (n + 1) (ix2 (n0 := 192) (n1 := 256) m y) : EReal) = (kacc S Z w X n (ix2 (n0 := 192) (n1 := 256) m y) : EReal)
      + Ideal.matmul dot_S192x256_S256x256_S192x256_1_0_0_1_n_n (xtile X n hn') (wtile S Z w n hn') (constant S192x256 .f32 0x00000000#32 : FVec Ideal S192x256 .f32) (ix2 (n0 := 192) (n1 := 256) m y) := by
      rw [kacc, dif_pos hn']
      rfl
    refine step.trans ?_
    refine congrArg (fun v : EReal => (kacc S Z w X n (ix2 (n0 := 192) (n1 := 256) m y) : EReal) + v) ?_
    rw [Ideal.matmul_apply₁ _ rfl rfl, show (constant S192x256 .f32 0x00000000#32 : FVec Ideal S192x256 .f32) (ix2 (n0 := 192) (n1 := 256) m y) = 0 from Ideal.ofBits_zero_f32, zero_add]
    refine Finset.sum_congr rfl fun r _ => Eq.trans ?_ (wtile_term S Z w X m y n hn' r)
    pointwise
    rfl

theorem kacc_all (m : Fin 192) (y : Fin 256) :
    (kacc S Z w X 16 (ix2 (n0 := 192) (n1 := 256) m y) : EReal) = ∑ k : Fin 4096, term S Z w X m y k.val := by
  rw [kacc_range S Z w X m y 16 le_rfl, Finset.sum_range]

end Cert.KernelIdeal.Hand

end
-- ==== Proof.Val.Blocks.lean ====
/-
  The blocks a point is handed, read at an index of the argument arrays.
-/
module

public import proofs.«01_k».proof.Proof.KernI.Run
public import proofs.«01_k».proof.Proof.Val.Sum
public import Idealize.ShloMosaic.Lib.Pipeline.ValueKit
public import Idealize.ShloMosaic.Lib.Pipeline.Covers
public import Idealize.ShloMosaic.Lib.BitcastConvert

@[expose] public section

noncomputable section

namespace Cert.KernelIdeal.Hand

open Cert.KernelIdeal Cert.KernelIdeal.Gen
open Idealize.ShloMosaic hiding ix1 ix2 ix3 ix4
open Idealize.ShloMosaic.TcCoe
open Idealize.ShloMosaic.ValueIdx
open Cert.Hand

variable (m : (ℓ : Loc nD τ sig) → Buf (Elt Ideal) ℓ)

theorem index_X : ∀ t : Fin grid0.N, cc0_transform_0 (grid0.coords t) = ![0, 0] := by decide +kernel
theorem index_S : ∀ t : Fin grid0.N, cc0_transform_2 (grid0.coords t) = ![0, t.val] := by decide +kernel
theorem index_Z : ∀ t : Fin grid0.N, cc0_transform_3 (grid0.coords t) = ![0, t.val] := by decide +kernel
theorem index_O : ∀ t : Fin grid0.N, cc0_transform_4 (grid0.coords t) = ![0, t.val] := by decide +kernel

theorem fetch_S (t : Fin (cfg0 (F := Ideal) (adm m 0)).N) : ((cfg0 (F := Ideal) (adm m 0)).win 1).fetch t = true := by
  refine (Pipeline.Window.fetch_in _ rfl t).mpr ?_
  by_cases h : t.val = 0
  · exact .inl h
  · refine .inr ⟨by omega, fun e => ?_⟩
    have e' : cc0_transform_2 (grid0.coords t) = cc0_transform_2 (grid0.coords ⟨t.val - 1, lt_of_le_of_lt (Nat.sub_le _ _) t.isLt⟩) := e
    rw [index_S, index_S] at e'
    have := congrFun e' 1
    have : t.val = t.val - 1 := this
    omega

theorem fetch_Z (t : Fin (cfg0 (F := Ideal) (adm m 0)).N) : ((cfg0 (F := Ideal) (adm m 0)).win 2).fetch t = true := by
  refine (Pipeline.Window.fetch_in _ rfl t).mpr ?_
  by_cases h : t.val = 0
  · exact .inl h
  · refine .inr ⟨by omega, fun e => ?_⟩
    have e' : cc0_transform_3 (grid0.coords t) = cc0_transform_3 (grid0.coords ⟨t.val - 1, lt_of_le_of_lt (Nat.sub_le _ _) t.isLt⟩) := e
    rw [index_Z, index_Z] at e'
    have := congrFun e' 1
    have : t.val = t.val - 1 := this
    omega

theorem held_S (c : Dev nD) (t : Fin (cfg0 (F := Ideal) (adm m 0)).N) (g : Fin 32) (y : Fin 2048) (y' : Fin 28672) (h : y'.val = 2048 * t.val + y.val) :
    (held0 m c 1 t : Vec Ideal S32x2048 .i16) (ix2 (n0 := 32) (n1 := 2048) g y) = (m ((c : Thread nD τ).loc main_arg2) : Vec Ideal S32x28672 .i16) (ix2 (n0 := 32) (n1 := 28672) g y') := by
  refine (congrFun (Pipeline.heldIn_of_fetch (A0 m c) 1 t (fetch_S m t)) _).trans ?_
  refine ((((cfg0 (F := Ideal) (adm m 0)).win 1).fill_xinj ((cfg0 (F := Ideal) (adm m 0)).grid.coords t) _ _ (ix2 (n0 := 32) (n1 := 2048) g y))).trans ?_
  refine (congrFun (V_arg2 m c) _).trans ?_
  refine congrArg (m ((c : Thread nD τ).loc main_arg2) : Vec Ideal S32x28672 .i16) (funext fun a => Fin.ext ?_)
  have e := index_S t
  match a with
  | ⟨0, _⟩ =>
    show cc0_transform_2 (grid0.coords t) 0 * 32 + 1 * g.val = g.val
    rw [e]; show 0 * 32 + 1 * g.val = _; omega
  | ⟨1, _⟩ =>
    show cc0_transform_2 (grid0.coords t) 1 * 2048 + 1 * y.val = y'.val
    rw [e]; show t.val * 2048 + 1 * y.val = _; omega

theorem held_Z (c : Dev nD) (t : Fin (cfg0 (F := Ideal) (adm m 0)).N) (g : Fin 16) (y : Fin 2048) (y' : Fin 28672) (h : y'.val = 2048 * t.val + y.val) :
    (held0 m c 2 t : Vec Ideal S16x2048 .i8) (ix2 (n0 := 16) (n1 := 2048) g y) = (m ((c : Thread nD τ).loc main_arg3) : Vec Ideal S16x28672 .i8) (ix2 (n0 := 16) (n1 := 28672) g y') := by
  refine (congrFun (Pipeline.heldIn_of_fetch (A0 m c) 2 t (fetch_Z m t)) _).trans ?_
  refine ((((cfg0 (F := Ideal) (adm m 0)).win 2).fill_xinj ((cfg0 (F := Ideal) (adm m 0)).grid.coords t) _ _ (ix2 (n0 := 16) (n1 := 2048) g y))).trans ?_
  refine (congrFun (V_arg3 m c) _).trans ?_
  refine congrArg (m ((c : Thread nD τ).loc main_arg3) : Vec Ideal S16x28672 .i8) (funext fun a => Fin.ext ?_)
  have e := index_Z t
  match a with
  | ⟨0, _⟩ =>
    show cc0_transform_3 (grid0.coords t) 0 * 16 + 1 * g.val = g.val
    rw [e]; show 0 * 16 + 1 * g.val = _; omega
  | ⟨1, _⟩ =>
    show cc0_transform_3 (grid0.coords t) 1 * 2048 + 1 * y.val = y'.val
    rw [e]; show t.val * 2048 + 1 * y.val = _; omega

/-- The activations' words. -/
theorem held_X (c : Dev nD) (a : Fin 192) (k : Fin 4096) :
    (X0 m c : Vec Ideal S192x4096 .i16) (ix2 (n0 := 192) (n1 := 4096) a k) = (m ((c : Thread nD τ).loc main_arg0) : Vec Ideal S192x1x4096 .i16) (ix3 (n0 := 192) (n1 := 1) (n2 := 4096) a 0 k) := by
  refine (((cfg0 (F := Ideal) (adm m 0)).win 0).fill_xinj _ _ _ (ix2 (n0 := 192) (n1 := 4096) a k)).trans ?_
  refine (congrFun (V_v1 m c) _).trans ?_
  refine Eq.trans (b := shapeCast S192x4096 (m ((c : Thread nD τ).loc main_arg0) : Vec Ideal S192x1x4096 .i16) shapeCasts_S192x1x4096_S192x4096 (ix2 (n0 := 192) (n1 := 4096) a k))
    (congrArg (shapeCast S192x4096 (m ((c : Thread nD τ).loc main_arg0) : Vec Ideal S192x1x4096 .i16) shapeCasts_S192x1x4096_S192x4096) (funext fun d => Fin.ext ?_)) ?_
  · have hN : 0 < grid0.N := by rw [N_0]; decide
    have e := index_X ⟨0, hN⟩
    match d with
    | ⟨0, _⟩ =>
      show cc0_transform_0 (grid0.coords ⟨0, hN⟩) 0 * 192 + 1 * a.val = a.val
      rw [e]; show 0 * 192 + 1 * a.val = _; omega
    | ⟨1, _⟩ =>
      show cc0_transform_0 (grid0.coords ⟨0, hN⟩) 1 * 4096 + 1 * k.val = k.val
      rw [e]; show 0 * 4096 + 1 * k.val = _; omega
  · refine shapeCast_apply _ _ _ (ix3 (n0 := 192) (n1 := 1) (n2 := 4096) a 0 k) ?_
    rw [Shape.rowMajor_val_three, Shape.rowMajor_val_two]
    show (a.val * 1 + 0) * 4096 + k.val = a.val * 4096 + k.val
    omega

/-- Byte `b` of the packed codes' word at row `a`, column `l`: the code byte of row `4 a + b`. -/
theorem word_Q (c : Dev nD) (a : Fin 1024) (l : Fin 14336) (b : Fin 4) (p : Fin 4096) (hp : p.val = 4 * a.val + b.val) :
    ((Q0 m c : Vec Ideal S1024x14336 .i32) (ix2 (n0 := 1024) (n1 := 14336) a l) : BitVec 32).extractLsb' (8 * b.val) 8
      = ((m ((c : Thread nD τ).loc main_arg1) : Vec Ideal S4096x14336 .i8) (ix2 (n0 := 4096) (n1 := 14336) p l) : BitVec 8) := by
  refine (congrArg (fun w : BitVec 32 => w.extractLsb' (8 * b.val) 8) (congrFun (V_v4 m c) (ix2 (n0 := 1024) (n1 := 14336) a l))).trans ?_
  apply BitVec.eq_of_getLsbD_eq; intro q hq
  have hb := b.isLt
  rw [BitVec.getLsbD_extractLsb']
  simp only [hq, decide_true, Bool.true_and]
  refine (Host.bitcastConvertWiden_getLsbD _ _ _ _ _ (8 * b.val + q) (by omega)).trans ?_
  rw [show (8 * b.val + q) % 8 = q by omega]
  refine congrArg (fun w : BitVec 8 => w.getLsbD q) ?_
  refine Eq.trans (b := transpose S1024x14336x4 [0, 2, 1] (shapeCast S1024x4x14336 (m ((c : Thread nD τ).loc main_arg1) : Vec Ideal S4096x14336 .i8) shapeCasts_S4096x14336_S1024x4x14336) transposes_S1024x4x14336_S1024x14336x4_0_2_1
      (ix3 (n0 := 1024) (n1 := 14336) (n2 := 4) a l b)) (congrArg (transpose S1024x14336x4 [0, 2, 1] (shapeCast S1024x4x14336 (m ((c : Thread nD τ).loc main_arg1) : Vec Ideal S4096x14336 .i8) shapeCasts_S4096x14336_S1024x4x14336) transposes_S1024x4x14336_S1024x14336x4_0_2_1) (funext fun d => Fin.ext ?_)) ?_
  · match d with
    | ⟨0, _⟩ => rfl
    | ⟨1, _⟩ => rfl
    | ⟨2, _⟩ => show (8 * b.val + q) / 8 = b.val; omega
  · refine Eq.trans (b := shapeCast S1024x4x14336 (m ((c : Thread nD τ).loc main_arg1) : Vec Ideal S4096x14336 .i8) shapeCasts_S4096x14336_S1024x4x14336 (ix3 (n0 := 1024) (n1 := 4) (n2 := 14336) a b l))
      (congrArg (shapeCast S1024x4x14336 (m ((c : Thread nD τ).loc main_arg1) : Vec Ideal S4096x14336 .i8) shapeCasts_S4096x14336_S1024x4x14336) (funext fun d => Fin.ext ?_)) ?_
    · match d with
      | ⟨0, _⟩ => rfl
      | ⟨1, _⟩ => rfl
      | ⟨2, _⟩ => rfl
    · refine shapeCast_apply _ _ _ (ix2 (n0 := 4096) (n1 := 14336) p l) ?_
      rw [Shape.rowMajor_val_three, Shape.rowMajor_val_two]
      show p.val * 14336 + l.val = (a.val * 4 + b.val) * 14336 + l.val
      rw [hp]; omega

theorem covers_O : (((cfg0 (F := Ideal) (adm m 0)).win 3)).Covers := by
  have hsz : ∀ a : Fin 2, 0 < S192x2048.size a := by decide
  refine Pipeline.Window.covers_of_index_surj _ rfl hsz fun β => ?_
  have h0 : (β (0 : Fin 2)).val < 1 := lt_of_lt_of_eq (β (0 : Fin 2)).isLt
    (show (S192x28672.size 0 + S192x2048.size 0 - 1) / S192x2048.size 0 = 1 by decide)
  have h1 : (β (1 : Fin 2)).val < 14 := lt_of_lt_of_eq (β (1 : Fin 2)).isLt
    (show (S192x28672.size 1 + S192x2048.size 1 - 1) / S192x2048.size 1 = 14 by decide)
  refine ⟨⟨(β (1 : Fin 2)).val, by show (β (1 : Fin 2)).val < grid0.N; rw [N_0]; exact h1⟩, fun a => ?_⟩
  refine (congrFun (index_O ⟨(β (1 : Fin 2)).val, by rw [N_0]; exact h1⟩) a).trans ?_
  match a with
  | ⟨0, _⟩ => show 0 = (β (0 : Fin 2)).val; omega
  | ⟨1, _⟩ => rfl

end Cert.KernelIdeal.Hand

end
-- ==== Proof.Val.Spec.lean ====
/-
  The value both programs end with: the sum over the rows in sorted order of the activation times the row's weight,
  `(code - zero) * scale`, a group of 128 sorted rows sharing a zero point and a scale.
-/
module

public import proofs.«01_k».proof.Proof.Val.Sum

@[expose] public section

noncomputable section

namespace Cert.KernelIdeal.Hand

open Idealize.ShloMosaic hiding ix1 ix2 ix3 ix4
open Idealize.ShloMosaic.ValueIdx

/-- The code of row `r` at the result's column `n`: an even column's in the low nibble, an odd one's in the high. -/
def codeNib (Q : (⟨2, ![4096, 14336]⟩ : Shape).Idx → BitVec 8) (r : Fin 4096) (n : Fin 28672) : BitVec 4 :=
  (Q (ix2 (n0 := 4096) (n1 := 14336) r ⟨n.val / 2, by omega⟩)).extractLsb' (4 * (n.val % 2)) 4

/-- Sorted row `k`'s term of the result's entry `(a, n)`. -/
def rowTerm (X : (⟨3, ![192, 1, 4096]⟩ : Shape).Idx → BitVec 16) (Q : (⟨2, ![4096, 14336]⟩ : Shape).Idx → BitVec 8)
    (S : (⟨2, ![32, 28672]⟩ : Shape).Idx → BitVec 16) (Z : (⟨2, ![16, 28672]⟩ : Shape).Idx → BitVec 8) (P : Fin 4096 → Fin 4096)
    (a : Fin 192) (n : Fin 28672) (k : Fin 4096) : EReal :=
  Ideal.ofBits .bf16 (X (ix3 (n0 := 192) (n1 := 1) (n2 := 4096) a 0 (P k)))
    * weight (codeNib Q (P k) n) (zeroNib Z ⟨k.val / 128, by omega⟩ n) (S (ix2 (n0 := 32) (n1 := 28672) ⟨k.val / 128, by omega⟩ n))

/-- The value. -/
def value (X : (⟨3, ![192, 1, 4096]⟩ : Shape).Idx → BitVec 16) (Q : (⟨2, ![4096, 14336]⟩ : Shape).Idx → BitVec 8)
    (S : (⟨2, ![32, 28672]⟩ : Shape).Idx → BitVec 16) (Z : (⟨2, ![16, 28672]⟩ : Shape).Idx → BitVec 8) (P : Fin 4096 → Fin 4096) :
    (⟨2, ![192, 28672]⟩ : Shape).Idx → EReal := fun y => ∑ k : Fin 4096, rowTerm X Q S Z P (y 0) (y 1) k

end Cert.KernelIdeal.Hand

end
-- ==== Proof.Val.Kernel.lean ====
/-
  The kernel's result over the extended reals: block by block, the value of `Val/Spec.lean`.
-/
module

public import proofs.«01_k».proof.Proof.Val.Blocks
public import proofs.«01_k».proof.Proof.Val.Spec
public import Idealize.ShloMosaic.Lib.Pipeline.ValueKit

@[expose] public section

noncomputable section

namespace Cert.KernelIdeal.Hand

open Cert.KernelIdeal Cert.KernelIdeal.Gen
open Idealize.ShloMosaic hiding ix1 ix2 ix3 ix4
open Idealize.ShloMosaic.TcCoe
open Idealize.ShloMosaic.ValueIdx
open Cert.Hand

variable (m : (ℓ : Loc nD τ sig) → Buf (Elt Ideal) ℓ)

/-- A nibble of four bytes laid in a word is that byte's nibble. -/
theorem nib_append (B : Fin 4 → BitVec 8) (b : Fin 4) (h : ℕ) (hh : h < 2) :
    (B 3 ++ B 2 ++ B 1 ++ B 0 : BitVec 32).extractLsb' (8 * b.val + 4 * h) 4 = (B b).extractLsb' (4 * h) 4 := by
  apply BitVec.eq_of_getLsbD_eq; intro i hi
  rw [BitVec.getLsbD_extractLsb', BitVec.getLsbD_extractLsb', BitVec.getLsbD_append, BitVec.getLsbD_append, BitVec.getLsbD_append]
  simp only [hi, decide_true, Bool.true_and]
  match b with
  | ⟨0, _⟩ =>
    rw [if_pos (by show 8 * 0 + 4 * h + i < 8; omega)]
    exact congrArg (B 0).getLsbD (show 8 * 0 + 4 * h + i = 4 * h + i by omega)
  | ⟨1, _⟩ =>
    rw [if_neg (by show ¬ 8 * 1 + 4 * h + i < 8; omega), if_pos (by show 8 * 1 + 4 * h + i - 8 < 8; omega)]
    exact congrArg (B 1).getLsbD (show 8 * 1 + 4 * h + i - 8 = 4 * h + i by omega)
  | ⟨2, _⟩ =>
    rw [if_neg (by show ¬ 8 * 2 + 4 * h + i < 8; omega), if_neg (by show ¬ 8 * 2 + 4 * h + i - 8 < 8; omega), if_pos (by show 8 * 2 + 4 * h + i - 8 - 8 < 8; omega)]
    exact congrArg (B 2).getLsbD (show 8 * 2 + 4 * h + i - 8 - 8 = 4 * h + i by omega)
  | ⟨3, _⟩ =>
    rw [if_neg (by show ¬ 8 * 3 + 4 * h + i < 8; omega), if_neg (by show ¬ 8 * 3 + 4 * h + i - 8 < 8; omega), if_neg (by show ¬ 8 * 3 + 4 * h + i - 8 - 8 < 8; omega)]
    exact congrArg (B 3).getLsbD (show 8 * 3 + 4 * h + i - 8 - 8 - 8 = 4 * h + i by omega)

/-- A nibble of a sorted word is the code of its row. -/
theorem word_nib (c : Dev nD) (P : Fin 4096 → Fin 4096) (j : Fin 14) (cc q : ℕ) (l : Fin 128) (hc : cc < 8) (hq : q < 1024) (b : Fin 4) (h : ℕ) (hh : h < 2)
    (k : Fin 4096) (hk : k.val = 4 * q + b.val) (n : Fin 14336) (hn : n.val = 1024 * j.val + 128 * cc + l.val) :
    (wordC (F := Ideal) P (Q0 m c) j cc q l).extractLsb' (8 * b.val + 4 * h) 4
      = ((m ((c : Thread nD τ).loc main_arg1) : Vec Ideal S4096x14336 .i8) (ix2 (n0 := 4096) (n1 := 14336) (P k) n) : BitVec 8).extractLsb' (4 * h) 4 := by
  unfold wordC
  rw [dif_pos ⟨hc, hq⟩]
  refine (nib_append (fun r : Fin 4 => (Q0 m c (ix2 (n0 := 1024) (n1 := 14336) ⟨(P ⟨4 * q + r.val, by omega⟩).val / 4, by omega⟩ ⟨1024 * j.val + 128 * cc + l.val, by omega⟩) : BitVec 32).extractLsb'
        (8 * ((P ⟨4 * q + r.val, by omega⟩).val % 4)) 8) b h hh).trans ?_
  have ek : (⟨4 * q + b.val, by omega⟩ : Fin 4096) = k := Fin.ext hk.symm
  have en : (⟨1024 * j.val + 128 * cc + l.val, by omega⟩ : Fin 14336) = n := Fin.ext hn.symm
  refine congrArg (fun w : BitVec 8 => w.extractLsb' (4 * h) 4) ?_
  show (Q0 m c (ix2 (n0 := 1024) (n1 := 14336) ⟨(P ⟨4 * q + b.val, _⟩).val / 4, _⟩ ⟨1024 * j.val + 128 * cc + l.val, _⟩) : BitVec 32).extractLsb' (8 * ((P ⟨4 * q + b.val, _⟩).val % 4)) 8 = _
  simp only [ek, en]
  exact word_Q m c ⟨(P k).val / 4, by omega⟩ n ⟨(P k).val % 4, by omega⟩ (P k) (by show (P k).val = 4 * ((P k).val / 4) + (P k).val % 4; omega)

/-- The value at the arguments' launch contents. -/
def val (c : Dev nD) : Vec Ideal S192x28672 .bf16 :=
  value (m ((c : Thread nD τ).loc main_arg0) : Vec Ideal S192x1x4096 .i16) (m ((c : Thread nD τ).loc main_arg1) : Vec Ideal S4096x14336 .i8)
    (m ((c : Thread nD τ).loc main_arg2) : Vec Ideal S32x28672 .i16) (m ((c : Thread nD τ).loc main_arg3) : Vec Ideal S16x28672 .i8) (P0 m c)

/-- A block's entry. -/
theorem out_at (c : Dev nD) (t : Fin (cfg0 (F := Ideal) (adm m 0)).N) (a : Fin 192) (y : Fin 2048) (n : Fin 28672) (hn : n.val = 2048 * t.val + y.val) :
    (out0 m c t (ix2 (n0 := 192) (n1 := 2048) a y) : EReal) = val m c (ix2 (n0 := 192) (n1 := 28672) a n) := by
  have hy := y.isLt
  have hYlt : 128 * (y.val % 256 % 2) + y.val % 256 / 2 < 256 := by omega
  refine (kacc_all (Sc (held0 m c 1 t) (y.val / 256) (by omega)) (Zc (held0 m c 2 t) (y.val / 256) (by omega))
    (wordC (F := Ideal) (P0 m c) (Q0 m c) ⟨t.val, lt_of_lt_of_eq t.isLt N_0⟩ (y.val / 256)) (xC (P0 m c) (X0 m c)) a
    ⟨128 * (y.val % 256 % 2) + y.val % 256 / 2, hYlt⟩).trans ?_
  refine Finset.sum_congr rfl fun k _ => ?_
  have hk := k.isLt
  unfold term
  rw [dif_pos hk]
  refine congrArg₂ (fun u v : EReal => u * v) (congrArg (Ideal.ofBits .bf16) (held_X m c a (P0 m c k))) ?_
  have e1 : (128 * (y.val % 256 % 2) + y.val % 256 / 2) % 128 = y.val % 256 / 2 := by omega
  have e2 : (128 * (y.val % 256 % 2) + y.val % 256 / 2) / 128 = y.val % 2 := by omega
  have e3 : 2 * ((128 * (y.val % 256 % 2) + y.val % 256 / 2) % 128) + (128 * (y.val % 256 % 2) + y.val % 256 / 2) / 128 = y.val % 256 := by omega
  have e4 : n.val % 2 = y.val % 2 := by omega
  refine congr (congrArg₂ weight ?_ ?_) ?_
  · refine (word_nib m c (P0 m c) ⟨t.val, lt_of_lt_of_eq t.isLt N_0⟩ (y.val / 256) (k.val / 4) ⟨(128 * (y.val % 256 % 2) + y.val % 256 / 2) % 128, by omega⟩ (by omega) (by omega)
      ⟨k.val % 4, by omega⟩ ((128 * (y.val % 256 % 2) + y.val % 256 / 2) / 128) (by omega) k (by show k.val = 4 * (k.val / 4) + k.val % 4; omega)
      ⟨n.val / 2, by omega⟩ (by show n.val / 2 = 1024 * t.val + 128 * (y.val / 256) + (128 * (y.val % 256 % 2) + y.val % 256 / 2) % 128; omega)).trans ?_
    unfold codeNib
    rw [e2, e4]
  · unfold zeroNib
    refine congrArg (fun w : BitVec 8 => w.extractLsb' (4 * (k.val / 128 / 16)) 4) ?_
    exact held_Z m c t ⟨k.val / 128 % 16, by omega⟩ ⟨256 * (y.val / 256) + (2 * ((128 * (y.val % 256 % 2) + y.val % 256 / 2) % 128) + (128 * (y.val % 256 % 2) + y.val % 256 / 2) / 128), by omega⟩ n
      (by show n.val = 2048 * t.val + (256 * (y.val / 256) + (2 * ((128 * (y.val % 256 % 2) + y.val % 256 / 2) % 128) + (128 * (y.val % 256 % 2) + y.val % 256 / 2) / 128)); rw [e3]; omega)
  · exact held_S m c t ⟨k.val / 128, by omega⟩ ⟨256 * (y.val / 256) + (2 * ((128 * (y.val % 256 % 2) + y.val % 256 / 2) % 128) + (128 * (y.val % 256 % 2) + y.val % 256 / 2) / 128), by omega⟩ n
      (by show n.val = 2048 * t.val + (256 * (y.val / 256) + (2 * ((128 * (y.val % 256 % 2) + y.val % 256 / 2) % 128) + (128 * (y.val % 256 % 2) + y.val % 256 / 2) / 128)); rw [e3]; omega)

/-- The kernel's result. -/
theorem result_eq (c : Dev nD) : (Pipeline.Dat.arrAt (dats m 0 c) 3 (cfg0 (F := Ideal) (adm m 0)).N : Vec Ideal S192x28672 .bf16) = val m c := by
  refine Pipeline.Dat.arrAt_eq_of_covers (dats m 0 c) 3 (val m c) (covers_O m) fun t hf y => ?_
  have hy0 : (y (0 : Fin 2)).val < 192 := (y (0 : Fin 2)).isLt
  have hy1 : (y (1 : Fin 2)).val < 2048 := (y (1 : Fin 2)).isLt
  have ht : t.val < 14 := lt_of_lt_of_eq t.isLt N_0
  have e := index_O t
  refine Eq.trans (b := (out0 m c t (ix2 (n0 := 192) (n1 := 2048) ⟨(y (0 : Fin 2)).val, hy0⟩ ⟨(y (1 : Fin 2)).val, hy1⟩) : EReal)) ?_
    ((out_at m c t ⟨(y (0 : Fin 2)).val, hy0⟩ ⟨(y (1 : Fin 2)).val, hy1⟩ ⟨2048 * t.val + (y (1 : Fin 2)).val, by omega⟩ rfl).trans ?_)
  · refine congrArg (out0 m c t) (funext fun a => Fin.ext ?_)
    match a with
    | ⟨0, _⟩ => rfl
    | ⟨1, _⟩ => rfl
  · refine congrArg (val m c) (funext fun a => Fin.ext ?_)
    match a with
    | ⟨0, _⟩ =>
      show (y (0 : Fin 2)).val = cc0_transform_4 (grid0.coords t) 0 * 192 + 1 * (y (0 : Fin 2)).val
      rw [e]; show _ = 0 * 192 + 1 * (y (0 : Fin 2)).val; omega
    | ⟨1, _⟩ =>
      show 2048 * t.val + (y (1 : Fin 2)).val = cc0_transform_4 (grid0.coords t) 1 * 2048 + 1 * (y (1 : Fin 2)).val
      rw [e]; show _ = t.val * 2048 + 1 * (y (1 : Fin 2)).val; omega

end Cert.KernelIdeal.Hand

end
-- ==== Proof.Val.RefTerm.lean ====
/-
  The reference's result as a term, cut into its parts: the row numbers in sorted order, the rows taken, the zero
  points, the weights of the even and of the odd columns, and the two products woven together.
-/
module

public import proofs.«01_k».proof.Proof.Gen.ReferenceIdeal.Run

@[expose] public section

noncomputable section

namespace Cert.ReferenceIdeal.Hand

open Cert.ReferenceIdeal Cert.ReferenceIdeal.Gen Cert.ReferenceIdeal.Value
open Idealize.ShloMosaic Idealize.ShloMosaic.TcCoe

variable {F : FTy → Type} [FloatOps F]

/-- The row numbers carried along by the stable sort of the group indices. -/
def order (g : IVec S4096 32) : IVec S4096 32 := (Host.sort2 S4096 0 comparator_i32_i32_d0 g (iotaInDim S4096 32 0)).2

/-- The positions to take, a negative one counted from the end. -/
def posn (p : IVec S4096 32) : IVec S4096x1 32 :=
  broadcastInDim S4096x1 ![0] bcast_S4096_S4096x1_0 (select (cmpi .slt p (broadcastInDim S4096 ![] bcast_S_S4096 (constantI S_ 32 0#32)))
    (addi p (broadcastInDim S4096 ![] bcast_S_S4096 (constantI S_ 32 4096#32))) p)

/-- Which positions lie inside the array. -/
def inside (i : IVec S4096x1 32) : IVec S4096 1 :=
  Host.reduce IntOp.andi (andi (cmpi .sge i (broadcastInDim S4096x1 ![] bcast_S_S4096x1 (constantI S_ 32 0#32)))
    (cmpi .sle i (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- The activations with their columns in sorted order. -/
def takeX (X : FVec F S192x1x4096 .bf16) (p : IVec S4096 32) : FVec F S192x1x4096 .bf16 :=
  select (broadcastInDim S192x1x4096 ![2] bcast_S4096_S192x1x4096_2 (inside (posn p)))
    (Host.gather gather_S192x1x4096_S4096x1_S192x1x4096_01_2_n_n_2_1_19211 X (posn p))
    (broadcastInDim S192x1x4096 ![] bcast_S_S192x1x4096 (constant S_ .bf16 0x7FC0#16))

/-- The code bytes with their rows in sorted order. -/
def takeQ (Q : IVec S4096x14336 8) (p : IVec S4096 32) : IVec S4096x14336 8 :=
  select (broadcastInDim S4096x14336 ![0] bcast_S4096_S4096x14336_0 (inside (posn p)))
    (Host.gather gather_S4096x14336_S4096x1_S4096x14336_1_0_n_n_0_1_114336 Q (posn p))
    (broadcastInDim S4096x14336 ![] bcast_S_S4096x14336 (constantI S_ 8 255#8))

/-- The code bytes as words, 128 rows a group. -/
def wideQ (Q : IVec S4096x14336 8) : IVec S32x128x14336 32 :=
  extui 32 (shapeCast S32x128x14336 Q shapeCasts_S4096x14336_S32x128x14336) natLt_8_32

/-- The codes of the even columns. -/
def codeE (Q : IVec S4096x14336 8) : IVec S32x128x14336 32 :=
  andi (wideQ Q) (broadcastInDim S32x128x14336 ![] bcast_S_S32x128x14336 (constantI S_ 32 15#32))

/-- The codes of the odd columns. -/
def codeO (Q : IVec S4096x14336 8) : IVec S32x128x14336 32 :=
  Host.shrsi (wideQ Q) (broadcastInDim S32x128x14336 ![] bcast_S_S32x128x14336 (constantI S_ 32 4#32))

/-- The zero points of the 32 groups. -/
def zeros (Z : IVec S16x28672 8) : IVec S32x28672 32 :=
  concatenate S32x28672 0 [⟨S16x28672, (andi (extui 32 Z natLt_8_32) (broadcastInDim S16x28672 ![] bcast_S_S16x28672 (constantI S_ 32 15#32)))⟩,
    ⟨S16x28672, (Host.shrsi (extui 32 Z natLt_8_32) (broadcastInDim S16x28672 ![] bcast_S_S16x28672 (constantI S_ 32 4#32)))⟩] concatenates_S16x28672_S16x28672_S32x28672_d0

/-- One row a group, held for the group's 128 rows. -/
def spread (v : FVec F S32x14336 .bf16) : FVec F S32x128x14336 .bf16 :=
  broadcastInDim S32x128x14336 ![0, 1, 2] bcast_S32x1x14336_S32x128x14336_0_1_2 (broadcastInDim S32x1x14336 ![0, 2] bcast_S32x14336_S32x1x14336_0_2 v)

/-- The weights of half the columns: code less zero point, times the scale. -/
def weights (code : IVec S32x128x14336 32) (z s : FVec F S32x14336 .bf16) : FVec F S4096x14336 .bf16 :=
  shapeCast S4096x14336 (mulf (subf (sitofp .bf16 code) (spread z)) (spread s)) shapeCasts_S32x128x14336_S4096x14336

/-- The product with half the columns. -/
def half (x : FVec F S192x1x4096 .bf16) (w : FVec F S4096x14336 .bf16) : FVec F S192x1x14336x1 .f32 :=
  broadcastInDim S192x1x14336x1 ![0, 1, 2] bcast_S192x1x14336_S192x1x14336x1_0_1_2
    (Host.dotGeneral dot_S192x1x4096_S4096x14336_S192x1x14336_2_0_01_1_n_n none x w)

/-- The two halves woven: column `2 n` from the first, column `2 n + 1` from the second. -/
def woven (a b : FVec F S192x1x14336x1 .f32) : FVec F S192x28672 .bf16 :=
  truncf .bf16 (shapeCast S192x28672 (concatenate S192x1x14336x2 3 [⟨S192x1x14336x1, a⟩, ⟨S192x1x14336x1, b⟩]
    concatenates_S192x1x14336x1_S192x1x14336x1_S192x1x14336x2_d3) shapeCasts_S192x1x14336x2_S192x28672) bitsLt_bf16_f32

/-- The reference's result from its arguments. -/
def result (X : IVec S192x1x4096 16) (Q : IVec S4096x14336 8) (S : IVec S32x28672 16) (Z : IVec S16x28672 8) (g : IVec S4096 32) : FVec F S192x28672 .bf16 :=
  woven
    (half (takeX (bitcastToFloat (F := F) .bf16 X) (order g)) (weights (codeE (takeQ Q (order g)))
      (Host.slice S32x14336 ![0, 0] ![1, 2] (sitofp .bf16 (zeros Z)) slicesBy_S32x28672_S32x14336_0s1_0s2)
      (Host.slice S32x14336 ![0, 0] ![1, 2] (bitcastToFloat (F := F) .bf16 S) slicesBy_S32x28672_S32x14336_0s1_0s2)))
    (half (takeX (bitcastToFloat (F := F) .bf16 X) (order g)) (weights (codeO (takeQ Q (order g)))
      (Host.slice S32x14336 ![0, 1] ![1, 2] (sitofp .bf16 (zeros Z)) slicesBy_S32x28672_S32x14336_0s1_1s2)
      (Host.slice S32x14336 ![0, 1] ![1, 2] (bitcastToFloat (F := F) .bf16 S) slicesBy_S32x28672_S32x14336_0s1_1s2)))

theorem res_eq (m : (ℓ : Loc nD τ sig) → Buf (Elt F) ℓ) (c : Dev nD) :
    res_main_v44 m c = result (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_main_v44 result woven half weights takeX takeQ codeE codeO wideQ zeros spread inside posn order
  rfl

end Cert.ReferenceIdeal.Hand

end
-- ==== Proof.Val.Ref.lean ====
/-
  The reference's parts read at an index.
-/
module

public import proofs.«01_k».proof.Proof.Val.RefTerm
public import proofs.«01_k».proof.Proof.Val.Spec
public import Idealize.ShloMosaic.Lib.Pointwise
public import Idealize.ShloMosaic.Lib.ReduceAll
public import Idealize.ShloMosaic.Lib.Routing.Ops

@[expose] public section

noncomputable section

namespace Cert.ReferenceIdeal.Hand

open Cert.ReferenceIdeal Cert.ReferenceIdeal.Gen
open Idealize.ShloMosaic hiding ix1 ix2 ix3 ix4
open Idealize.ShloMosaic.TcCoe
open Idealize.ShloMosaic.ValueIdx

/-- The table's words are the row numbers `P`. -/
def Rows (P : Fin 4096 → Fin 4096) (p : IVec S4096 32) : Prop := ∀ k : Fin 4096, p (ix1 k) = BitVec.ofNat 32 (P k).val

theorem toInt_row (n : ℕ) (h : n < 4096) : (BitVec.ofNat 32 n).toInt = n := by
  rw [BitVec.toInt_eq_toNat_of_lt (by rw [BitVec.toNat_ofNat]; omega), BitVec.toNat_ofNat]; omega

theorem not_slt (n : ℕ) (h : n < 4096) : (BitVec.ofNat 32 n).slt 0#32 = false := by
  rw [BitVec.slt_eq_decide, toInt_row n h]
  exact decide_eq_false (by show ¬ ((n : ℤ) < 0); omega)

theorem sle_hi (n : ℕ) (h : n < 4096) : (BitVec.ofNat 32 n).sle 4095#32 = true := by
  rw [BitVec.sle_eq_decide, toInt_row n h]
  exact decide_eq_true (by show (n : ℤ) ≤ 4095; omega)

theorem sle_lo (n : ℕ) (h : n < 4096) : (0#32).sle (BitVec.ofNat 32 n) = true := by
  rw [BitVec.sle_eq_decide, toInt_row n h]
  exact decide_eq_true (by show (0 : ℤ) ≤ n; omega)

variable {P : Fin 4096 → Fin 4096} {p : IVec S4096 32} (hp : Rows P p)
include hp

theorem posn_at (k : Fin 4096) : posn p (ix2 (n0 := 4096) (n1 := 1) k 0) = BitVec.ofNat 32 (P k).val := by
  have e0 : ∀ v : IVec S4096 32, broadcastInDim S4096x1 ![0] bcast_S4096_S4096x1_0 v (ix2 (n0 := 4096) (n1 := 1) k 0) = v (ix1 k) := fun v => by
    pointwise
    refine congrArg v (funext fun a => ?_)
    match a with
    | ⟨0, _⟩ => rfl
  have e : posn p (ix2 (n0 := 4096) (n1 := 1) k 0) = Scalar.select (BitVec.ofBool ((p (ix1 k)).slt 0#32)) (p (ix1 k) + 4096#32) (p (ix1 k)) := e0 _
  rw [e, hp k, not_slt _ (P k).isLt]
  rfl

theorem inside_at (j : S4096.Idx) : inside (posn p) j = 1#1 := by
  unfold inside
  refine Host.reduce_andi_one _ _ _ _ _ rfl fun i => ?_
  obtain ⟨k, rfl⟩ : ∃ k : Fin 4096, i = ix2 (n0 := 4096) (n1 := 1) k 0 := ⟨i (0 : Fin 2), by
    funext a; match a with
    | ⟨0, _⟩ => rfl
    | ⟨1, _⟩ => exact Subsingleton.elim (α := Fin 1) _ _⟩
  have e : ∀ q : IVec S4096x1 32, (andi (cmpi .sge q (broadcastInDim S4096x1 ![] bcast_S_S4096x1 (constantI S_ 32 0#32)))
    (cmpi .sle q (broadcastInDim S4096x1 ![0, 1] bcast_S1x1_S4096x1_0_1 (broadcastInDim S1x1 ![1] bcast_S1_S1x1_1 (constantI S1 32 4095#32))))) (ix2 (n0 := 4096) (n1 := 1) k 0)
      = BitVec.ofBool ((0#32).sle (q (ix2 (n0 := 4096) (n1 := 1) k 0))) &&& BitVec.ofBool ((q (ix2 (n0 := 4096) (n1 := 1) k 0)).sle 4095#32) := fun q => by
    pointwise
    rfl
  rw [e, posn_at hp, sle_lo _ (P k).isLt, sle_hi _ (P k).isLt]
  rfl

theorem gatherX_at {α : Type} (X : S192x1x4096.Idx → α) (a : Fin 192) (k : Fin 4096) :
    Host.gather gather_S192x1x4096_S4096x1_S192x1x4096_01_2_n_n_2_1_19211 X (posn p) (ix3 (n0 := 192) (n1 := 1) (n2 := 4096) a 0 k)
      = X (ix3 (n0 := 192) (n1 := 1) (n2 := 4096) a 0 (P k)) := by
  unfold Host.gather
  refine congrArg X (funext fun d => Fin.ext ?_)
  show (gather_S192x1x4096_S4096x1_S192x1x4096_01_2_n_n_2_1_19211).start (ix3 (n0 := 192) (n1 := 1) (n2 := 4096) a 0 k) (posn p) d
    + (gather_S192x1x4096_S4096x1_S192x1x4096_01_2_n_n_2_1_19211).batchCoord (ix3 (n0 := 192) (n1 := 1) (n2 := 4096) a 0 k) d
    + (gather_S192x1x4096_S4096x1_S192x1x4096_01_2_n_n_2_1_19211).offCoord (ix3 (n0 := 192) (n1 := 1) (n2 := 4096) a 0 k) d = _
  rw [GatherDims.batchCoord_eq_zero _ _ _ List.not_mem_nil]
  have hd : d = (0 : Fin 3) ∨ d = (1 : Fin 3) ∨ d = (2 : Fin 3) := by
    match d with
    | ⟨0, _⟩ => exact Or.inl rfl
    | ⟨1, _⟩ => exact Or.inr (Or.inl rfl)
    | ⟨2, _⟩ => exact Or.inr (Or.inr rfl)
  rcases hd with rfl | rfl | rfl
  · unfold GatherDims.start
    rw [dif_neg (by decide)]
    show 0 + 0 + (gather_S192x1x4096_S4096x1_S192x1x4096_01_2_n_n_2_1_19211).offCoord (ix3 (n0 := 192) (n1 := 1) (n2 := 4096) a 0 k) (0 : Fin 3) = a.val
    unfold GatherDims.offCoord
    rw [dif_pos (by decide)]
    simp only [Nat.zero_add]
    rfl
  · unfold GatherDims.start
    rw [dif_neg (by decide)]
    show 0 + 0 + (gather_S192x1x4096_S4096x1_S192x1x4096_01_2_n_n_2_1_19211).offCoord (ix3 (n0 := 192) (n1 := 1) (n2 := 4096) a 0 k) (1 : Fin 3) = 0
    unfold GatherDims.offCoord
    rw [dif_pos (by decide)]
    simp only [Nat.zero_add]
    rfl
  · rw [GatherDims.offCoord_eq_zero _ _ _ (by decide)]
    unfold GatherDims.start
    rw [dif_pos (by decide)]
    have hsi : ∀ h, (gather_S192x1x4096_S4096x1_S192x1x4096_01_2_n_n_2_1_19211).siIdx (ix3 (n0 := 192) (n1 := 1) (n2 := 4096) a 0 k) ⟨List.idxOf (2 : Fin 3) [(2 : Fin 3)], h⟩
        = ix2 (n0 := 4096) (n1 := 1) k 0 := fun h => by
      funext b; refine Fin.ext ?_
      match b with
      | ⟨0, _⟩ => rfl
      | ⟨1, _⟩ => rfl
    refine (congrArg (fun w : BitVec 32 => min w.toInt.toNat (4096 - 1) + 0 + 0) ((congrArg (posn p) (hsi _)).trans (posn_at hp k))).trans ?_
    show min (BitVec.ofNat 32 (P k).val).toInt.toNat (4096 - 1) + 0 + 0 = (P k).val
    have := (P k).isLt
    rw [toInt_row _ this]; omega

theorem takeX_at (X : FVec Ideal S192x1x4096 .bf16) (a : Fin 192) (k : Fin 4096) :
    takeX (F := Ideal) X p (ix3 (n0 := 192) (n1 := 1) (n2 := 4096) a 0 k) = X (ix3 (n0 := 192) (n1 := 1) (n2 := 4096) a 0 (P k)) := by
  refine Eq.trans ?_ (gatherX_at hp X a k)
  have e : ∀ (b : IVec S4096 1) (u v : FVec Ideal S192x1x4096 .bf16),
      (select (broadcastInDim S192x1x4096 ![2] bcast_S4096_S192x1x4096_2 b) u v) (ix3 (n0 := 192) (n1 := 1) (n2 := 4096) a 0 k)
        = Scalar.select (b (ix1 k)) (u (ix3 (n0 := 192) (n1 := 1) (n2 := 4096) a 0 k)) (v (ix3 (n0 := 192) (n1 := 1) (n2 := 4096) a 0 k)) := fun b u v => by
    pointwise
    rfl
  refine (e _ _ _).trans ?_
  rw [inside_at hp]
  rfl

theorem takeQ_at (Q : IVec S4096x14336 8) (k : Fin 4096) (n : Fin 14336) :
    takeQ Q p (ix2 (n0 := 4096) (n1 := 14336) k n) = Q (ix2 (n0 := 4096) (n1 := 14336) (P k) n) := by
  have e : ∀ (b : IVec S4096 1) (u v : IVec S4096x14336 8),
      (select (broadcastInDim S4096x14336 ![0] bcast_S4096_S4096x14336_0 b) u v) (ix2 (n0 := 4096) (n1 := 14336) k n)
        = Scalar.select (b (ix1 k)) (u (ix2 (n0 := 4096) (n1 := 14336) k n)) (v (ix2 (n0 := 4096) (n1 := 14336) k n)) := fun b u v => by
    pointwise
    rfl
  refine (e _ _ _).trans ?_
  rw [inside_at hp]
  exact Routing.gather_row (nb := 4096) (B := 14336) (n := 4096) gather_S4096x14336_S4096x1_S4096x14336_1_0_n_n_0_1_114336 rfl rfl rfl rfl rfl Q (posn p) k n (P k) (posn_at hp k) (by decide)

omit hp

theorem lo_nib (b : BitVec 8) : (b.setWidth 32 &&& 15#32) = (b.extractLsb' 0 4).setWidth 32 := by revert b; decide
theorem hi_nib (b : BitVec 8) : ((b.setWidth 32).sshiftRight 4) = (b.extractLsb' 4 4).setWidth 32 := by revert b; decide
theorem nib_toInt (b : BitVec 4) : (b.setWidth 32).toInt = b.toNat := by revert b; decide

theorem wideQ_at (Q : IVec S4096x14336 8) (g : Fin 32) (r : Fin 128) (n : Fin 14336) (k : Fin 4096) (hk : k.val = 128 * g.val + r.val) :
    wideQ Q (ix3 (n0 := 32) (n1 := 128) (n2 := 14336) g r n) = (Q (ix2 (n0 := 4096) (n1 := 14336) k n)).setWidth 32 := by
  refine congrArg (fun b : BitVec 8 => b.setWidth 32) (shapeCast_apply _ _ _ (ix2 (n0 := 4096) (n1 := 14336) k n) ?_)
  rw [Shape.rowMajor_val_three, Shape.rowMajor_val_two]
  show k.val * 14336 + n.val = (g.val * 128 + r.val) * 14336 + n.val
  rw [hk]; omega

theorem codeE_at (Q : IVec S4096x14336 8) (g : Fin 32) (r : Fin 128) (n : Fin 14336) (k : Fin 4096) (hk : k.val = 128 * g.val + r.val) :
    codeE Q (ix3 (n0 := 32) (n1 := 128) (n2 := 14336) g r n) = ((Q (ix2 (n0 := 4096) (n1 := 14336) k n)).extractLsb' 0 4).setWidth 32 :=
  (congrArg (fun w : BitVec 32 => w &&& 15#32) (wideQ_at Q g r n k hk)).trans (lo_nib _)

theorem codeO_at (Q : IVec S4096x14336 8) (g : Fin 32) (r : Fin 128) (n : Fin 14336) (k : Fin 4096) (hk : k.val = 128 * g.val + r.val) :
    codeO Q (ix3 (n0 := 32) (n1 := 128) (n2 := 14336) g r n) = ((Q (ix2 (n0 := 4096) (n1 := 14336) k n)).extractLsb' 4 4).setWidth 32 :=
  (congrArg (fun w : BitVec 32 => w.sshiftRight 4) (wideQ_at Q g r n k hk)).trans (hi_nib _)

theorem zeros_at (Z : IVec S16x28672 8) (g : Fin 32) (n : Fin 28672) :
    zeros Z (ix2 (n0 := 32) (n1 := 28672) g n) = (Cert.KernelIdeal.Hand.zeroNib Z g n).setWidth 32 := by
  have hg := g.isLt
  have e : ∀ u v : IVec S16x28672 32, concatenate S32x28672 0 [⟨S16x28672, u⟩, ⟨S16x28672, v⟩] concatenates_S16x28672_S16x28672_S32x28672_d0 (ix2 (n0 := 32) (n1 := 28672) g n)
      = if h : g.val < 16 then u (ix2 (n0 := 16) (n1 := 28672) ⟨g.val, h⟩ n) else v (ix2 (n0 := 16) (n1 := 28672) ⟨g.val - 16, by omega⟩ n) := fun u v => by
    pointwise
    rfl
  unfold zeros
  refine (e _ _).trans ?_
  unfold Cert.KernelIdeal.Hand.zeroNib
  split
  · rename_i h
    have e1 : (⟨g.val % 16, Nat.mod_lt _ (by decide)⟩ : Fin 16) = ⟨g.val, h⟩ := Fin.ext (by show g.val % 16 = g.val; omega)
    rw [e1, show g.val / 16 = 0 by omega]
    exact lo_nib _
  · rename_i h
    have e1 : (⟨g.val % 16, Nat.mod_lt _ (by decide)⟩ : Fin 16) = ⟨g.val - 16, by omega⟩ := Fin.ext (by show g.val % 16 = g.val - 16; omega)
    rw [e1, show g.val / 16 = 1 by omega]
    exact hi_nib _

theorem spread_at (v : FVec Ideal S32x14336 .bf16) (g : Fin 32) (r : Fin 128) (n : Fin 14336) :
    spread v (ix3 (n0 := 32) (n1 := 128) (n2 := 14336) g r n) = v (ix2 (n0 := 32) (n1 := 14336) g n) := by
  unfold spread
  pointwise
  rfl

/-- A weight of half the columns, from its code, zero point and scale. -/
theorem weights_at (code : IVec S32x128x14336 32) (z s : FVec Ideal S32x14336 .bf16) (k : Fin 4096) (n : Fin 14336) (cn zn : BitVec 4) (sn : BitVec 16)
    (hc : code (ix3 (n0 := 32) (n1 := 128) (n2 := 14336) ⟨k.val / 128, by omega⟩ ⟨k.val % 128, by omega⟩ n) = cn.setWidth 32)
    (hz : (z (ix2 (n0 := 32) (n1 := 14336) ⟨k.val / 128, by omega⟩ n) : EReal) = ((zn.toNat : ℝ) : EReal))
    (hs : (s (ix2 (n0 := 32) (n1 := 14336) ⟨k.val / 128, by omega⟩ n) : EReal) = Ideal.ofBits .bf16 sn) :
    (weights code z s (ix2 (n0 := 4096) (n1 := 14336) k n) : EReal) = Cert.KernelIdeal.Hand.weight cn zn sn := by
  unfold weights
  refine (shapeCast_apply _ _ _ (ix3 (n0 := 32) (n1 := 128) (n2 := 14336) ⟨k.val / 128, by omega⟩ ⟨k.val % 128, by omega⟩ n) ?_).trans ?_
  · rw [Shape.rowMajor_val_three, Shape.rowMajor_val_two]
    show (k.val / 128 * 128 + k.val % 128) * 14336 + n.val = k.val * 14336 + n.val
    omega
  · unfold Cert.KernelIdeal.Hand.weight
    refine congrArg₂ (fun u v : EReal => u * v) (congrArg₂ (fun u v : EReal => u - v) ?_ ((spread_at z _ _ n).trans hz)) ((spread_at s _ _ n).trans hs)
    refine (congrArg (fun w : BitVec 32 => ((w.toInt : ℝ) : EReal)) hc).trans ?_
    rw [nib_toInt]; rfl

theorem half_at (x : FVec Ideal S192x1x4096 .bf16) (w : FVec Ideal S4096x14336 .bf16) (a : Fin 192) (n : Fin 14336) :
    (half x w (ix4 (n0 := 192) (n1 := 1) (n2 := 14336) (n3 := 1) a 0 n 0) : EReal)
      = ∑ k : Fin 4096, (x (ix3 (n0 := 192) (n1 := 1) (n2 := 4096) a 0 k) : EReal) * (w (ix2 (n0 := 4096) (n1 := 14336) k n) : EReal) := by
  have e : ∀ v : FVec Ideal S192x1x14336 .f32, broadcastInDim S192x1x14336x1 ![0, 1, 2] bcast_S192x1x14336_S192x1x14336x1_0_1_2 v (ix4 (n0 := 192) (n1 := 1) (n2 := 14336) (n3 := 1) a 0 n 0)
      = v (ix3 (n0 := 192) (n1 := 1) (n2 := 14336) a 0 n) := fun v => by
    pointwise
    rfl
  refine (e _).trans ?_
  show Ideal.matmul dot_S192x1x4096_S4096x14336_S192x1x14336_2_0_01_1_n_n x w (fun _ => 0) (ix3 (n0 := 192) (n1 := 1) (n2 := 14336) a 0 n) = _
  rw [Ideal.matmul_apply₁ _ rfl rfl, zero_add]
  refine Finset.sum_congr rfl fun k _ => ?_
  pointwise
  rfl

theorem woven_at (u v : FVec Ideal S192x1x14336x1 .f32) (a : Fin 192) (n : Fin 28672) :
    (woven u v (ix2 (n0 := 192) (n1 := 28672) a n) : EReal)
      = if n.val % 2 = 0 then (u (ix4 (n0 := 192) (n1 := 1) (n2 := 14336) (n3 := 1) a 0 ⟨n.val / 2, by omega⟩ 0) : EReal)
        else (v (ix4 (n0 := 192) (n1 := 1) (n2 := 14336) (n3 := 1) a 0 ⟨n.val / 2, by omega⟩ 0) : EReal) := by
  have e : ∀ w : FVec Ideal S192x1x14336x2 .f32, shapeCast S192x28672 w shapeCasts_S192x1x14336x2_S192x28672 (ix2 (n0 := 192) (n1 := 28672) a n)
      = w (ix4 (n0 := 192) (n1 := 1) (n2 := 14336) (n3 := 2) a 0 ⟨n.val / 2, by omega⟩ ⟨n.val % 2, by omega⟩) := fun w => by
    refine shapeCast_apply _ _ _ _ ?_
    rw [Shape.rowMajor_val_four, Shape.rowMajor_val_two]
    show ((a.val * 1 + 0) * 14336 + n.val / 2) * 2 + n.val % 2 = a.val * 28672 + n.val
    omega
  have ec : ∀ r : Fin 2, concatenate S192x1x14336x2 3 [⟨S192x1x14336x1, u⟩, ⟨S192x1x14336x1, v⟩] concatenates_S192x1x14336x1_S192x1x14336x1_S192x1x14336x2_d3
      (ix4 (n0 := 192) (n1 := 1) (n2 := 14336) (n3 := 2) a 0 ⟨n.val / 2, by omega⟩ r)
      = if r.val < 1 then u (ix4 (n0 := 192) (n1 := 1) (n2 := 14336) (n3 := 1) a 0 ⟨n.val / 2, by omega⟩ 0) else v (ix4 (n0 := 192) (n1 := 1) (n2 := 14336) (n3 := 1) a 0 ⟨n.val / 2, by omega⟩ 0) := fun r => by
    match r with
    | ⟨0, _⟩ => pointwise; rfl
    | ⟨1, _⟩ => pointwise; rfl
  refine (show (woven u v (ix2 (n0 := 192) (n1 := 28672) a n) : EReal) = shapeCast S192x28672 (concatenate S192x1x14336x2 3 [⟨S192x1x14336x1, u⟩, ⟨S192x1x14336x1, v⟩]
    concatenates_S192x1x14336x1_S192x1x14336x1_S192x1x14336x2_d3) shapeCasts_S192x1x14336x2_S192x28672 (ix2 (n0 := 192) (n1 := 28672) a n) from rfl).trans ((e _).trans ((ec _).trans ?_))
  by_cases h : n.val % 2 = 0
  · rw [if_pos h, if_pos (show n.val % 2 < 1 by omega)]
  · rw [if_neg h, if_neg (show ¬ n.val % 2 < 1 by omega)]

/-- The even columns of a group row. -/
theorem sliceE_at {α : Type} (v : S32x28672.Idx → α) (g : Fin 32) (n : Fin 14336) (n' : Fin 28672) (h : n'.val = 2 * n.val) :
    Host.slice S32x14336 ![0, 0] ![1, 2] v slicesBy_S32x28672_S32x14336_0s1_0s2 (ix2 (n0 := 32) (n1 := 14336) g n) = v (ix2 (n0 := 32) (n1 := 28672) g n') := by
  refine congrArg v (funext fun a => Fin.ext ?_)
  match a with
  | ⟨0, _⟩ => show 0 + 1 * g.val = g.val; omega
  | ⟨1, _⟩ => show 0 + 2 * n.val = n'.val; omega

/-- The odd columns of a group row. -/
theorem sliceO_at {α : Type} (v : S32x28672.Idx → α) (g : Fin 32) (n : Fin 14336) (n' : Fin 28672) (h : n'.val = 2 * n.val + 1) :
    Host.slice S32x14336 ![0, 1] ![1, 2] v slicesBy_S32x28672_S32x14336_0s1_1s2 (ix2 (n0 := 32) (n1 := 14336) g n) = v (ix2 (n0 := 32) (n1 := 28672) g n') := by
  refine congrArg v (funext fun a => Fin.ext ?_)
  match a with
  | ⟨0, _⟩ => show 0 + 1 * g.val = g.val; omega
  | ⟨1, _⟩ => show 1 + 2 * n.val = n'.val; omega

theorem zero_at (Z : IVec S16x28672 8) (g : Fin 32) (n : Fin 28672) :
    ((sitofp .bf16 (zeros Z) : FVec Ideal S32x28672 .bf16) (ix2 (n0 := 32) (n1 := 28672) g n) : EReal)
      = (((Cert.KernelIdeal.Hand.zeroNib Z g n).toNat : ℝ) : EReal) := by
  refine (congrArg (fun w : BitVec 32 => ((w.toInt : ℝ) : EReal)) (zeros_at Z g n)).trans ?_
  rw [nib_toInt]; rfl

/-- The reference's result is the value at its own row order. -/
theorem result_at (X : IVec S192x1x4096 16) (Q : IVec S4096x14336 8) (S : IVec S32x28672 16) (Z : IVec S16x28672 8) (g : IVec S4096 32)
    (P : Fin 4096 → Fin 4096) (hP : Rows P (order g)) (a : Fin 192) (n : Fin 28672) :
    (result (F := Ideal) X Q S Z g (ix2 (n0 := 192) (n1 := 28672) a n) : EReal)
      = Cert.KernelIdeal.Hand.value X Q S Z P (ix2 (n0 := 192) (n1 := 28672) a n) := by
  unfold result
  refine (woven_at _ _ a n).trans ?_
  have hn := n.isLt
  by_cases h : n.val % 2 = 0
  · rw [if_pos h]
    refine (half_at _ _ a _).trans (Finset.sum_congr rfl fun k _ => ?_)
    have hk := k.isLt
    refine congrArg₂ (fun u v : EReal => u * v) (takeX_at hP _ a k) ?_
    have en : n.val = 2 * (n.val / 2) := by omega
    refine weights_at _ _ _ k _ _ _ _ ?_ ((sliceE_at _ _ _ n en).trans (zero_at Z _ n)) (sliceE_at _ _ _ n en)
    refine (codeE_at _ _ _ _ k (by show k.val = 128 * (k.val / 128) + k.val % 128; omega)).trans ?_
    rw [takeQ_at hP]
    show _ = (BitVec.extractLsb' (4 * (n.val % 2)) 4 _).setWidth 32
    rw [h]
  · rw [if_neg h]
    refine (half_at _ _ a _).trans (Finset.sum_congr rfl fun k _ => ?_)
    have hk := k.isLt
    refine congrArg₂ (fun u v : EReal => u * v) (takeX_at hP _ a k) ?_
    have en : n.val = 2 * (n.val / 2) + 1 := by omega
    refine weights_at _ _ _ k _ _ _ _ ?_ ((sliceO_at _ _ _ n en).trans (zero_at Z _ n)) (sliceO_at _ _ _ n en)
    refine (codeO_at _ _ _ _ k (by show k.val = 128 * (k.val / 128) + k.val % 128; omega)).trans ?_
    rw [takeQ_at hP]
    show _ = (BitVec.extractLsb' (4 * (n.val % 2)) 4 _).setWidth 32
    rw [show n.val % 2 = 1 by omega]

end Cert.ReferenceIdeal.Hand

end
-- ==== Proof.Val.Agree.lean ====
/-
  The ideal kernel's value is the reference's result at the same arguments.
-/
module

public import proofs.«01_k».proof.Proof.Val.Kernel
public import proofs.«01_k».proof.Proof.Val.Ref

@[expose] public section

noncomputable section

namespace Cert.ReferenceIdeal.Hand

open Idealize.ShloMosaic hiding ix1 ix2 ix3 ix4
open Idealize.ShloMosaic.TcCoe
open Idealize.ShloMosaic.ValueIdx

/-- Both programs sort by the same comparison, so the rows come in the same order. -/
theorem rows_order (g : IVec Cert.ReferenceIdeal.S4096 32) : Rows (Cert.KernelIdeal.Hand.perm (F := Ideal) g) (order g) :=
  Cert.KernelIdeal.Hand.table_perm (F := Ideal) g

/-- The reference's result is the value the kernel ends with. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.res_main_v44 m' c : FVec Ideal Cert.ReferenceIdeal.S192x28672 .bf16) = Cert.KernelIdeal.Hand.val m c := by
  rw [res_eq, h0, h1, h2, h3, h4]
  funext y
  have ey : y = ix2 (n0 := 192) (n1 := 28672) (y (0 : Fin 2)) (y (1 : Fin 2)) := by
    funext a; match a with
    | ⟨0, _⟩ => rfl
    | ⟨1, _⟩ => rfl
  refine (congrArg _ ey).trans (Eq.trans ?_ (congrArg (Cert.KernelIdeal.Hand.val m c) ey).symm)
  exact result_at _ _ _ _ _ _ (rows_order _) (y (0 : Fin 2)) (y (1 : Fin 2))

end Cert.ReferenceIdeal.Hand

end
-- ==== Proof.lean ====
/-
  The certificate. Each claim is cited from the modules that prove it: the kernel's run (`Kern/Run.lean`, and
  `KernI/Run.lean` for the ideal program) and the reference's (`Gen/ReferenceIdeal/Run.lean`); `Val/Agree.lean` equates the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kern.Run
public import proofs.«01_k».proof.Proof.KernI.Run
public import proofs.«01_k».proof.Proof.Val.Agree

@[expose] public section

noncomputable section

namespace Cert.Proof

open Idealize.ShloMosaic Idealize.SL.Sem

theorem frame_kernel : Cert.quiescent_Kernel (hKernel := Cert.Kernel.Gen.facts) := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.Kernel.Hand.run_post (F := Bits) m g)

theorem frame_ideal : Cert.quiescent_KernelIdeal (hKernelIdeal := Cert.KernelIdeal.Gen.facts) := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.KernelIdeal.Hand.run_post (F := Ideal) m g)

theorem frame_reference : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

theorem agree_ideal : Cert.algebraic_KernelIdeal_ReferenceIdeal (hKernelIdeal := Cert.KernelIdeal.Gen.facts) (hReferenceIdeal := Cert.ReferenceIdeal.Gen.facts) :=
  fun m g m' g' _ hag => ⟨fun c => Cert.KernelIdeal.Hand.val m c,
    (θ_run _ _ _).mono (fun _ h c => ⟨(h.1 c).2.2.2.2.2.trans (Cert.KernelIdeal.Hand.result_eq m c),
      (h.1 c).1, (h.1 c).2.1, (h.1 c).2.2.1, (h.1 c).2.2.2.1, (h.1 c).2.2.2.2.1⟩) (Cert.KernelIdeal.Hand.run_post (F := Ideal) m g),
    (θ_run _ _ _).mono (fun _ h c => ⟨(h c).1.trans (Cert.ReferenceIdeal.Hand.agree m m' c (hag c).1 (hag c).2.1 (hag c).2.2.1 (hag c).2.2.2.1 (hag c).2.2.2.2), (h c).2⟩)
      (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_reference, trivial, agree_ideal⟩

end Cert.Proof

end
